-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "coef" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v76_0)) (v1 : (c : Dev Cert.Kernel3Ideal.nD) → Buf (Elt Ideal) ((c.tc : Thread Cert.Kernel3Ideal.nD Cert.Kernel3Ideal.τ).loc Cert.Kernel3Ideal.main_v76_1)) (v2 : (c : Dev Cert.Kernel3Ideal.nD) → Buf (Elt Ideal) ((c.tc : Thread Cert.Kernel3Ideal.nD Cert.Kernel3Ideal.τ).loc Cert.Kernel3Ideal.main_v76_2)) (v3 : (c : Dev Cert.Kernel3Ideal.nD) → Buf (Elt Ideal) ((c.tc : Thread Cert.Kernel3Ideal.nD Cert.Kernel3Ideal.τ).loc Cert.Kernel3Ideal.main_v76_3)) (v4 : (c : Dev Cert.Kernel3Ideal.nD) → Buf (Elt Ideal) ((c.tc : Thread Cert.Kernel3Ideal.nD Cert.Kernel3Ideal.τ).loc Cert.Kernel3Ideal.main_v76_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v76_0) = v0 c
          ∧ r.2.mem ((c.tc : Thread Cert.Kernel3Ideal.nD Cert.Kernel3Ideal.τ).loc Cert.Kernel3Ideal.main_v76_1) = v1 c
          ∧ r.2.mem ((c.tc : Thread Cert.Kernel3Ideal.nD Cert.Kernel3Ideal.τ).loc Cert.Kernel3Ideal.main_v76_2) = v2 c
          ∧ r.2.mem ((c.tc : Thread Cert.Kernel3Ideal.nD Cert.Kernel3Ideal.τ).loc Cert.Kernel3Ideal.main_v76_3) = v3 c
          ∧ r.2.mem ((c.tc : Thread Cert.Kernel3Ideal.nD Cert.Kernel3Ideal.τ).loc Cert.Kernel3Ideal.main_v76_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v112) = v0 c
          ∧ r.2.mem ((c.tc : Thread Cert.Reference3Ideal.nD Cert.Reference3Ideal.τ).loc Cert.Reference3Ideal.main_v113) = v1 c
          ∧ r.2.mem ((c.tc : Thread Cert.Reference3Ideal.nD Cert.Reference3Ideal.τ).loc Cert.Reference3Ideal.main_v114) = v2 c
          ∧ r.2.mem ((c.tc : Thread Cert.Reference3Ideal.nD Cert.Reference3Ideal.τ).loc Cert.Reference3Ideal.main_v115) = v3 c
          ∧ r.2.mem ((c.tc : Thread Cert.Reference3Ideal.nD Cert.Reference3Ideal.τ).loc Cert.Reference3Ideal.main_v116) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v81_0)) (v1 : (c : Dev Cert.Kernel4Ideal.nD) → Buf (Elt Ideal) ((c.tc : Thread Cert.Kernel4Ideal.nD Cert.Kernel4Ideal.τ).loc Cert.Kernel4Ideal.main_v81_1)) (v2 : (c : Dev Cert.Kernel4Ideal.nD) → Buf (Elt Ideal) ((c.tc : Thread Cert.Kernel4Ideal.nD Cert.Kernel4Ideal.τ).loc Cert.Kernel4Ideal.main_v81_2)) (v3 : (c : Dev Cert.Kernel4Ideal.nD) → Buf (Elt Ideal) ((c.tc : Thread Cert.Kernel4Ideal.nD Cert.Kernel4Ideal.τ).loc Cert.Kernel4Ideal.main_v81_3)) (v4 : (c : Dev Cert.Kernel4Ideal.nD) → Buf (Elt Ideal) ((c.tc : Thread Cert.Kernel4Ideal.nD Cert.Kernel4Ideal.τ).loc Cert.Kernel4Ideal.main_v81_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v81_0) = v0 c
          ∧ r.2.mem ((c.tc : Thread Cert.Kernel4Ideal.nD Cert.Kernel4Ideal.τ).loc Cert.Kernel4Ideal.main_v81_1) = v1 c
          ∧ r.2.mem ((c.tc : Thread Cert.Kernel4Ideal.nD Cert.Kernel4Ideal.τ).loc Cert.Kernel4Ideal.main_v81_2) = v2 c
          ∧ r.2.mem ((c.tc : Thread Cert.Kernel4Ideal.nD Cert.Kernel4Ideal.τ).loc Cert.Kernel4Ideal.main_v81_3) = v3 c
          ∧ r.2.mem ((c.tc : Thread Cert.Kernel4Ideal.nD Cert.Kernel4Ideal.τ).loc Cert.Kernel4Ideal.main_v81_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v122) = v0 c
          ∧ r.2.mem ((c.tc : Thread Cert.Reference4Ideal.nD Cert.Reference4Ideal.τ).loc Cert.Reference4Ideal.main_v123) = v1 c
          ∧ r.2.mem ((c.tc : Thread Cert.Reference4Ideal.nD Cert.Reference4Ideal.τ).loc Cert.Reference4Ideal.main_v124) = v2 c
          ∧ r.2.mem ((c.tc : Thread Cert.Reference4Ideal.nD Cert.Reference4Ideal.τ).loc Cert.Reference4Ideal.main_v125) = v3 c
          ∧ r.2.mem ((c.tc : Thread Cert.Reference4Ideal.nD Cert.Reference4Ideal.τ).loc Cert.Reference4Ideal.main_v126) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S_ : Shape := ⟨0, ![]⟩

class Facts : Prop where
  bcast_S_S1x16384x8x128 : S_.BroadcastsInDim S1x16384x8x128 (![] : Fin 0 → Fin S1x16384x8x128.rank)
  bcast_S_S1x16384x8x64 : S_.BroadcastsInDim S1x16384x8x64 (![] : Fin 0 → Fin S1x16384x8x64.rank)
  bcast_S_S1x16384x64 : S_.BroadcastsInDim S1x16384x64 (![] : Fin 0 → Fin S1x16384x64.rank)

variable [Facts]

def fn {F : FTy → Type} [FloatOps F] (main_arg0 : FVec F S1x16384x8x128 .f32) (main_arg1 : FVec F S1x16384x8x64 .f32) (main_arg2 : FVec F S1x16384x8x128 .f32) (main_arg3 : FVec F S1x16384x64 .f32) (main_arg4 : FVec F S1x16384x8x128 .f32) : IVec S1x16384x8x128 1 × IVec S1x16384x8x64 1 × IVec S1x16384x8x128 1 × IVec S1x16384x64 1 :=
  let main_v0 : FVec F S1x16384x8x128 .f32 := Host.absf main_arg0
  let main_cst : FVec F S_ .f32 := constant S_ .f32 0x7F800000#32
  let main_v1 : FVec F S1x16384x8x128 .f32 := broadcastInDim S1x16384x8x128 ![] bcast_S_S1x16384x8x128 main_cst
  let main_v2 : IVec S1x16384x8x128 1 := cmpf .olt main_v0 main_v1
  let main_v3 : FVec F S1x16384x8x64 .f32 := Host.absf main_arg1
  let main_cst_0 : FVec F S_ .f32 := constant S_ .f32 0x7F800000#32
  let main_v4 : FVec F S1x16384x8x64 .f32 := broadcastInDim S1x16384x8x64 ![] bcast_S_S1x16384x8x64 main_cst_0
  let main_v5 : IVec S1x16384x8x64 1 := cmpf .olt main_v3 main_v4
  let main_v6 : FVec F S1x16384x8x128 .f32 := Host.absf main_arg2
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  let main_v9 : FVec F S1x16384x64 .f32 := Host.absf main_arg3
  let main_cst_2 : FVec F S_ .f32 := constant S_ .f32 0x7F800000#32
  let main_v10 : FVec F S1x16384x64 .f32 := broadcastInDim S1x16384x64 ![] bcast_S_S1x16384x64 main_cst_2
  let main_v11 : IVec S1x16384x64 1 := cmpf .olt main_v9 main_v10
  (main_v2, main_v5, main_v8, main_v11)
-- ==== Kernel.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S_ : Shape := ⟨0, ![]⟩
abbrev S1x16384x1x64 : Shape := ⟨4, ![1, 16384, 1, 64]⟩
abbrev S1x16384x8x256 : Shape := ⟨4, ![1, 16384, 8, 256]⟩
abbrev S8x1x16384x256 : Shape := ⟨4, ![8, 1, 16384, 256]⟩
abbrev S8x1x16384x128 : Shape := ⟨4, ![8, 1, 16384, 128]⟩
abbrev S1x16384x1024 : Shape := ⟨3, ![1, 16384, 1024]⟩
abbrev S1x1x512x256 : Shape := ⟨4, ![1, 1, 512, 256]⟩
abbrev S1x1x16384x256 : Shape := ⟨4, ![1, 1, 16384, 256]⟩
abbrev S1x1x16384x128 : Shape := ⟨4, ![1, 1, 16384, 128]⟩
abbrev S1x512x128 : Shape := ⟨3, ![1, 512, 128]⟩
abbrev S2x2x512x256 : Shape := ⟨4, ![2, 2, 512, 256]⟩
abbrev S2x512x128 : Shape := ⟨3, ![2, 512, 128]⟩
abbrev S512x128 : Shape := ⟨2, ![512, 128]⟩
abbrev S512x256 : Shape := ⟨2, ![512, 256]⟩
abbrev S1x1x256x256 : Shape := ⟨4, ![1, 1, 256, 256]⟩
abbrev S256x256 : Shape := ⟨2, ![256, 256]⟩
abbrev S512 : Shape := ⟨1, ![512]⟩
abbrev S512x1 : Shape := ⟨2, ![512, 1]⟩
abbrev S1x256 : Shape := ⟨2, ![1, 256]⟩
abbrev S1x1x256x128 : Shape := ⟨4, ![1, 1, 256, 128]⟩
abbrev S256x128 : Shape := ⟨2, ![256, 128]⟩

abbrev nBuf : Space → Nat
  | .hbm => 18
  | .vmem => 15
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x64, .f32⟩
  | .hbm, ⟨2, _⟩ => ⟨S1x16384x8x128, .f32⟩
  | .hbm, ⟨3, _⟩ => ⟨S1x16384x64, .f32⟩
  | .hbm, ⟨4, _⟩ => ⟨S1x16384x8x128, .f32⟩
  | .hbm, ⟨5, _⟩ => ⟨S_, .f32⟩
  | .hbm, ⟨6, _⟩ => ⟨S1x16384x8x64, .f32⟩
  | .hbm, ⟨7, _⟩ => ⟨S1x16384x1x64, .f32⟩
  | .hbm, ⟨8, _⟩ => ⟨S1x16384x8x64, .f32⟩
  | .hbm, ⟨9, _⟩ => ⟨S1x16384x8x256, .f32⟩
  | .hbm, ⟨10, _⟩ => ⟨S1x16384x8x256, .bf16⟩
  | .hbm, ⟨11, _⟩ => ⟨S1x16384x8x256, .f32⟩
  | .hbm, ⟨12, _⟩ => ⟨S1x16384x8x256, .bf16⟩
  | .hbm, ⟨13, _⟩ => ⟨S8x1x16384x256, .bf16⟩
  | .hbm, ⟨14, _⟩ => ⟨S8x1x16384x256, .bf16⟩
  | .hbm, ⟨15, _⟩ => ⟨S1x16384x8x128, .bf16⟩
  | .hbm, ⟨16, _⟩ => ⟨S8x1x16384x128, .bf16⟩
  | .hbm, ⟨17, _⟩ => ⟨S1x16384x1024, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x16384x256, .bf16⟩
  | .local _ .vmem, ⟨3, _⟩ => ⟨S1x1x16384x256, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x2x512x256, .f32⟩
  | .local _ .vmem, ⟨9, _⟩ => ⟨S2x512x128, .f32⟩
  | .local _ .vmem, ⟨10, _⟩ => ⟨S2x2x512x256, .bf16⟩
  | .local _ .vmem, ⟨11, _⟩ => ⟨S2x512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 32], ![false, false, false]⟩

def k0_cond2 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_19 : BitVec 32 := 1#32
  let v36 : BitVec 1 := Scalar.cmpi .sge v32 c1_i32_19
  let v37 : BitVec 32 := Scalar.extui v36
  let c0_i32_20 : BitVec 32 := 0#32
  let v38 : BitVec 1 := Scalar.cmpi .ne v37 c0_i32_20
  v38

@[reducible] def k0_t1_loop (i : grid0.Coords) : Scf.Loop 32 :=
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_113 : BitVec 32 := 1#32
  ⟨c0_i32_111, v155, c1_i32_113⟩
def k0_mult1 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c2_i32_133 : BitVec 32 := 2#32
  let v190 : BitVec 32 := Scalar.addi v189 c2_i32_133
  let c0_i32_134 : BitVec 32 := 0#32
  let v191 : BitVec 32 := Scalar.addi v190 c0_i32_134
  let c512_i32_135 : BitVec 32 := 512#32
  let v192 : BitVec 32 := Scalar.muli v191 c512_i32_135
  v192
def k0_off1 (i : grid0.Coords) (k0_t1 : Fin (k0_t1_loop i).trips) (c0_i32_134 : BitVec 32) (c0_i32_136 : BitVec 32) : Fin 4 → Nat :=
  let c0_137 : Index := 0#32
  let c0_138 : Index := 0#32
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c2_i32_133 : BitVec 32 := 2#32
  let v190 : BitVec 32 := Scalar.addi v189 c2_i32_133
  let v191 : BitVec 32 := Scalar.addi v190 c0_i32_134
  let c512_i32_135 : BitVec 32 := 512#32
  let v192 : BitVec 32 := Scalar.muli v191 c512_i32_135
  let v193 : BitVec 32 := v192
  let v194 : BitVec 32 := Scalar.addi v193 c0_i32_136
  let v195 : Index := Scalar.indexCast v194
  let c0_139 : Index := 0#32
  ![0, 0, v195.toNat, 0]
def k0_mult2 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c1_i32_157 : BitVec 32 := 1#32
  let v218 : BitVec 32 := Scalar.addi v189 c1_i32_157
  let c0_i32_158 : BitVec 32 := 0#32
  let v219 : BitVec 32 := Scalar.addi v218 c0_i32_158
  let c512_i32_159 : BitVec 32 := 512#32
  let v220 : BitVec 32 := Scalar.muli v219 c512_i32_159
  v220
def k0_mult3 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c0_i32_195 : BitVec 32 := 0#32
  let v269 : BitVec 32 := Scalar.addi v189 c0_i32_195
  let c512_i32_196 : BitVec 32 := 512#32
  let v270 : BitVec 32 := Scalar.muli v269 c512_i32_196
  v270
def k0_off2 (i : grid0.Coords) (k0_t1 : Fin (k0_t1_loop i).trips) (c0_i32_195 : BitVec 32) (c0_i32_208 : BitVec 32) : Fin 4 → Nat :=
  let c0_209 : Index := 0#32
  let c0_210 : Index := 0#32
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let v269 : BitVec 32 := Scalar.addi v189 c0_i32_195
  let c512_i32_196 : BitVec 32 := 512#32
  let v270 : BitVec 32 := Scalar.muli v269 c512_i32_196
  let v271 : BitVec 32 := v270
  let v278 : BitVec 32 := Scalar.addi v271 c0_i32_208
  let v279 : Index := Scalar.indexCast v278
  let c0_211 : Index := 0#32
  ![0, 0, v279.toNat, 0]
def k0_mult4 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c2_i32_222 : BitVec 32 := 2#32
  let v295 : BitVec 32 := Scalar.addi v189 c2_i32_222
  let c1_i32_223 : BitVec 32 := 1#32
  let v296 : BitVec 32 := Scalar.addi v295 c1_i32_223
  let c512_i32_224 : BitVec 32 := 512#32
  let v297 : BitVec 32 := Scalar.muli v296 c512_i32_224
  v297
def k0_mult5 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c1_i32_247 : BitVec 32 := 1#32
  let v323 : BitVec 32 := Scalar.addi v189 c1_i32_247
  let c1_i32_248 : BitVec 32 := 1#32
  let v324 : BitVec 32 := Scalar.addi v323 c1_i32_248
  let c512_i32_249 : BitVec 32 := 512#32
  let v325 : BitVec 32 := Scalar.muli v324 c512_i32_249
  v325
def k0_mult6 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c1_i32_285 : BitVec 32 := 1#32
  let v374 : BitVec 32 := Scalar.addi v189 c1_i32_285
  let c512_i32_286 : BitVec 32 := 512#32
  let v375 : BitVec 32 := Scalar.muli v374 c512_i32_286
  v375
def k0_mult7 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c2_i32_312 : BitVec 32 := 2#32
  let v400 : BitVec 32 := Scalar.addi v189 c2_i32_312
  let c2_i32_313 : BitVec 32 := 2#32
  let v401 : BitVec 32 := Scalar.addi v400 c2_i32_313
  let c512_i32_314 : BitVec 32 := 512#32
  let v402 : BitVec 32 := Scalar.muli v401 c512_i32_314
  v402
def k0_mult8 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c1_i32_337 : BitVec 32 := 1#32
  let v428 : BitVec 32 := Scalar.addi v189 c1_i32_337
  let c2_i32_338 : BitVec 32 := 2#32
  let v429 : BitVec 32 := Scalar.addi v428 c2_i32_338
  let c512_i32_339 : BitVec 32 := 512#32
  let v430 : BitVec 32 := Scalar.muli v429 c512_i32_339
  v430
def k0_mult9 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c2_i32_375 : BitVec 32 := 2#32
  let v479 : BitVec 32 := Scalar.addi v189 c2_i32_375
  let c512_i32_376 : BitVec 32 := 512#32
  let v480 : BitVec 32 := Scalar.muli v479 c512_i32_376
  v480
def k0_mult10 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c2_i32_402 : BitVec 32 := 2#32
  let v505 : BitVec 32 := Scalar.addi v189 c2_i32_402
  let c3_i32 : BitVec 32 := 3#32
  let v506 : BitVec 32 := Scalar.addi v505 c3_i32
  let c512_i32_403 : BitVec 32 := 512#32
  let v507 : BitVec 32 := Scalar.muli v506 c512_i32_403
  v507
def k0_mult11 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c1_i32_426 : BitVec 32 := 1#32
  let v533 : BitVec 32 := Scalar.addi v189 c1_i32_426
  let c3_i32_427 : BitVec 32 := 3#32
  let v534 : BitVec 32 := Scalar.addi v533 c3_i32_427
  let c512_i32_428 : BitVec 32 := 512#32
  let v535 : BitVec 32 := Scalar.muli v534 c512_i32_428
  v535
def k0_mult12 (i : grid0.Coords) (k0_t1 : Fin (k0_t1_loop i).trips) : BitVec 32 :=
  let c4_i32_132 : BitVec 32 := 4#32
  let c0_i32_111 : BitVec 32 := 0#32
  let c1_i32_113 : BitVec 32 := 1#32
  let arg14 : BitVec 32 := Scf.iv c0_i32_111 c1_i32_113 k0_t1
  let v189 : BitVec 32 := Scalar.muli c4_i32_132 arg14
  let c3_i32_464 : BitVec 32 := 3#32
  let v584 : BitVec 32 := Scalar.addi v189 c3_i32_464
  let c512_i32_465 : BitVec 32 := 512#32
  let v585 : BitVec 32 := Scalar.muli v584 c512_i32_465
  v585
@[reducible] def k0_t2_loop (i : grid0.Coords) : Scf.Loop 32 :=
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let v152 : BitVec 32 := Scalar.addi c0_i32_111 v151
  let c1_i32_114 : BitVec 32 := 1#32
  ⟨v155, v152, c1_i32_114⟩
def k0_mult13 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c2_i32_133 : BitVec 32 := 2#32
  let v190 : BitVec 32 := Scalar.addi v189 c2_i32_133
  let c0_i32_134 : BitVec 32 := 0#32
  let v191 : BitVec 32 := Scalar.addi v190 c0_i32_134
  let c512_i32_135 : BitVec 32 := 512#32
  let v192 : BitVec 32 := Scalar.muli v191 c512_i32_135
  v192
def k0_off3 (i : grid0.Coords) (k0_t2 : Fin (k0_t2_loop i).trips) (c0_i32_134 : BitVec 32) (c0_i32_136 : BitVec 32) : Fin 4 → Nat :=
  let c0_137 : Index := 0#32
  let c0_138 : Index := 0#32
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c2_i32_133 : BitVec 32 := 2#32
  let v190 : BitVec 32 := Scalar.addi v189 c2_i32_133
  let v191 : BitVec 32 := Scalar.addi v190 c0_i32_134
  let c512_i32_135 : BitVec 32 := 512#32
  let v192 : BitVec 32 := Scalar.muli v191 c512_i32_135
  let v193 : BitVec 32 := v192
  let v194 : BitVec 32 := Scalar.addi v193 c0_i32_136
  let v195 : Index := Scalar.indexCast v194
  let c0_139 : Index := 0#32
  ![0, 0, v195.toNat, 0]
def k0_mult14 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c1_i32_157 : BitVec 32 := 1#32
  let v218 : BitVec 32 := Scalar.addi v189 c1_i32_157
  let c0_i32_158 : BitVec 32 := 0#32
  let v219 : BitVec 32 := Scalar.addi v218 c0_i32_158
  let c512_i32_159 : BitVec 32 := 512#32
  let v220 : BitVec 32 := Scalar.muli v219 c512_i32_159
  v220
def k0_mult15 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c0_i32_195 : BitVec 32 := 0#32
  let v269 : BitVec 32 := Scalar.addi v189 c0_i32_195
  let c512_i32_196 : BitVec 32 := 512#32
  let v270 : BitVec 32 := Scalar.muli v269 c512_i32_196
  v270
def k0_off4 (i : grid0.Coords) (k0_t2 : Fin (k0_t2_loop i).trips) (c0_i32_195 : BitVec 32) (c0_i32_208 : BitVec 32) : Fin 4 → Nat :=
  let c0_209 : Index := 0#32
  let c0_210 : Index := 0#32
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let v269 : BitVec 32 := Scalar.addi v189 c0_i32_195
  let c512_i32_196 : BitVec 32 := 512#32
  let v270 : BitVec 32 := Scalar.muli v269 c512_i32_196
  let v271 : BitVec 32 := v270
  let v278 : BitVec 32 := Scalar.addi v271 c0_i32_208
  let v279 : Index := Scalar.indexCast v278
  let c0_211 : Index := 0#32
  ![0, 0, v279.toNat, 0]
def k0_mult16 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c2_i32_222 : BitVec 32 := 2#32
  let v295 : BitVec 32 := Scalar.addi v189 c2_i32_222
  let c1_i32_223 : BitVec 32 := 1#32
  let v296 : BitVec 32 := Scalar.addi v295 c1_i32_223
  let c512_i32_224 : BitVec 32 := 512#32
  let v297 : BitVec 32 := Scalar.muli v296 c512_i32_224
  v297
def k0_mult17 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c1_i32_247 : BitVec 32 := 1#32
  let v323 : BitVec 32 := Scalar.addi v189 c1_i32_247
  let c1_i32_248 : BitVec 32 := 1#32
  let v324 : BitVec 32 := Scalar.addi v323 c1_i32_248
  let c512_i32_249 : BitVec 32 := 512#32
  let v325 : BitVec 32 := Scalar.muli v324 c512_i32_249
  v325
def k0_mult18 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c1_i32_285 : BitVec 32 := 1#32
  let v374 : BitVec 32 := Scalar.addi v189 c1_i32_285
  let c512_i32_286 : BitVec 32 := 512#32
  let v375 : BitVec 32 := Scalar.muli v374 c512_i32_286
  v375
def k0_mult19 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c2_i32_312 : BitVec 32 := 2#32
  let v400 : BitVec 32 := Scalar.addi v189 c2_i32_312
  let c2_i32_313 : BitVec 32 := 2#32
  let v401 : BitVec 32 := Scalar.addi v400 c2_i32_313
  let c512_i32_314 : BitVec 32 := 512#32
  let v402 : BitVec 32 := Scalar.muli v401 c512_i32_314
  v402
def k0_mult20 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c1_i32_337 : BitVec 32 := 1#32
  let v428 : BitVec 32 := Scalar.addi v189 c1_i32_337
  let c2_i32_338 : BitVec 32 := 2#32
  let v429 : BitVec 32 := Scalar.addi v428 c2_i32_338
  let c512_i32_339 : BitVec 32 := 512#32
  let v430 : BitVec 32 := Scalar.muli v429 c512_i32_339
  v430
def k0_mult21 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c2_i32_375 : BitVec 32 := 2#32
  let v479 : BitVec 32 := Scalar.addi v189 c2_i32_375
  let c512_i32_376 : BitVec 32 := 512#32
  let v480 : BitVec 32 := Scalar.muli v479 c512_i32_376
  v480
def k0_mult22 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c2_i32_402 : BitVec 32 := 2#32
  let v505 : BitVec 32 := Scalar.addi v189 c2_i32_402
  let c3_i32 : BitVec 32 := 3#32
  let v506 : BitVec 32 := Scalar.addi v505 c3_i32
  let c512_i32_403 : BitVec 32 := 512#32
  let v507 : BitVec 32 := Scalar.muli v506 c512_i32_403
  v507
def k0_mult23 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c1_i32_426 : BitVec 32 := 1#32
  let v533 : BitVec 32 := Scalar.addi v189 c1_i32_426
  let c3_i32_427 : BitVec 32 := 3#32
  let v534 : BitVec 32 := Scalar.addi v533 c3_i32_427
  let c512_i32_428 : BitVec 32 := 512#32
  let v535 : BitVec 32 := Scalar.muli v534 c512_i32_428
  v535
def k0_mult24 (i : grid0.Coords) (k0_t2 : Fin (k0_t2_loop i).trips) : BitVec 32 :=
  let c4_i32_132 : BitVec 32 := 4#32
  let c0_i32_111 : BitVec 32 := 0#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v151 : BitVec 32 := Scalar.subi v150 c0_i32_111
  let c1_i32_112 : BitVec 32 := 1#32
  let v153 : BitVec 32 := Scalar.divsi v151 c1_i32_112
  let v154 : BitVec 32 := Scalar.muli v153 c1_i32_112
  let v155 : BitVec 32 := Scalar.addi c0_i32_111 v154
  let c1_i32_114 : BitVec 32 := 1#32
  let arg14 : BitVec 32 := Scf.iv v155 c1_i32_114 k0_t2
  let v189 : BitVec 32 := Scalar.muli c4_i32_132 arg14
  let c3_i32_464 : BitVec 32 := 3#32
  let v584 : BitVec 32 := Scalar.addi v189 c3_i32_464
  let c512_i32_465 : BitVec 32 := 512#32
  let v585 : BitVec 32 := Scalar.muli v584 c512_i32_465
  v585
@[reducible] def k0_t3_loop (i : grid0.Coords) : Scf.Loop 32 :=
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_125 : BitVec 32 := 1#32
  ⟨v174, v179, c1_i32_125⟩
def k0_mult25 (i : grid0.Coords) (k0_t3 : Fin (k0_t3_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let c2_i32_133 : BitVec 32 := 2#32
  let v190 : BitVec 32 := Scalar.addi v189 c2_i32_133
  let c0_i32_134 : BitVec 32 := 0#32
  let v191 : BitVec 32 := Scalar.addi v190 c0_i32_134
  let c512_i32_135 : BitVec 32 := 512#32
  let v192 : BitVec 32 := Scalar.muli v191 c512_i32_135
  v192
def k0_off5 (i : grid0.Coords) (k0_t3 : Fin (k0_t3_loop i).trips) (c0_i32_134 : BitVec 32) (c0_i32_136 : BitVec 32) : Fin 4 → Nat :=
  let c0_137 : Index := 0#32
  let c0_138 : Index := 0#32
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let c2_i32_133 : BitVec 32 := 2#32
  let v190 : BitVec 32 := Scalar.addi v189 c2_i32_133
  let v191 : BitVec 32 := Scalar.addi v190 c0_i32_134
  let c512_i32_135 : BitVec 32 := 512#32
  let v192 : BitVec 32 := Scalar.muli v191 c512_i32_135
  let v193 : BitVec 32 := v192
  let v194 : BitVec 32 := Scalar.addi v193 c0_i32_136
  let v195 : Index := Scalar.indexCast v194
  let c0_139 : Index := 0#32
  ![0, 0, v195.toNat, 0]
def k0_mult26 (i : grid0.Coords) (k0_t3 : Fin (k0_t3_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let c1_i32_157 : BitVec 32 := 1#32
  let v218 : BitVec 32 := Scalar.addi v189 c1_i32_157
  let c0_i32_158 : BitVec 32 := 0#32
  let v219 : BitVec 32 := Scalar.addi v218 c0_i32_158
  let c512_i32_159 : BitVec 32 := 512#32
  let v220 : BitVec 32 := Scalar.muli v219 c512_i32_159
  v220
def k0_mult27 (i : grid0.Coords) (k0_t3 : Fin (k0_t3_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let c0_i32_195 : BitVec 32 := 0#32
  let v269 : BitVec 32 := Scalar.addi v189 c0_i32_195
  let c512_i32_196 : BitVec 32 := 512#32
  let v270 : BitVec 32 := Scalar.muli v269 c512_i32_196
  v270
def k0_off6 (i : grid0.Coords) (k0_t3 : Fin (k0_t3_loop i).trips) (c0_i32_195 : BitVec 32) (c0_i32_208 : BitVec 32) : Fin 4 → Nat :=
  let c0_209 : Index := 0#32
  let c0_210 : Index := 0#32
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let v269 : BitVec 32 := Scalar.addi v189 c0_i32_195
  let c512_i32_196 : BitVec 32 := 512#32
  let v270 : BitVec 32 := Scalar.muli v269 c512_i32_196
  let v271 : BitVec 32 := v270
  let v278 : BitVec 32 := Scalar.addi v271 c0_i32_208
  let v279 : Index := Scalar.indexCast v278
  let c0_211 : Index := 0#32
  ![0, 0, v279.toNat, 0]
def k0_mult28 (i : grid0.Coords) (k0_t3 : Fin (k0_t3_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let c2_i32_222 : BitVec 32 := 2#32
  let v295 : BitVec 32 := Scalar.addi v189 c2_i32_222
  let c1_i32_223 : BitVec 32 := 1#32
  let v296 : BitVec 32 := Scalar.addi v295 c1_i32_223
  let c512_i32_224 : BitVec 32 := 512#32
  let v297 : BitVec 32 := Scalar.muli v296 c512_i32_224
  v297
def k0_mult29 (i : grid0.Coords) (k0_t3 : Fin (k0_t3_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let c1_i32_247 : BitVec 32 := 1#32
  let v323 : BitVec 32 := Scalar.addi v189 c1_i32_247
  let c1_i32_248 : BitVec 32 := 1#32
  let v324 : BitVec 32 := Scalar.addi v323 c1_i32_248
  let c512_i32_249 : BitVec 32 := 512#32
  let v325 : BitVec 32 := Scalar.muli v324 c512_i32_249
  v325
def k0_mult30 (i : grid0.Coords) (k0_t3 : Fin (k0_t3_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_125 : BitVec 32 := 1#32
  let arg14 : BitVec 32 := Scf.iv v174 c1_i32_125 k0_t3
  let v189 : BitVec 32 := Scalar.muli c2_i32_132 arg14
  let c1_i32_285 : BitVec 32 := 1#32
  let v374 : BitVec 32 := Scalar.addi v189 c1_i32_285
  let c512_i32_286 : BitVec 32 := 512#32
  let v375 : BitVec 32 := Scalar.muli v374 c512_i32_286
  v375
@[reducible] def k0_t4_loop (i : grid0.Coords) : Scf.Loop 32 :=
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let v176 : BitVec 32 := Scalar.addi v174 v175
  let c1_i32_126 : BitVec 32 := 1#32
  ⟨v179, v176, c1_i32_126⟩
def k0_mult31 (i : grid0.Coords) (k0_t4 : Fin (k0_t4_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let c2_i32_133 : BitVec 32 := 2#32
  let v190 : BitVec 32 := Scalar.addi v189 c2_i32_133
  let c0_i32_134 : BitVec 32 := 0#32
  let v191 : BitVec 32 := Scalar.addi v190 c0_i32_134
  let c512_i32_135 : BitVec 32 := 512#32
  let v192 : BitVec 32 := Scalar.muli v191 c512_i32_135
  v192
def k0_off7 (i : grid0.Coords) (k0_t4 : Fin (k0_t4_loop i).trips) (c0_i32_134 : BitVec 32) (c0_i32_136 : BitVec 32) : Fin 4 → Nat :=
  let c0_137 : Index := 0#32
  let c0_138 : Index := 0#32
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let c2_i32_133 : BitVec 32 := 2#32
  let v190 : BitVec 32 := Scalar.addi v189 c2_i32_133
  let v191 : BitVec 32 := Scalar.addi v190 c0_i32_134
  let c512_i32_135 : BitVec 32 := 512#32
  let v192 : BitVec 32 := Scalar.muli v191 c512_i32_135
  let v193 : BitVec 32 := v192
  let v194 : BitVec 32 := Scalar.addi v193 c0_i32_136
  let v195 : Index := Scalar.indexCast v194
  let c0_139 : Index := 0#32
  ![0, 0, v195.toNat, 0]
def k0_mult32 (i : grid0.Coords) (k0_t4 : Fin (k0_t4_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let c1_i32_157 : BitVec 32 := 1#32
  let v218 : BitVec 32 := Scalar.addi v189 c1_i32_157
  let c0_i32_158 : BitVec 32 := 0#32
  let v219 : BitVec 32 := Scalar.addi v218 c0_i32_158
  let c512_i32_159 : BitVec 32 := 512#32
  let v220 : BitVec 32 := Scalar.muli v219 c512_i32_159
  v220
def k0_mult33 (i : grid0.Coords) (k0_t4 : Fin (k0_t4_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let c0_i32_195 : BitVec 32 := 0#32
  let v269 : BitVec 32 := Scalar.addi v189 c0_i32_195
  let c512_i32_196 : BitVec 32 := 512#32
  let v270 : BitVec 32 := Scalar.muli v269 c512_i32_196
  v270
def k0_off8 (i : grid0.Coords) (k0_t4 : Fin (k0_t4_loop i).trips) (c0_i32_195 : BitVec 32) (c0_i32_208 : BitVec 32) : Fin 4 → Nat :=
  let c0_209 : Index := 0#32
  let c0_210 : Index := 0#32
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let v269 : BitVec 32 := Scalar.addi v189 c0_i32_195
  let c512_i32_196 : BitVec 32 := 512#32
  let v270 : BitVec 32 := Scalar.muli v269 c512_i32_196
  let v271 : BitVec 32 := v270
  let v278 : BitVec 32 := Scalar.addi v271 c0_i32_208
  let v279 : Index := Scalar.indexCast v278
  let c0_211 : Index := 0#32
  ![0, 0, v279.toNat, 0]
def k0_mult34 (i : grid0.Coords) (k0_t4 : Fin (k0_t4_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let c2_i32_222 : BitVec 32 := 2#32
  let v295 : BitVec 32 := Scalar.addi v189 c2_i32_222
  let c1_i32_223 : BitVec 32 := 1#32
  let v296 : BitVec 32 := Scalar.addi v295 c1_i32_223
  let c512_i32_224 : BitVec 32 := 512#32
  let v297 : BitVec 32 := Scalar.muli v296 c512_i32_224
  v297
def k0_mult35 (i : grid0.Coords) (k0_t4 : Fin (k0_t4_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let c1_i32_247 : BitVec 32 := 1#32
  let v323 : BitVec 32 := Scalar.addi v189 c1_i32_247
  let c1_i32_248 : BitVec 32 := 1#32
  let v324 : BitVec 32 := Scalar.addi v323 c1_i32_248
  let c512_i32_249 : BitVec 32 := 512#32
  let v325 : BitVec 32 := Scalar.muli v324 c512_i32_249
  v325
def k0_mult36 (i : grid0.Coords) (k0_t4 : Fin (k0_t4_loop i).trips) : BitVec 32 :=
  let c2_i32_132 : BitVec 32 := 2#32
  let c2_i32_122 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_103 : BitVec 32 := 1#32
  let v133 : BitVec 32 := Scalar.subi v32 c1_i32_103
  let c0_i32_104 : BitVec 32 := 0#32
  let v135 : BitVec 1 := Scalar.cmpi .sgt v133 c0_i32_104
  let v136 : BitVec 32 := Scalar.extui v135
  let c0_i32_105 : BitVec 32 := 0#32
  let v137 : BitVec 1 := Scalar.cmpi .slt v133 c0_i32_105
  let v138 : BitVec 32 := Scalar.extui v137
  let v139 : BitVec 32 := Scalar.subi v136 v138
  let c4_i32 : BitVec 32 := 4#32
  let c0_i32_106 : BitVec 32 := 0#32
  let v140 : BitVec 1 := Scalar.cmpi .sgt c4_i32 c0_i32_106
  let v141 : BitVec 32 := Scalar.extui v140
  let c0_i32_107 : BitVec 32 := 0#32
  let v142 : BitVec 1 := Scalar.cmpi .slt c4_i32 c0_i32_107
  let v143 : BitVec 32 := Scalar.extui v142
  let v144 : BitVec 32 := Scalar.subi v141 v143
  let v145 : BitVec 1 := Scalar.cmpi .ne v139 v144
  let v146 : BitVec 32 := Scalar.remsi v133 c4_i32
  let c0_i32_108 : BitVec 32 := 0#32
  let v147 : BitVec 1 := Scalar.cmpi .ne v146 c0_i32_108
  let v148 : BitVec 1 := Scalar.andi v145 v147
  let v134 : BitVec 32 := Scalar.divsi v133 c4_i32
  let c1_i32_109 : BitVec 32 := 1#32
  let v149 : BitVec 32 := Scalar.subi v134 c1_i32_109
  let v150 : BitVec 32 := Scalar.select v148 v149 v134
  let v174 : BitVec 32 := Scalar.muli c2_i32_122 v150
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v175 : BitVec 32 := Scalar.subi v173 v174
  let c1_i32_124 : BitVec 32 := 1#32
  let v177 : BitVec 32 := Scalar.divsi v175 c1_i32_124
  let v178 : BitVec 32 := Scalar.muli v177 c1_i32_124
  let v179 : BitVec 32 := Scalar.addi v174 v178
  let c1_i32_126 : BitVec 32 := 1#32
  let arg14 : BitVec 32 := Scf.iv v179 c1_i32_126 k0_t4
  let v189 : BitVec 32 := Scalar.muli c2_i32_132 arg14
  let c1_i32_285 : BitVec 32 := 1#32
  let v374 : BitVec 32 := Scalar.addi v189 c1_i32_285
  let c512_i32_286 : BitVec 32 := 512#32
  let v375 : BitVec 32 := Scalar.muli v374 c512_i32_286
  v375
def k0_cond3 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c2_i32_127 : BitVec 32 := 2#32
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let v181 : BitVec 32 := Scalar.subi v32 v180
  let c1_i32_128 : BitVec 32 := 1#32
  let v182 : BitVec 1 := Scalar.cmpi .eq v181 c1_i32_128
  let v183 : BitVec 32 := Scalar.extui v182
  let c0_i32_129 : BitVec 32 := 0#32
  let v184 : BitVec 1 := Scalar.cmpi .ne v183 c0_i32_129
  v184

def k0_mult37 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c1_i32_132 : BitVec 32 := 1#32
  let v189 : BitVec 32 := Scalar.addi v180 c1_i32_132
  let c512_i32_133 : BitVec 32 := 512#32
  let v190 : BitVec 32 := Scalar.muli v189 c512_i32_133
  v190
def k0_mult38 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c512_i32_174 : BitVec 32 := 512#32
  let v278 : BitVec 32 := Scalar.muli v180 c512_i32_174
  v278
def k0_off9 (i : grid0.Coords) (c0_i32_186 : BitVec 32) : Fin 4 → Nat :=
  let c0_187 : Index := 0#32
  let c0_188 : Index := 0#32
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c512_i32_174 : BitVec 32 := 512#32
  let v278 : BitVec 32 := Scalar.muli v180 c512_i32_174
  let v279 : BitVec 32 := v278
  let v286 : BitVec 32 := Scalar.addi v279 c0_i32_186
  let v287 : Index := Scalar.indexCast v286
  let c0_189 : Index := 0#32
  ![0, 0, v287.toNat, 0]
def k0_mult39 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c1_i32_200 : BitVec 32 := 1#32
  let v303 : BitVec 32 := Scalar.addi v180 c1_i32_200
  let c512_i32_201 : BitVec 32 := 512#32
  let v304 : BitVec 32 := Scalar.muli v303 c512_i32_201
  v304
def k0_off10 (i : grid0.Coords) (c0_i32_213 : BitVec 32) : Fin 4 → Nat :=
  let c0_214 : Index := 0#32
  let c0_215 : Index := 0#32
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c1_i32_200 : BitVec 32 := 1#32
  let v303 : BitVec 32 := Scalar.addi v180 c1_i32_200
  let c512_i32_201 : BitVec 32 := 512#32
  let v304 : BitVec 32 := Scalar.muli v303 c512_i32_201
  let v305 : BitVec 32 := v304
  let v312 : BitVec 32 := Scalar.addi v305 c0_i32_213
  let v313 : Index := Scalar.indexCast v312
  let c0_216 : Index := 0#32
  ![0, 0, v313.toNat, 0]
def k0_cond4 (i : grid0.Coords) : BitVec 1 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c2_i32_127 : BitVec 32 := 2#32
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let v185 : BitVec 32 := Scalar.subi v32 v180
  let c2_i32_130 : BitVec 32 := 2#32
  let v186 : BitVec 1 := Scalar.cmpi .eq v185 c2_i32_130
  let v187 : BitVec 32 := Scalar.extui v186
  let c0_i32_131 : BitVec 32 := 0#32
  let v188 : BitVec 1 := Scalar.cmpi .ne v187 c0_i32_131
  v188

def k0_mult40 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c2_i32_132 : BitVec 32 := 2#32
  let v189 : BitVec 32 := Scalar.addi v180 c2_i32_132
  let c512_i32_133 : BitVec 32 := 512#32
  let v190 : BitVec 32 := Scalar.muli v189 c512_i32_133
  v190
def k0_off11 (i : grid0.Coords) (c0_i32_134 : BitVec 32) : Fin 4 → Nat :=
  let c0_135 : Index := 0#32
  let c0_136 : Index := 0#32
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c2_i32_132 : BitVec 32 := 2#32
  let v189 : BitVec 32 := Scalar.addi v180 c2_i32_132
  let c512_i32_133 : BitVec 32 := 512#32
  let v190 : BitVec 32 := Scalar.muli v189 c512_i32_133
  let v191 : BitVec 32 := v190
  let v192 : BitVec 32 := Scalar.addi v191 c0_i32_134
  let v193 : Index := Scalar.indexCast v192
  let c0_137 : Index := 0#32
  ![0, 0, v193.toNat, 0]
def k0_mult41 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c512_i32_190 : BitVec 32 := 512#32
  let v263 : BitVec 32 := Scalar.muli v180 c512_i32_190
  v263
def k0_off12 (i : grid0.Coords) (c0_i32_202 : BitVec 32) : Fin 4 → Nat :=
  let c0_203 : Index := 0#32
  let c0_204 : Index := 0#32
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c512_i32_190 : BitVec 32 := 512#32
  let v263 : BitVec 32 := Scalar.muli v180 c512_i32_190
  let v264 : BitVec 32 := v263
  let v271 : BitVec 32 := Scalar.addi v264 c0_i32_202
  let v272 : Index := Scalar.indexCast v271
  let c0_205 : Index := 0#32
  ![0, 0, v272.toNat, 0]
def k0_mult42 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c2_i32_216 : BitVec 32 := 2#32
  let v288 : BitVec 32 := Scalar.addi v180 c2_i32_216
  let c512_i32_217 : BitVec 32 := 512#32
  let v289 : BitVec 32 := Scalar.muli v288 c512_i32_217
  v289
def k0_mult43 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c1_i32_259 : BitVec 32 := 1#32
  let v377 : BitVec 32 := Scalar.addi v180 c1_i32_259
  let c512_i32_260 : BitVec 32 := 512#32
  let v378 : BitVec 32 := Scalar.muli v377 c512_i32_260
  v378
def k0_off13 (i : grid0.Coords) (c1_i32_259 : BitVec 32) (c0_i32_272 : BitVec 32) : Fin 4 → Nat :=
  let c0_273 : Index := 0#32
  let c0_274 : Index := 0#32
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let v377 : BitVec 32 := Scalar.addi v180 c1_i32_259
  let c512_i32_260 : BitVec 32 := 512#32
  let v378 : BitVec 32 := Scalar.muli v377 c512_i32_260
  let v379 : BitVec 32 := v378
  let v386 : BitVec 32 := Scalar.addi v379 c0_i32_272
  let v387 : Index := Scalar.indexCast v386
  let c0_275 : Index := 0#32
  ![0, 0, v387.toNat, 0]
def k0_mult44 (i : grid0.Coords) : BitVec 32 :=
  let c2_i32_127 : BitVec 32 := 2#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_12 : BitVec 32 := 0#32
  let v17 : BitVec 1 := Scalar.cmpi .sgt v1 c0_i32_12
  let v18 : BitVec 32 := Scalar.extui v17
  let c0_i32_13 : BitVec 32 := 0#32
  let v19 : BitVec 1 := Scalar.cmpi .slt v1 c0_i32_13
  let v20 : BitVec 32 := Scalar.extui v19
  let v21 : BitVec 32 := Scalar.subi v18 v20
  let c512_i32_11 : BitVec 32 := 512#32
  let c0_i32_14 : BitVec 32 := 0#32
  let v22 : BitVec 1 := Scalar.cmpi .sgt c512_i32_11 c0_i32_14
  let v23 : BitVec 32 := Scalar.extui v22
  let c0_i32_15 : BitVec 32 := 0#32
  let v24 : BitVec 1 := Scalar.cmpi .slt c512_i32_11 c0_i32_15
  let v25 : BitVec 32 := Scalar.extui v24
  let v26 : BitVec 32 := Scalar.subi v23 v25
  let v27 : BitVec 1 := Scalar.cmpi .ne v21 v26
  let v28 : BitVec 32 := Scalar.remsi v1 c512_i32_11
  let c0_i32_16 : BitVec 32 := 0#32
  let v29 : BitVec 1 := Scalar.cmpi .ne v28 c0_i32_16
  let v30 : BitVec 1 := Scalar.andi v27 v29
  let v16 : BitVec 32 := Scalar.divsi v1 c512_i32_11
  let c1_i32 : BitVec 32 := 1#32
  let v31 : BitVec 32 := Scalar.subi v16 c1_i32
  let v32 : BitVec 32 := Scalar.select v30 v31 v16
  let c1_i32_115 : BitVec 32 := 1#32
  let v156 : BitVec 32 := Scalar.subi v32 c1_i32_115
  let c0_i32_116 : BitVec 32 := 0#32
  let v158 : BitVec 1 := Scalar.cmpi .sgt v156 c0_i32_116
  let v159 : BitVec 32 := Scalar.extui v158
  let c0_i32_117 : BitVec 32 := 0#32
  let v160 : BitVec 1 := Scalar.cmpi .slt v156 c0_i32_117
  let v161 : BitVec 32 := Scalar.extui v160
  let v162 : BitVec 32 := Scalar.subi v159 v161
  let c2_i32 : BitVec 32 := 2#32
  let c0_i32_118 : BitVec 32 := 0#32
  let v163 : BitVec 1 := Scalar.cmpi .sgt c2_i32 c0_i32_118
  let v164 : BitVec 32 := Scalar.extui v163
  let c0_i32_119 : BitVec 32 := 0#32
  let v165 : BitVec 1 := Scalar.cmpi .slt c2_i32 c0_i32_119
  let v166 : BitVec 32 := Scalar.extui v165
  let v167 : BitVec 32 := Scalar.subi v164 v166
  let v168 : BitVec 1 := Scalar.cmpi .ne v162 v167
  let v169 : BitVec 32 := Scalar.remsi v156 c2_i32
  let c0_i32_120 : BitVec 32 := 0#32
  let v170 : BitVec 1 := Scalar.cmpi .ne v169 c0_i32_120
  let v171 : BitVec 1 := Scalar.andi v168 v170
  let v157 : BitVec 32 := Scalar.divsi v156 c2_i32
  let c1_i32_121 : BitVec 32 := 1#32
  let v172 : BitVec 32 := Scalar.subi v157 c1_i32_121
  let v173 : BitVec 32 := Scalar.select v171 v172 v157
  let v180 : BitVec 32 := Scalar.muli c2_i32_127 v173
  let c2_i32_286 : BitVec 32 := 2#32
  let v403 : BitVec 32 := Scalar.addi v180 c2_i32_286
  let c512_i32_287 : BitVec 32 := 512#32
  let v404 : BitVec 32 := Scalar.muli v403 c512_i32_287
  v404
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "coef" => some (((Real.sqrt 192)⁻¹ * (Real.log 2)⁻¹ : ℝ) : EReal)
  | "masked" => some ⊥
  | _ => none
-- ==== ReferenceIdeal.lean ====
abbrev S1x16384x8x128 : Shape := ⟨4, ![1, 16384, 8, 128]⟩
abbrev S1x16384x8x64 : Shape := ⟨4, ![1, 16384, 8, 64]⟩
abbrev S1x16384x64 : Shape := ⟨3, ![1, 16384, 64]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S1x8x16384x16384 : Shape := ⟨4, ![1, 8, 16384, 16384]⟩
abbrev S1x16384x16384x8 : Shape := ⟨4, ![1, 16384, 16384, 8]⟩
abbrev S1x1x16384x16384 : Shape := ⟨4, ![1, 1, 16384, 16384]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩
abbrev S1x16384x1024 : Shape := ⟨3, ![1, 16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x8x64, .f32⟩
  | .hbm, ⟨2, _⟩ => ⟨S1x16384x8x128, .f32⟩
  | .hbm, ⟨3, _⟩ => ⟨S1x16384x64, .f32⟩
  | .hbm, ⟨4, _⟩ => ⟨S1x16384x8x128, .f32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S1x16384, .i32⟩
  | .hbm, ⟨26, _⟩ => ⟨S_, .i32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S16384x16384, .i32⟩
  | .hbm, ⟨46, _⟩ => ⟨S16384x16384, .i32⟩
  | .hbm, ⟨47, _⟩ => ⟨S16384x16384, .i1⟩
  | .hbm, ⟨48, _⟩ => ⟨S1x8x16384x16384, .f32⟩
  | .hbm, ⟨49, _⟩ => ⟨S1x16384x16384x8, .f32⟩
  | .hbm, ⟨50, _⟩ => ⟨S1x8x16384x16384, .f32⟩
  | .hbm, ⟨51, _⟩ => ⟨S1x8x16384x16384, .f32⟩
  | .hbm, ⟨52, _⟩ => ⟨S_, .f32⟩
  | .hbm, ⟨53, _⟩ => ⟨S_, .f32⟩
  | .hbm, ⟨54, _⟩ => ⟨S1x8x16384x16384, .f32⟩
  | .hbm, ⟨55, _⟩ => ⟨S1x8x16384x16384, .f32⟩
  | .hbm, ⟨56, _⟩ => ⟨S1x1x16384x16384, .i1⟩
  | .hbm, ⟨57, _⟩ => ⟨S_, .f32⟩
  | .hbm, ⟨58, _⟩ => ⟨S_, .f32⟩
  | .hbm, ⟨59, _⟩ => ⟨S1x8x16384x16384, .i1⟩
  | .hbm, ⟨60, _⟩ => ⟨S1x8x16384x16384, .f32⟩
  | .hbm, ⟨61, _⟩ => ⟨S1x8x16384x16384, .f32⟩
  | .hbm, ⟨62, _⟩ => ⟨S_, .f32⟩
  | .hbm, ⟨63, _⟩ => ⟨S1x8x16384, .f32⟩
  | .hbm, ⟨64, _⟩ => ⟨S_, .f32⟩
  | .hbm, ⟨65, _⟩ => ⟨S1x8x16384, .f32⟩
  | .hbm, ⟨66, _⟩ => ⟨S1x8x16384, .f32⟩
  | .hbm, ⟨67, _⟩ => ⟨S1x8x16384x1, .f32⟩
  | .hbm, ⟨68, _⟩ => ⟨S1x8x16384x16384, .f32⟩
  | .hbm, ⟨69, _⟩ => ⟨S1x8x16384x16384, .f32⟩
  | .hbm, ⟨70, _⟩ => ⟨S1x8x16384x16384, .f32⟩
  | .hbm, ⟨71, _⟩ => ⟨S_, .f32⟩
  | .hbm, ⟨72, _⟩ => ⟨S1x8x16384, .f32⟩
  | .hbm, ⟨73, _⟩ => ⟨S1x8x16384x1, .f32⟩
  | .hbm, ⟨74, _⟩ => ⟨S1x8x16384x16384, .f32⟩
  | .hbm, ⟨75, _⟩ => ⟨S1x8x16384x16384, .f32⟩
  | .hbm, ⟨76, _⟩ => ⟨S1x8x128x16384, .f32⟩
  | .hbm, ⟨77, _⟩ => ⟨S1x16384x8x128, .f32⟩
  | .hbm, ⟨78, _⟩ => ⟨S1x16384x1024, .f32⟩
  | .hbm, ⟨79, _⟩ => ⟨S1x16384x1024, .bf16⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩
abbrev main_cst_3 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_4 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩

abbrev nD : Nat := 1
abbrev τ : Topo := Topo.v7x

variable {F : FTy → Type} [FloatOps F]
-- ==== Kernel2.lean ====
abbrev S1x16384x2048 : Shape := ⟨3, ![1, 16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S1x16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S1x16384x2048 : Shape := ⟨3, ![1, 16384, 2048]⟩
abbrev S2048x5632 : Shape := ⟨2, ![2048, 5632]⟩
abbrev S5632x2048 : Shape := ⟨2, ![5632, 2048]⟩
abbrev S2048 : Shape := ⟨1, ![2048]⟩
abbrev S1x16384x5632 : Shape := ⟨3, ![1, 16384, 5632]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S1x16384x5632, .f32⟩
  | .hbm, ⟨7, _⟩ => ⟨S1x16384x5632, .f32⟩
  | .hbm, ⟨8, _⟩ => ⟨S1x16384x5632, .f32⟩
  | .hbm, ⟨9, _⟩ => ⟨S_, .f32⟩
  | .hbm, ⟨10, _⟩ => ⟨S1x16384x5632, .f32⟩
  | .hbm, ⟨11, _⟩ => ⟨S1x16384x5632, .f32⟩
  | .hbm, ⟨12, _⟩ => ⟨S_, .f32⟩
  | .hbm, ⟨13, _⟩ => ⟨S1x16384x5632, .f32⟩
  | .hbm, ⟨14, _⟩ => ⟨S1x16384x5632, .f32⟩
  | .hbm, ⟨15, _⟩ => ⟨S1x16384x5632, .f32⟩
  | .hbm, ⟨16, _⟩ => ⟨S1x16384x5632, .f32⟩
  | .hbm, ⟨17, _⟩ => ⟨S1x16384x5632, .f32⟩
  | .hbm, ⟨18, _⟩ => ⟨S1x16384x2048, .f32⟩
  | .hbm, ⟨19, _⟩ => ⟨S_, .f32⟩
  | .hbm, ⟨20, _⟩ => ⟨S1x16384x2048, .f32⟩
  | .hbm, ⟨21, _⟩ => ⟨S1x16384x2048, .f32⟩
  | .hbm, ⟨22, _⟩ => ⟨S1x16384x2048, .f32⟩
  | .hbm, ⟨23, _⟩ => ⟨S_, .f32⟩
  | .hbm, ⟨24, _⟩ => ⟨S1x16384, .f32⟩
  | .hbm, ⟨25, _⟩ => ⟨S1x16384x1, .f32⟩
  | .hbm, ⟨26, _⟩ => ⟨S_, .f32⟩
  | .hbm, ⟨27, _⟩ => ⟨S1x16384x1, .f32⟩
  | .hbm, ⟨28, _⟩ => ⟨S1x16384x1, .f32⟩
  | .hbm, ⟨29, _⟩ => ⟨S1x16384x2048, .f32⟩
  | .hbm, ⟨30, _⟩ => ⟨S1x16384x2048, .f32⟩
  | .hbm, ⟨31, _⟩ => ⟨S1x16384x2048, .f32⟩
  | .hbm, ⟨32, _⟩ => ⟨S_, .f32⟩
  | .hbm, ⟨33, _⟩ => ⟨S1x16384, .f32⟩
  | .hbm, ⟨34, _⟩ => ⟨S1x16384x1, .f32⟩
  | .hbm, ⟨35, _⟩ => ⟨S_, .f32⟩
  | .hbm, ⟨36, _⟩ => ⟨S1x16384x1, .f32⟩
  | .hbm, ⟨37, _⟩ => ⟨S1x16384x1, .f32⟩
  | .hbm, ⟨38, _⟩ => ⟨S1x16384x2048, .f32⟩
  | .hbm, ⟨39, _⟩ => ⟨S1x16384x2048, .f32⟩
  | .hbm, ⟨40, _⟩ => ⟨S_, .f32⟩
  | .hbm, ⟨41, _⟩ => ⟨S1x16384x1, .f32⟩
  | .hbm, ⟨42, _⟩ => ⟨S1x16384x1, .f32⟩
  | .hbm, ⟨43, _⟩ => ⟨S1x16384x1, .f32⟩
  | .hbm, ⟨44, _⟩ => ⟨S1x16384x2048, .f32⟩
  | .hbm, ⟨45, _⟩ => ⟨S1x16384x2048, .f32⟩
  | .hbm, ⟨46, _⟩ => ⟨S1x1x2048, .f32⟩
  | .hbm, ⟨47, _⟩ => ⟨S1x16384x2048, .f32⟩
  | .hbm, ⟨48, _⟩ => ⟨S1x16384x2048, .f32⟩
  | .hbm, ⟨49, _⟩ => ⟨S1x1x2048, .f32⟩
  | .hbm, ⟨50, _⟩ => ⟨S1x16384x2048, .f32⟩
  | .hbm, ⟨51, _⟩ => ⟨S1x16384x2048, .f32⟩
  | .hbm, ⟨52, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S1x16384x2048 : Shape := ⟨3, ![1, 16384, 2048]⟩
abbrev S2048x3728 : Shape := ⟨2, ![2048, 3728]⟩
abbrev S512x8x192 : Shape := ⟨3, ![512, 8, 192]⟩
abbrev S512 : Shape := ⟨1, ![512]⟩
abbrev S128 : Shape := ⟨1, ![128]⟩
abbrev S1x128 : Shape := ⟨2, ![1, 128]⟩
abbrev S2048x512 : Shape := ⟨2, ![2048, 512]⟩
abbrev S2048x64 : Shape := ⟨2, ![2048, 64]⟩
abbrev S2048x1024 : Shape := ⟨2, ![2048, 1024]⟩
abbrev S2048x256 : Shape := ⟨2, ![2048, 256]⟩
abbrev S2048x16 : Shape := ⟨2, ![2048, 16]⟩
abbrev S_ : Shape := ⟨0, ![]⟩
abbrev S2048x112 : Shape := ⟨2, ![2048, 112]⟩
abbrev S2048x4096 : Shape := ⟨2, ![2048, 4096]⟩
abbrev S512x8x256 : Shape := ⟨3, ![512, 8, 256]⟩
abbrev S512x2048 : Shape := ⟨2, ![512, 2048]⟩
abbrev S1x512 : Shape := ⟨2, ![1, 512]⟩
abbrev S16384 : Shape := ⟨1, ![16384]⟩
abbrev S16384x2048 : Shape := ⟨2, ![16384, 2048]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S128x1 : Shape := ⟨2, ![128, 1]⟩
abbrev S16384x128 : Shape := ⟨2, ![16384, 128]⟩
abbrev S32 : Shape := ⟨1, ![32]⟩
abbrev S1x32 : Shape := ⟨2, ![1, 32]⟩
abbrev S16384x32 : Shape := ⟨2, ![16384, 32]⟩
abbrev S16384x512 : Shape := ⟨2, ![16384, 512]⟩
abbrev S16384x256 : Shape := ⟨2, ![16384, 256]⟩
abbrev S8x16384x256 : Shape := ⟨3, ![8, 16384, 256]⟩
abbrev S8x16384x128 : Shape := ⟨3, ![8, 16384, 128]⟩
abbrev S512x128 : Shape := ⟨2, ![512, 128]⟩
abbrev S512x512 : Shape := ⟨2, ![512, 512]⟩
abbrev S512x64 : Shape := ⟨2, ![512, 64]⟩
abbrev S512x256 : Shape := ⟨2, ![512, 256]⟩
abbrev S8x512x256 : Shape := ⟨3, ![8, 512, 256]⟩
abbrev S8x512x128 : Shape := ⟨3, ![8, 512, 128]⟩
abbrev S512x1 : Shape := ⟨2, ![512, 1]⟩
abbrev S1x512x128 : Shape := ⟨3, ![1, 512, 128]⟩

abbrev nBuf : Space → Nat
  | .hbm => 119
  | .vmem => 42
  | .smem => 0
  | _ => 0

abbrev bufTy : (tb : Table) → Fin (tcTables nBuf tb) → BufTy
  | .hbm, ⟨0, _⟩ => ⟨S1x16384x2048, .f32⟩
  | .hbm, ⟨1, _⟩ => ⟨S2048x3728, .f32⟩
  | .hbm, ⟨2, _⟩ => ⟨S512x8x192, .f32⟩
  | .hbm, ⟨3, _⟩ => ⟨S512, .f32⟩
  | .hbm, ⟨4, _⟩ => ⟨S512, .f32⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S128, .f32⟩
  | .hbm, ⟨9, _⟩ => ⟨S1x128, .f32⟩
  | .hbm, ⟨10, _⟩ => ⟨S128, .i32⟩
  | .hbm, ⟨11, _⟩ => ⟨S128, .i1⟩
  | .hbm, ⟨12, _⟩ => ⟨S128, .i1⟩
  | .hbm, ⟨13, _⟩ => ⟨S128, .f32⟩
  | .hbm, ⟨14, _⟩ => ⟨S1x128, .f32⟩
  | .hbm, ⟨15, _⟩ => ⟨S2048x512, .f32⟩
  | .hbm, ⟨16, _⟩ => ⟨S2048x512, .f32⟩
  | .hbm, ⟨17, _⟩ => ⟨S2048x64, .f32⟩
  | .hbm, ⟨18, _⟩ => ⟨S2048x1024, .f32⟩
  | .hbm, ⟨19, _⟩ => ⟨S2048x256, .f32⟩
  | .hbm, ⟨20, _⟩ => ⟨S2048x256, .f32⟩
  | .hbm, ⟨21, _⟩ => ⟨S2048x1024, .f32⟩
  | .hbm, ⟨22, _⟩ => ⟨S2048x64, .f32⟩
  | .hbm, ⟨23, _⟩ => ⟨S2048x16, .f32⟩
  | .hbm, ⟨24, _⟩ => ⟨S_, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S_, .f32⟩
  | .hbm, ⟨29, _⟩ => ⟨S2048x64, .f32⟩
  | .hbm, ⟨30, _⟩ => ⟨S_, .f32⟩
  | .hbm, ⟨31, _⟩ => ⟨S2048x112, .f32⟩
  | .hbm, ⟨32, _⟩ => ⟨S2048x4096, .f32⟩
  | .hbm, ⟨33, _⟩ => ⟨S_, .i32⟩
  | .hbm, ⟨34, _⟩ => ⟨S_, .f32⟩
  | .hbm, ⟨35, _⟩ => ⟨S512x8x256, .f32⟩
  | .hbm, ⟨36, _⟩ => ⟨S2048x4096, .bf16⟩
  | .hbm, ⟨37, _⟩ => ⟨S512x2048, .f32⟩
  | .hbm, ⟨38, _⟩ => ⟨S512x2048, .bf16⟩
  | .hbm, ⟨39, _⟩ => ⟨S1x512, .f32⟩
  | .hbm, ⟨40, _⟩ => ⟨S1x512, .f32⟩
  | .hbm, ⟨41, _⟩ => ⟨S16384, .i32⟩
  | .hbm, ⟨42, _⟩ => ⟨S16384x2048, .f32⟩
  | .hbm, ⟨43, _⟩ => ⟨S16384, .f32⟩
  | .hbm, ⟨44, _⟩ => ⟨S16384x1, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S16384x64, .f32⟩
  | .hbm, ⟨57, _⟩ => ⟨S16384x64, .f32⟩
  | .hbm, ⟨58, _⟩ => ⟨S16384x64, .f32⟩
  | .hbm, ⟨59, _⟩ => ⟨S16384x64, .f32⟩
  | .hbm, ⟨60, _⟩ => ⟨S16384x64, .f32⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S128x1, .i32⟩
  | .hbm, ⟨66, _⟩ => ⟨S16384x128, .f32⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S1x32, .f32⟩
  | .hbm, ⟨86, _⟩ => ⟨S16384x32, .f32⟩
  | .hbm, ⟨87, _⟩ => ⟨S16384x32, .f32⟩
  | .hbm, ⟨88, _⟩ => ⟨S16384x32, .f32⟩
  | .hbm, ⟨89, _⟩ => ⟨S16384x32, .f32⟩
  | .hbm, ⟨90, _⟩ => ⟨S16384x32, .f32⟩
  | .hbm, ⟨91, _⟩ => ⟨S_, .i32⟩
  | .hbm, ⟨92, _⟩ => ⟨S128, .i32⟩
  | .hbm, ⟨93, _⟩ => ⟨S128, .i32⟩
  | .hbm, ⟨94, _⟩ => ⟨S128, .i32⟩
  | .hbm, ⟨95, _⟩ => ⟨S128x1, .i32⟩
  | .hbm, ⟨96, _⟩ => ⟨S16384x128, .f32⟩
  | .hbm, ⟨97, _⟩ => ⟨S_, .i32⟩
  | .hbm, ⟨98, _⟩ => ⟨S128, .i32⟩
  | .hbm, ⟨99, _⟩ => ⟨S128, .i32⟩
  | .hbm, ⟨100, _⟩ => ⟨S128, .i32⟩
  | .hbm, ⟨101, _⟩ => ⟨S128x1, .i32⟩
  | .hbm, ⟨102, _⟩ => ⟨S16384x128, .f32⟩
  | .hbm, ⟨103, _⟩ => ⟨S16384x128, .f32⟩
  | .hbm, ⟨104, _⟩ => ⟨S16384x128, .f32⟩
  | .hbm, ⟨105, _⟩ => ⟨S16384x512, .f32⟩
  | .hbm, ⟨106, _⟩ => ⟨S16384x64, .f32⟩
  | .hbm, ⟨107, _⟩ => ⟨S16384x256, .f32⟩
  | .hbm, ⟨108, _⟩ => ⟨S16384x256, .f32⟩
  | .hbm, ⟨109, _⟩ => ⟨S16384x64, .f32⟩
  | .hbm, ⟨110, _⟩ => ⟨S8x16384x256, .bf16⟩
  | .hbm, ⟨111, _⟩ => ⟨S8x16384x128, .bf16⟩
  | .hbm, ⟨112, _⟩ => ⟨S8x16384x128, .bf16⟩
  | .hbm, ⟨113, _⟩ => ⟨S16384x128, .f32⟩
  | .hbm, ⟨114, _⟩ => ⟨S16384x128, .bf16⟩
  | .hbm, ⟨115, _⟩ => ⟨S16384x256, .bf16⟩
  | .hbm, ⟨116, _⟩ => ⟨S16384x256, .bf16⟩
  | .hbm, ⟨117, _⟩ => ⟨S16384x128, .bf16⟩
  | .hbm, ⟨118, _⟩ => ⟨S16384x128, .bf16⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | .local _ .vmem, ⟨16, _⟩ => ⟨S512x64, .f32⟩
  | .local _ .vmem, ⟨17, _⟩ => ⟨S512x64, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x64, .f32⟩
  | .local _ .vmem, ⟨23, _⟩ => ⟨S512x64, .f32⟩
  | .local _ .vmem, ⟨24, _⟩ => ⟨S8x512x256, .bf16⟩
  | .local _ .vmem, ⟨25, _⟩ => ⟨S8x512x256, .bf16⟩
  | .local _ .vmem, ⟨26, _⟩ => ⟨S8x512x128, .bf16⟩
  | .local _ .vmem, ⟨27, _⟩ => ⟨S8x512x128, .bf16⟩
  | .local _ .vmem, ⟨28, _⟩ => ⟨S8x512x128, .bf16⟩
  | .local _ .vmem, ⟨29, _⟩ => ⟨S8x512x128, .bf16⟩
  | .local _ .vmem, ⟨30, _⟩ => ⟨S512x128, .f32⟩
  | .local _ .vmem, ⟨31, _⟩ => ⟨S512x128, .f32⟩
  | .local _ .vmem, ⟨32, _⟩ => ⟨S512x128, .bf16⟩
  | .local _ .vmem, ⟨33, _⟩ => ⟨S512x128, .bf16⟩
  | .local _ .vmem, ⟨34, _⟩ => ⟨S512x256, .bf16⟩
  | .local _ .vmem, ⟨35, _⟩ => ⟨S512x256, .bf16⟩
  | .local _ .vmem, ⟨36, _⟩ => ⟨S512x256, .bf16⟩
  | .local _ .vmem, ⟨37, _⟩ => ⟨S512x256, .bf16⟩
  | .local _ .vmem, ⟨38, _⟩ => ⟨S512x128, .bf16⟩
  | .local _ .vmem, ⟨39, _⟩ => ⟨S512x128, .bf16⟩
  | .local _ .vmem, ⟨40, _⟩ => ⟨S512x128, .bf16⟩
  | .local _ .vmem, ⟨41, _⟩ => ⟨S512x128, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_cst_5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_cst_7 : Ref sig .tc := ⟨.hbm, 26, rfl⟩
abbrev main_v12 : Ref sig .tc := ⟨.hbm, 27, rfl⟩
abbrev main_cst_8 : Ref sig .tc := ⟨.hbm, 28, rfl⟩
abbrev main_v13 : Ref sig .tc := ⟨.hbm, 29, rfl⟩
abbrev main_cst_9 : Ref sig .tc := ⟨.hbm, 30, rfl⟩
abbrev main_v14 : Ref sig .tc := ⟨.hbm, 31, rfl⟩
abbrev main_v15 : Ref sig .tc := ⟨.hbm, 32, rfl⟩
abbrev main_c_10 : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩
abbrev main_cst_12 : Ref sig .tc := ⟨.hbm, 49, rfl⟩
abbrev main_v29 : Ref sig .tc := ⟨.hbm, 50, rfl⟩
abbrev main_v30 : Ref sig .tc := ⟨.hbm, 51, rfl⟩
abbrev main_cst_13 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_14 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_15 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_cst_17 : Ref sig .tc := ⟨.hbm, 79, rfl⟩
abbrev main_v54 : Ref sig .tc := ⟨.hbm, 80, rfl⟩
abbrev main_v55 : Ref sig .tc := ⟨.hbm, 81, rfl⟩
abbrev main_cst_18 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev main_v76_2 : Ref sig .tc := ⟨.hbm, 107, rfl⟩
abbrev main_v76_3 : Ref sig .tc := ⟨.hbm, 108, rfl⟩
abbrev main_v76_4 : Ref sig .tc := ⟨.hbm, 109, rfl⟩
abbrev main_v76_5 : Ref sig .tc := ⟨.hbm, 110, rfl⟩
abbrev main_v76_6 : Ref sig .tc := ⟨.hbm, 111, rfl⟩
abbrev main_v76_7 : Ref sig .tc := ⟨.hbm, 112, rfl⟩
abbrev main_v76_8 : Ref sig .tc := ⟨.hbm, 113, rfl⟩
abbrev main_v76_9 : Ref sig .tc := ⟨.hbm, 114, rfl⟩
abbrev main_v76_10 : Ref sig .tc := ⟨.hbm, 115, rfl⟩
abbrev main_v76_11 : Ref sig .tc := ⟨.hbm, 116, rfl⟩
abbrev main_v76_12 : Ref sig .tc := ⟨.hbm, 117, rfl⟩
abbrev main_v76_13 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference3Ideal.lean ====
abbrev S1x16384x2048 : Shape := ⟨3, ![1, 16384, 2048]⟩
abbrev S2048x3728 : Shape := ⟨2, ![2048, 3728]⟩
abbrev S512x8x192 : Shape := ⟨3, ![512, 8, 192]⟩
abbrev S512 : Shape := ⟨1, ![512]⟩
abbrev S16384 : Shape := ⟨1, ![16384]⟩
abbrev S1x16384x3728 : Shape := ⟨3, ![1, 16384, 3728]⟩
abbrev S1x16384x512 : Shape := ⟨3, ![1, 16384, 512]⟩
abbrev S1x16384x64 : Shape := ⟨3, ![1, 16384, 64]⟩
abbrev S1x16384x1024 : Shape := ⟨3, ![1, 16384, 1024]⟩
abbrev S1x16384x256 : Shape := ⟨3, ![1, 16384, 256]⟩
abbrev S1x16384x16 : Shape := ⟨3, ![1, 16384, 16]⟩
abbrev S_ : Shape := ⟨0, ![]⟩
abbrev S1x16384 : Shape := ⟨2, ![1, 16384]⟩
abbrev S1x16384x1 : Shape := ⟨3, ![1, 16384, 1]⟩
abbrev S1x1x512 : Shape := ⟨3, ![1, 1, 512]⟩
abbrev S1x16384x1x64 : Shape := ⟨4, ![1, 16384, 1, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x2x128 : Shape := ⟨4, ![1, 16384, 2, 128]⟩
abbrev S64 : Shape := ⟨1, ![64]⟩
abbrev S1x64 : Shape := ⟨2, ![1, 64]⟩
abbrev S16384x64 : Shape := ⟨2, ![16384, 64]⟩
abbrev S1x16384x2x64 : Shape := ⟨4, ![1, 16384, 2, 64]⟩
abbrev S16384x512 : Shape := ⟨2, ![16384, 512]⟩
abbrev S16384x256 : Shape := ⟨2, ![16384, 256]⟩

abbrev nBuf : Space → Nat
  | .hbm => 134
  | .vmem => 0
  | .smem => 0
  | _ => 0

abbrev hbmTy0_0 (i : Nat) : BufTy := match i % 128 with
  | 0 => ⟨S1x16384x2048, .f32⟩
  | 1 => ⟨S2048x3728, .f32⟩
  | 2 => ⟨S512x8x192, .f32⟩
  | 3 => ⟨S512, .f32⟩
  | 4 => ⟨S512, .f32⟩
  | 5 => ⟨S16384, .i32⟩
  | 6 => ⟨S1x16384x3728, .f32⟩
  | 7 => ⟨S1x16384x512, .f32⟩
  | 8 => ⟨S1x16384x512, .f32⟩
  | 9 => ⟨S1x16384x64, .f32⟩
  | 10 => ⟨S1x16384x1024, .f32⟩
  | 11 => ⟨S1x16384x256, .f32⟩
  | 12 => ⟨S1x16384x256, .f32⟩
  | 13 => ⟨S1x16384x1024, .f32⟩
  | 14 => ⟨S1x16384x64, .f32⟩
  | 15 => ⟨S1x16384x16, .f32⟩
  | 16 => ⟨S1x16384x512, .f32⟩
  | 17 => ⟨S_, .f32⟩
  | 18 => ⟨S1x16384, .f32⟩
  | 19 => ⟨S1x16384x1, .f32⟩
  | 20 => ⟨S_, .f32⟩
  | 21 => ⟨S1x16384x1, .f32⟩
  | 22 => ⟨S1x16384x1, .f32⟩
  | 23 => ⟨S_, .f32⟩
  | 24 => ⟨S1x16384x1, .f32⟩
  | 25 => ⟨S1x16384x1, .f32⟩
  | 26 => ⟨S1x16384x1, .f32⟩
  | 27 => ⟨S1x16384x512, .f32⟩
  | 28 => ⟨S1x16384x512, .f32⟩
  | 29 => ⟨S1x1x512, .f32⟩
  | 30 => ⟨S1x16384x512, .f32⟩
  | 31 => ⟨S1x16384x512, .f32⟩
  | 32 => ⟨S1x16384x1x64, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S16384, .f32⟩
  | 44 => ⟨S16384x1, .f32⟩
  | 45 => ⟨S1x32, .f32⟩
  | 46 => ⟨S16384x32, .f32⟩
  | 47 => ⟨S16384x32, .f32⟩
  | 48 => ⟨S16384x32, .f32⟩
  | 49 => ⟨S16384x32, .f32⟩
  | 50 => ⟨S1x16384x1x32, .f32⟩
  | 51 => ⟨S16384x32, .f32⟩
  | 52 => ⟨S1x16384x1x32, .f32⟩
  | 53 => ⟨S1x16384x1x32, .f32⟩
  | 54 => ⟨S1x16384x1x32, .f32⟩
  | 55 => ⟨S1x16384x1x32, .f32⟩
  | 56 => ⟨S1x16384x1x32, .f32⟩
  | 57 => ⟨S1x16384x1x32, .f32⟩
  | 58 => ⟨S1x16384x1x32, .f32⟩
  | 59 => ⟨S1x16384x1x32, .f32⟩
  | 60 => ⟨S1x16384x1x32, .f32⟩
  | 61 => ⟨S1x16384x1x64, .f32⟩
  | 62 => ⟨S1x16384x64, .f32⟩
  | 63 => ⟨S1x16384x2x128, .f32⟩
  | 64 => ⟨S64, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S16384, .f32⟩
  | 75 => ⟨S16384x1, .f32⟩
  | 76 => ⟨S1x64, .f32⟩
  | 77 => ⟨S16384x64, .f32⟩
  | 78 => ⟨S16384x64, .f32⟩
  | 79 => ⟨S16384x64, .f32⟩
  | 80 => ⟨S16384x64, .f32⟩
  | 81 => ⟨S1x16384x1x64, .f32⟩
  | 82 => ⟨S16384x64, .f32⟩
  | 83 => ⟨S1x16384x1x64, .f32⟩
  | 84 => ⟨S1x16384x2x64, .f32⟩
  | 85 => ⟨S1x16384x2x64, .f32⟩
  | 86 => ⟨S1x16384x2x64, .f32⟩
  | 87 => ⟨S1x16384x2x64, .f32⟩
  | 88 => ⟨S1x16384x2x64, .f32⟩
  | 89 => ⟨S1x16384x2x64, .f32⟩
  | 90 => ⟨S1x16384x2x64, .f32⟩
  | 91 => ⟨S1x16384x2x64, .f32⟩
  | 92 => ⟨S1x16384x2x64, .f32⟩
  | 93 => ⟨S1x16384x2x64, .f32⟩
  | 94 => ⟨S1x16384x2x64, .f32⟩
  | 95 => ⟨S1x16384x2x64, .f32⟩
  | 96 => ⟨S1x16384x2x128, .f32⟩
  | 97 => ⟨S1x16384x2x128, .f32⟩
  | 98 => ⟨S1x16384x1x64, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S16384, .f32⟩
  | 110 => ⟨S16384x1, .f32⟩
  | 111 => ⟨S1x32, .f32⟩
  | 112 => ⟨S16384x32, .f32⟩
  | 113 => ⟨S16384x32, .f32⟩
  | 114 => ⟨S16384x32, .f32⟩
  | 115 => ⟨S16384x32, .f32⟩
  | 116 => ⟨S1x16384x1x32, .f32⟩
  | 117 => ⟨S16384x32, .f32⟩
  | 118 => ⟨S1x16384x1x32, .f32⟩
  | 119 => ⟨S1x16384x1x32, .f32⟩
  | 120 => ⟨S1x16384x1x32, .f32⟩
  | 121 => ⟨S1x16384x1x32, .f32⟩
  | 122 => ⟨S1x16384x1x32, .f32⟩
  | 123 => ⟨S1x16384x1x32, .f32⟩
  | 124 => ⟨S1x16384x1x32, .f32⟩
  | 125 => ⟨S1x16384x1x32, .f32⟩
  | 126 => ⟨S1x16384x1x32, .f32⟩
  | 127 => ⟨S1x16384x1x64, .f32⟩
  | _ => ⟨S1x16384x2048, .f32⟩

abbrev hbmTy0_1 (i : Nat) : BufTy := match i % 128 with
  | 0 => ⟨S1x16384x64, .f32⟩
  | 1 => ⟨S16384x512, .f32⟩
  | 2 => ⟨S16384x64, .f32⟩
  | 3 => ⟨S16384x256, .f32⟩
  | 4 => ⟨S16384x256, .f32⟩
  | 5 => ⟨S16384x64, .f32⟩
  | _ => ⟨S1x16384x2048, .f32⟩

abbrev hbmTy (i : Nat) : BufTy := match i / 128 with
  | 0 => hbmTy0_0 i
  | 1 => hbmTy0_1 i
  | _ => ⟨S1x16384x2048, .f32⟩

abbrev bufTy : (tb : Table) → Fin (tcTables nBuf tb) → BufTy
  | .hbm, ⟨i, _⟩ => hbmTy i
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_8 : Ref sig .tc := ⟨.hbm, 100, rfl⟩
abbrev main_v86 : Ref sig .tc := ⟨.hbm, 101, rfl⟩
abbrev main_v87 : Ref sig .tc := ⟨.hbm, 102, rfl⟩
abbrev main_cst_9 : Ref sig .tc := ⟨.hbm, 103, rfl⟩
abbrev main_v88 : Ref sig .tc := ⟨.hbm, 104, rfl⟩
abbrev main_v89 : Ref sig .tc := ⟨.hbm, 105, rfl⟩
abbrev main_cst_10 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩

abbrev nD : Nat := 1
abbrev τ : Topo := Topo.v7x

variable {F : FTy → Type} [FloatOps F]
-- ==== Kernel4.lean ====
abbrev S8x64x2048 : Shape := ⟨3, ![8, 64, 2048]⟩
abbrev S2048x3728 : Shape := ⟨2, ![2048, 3728]⟩
abbrev S512x8x192 : Shape := ⟨3, ![512, 8, 192]⟩
abbrev S512 : Shape := ⟨1, ![512]⟩
abbrev S128 : Shape := ⟨1, ![128]⟩
abbrev S1x128 : Shape := ⟨2, ![1, 128]⟩
abbrev S2048x512 : Shape := ⟨2, ![2048, 512]⟩
abbrev S2048x64 : Shape := ⟨2, ![2048, 64]⟩
abbrev S2048x1024 : Shape := ⟨2, ![2048, 1024]⟩
abbrev S2048x256 : Shape := ⟨2, ![2048, 256]⟩
abbrev S2048x16 : Shape := ⟨2, ![2048, 16]⟩
abbrev S_ : Shape := ⟨0, ![]⟩
abbrev S2048x112 : Shape := ⟨2, ![2048, 112]⟩
abbrev S2048x4096 : Shape := ⟨2, ![2048, 4096]⟩
abbrev S512x8x256 : Shape := ⟨3, ![512, 8, 256]⟩
abbrev S512x2048 : Shape := ⟨2, ![512, 2048]⟩
abbrev S1x512 : Shape := ⟨2, ![1, 512]⟩
abbrev S64 : Shape := ⟨1, ![64]⟩
abbrev S1x64 : Shape := ⟨2, ![1, 64]⟩
abbrev S8x64 : Shape := ⟨2, ![8, 64]⟩
abbrev S512x1 : Shape := ⟨2, ![512, 1]⟩
abbrev S512x64 : Shape := ⟨2, ![512, 64]⟩
abbrev S128x1 : Shape := ⟨2, ![128, 1]⟩
abbrev S512x128 : Shape := ⟨2, ![512, 128]⟩
abbrev S32 : Shape := ⟨1, ![32]⟩
abbrev S1x32 : Shape := ⟨2, ![1, 32]⟩
abbrev S512x32 : Shape := ⟨2, ![512, 32]⟩
abbrev S512x512 : Shape := ⟨2, ![512, 512]⟩
abbrev S512x256 : Shape := ⟨2, ![512, 256]⟩
abbrev S8x512x256 : Shape := ⟨3, ![8, 512, 256]⟩
abbrev S8x512x128 : Shape := ⟨3, ![8, 512, 128]⟩
abbrev S256x2048 : Shape := ⟨2, ![256, 2048]⟩
abbrev S256x128 : Shape := ⟨2, ![256, 128]⟩
abbrev S256x512 : Shape := ⟨2, ![256, 512]⟩
abbrev S256x64 : Shape := ⟨2, ![256, 64]⟩
abbrev S256x256 : Shape := ⟨2, ![256, 256]⟩
abbrev S8x256x256 : Shape := ⟨3, ![8, 256, 256]⟩
abbrev S8x256x128 : Shape := ⟨3, ![8, 256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 125
  | .vmem => 42
  | .smem => 0
  | _ => 0

abbrev bufTy : (tb : Table) → Fin (tcTables nBuf tb) → BufTy
  | .hbm, ⟨0, _⟩ => ⟨S8x64x2048, .f32⟩
  | .hbm, ⟨1, _⟩ => ⟨S2048x3728, .f32⟩
  | .hbm, ⟨2, _⟩ => ⟨S512x8x192, .f32⟩
  | .hbm, ⟨3, _⟩ => ⟨S512, .f32⟩
  | .hbm, ⟨4, _⟩ => ⟨S512, .f32⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S128, .f32⟩
  | .hbm, ⟨9, _⟩ => ⟨S1x128, .f32⟩
  | .hbm, ⟨10, _⟩ => ⟨S128, .i32⟩
  | .hbm, ⟨11, _⟩ => ⟨S128, .i1⟩
  | .hbm, ⟨12, _⟩ => ⟨S128, .i1⟩
  | .hbm, ⟨13, _⟩ => ⟨S128, .f32⟩
  | .hbm, ⟨14, _⟩ => ⟨S1x128, .f32⟩
  | .hbm, ⟨15, _⟩ => ⟨S2048x512, .f32⟩
  | .hbm, ⟨16, _⟩ => ⟨S2048x512, .f32⟩
  | .hbm, ⟨17, _⟩ => ⟨S2048x64, .f32⟩
  | .hbm, ⟨18, _⟩ => ⟨S2048x1024, .f32⟩
  | .hbm, ⟨19, _⟩ => ⟨S2048x256, .f32⟩
  | .hbm, ⟨20, _⟩ => ⟨S2048x256, .f32⟩
  | .hbm, ⟨21, _⟩ => ⟨S2048x1024, .f32⟩
  | .hbm, ⟨22, _⟩ => ⟨S2048x64, .f32⟩
  | .hbm, ⟨23, _⟩ => ⟨S2048x16, .f32⟩
  | .hbm, ⟨24, _⟩ => ⟨S_, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S_, .f32⟩
  | .hbm, ⟨29, _⟩ => ⟨S2048x64, .f32⟩
  | .hbm, ⟨30, _⟩ => ⟨S_, .f32⟩
  | .hbm, ⟨31, _⟩ => ⟨S2048x112, .f32⟩
  | .hbm, ⟨32, _⟩ => ⟨S2048x4096, .f32⟩
  | .hbm, ⟨33, _⟩ => ⟨S_, .i32⟩
  | .hbm, ⟨34, _⟩ => ⟨S_, .f32⟩
  | .hbm, ⟨35, _⟩ => ⟨S512x8x256, .f32⟩
  | .hbm, ⟨36, _⟩ => ⟨S2048x4096, .bf16⟩
  | .hbm, ⟨37, _⟩ => ⟨S512x2048, .f32⟩
  | .hbm, ⟨38, _⟩ => ⟨S512x2048, .bf16⟩
  | .hbm, ⟨39, _⟩ => ⟨S1x512, .f32⟩
  | .hbm, ⟨40, _⟩ => ⟨S1x512, .f32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i32⟩
  | .hbm, ⟨45, _⟩ => ⟨S1x64, .i32⟩
  | .hbm, ⟨46, _⟩ => ⟨S8x64, .i32⟩
  | .hbm, ⟨47, _⟩ => ⟨S512, .i32⟩
  | .hbm, ⟨48, _⟩ => ⟨S512x2048, .f32⟩
  | .hbm, ⟨49, _⟩ => ⟨S512, .f32⟩
  | .hbm, ⟨50, _⟩ => ⟨S512x1, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S512x64, .f32⟩
  | .hbm, ⟨63, _⟩ => ⟨S512x64, .f32⟩
  | .hbm, ⟨64, _⟩ => ⟨S512x64, .f32⟩
  | .hbm, ⟨65, _⟩ => ⟨S512x64, .f32⟩
  | .hbm, ⟨66, _⟩ => ⟨S512x64, .f32⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S128, .i32⟩
  | .hbm, ⟨71, _⟩ => ⟨S128x1, .i32⟩
  | .hbm, ⟨72, _⟩ => ⟨S512x128, .f32⟩
  | .hbm, ⟨73, _⟩ => ⟨S_, .i32⟩
  | .hbm, ⟨74, _⟩ => ⟨S128, .i32⟩
  | .hbm, ⟨75, _⟩ => ⟨S128, .i32⟩
  | .hbm, ⟨76, _⟩ => ⟨S128, .i32⟩
  | .hbm, ⟨77, _⟩ => ⟨S128x1, .i32⟩
  | .hbm, ⟨78, _⟩ => ⟨S512x128, .f32⟩
  | .hbm, ⟨79, _⟩ => ⟨S512x128, .f32⟩
  | .hbm, ⟨80, _⟩ => ⟨S512x128, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S1x32, .f32⟩
  | .hbm, ⟨92, _⟩ => ⟨S512x32, .f32⟩
  | .hbm, ⟨93, _⟩ => ⟨S512x32, .f32⟩
  | .hbm, ⟨94, _⟩ => ⟨S512x32, .f32⟩
  | .hbm, ⟨95, _⟩ => ⟨S512x32, .f32⟩
  | .hbm, ⟨96, _⟩ => ⟨S512x32, .f32⟩
  | .hbm, ⟨97, _⟩ => ⟨S_, .i32⟩
  | .hbm, ⟨98, _⟩ => ⟨S128, .i32⟩
  | .hbm, ⟨99, _⟩ => ⟨S128, .i32⟩
  | .hbm, ⟨100, _⟩ => ⟨S128, .i32⟩
  | .hbm, ⟨101, _⟩ => ⟨S128x1, .i32⟩
  | .hbm, ⟨102, _⟩ => ⟨S512x128, .f32⟩
  | .hbm, ⟨103, _⟩ => ⟨S_, .i32⟩
  | .hbm, ⟨104, _⟩ => ⟨S128, .i32⟩
  | .hbm, ⟨105, _⟩ => ⟨S128, .i32⟩
  | .hbm, ⟨106, _⟩ => ⟨S128, .i32⟩
  | .hbm, ⟨107, _⟩ => ⟨S128x1, .i32⟩
  | .hbm, ⟨108, _⟩ => ⟨S512x128, .f32⟩
  | .hbm, ⟨109, _⟩ => ⟨S512x128, .f32⟩
  | .hbm, ⟨110, _⟩ => ⟨S512x128, .f32⟩
  | .hbm, ⟨111, _⟩ => ⟨S512x512, .f32⟩
  | .hbm, ⟨112, _⟩ => ⟨S512x64, .f32⟩
  | .hbm, ⟨113, _⟩ => ⟨S512x256, .f32⟩
  | .hbm, ⟨114, _⟩ => ⟨S512x256, .f32⟩
  | .hbm, ⟨115, _⟩ => ⟨S512x64, .f32⟩
  | .hbm, ⟨116, _⟩ => ⟨S8x512x256, .bf16⟩
  | .hbm, ⟨117, _⟩ => ⟨S8x512x128, .bf16⟩
  | .hbm, ⟨118, _⟩ => ⟨S8x512x128, .bf16⟩
  | .hbm, ⟨119, _⟩ => ⟨S512x128, .f32⟩
  | .hbm, ⟨120, _⟩ => ⟨S512x128, .bf16⟩
  | .hbm, ⟨121, _⟩ => ⟨S512x256, .bf16⟩
  | .hbm, ⟨122, _⟩ => ⟨S512x256, .bf16⟩
  | .hbm, ⟨123, _⟩ => ⟨S512x128, .bf16⟩
  | .hbm, ⟨124, _⟩ => ⟨S512x128, .bf16⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x512, .f32⟩
  | .local _ .vmem, ⟨15, _⟩ => ⟨S256x512, .f32⟩
  | .local _ .vmem, ⟨16, _⟩ => ⟨S256x64, .f32⟩
  | .local _ .vmem, ⟨17, _⟩ => ⟨S256x64, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x64, .f32⟩
  | .local _ .vmem, ⟨23, _⟩ => ⟨S256x64, .f32⟩
  | .local _ .vmem, ⟨24, _⟩ => ⟨S8x256x256, .bf16⟩
  | .local _ .vmem, ⟨25, _⟩ => ⟨S8x256x256, .bf16⟩
  | .local _ .vmem, ⟨26, _⟩ => ⟨S8x256x128, .bf16⟩
  | .local _ .vmem, ⟨27, _⟩ => ⟨S8x256x128, .bf16⟩
  | .local _ .vmem, ⟨28, _⟩ => ⟨S8x256x128, .bf16⟩
  | .local _ .vmem, ⟨29, _⟩ => ⟨S8x256x128, .bf16⟩
  | .local _ .vmem, ⟨30, _⟩ => ⟨S256x128, .f32⟩
  | .local _ .vmem, ⟨31, _⟩ => ⟨S256x128, .f32⟩
  | .local _ .vmem, ⟨32, _⟩ => ⟨S256x128, .bf16⟩
  | .local _ .vmem, ⟨33, _⟩ => ⟨S256x128, .bf16⟩
  | .local _ .vmem, ⟨34, _⟩ => ⟨S256x256, .bf16⟩
  | .local _ .vmem, ⟨35, _⟩ => ⟨S256x256, .bf16⟩
  | .local _ .vmem, ⟨36, _⟩ => ⟨S256x256, .bf16⟩
  | .local _ .vmem, ⟨37, _⟩ => ⟨S256x256, .bf16⟩
  | .local _ .vmem, ⟨38, _⟩ => ⟨S256x128, .bf16⟩
  | .local _ .vmem, ⟨39, _⟩ => ⟨S256x128, .bf16⟩
  | .local _ .vmem, ⟨40, _⟩ => ⟨S256x128, .bf16⟩
  | .local _ .vmem, ⟨41, _⟩ => ⟨S256x128, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_cst_5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_cst_7 : Ref sig .tc := ⟨.hbm, 26, rfl⟩
abbrev main_v12 : Ref sig .tc := ⟨.hbm, 27, rfl⟩
abbrev main_cst_8 : Ref sig .tc := ⟨.hbm, 28, rfl⟩
abbrev main_v13 : Ref sig .tc := ⟨.hbm, 29, rfl⟩
abbrev main_cst_9 : Ref sig .tc := ⟨.hbm, 30, rfl⟩
abbrev main_v14 : Ref sig .tc := ⟨.hbm, 31, rfl⟩
abbrev main_v15 : Ref sig .tc := ⟨.hbm, 32, rfl⟩
abbrev main_c_10 : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_11 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_v33 : Ref sig .tc := ⟨.hbm, 54, rfl⟩
abbrev main_cst_13 : Ref sig .tc := ⟨.hbm, 55, rfl⟩
abbrev main_v34 : Ref sig .tc := ⟨.hbm, 56, rfl⟩
abbrev main_v35 : Ref sig .tc := ⟨.hbm, 57, rfl⟩
abbrev main_cst_14 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_15 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_16 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_cst_19 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_20 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_21 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81_0 : Ref sig .tc := ⟨.hbm, 111, rfl⟩
abbrev main_v81_1 : Ref sig .tc := ⟨.hbm, 112, rfl⟩
abbrev main_v81_2 : Ref sig .tc := ⟨.hbm, 113, rfl⟩
abbrev main_v81_3 : Ref sig .tc := ⟨.hbm, 114, rfl⟩
abbrev main_v81_4 : Ref sig .tc := ⟨.hbm, 115, rfl⟩
abbrev main_v81_5 : Ref sig .tc := ⟨.hbm, 116, rfl⟩
abbrev main_v81_6 : Ref sig .tc := ⟨.hbm, 117, rfl⟩
abbrev main_v81_7 : Ref sig .tc := ⟨.hbm, 118, rfl⟩
abbrev main_v81_8 : Ref sig .tc := ⟨.hbm, 119, rfl⟩
abbrev main_v81_9 : Ref sig .tc := ⟨.hbm, 120, rfl⟩
abbrev main_v81_10 : Ref sig .tc := ⟨.hbm, 121, rfl⟩
abbrev main_v81_11 : Ref sig .tc := ⟨.hbm, 122, rfl⟩
abbrev main_v81_12 : Ref sig .tc := ⟨.hbm, 123, rfl⟩
abbrev main_v81_13 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S8x64x2048 : Shape := ⟨3, ![8, 64, 2048]⟩
abbrev S2048x3728 : Shape := ⟨2, ![2048, 3728]⟩
abbrev S512x8x192 : Shape := ⟨3, ![512, 8, 192]⟩
abbrev S512 : Shape := ⟨1, ![512]⟩
abbrev S64 : Shape := ⟨1, ![64]⟩
abbrev S_ : Shape := ⟨0, ![]⟩
abbrev S8x64x3728 : Shape := ⟨3, ![8, 64, 3728]⟩
abbrev S8x64x512 : Shape := ⟨3, ![8, 64, 512]⟩
abbrev S8x64x64 : Shape := ⟨3, ![8, 64, 64]⟩
abbrev S8x64x1024 : Shape := ⟨3, ![8, 64, 1024]⟩
abbrev S8x64x256 : Shape := ⟨3, ![8, 64, 256]⟩
abbrev S8x64x16 : Shape := ⟨3, ![8, 64, 16]⟩
abbrev S8x64 : Shape := ⟨2, ![8, 64]⟩
abbrev S8x64x1 : Shape := ⟨3, ![8, 64, 1]⟩
abbrev S1x1x512 : Shape := ⟨3, ![1, 1, 512]⟩
abbrev S8x64x1x64 : Shape := ⟨4, ![8, 64, 1, 64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S1x64x1x32 : Shape := ⟨4, ![1, 64, 1, 32]⟩
abbrev S8x64x1x32 : Shape := ⟨4, ![8, 64, 1, 32]⟩
abbrev S8x64x2x128 : Shape := ⟨4, ![8, 64, 2, 128]⟩
abbrev S1x64 : Shape := ⟨2, ![1, 64]⟩
abbrev S64x64 : Shape := ⟨2, ![64, 64]⟩
abbrev S1x64x1x64 : Shape := ⟨4, ![1, 64, 1, 64]⟩
abbrev S8x64x2x64 : Shape := ⟨4, ![8, 64, 2, 64]⟩
abbrev S512x512 : Shape := ⟨2, ![512, 512]⟩
abbrev S512x64 : Shape := ⟨2, ![512, 64]⟩
abbrev S512x256 : Shape := ⟨2, ![512, 256]⟩

abbrev nBuf : Space → Nat
  | .hbm => 145
  | .vmem => 0
  | .smem => 0
  | _ => 0

abbrev hbmTy0_0 (i : Nat) : BufTy := match i % 128 with
  | 0 => ⟨S8x64x2048, .f32⟩
  | 1 => ⟨S2048x3728, .f32⟩
  | 2 => ⟨S512x8x192, .f32⟩
  | 3 => ⟨S512, .f32⟩
  | 4 => ⟨S512, .f32⟩
  | 5 => ⟨S64, .i32⟩
  | 6 => ⟨S_, .i32⟩
  | 7 => ⟨S64, .i32⟩
  | 8 => ⟨S64, .i32⟩
  | 9 => ⟨S8x64x3728, .f32⟩
  | 10 => ⟨S8x64x512, .f32⟩
  | 11 => ⟨S8x64x512, .f32⟩
  | 12 => ⟨S8x64x64, .f32⟩
  | 13 => ⟨S8x64x1024, .f32⟩
  | 14 => ⟨S8x64x256, .f32⟩
  | 15 => ⟨S8x64x256, .f32⟩
  | 16 => ⟨S8x64x1024, .f32⟩
  | 17 => ⟨S8x64x64, .f32⟩
  | 18 => ⟨S8x64x16, .f32⟩
  | 19 => ⟨S8x64x512, .f32⟩
  | 20 => ⟨S_, .f32⟩
  | 21 => ⟨S8x64, .f32⟩
  | 22 => ⟨S8x64x1, .f32⟩
  | 23 => ⟨S_, .f32⟩
  | 24 => ⟨S8x64x1, .f32⟩
  | 25 => ⟨S8x64x1, .f32⟩
  | 26 => ⟨S_, .f32⟩
  | 27 => ⟨S8x64x1, .f32⟩
  | 28 => ⟨S8x64x1, .f32⟩
  | 29 => ⟨S8x64x1, .f32⟩
  | 30 => ⟨S8x64x512, .f32⟩
  | 31 => ⟨S8x64x512, .f32⟩
  | 32 => ⟨S1x1x512, .f32⟩
  | 33 => ⟨S8x64x512, .f32⟩
  | 34 => ⟨S8x64x512, .f32⟩
  | 35 => ⟨S8x64x1x64, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S64, .f32⟩
  | 47 => ⟨S64x1, .f32⟩
  | 48 => ⟨S1x32, .f32⟩
  | 49 => ⟨S64x32, .f32⟩
  | 50 => ⟨S64x32, .f32⟩
  | 51 => ⟨S64x32, .f32⟩
  | 52 => ⟨S64x32, .f32⟩
  | 53 => ⟨S1x64x1x32, .f32⟩
  | 54 => ⟨S64x32, .f32⟩
  | 55 => ⟨S1x64x1x32, .f32⟩
  | 56 => ⟨S8x64x1x32, .f32⟩
  | 57 => ⟨S8x64x1x32, .f32⟩
  | 58 => ⟨S8x64x1x32, .f32⟩
  | 59 => ⟨S8x64x1x32, .f32⟩
  | 60 => ⟨S8x64x1x32, .f32⟩
  | 61 => ⟨S8x64x1x32, .f32⟩
  | 62 => ⟨S8x64x1x32, .f32⟩
  | 63 => ⟨S8x64x1x32, .f32⟩
  | 64 => ⟨S8x64x1x32, .f32⟩
  | 65 => ⟨S8x64x1x32, .f32⟩
  | 66 => ⟨S8x64x1x32, .f32⟩
  | 67 => ⟨S8x64x1x32, .f32⟩
  | 68 => ⟨S8x64x1x64, .f32⟩
  | 69 => ⟨S8x64x64, .f32⟩
  | 70 => ⟨S8x64x2x128, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S64, .f32⟩
  | 82 => ⟨S64x1, .f32⟩
  | 83 => ⟨S1x64, .f32⟩
  | 84 => ⟨S64x64, .f32⟩
  | 85 => ⟨S64x64, .f32⟩
  | 86 => ⟨S64x64, .f32⟩
  | 87 => ⟨S64x64, .f32⟩
  | 88 => ⟨S1x64x1x64, .f32⟩
  | 89 => ⟨S64x64, .f32⟩
  | 90 => ⟨S1x64x1x64, .f32⟩
  | 91 => ⟨S8x64x2x64, .f32⟩
  | 92 => ⟨S8x64x2x64, .f32⟩
  | 93 => ⟨S8x64x2x64, .f32⟩
  | 94 => ⟨S8x64x2x64, .f32⟩
  | 95 => ⟨S8x64x2x64, .f32⟩
  | 96 => ⟨S8x64x2x64, .f32⟩
  | 97 => ⟨S8x64x2x64, .f32⟩
  | 98 => ⟨S8x64x2x64, .f32⟩
  | 99 => ⟨S8x64x2x64, .f32⟩
  | 100 => ⟨S8x64x2x64, .f32⟩
  | 101 => ⟨S8x64x2x64, .f32⟩
  | 102 => ⟨S8x64x2x64, .f32⟩
  | 103 => ⟨S8x64x2x128, .f32⟩
  | 104 => ⟨S8x64x2x128, .f32⟩
  | 105 => ⟨S8x64x1x64, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S64, .f32⟩
  | 117 => ⟨S64x1, .f32⟩
  | 118 => ⟨S1x32, .f32⟩
  | 119 => ⟨S64x32, .f32⟩
  | 120 => ⟨S64x32, .f32⟩
  | 121 => ⟨S64x32, .f32⟩
  | 122 => ⟨S64x32, .f32⟩
  | 123 => ⟨S1x64x1x32, .f32⟩
  | 124 => ⟨S64x32, .f32⟩
  | 125 => ⟨S1x64x1x32, .f32⟩
  | 126 => ⟨S8x64x1x32, .f32⟩
  | 127 => ⟨S8x64x1x32, .f32⟩
  | _ => ⟨S8x64x2048, .f32⟩

abbrev hbmTy0_1 (i : Nat) : BufTy := match i % 128 with
  | 0 => ⟨S8x64x1x32, .f32⟩
  | 1 => ⟨S8x64x1x32, .f32⟩
  | 2 => ⟨S8x64x1x32, .f32⟩
  | 3 => ⟨S8x64x1x32, .f32⟩
  | 4 => ⟨S8x64x1x32, .f32⟩
  | 5 => ⟨S8x64x1x32, .f32⟩
  | 6 => ⟨S8x64x1x32, .f32⟩
  | 7 => ⟨S8x64x1x32, .f32⟩
  | 8 => ⟨S8x64x1x32, .f32⟩
  | 9 => ⟨S8x64x1x32, .f32⟩
  | 10 => ⟨S8x64x1x64, .f32⟩
  | 11 => ⟨S8x64x64, .f32⟩
  | 12 => ⟨S512x512, .f32⟩
  | 13 => ⟨S512x64, .f32⟩
  | 14 => ⟨S512x256, .f32⟩
  | 15 => ⟨S512x256, .f32⟩
  | 16 => ⟨S512x64, .f32⟩
  | _ => ⟨S8x64x2048, .f32⟩

abbrev hbmTy (i : Nat) : BufTy := match i / 128 with
  | 0 => hbmTy0_0 i
  | 1 => hbmTy0_1 i
  | _ => ⟨S8x64x2048, .f32⟩

abbrev bufTy : (tb : Table) → Fin (tcTables nBuf tb) → BufTy
  | .hbm, ⟨i, _⟩ => hbmTy i
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_5 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_8 : Ref sig .tc := ⟨.hbm, 107, rfl⟩
abbrev main_v92 : Ref sig .tc := ⟨.hbm, 108, rfl⟩
abbrev main_v93 : Ref sig .tc := ⟨.hbm, 109, rfl⟩
abbrev main_cst_9 : Ref sig .tc := ⟨.hbm, 110, rfl⟩
abbrev main_v94 : Ref sig .tc := ⟨.hbm, 111, rfl⟩
abbrev main_v95 : Ref sig .tc := ⟨.hbm, 112, rfl⟩
abbrev main_cst_10 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩

abbrev nD : Nat := 1
abbrev τ : Topo := Topo.v7x

variable {F : FTy → Type} [FloatOps F]
-- ==== Kernel5.lean ====
abbrev S8x64x2048 : Shape := ⟨3, ![8, 64, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x64x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S512x2048, .f32⟩
  | .hbm, ⟨12, _⟩ => ⟨S512x2048, .f32⟩
  | .local _ .vmem, ⟨0, _⟩ => ⟨S512x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference5Ideal.lean ====
abbrev S8x64x2048 : Shape := ⟨3, ![8, 64, 2048]⟩
abbrev S2048x5632 : Shape := ⟨2, ![2048, 5632]⟩
abbrev S5632x2048 : Shape := ⟨2, ![5632, 2048]⟩
abbrev S2048 : Shape := ⟨1, ![2048]⟩
abbrev S8x64x5632 : Shape := ⟨3, ![8, 64, 5632]⟩
abbrev S_ : Shape := ⟨0, ![]⟩
abbrev S8x64 : Shape := ⟨2, ![8, 64]⟩
abbrev S8x64x1 : Shape := ⟨3, ![8, 64, 1]⟩
abbrev S1x1x2048 : Shape := ⟨3, ![1, 1, 2048]⟩
abbrev S512x2048 : Shape := ⟨2, ![512, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S8x64x5632, .f32⟩
  | .hbm, ⟨7, _⟩ => ⟨S8x64x5632, .f32⟩
  | .hbm, ⟨8, _⟩ => ⟨S8x64x5632, .f32⟩
  | .hbm, ⟨9, _⟩ => ⟨S_, .f32⟩
  | .hbm, ⟨10, _⟩ => ⟨S8x64x5632, .f32⟩
  | .hbm, ⟨11, _⟩ => ⟨S8x64x5632, .f32⟩
  | .hbm, ⟨12, _⟩ => ⟨S_, .f32⟩
  | .hbm, ⟨13, _⟩ => ⟨S8x64x5632, .f32⟩
  | .hbm, ⟨14, _⟩ => ⟨S8x64x5632, .f32⟩
  | .hbm, ⟨15, _⟩ => ⟨S8x64x5632, .f32⟩
  | .hbm, ⟨16, _⟩ => ⟨S8x64x5632, .f32⟩
  | .hbm, ⟨17, _⟩ => ⟨S8x64x5632, .f32⟩
  | .hbm, ⟨18, _⟩ => ⟨S8x64x2048, .f32⟩
  | .hbm, ⟨19, _⟩ => ⟨S_, .f32⟩
  | .hbm, ⟨20, _⟩ => ⟨S8x64x2048, .f32⟩
  | .hbm, ⟨21, _⟩ => ⟨S8x64x2048, .f32⟩
  | .hbm, ⟨22, _⟩ => ⟨S8x64x2048, .f32⟩
  | .hbm, ⟨23, _⟩ => ⟨S_, .f32⟩
  | .hbm, ⟨24, _⟩ => ⟨S8x64, .f32⟩
  | .hbm, ⟨25, _⟩ => ⟨S8x64x1, .f32⟩
  | .hbm, ⟨26, _⟩ => ⟨S_, .f32⟩
  | .hbm, ⟨27, _⟩ => ⟨S8x64x1, .f32⟩
  | .hbm, ⟨28, _⟩ => ⟨S8x64x1, .f32⟩
  | .hbm, ⟨29, _⟩ => ⟨S8x64x2048, .f32⟩
  | .hbm, ⟨30, _⟩ => ⟨S8x64x2048, .f32⟩
  | .hbm, ⟨31, _⟩ => ⟨S8x64x2048, .f32⟩
  | .hbm, ⟨32, _⟩ => ⟨S_, .f32⟩
  | .hbm, ⟨33, _⟩ => ⟨S8x64, .f32⟩
  | .hbm, ⟨34, _⟩ => ⟨S8x64x1, .f32⟩
  | .hbm, ⟨35, _⟩ => ⟨S_, .f32⟩
  | .hbm, ⟨36, _⟩ => ⟨S8x64x1, .f32⟩
  | .hbm, ⟨37, _⟩ => ⟨S8x64x1, .f32⟩
  | .hbm, ⟨38, _⟩ => ⟨S8x64x2048, .f32⟩
  | .hbm, ⟨39, _⟩ => ⟨S8x64x2048, .f32⟩
  | .hbm, ⟨40, _⟩ => ⟨S_, .f32⟩
  | .hbm, ⟨41, _⟩ => ⟨S8x64x1, .f32⟩
  | .hbm, ⟨42, _⟩ => ⟨S8x64x1, .f32⟩
  | .hbm, ⟨43, _⟩ => ⟨S8x64x1, .f32⟩
  | .hbm, ⟨44, _⟩ => ⟨S8x64x2048, .f32⟩
  | .hbm, ⟨45, _⟩ => ⟨S8x64x2048, .f32⟩
  | .hbm, ⟨46, _⟩ => ⟨S1x1x2048, .f32⟩
  | .hbm, ⟨47, _⟩ => ⟨S8x64x2048, .f32⟩
  | .hbm, ⟨48, _⟩ => ⟨S8x64x2048, .f32⟩
  | .hbm, ⟨49, _⟩ => ⟨S1x1x2048, .f32⟩
  | .hbm, ⟨50, _⟩ => ⟨S8x64x2048, .f32⟩
  | .hbm, ⟨51, _⟩ => ⟨S8x64x2048, .f32⟩
  | .hbm, ⟨52, _⟩ => ⟨S512x2048, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel6.lean ====
abbrev S1x16384x8x128 : Shape := ⟨4, ![1, 16384, 8, 128]⟩
abbrev S1x16384x1024 : Shape := ⟨3, ![1, 16384, 1024]⟩
abbrev S1x16384x2048 : Shape := ⟨3, ![1, 16384, 2048]⟩
abbrev S2048x2048 : Shape := ⟨2, ![2048, 2048]⟩
abbrev S2048 : Shape := ⟨1, ![2048]⟩
abbrev S1x2048 : Shape := ⟨2, ![1, 2048]⟩
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x1024, .f32⟩
  | .hbm, ⟨2, _⟩ => ⟨S1x16384x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x16384x8x128, .bf16⟩
  | .hbm, ⟨10, _⟩ => ⟨S16384x1024, .bf16⟩
  | .hbm, ⟨11, _⟩ => ⟨S1x16384x1024, .bf16⟩
  | .hbm, ⟨12, _⟩ => ⟨S16384x1024, .bf16⟩
  | .hbm, ⟨13, _⟩ => ⟨S16384x2048, .f32⟩
  | .hbm, ⟨14, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S1x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1x16384x8x128 : Shape := ⟨4, ![1, 16384, 8, 128]⟩
abbrev S1x16384x1024 : Shape := ⟨3, ![1, 16384, 1024]⟩
abbrev S1x16384x2048 : Shape := ⟨3, ![1, 16384, 2048]⟩
abbrev S2048x2048 : Shape := ⟨2, ![2048, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S1x16384x8x128, .f32⟩
  | .hbm, ⟨1, _⟩ => ⟨S1x16384x1024, .f32⟩
  | .hbm, ⟨2, _⟩ => ⟨S1x16384x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1x16384x1024, .f32⟩
  | .hbm, ⟨7, _⟩ => ⟨S1x16384x2048, .f32⟩
  | .hbm, ⟨8, _⟩ => ⟨S_, .f32⟩
  | .hbm, ⟨9, _⟩ => ⟨S1x16384x2048, .f32⟩
  | .hbm, ⟨10, _⟩ => ⟨S1x16384x2048, .f32⟩
  | .hbm, ⟨11, _⟩ => ⟨S1x16384x2048, .f32⟩
  | .hbm, ⟨12, _⟩ => ⟨S1x16384x2048, .f32⟩
  | .hbm, ⟨13, _⟩ => ⟨S_, .f32⟩
  | .hbm, ⟨14, _⟩ => ⟨S1x16384, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x2048, .f32⟩
  | .hbm, ⟨20, _⟩ => ⟨S1x16384x2048, .f32⟩
  | .hbm, ⟨21, _⟩ => ⟨S1x16384x2048, .f32⟩
  | .hbm, ⟨22, _⟩ => ⟨S_, .f32⟩
  | .hbm, ⟨23, _⟩ => ⟨S1x16384, .f32⟩
  | .hbm, ⟨24, _⟩ => ⟨S1x16384x1, .f32⟩
  | .hbm, ⟨25, _⟩ => ⟨S_, .f32⟩
  | .hbm, ⟨26, _⟩ => ⟨S1x16384x1, .f32⟩
  | .hbm, ⟨27, _⟩ => ⟨S1x16384x1, .f32⟩
  | .hbm, ⟨28, _⟩ => ⟨S1x16384x2048, .f32⟩
  | .hbm, ⟨29, _⟩ => ⟨S1x16384x2048, .f32⟩
  | .hbm, ⟨30, _⟩ => ⟨S_, .f32⟩
  | .hbm, ⟨31, _⟩ => ⟨S1x16384x1, .f32⟩
  | .hbm, ⟨32, _⟩ => ⟨S1x16384x1, .f32⟩
  | .hbm, ⟨33, _⟩ => ⟨S1x16384x1, .f32⟩
  | .hbm, ⟨34, _⟩ => ⟨S1x16384x2048, .f32⟩
  | .hbm, ⟨35, _⟩ => ⟨S1x16384x2048, .f32⟩
  | .hbm, ⟨36, _⟩ => ⟨S1x1x2048, .f32⟩
  | .hbm, ⟨37, _⟩ => ⟨S1x16384x2048, .f32⟩
  | .hbm, ⟨38, _⟩ => ⟨S1x16384x2048, .f32⟩
  | .hbm, ⟨39, _⟩ => ⟨S1x1x2048, .f32⟩
  | .hbm, ⟨40, _⟩ => ⟨S1x16384x2048, .f32⟩
  | .hbm, ⟨41, _⟩ => ⟨S1x16384x2048, .f32⟩
  | .hbm, ⟨42, _⟩ => ⟨S16384x2048, .f32⟩
  | _, _ => ⟨S1x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Rules.lean ====
/- Loads and stores of a memref that is owned whole, at the head of a program: what is owned is the
   vector read through the memref; a load continues at a window of it and a store puts a window into it. -/
module

public import proofs.«01_k».proof.Proof.Gen.KernelIdeal.Frame
public import Idealize.ShloMosaic.Lib.VecWindow

@[expose] public section

namespace Cert.Proof.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F] [Named F]

/-- The resources of the proof. -/
abbrev MM (F : FTy → Type) := MT nD τ sig Unit (Elt F) ℕ (UR sig nD τ) ℕ

section
variable {α : Type} {Q : α → sProp (MM F)} {s : Shape} {e : EltTy} (c : Dev nD) (M : Memref sig .tc .vmem s e)
  (off size : Fin s.rank → ℕ) (inb : ∀ a, off a + size a ≤ s.size a)

/-- A load through an owned memref continues at the window read. -/
theorem own_load (x : s.Idx → Elt F e) (q : PosShare TreeShare)
    (hl : M.view.LoadsAt (Rect.unit off size inb).toLoadRect)
    (k : ((Rect.unit off size inb).toLoadRect.shape.Idx → Elt F e) → Prog (TpuEff nD τ sig (Elt F) Λ₀ .tc) α) :
    owns (c : Thread nD τ) M q x
      ⊢ iprop((owns (c : Thread nD τ) M q x -∗
          wp frame (wpE (defs₀ (F := F)) Variants.none (c : Thread nD τ) none) Set.univ (k (VecWindow.window x off size inb)) Q)
        -∗ wp frame (wpE (defs₀ (F := F)) Variants.none (c : Thread nD τ) none) Set.univ
          (.op (.load M (Rect.unit off size inb).toLoadRect hl) k) Q) := by
  unfold owns
  iintro ⟨%f, %hf, H⟩ Hk
  have hw : M.view.readAt (Elt F) (Rect.unit off size inb).toLoadRect f = VecWindow.window x off size inb := by
    rw [← hf]; exact View.readAt_unit M.view f inb rfl inb
  rw [← hw]
  iapply (wp_load Variants.none (c : Thread nD τ) none Set.univ (M.view.setOn_subset_set _)) $$ H
  iintro H
  iapply Hk
  iexists f
  isplitr; · ipureintro; exact hf
  iexact H

/-- An unmasked store through an owned memref puts the payload into its window. -/
theorem own_store (x : s.Idx → Elt F e) (w : (Rect.unit off size inb).shape.Idx → Elt F e)
    (hx : (M.access (Rect.unit off size inb)).Stores Finset.univ)
    (hm : Finset.univ = Finset.univ ∨ ∀ a, (Rect.unit off size inb).stride a = 1)
    (k : PUnit → Prog (TpuEff nD τ sig (Elt F) Λ₀ .tc) α) :
    owns (c : Thread nD τ) M fullShare x
      ⊢ iprop((owns (c : Thread nD τ) M fullShare (VecWindow.put x off size w) -∗
          wp frame (wpE (defs₀ (F := F)) Variants.none (c : Thread nD τ) none) Set.univ (k ⟨⟩) Q)
        -∗ wp frame (wpE (defs₀ (F := F)) Variants.none (c : Thread nD τ) none) Set.univ
          (.op (.store M (Rect.unit off size inb) w Finset.univ hx hm) k) Q) := by
  unfold owns
  iintro ⟨%f, %hf, H⟩ Hk
  have hw : M.view.read (Elt F) (M.view.writes (Elt F) f [⟨Rect.unit off size inb, w⟩]) = VecWindow.put x off size w := by
    rw [View.read_writes_cons_put M.view f inb w [] rfl, View.writes_nil, hf]
  iapply (wp_store_writes₀ (defs := defs₀ (F := F)) Variants.none (c : Thread nD τ) none Set.univ (m := M) (f := f) (hx := hx) (hm := hm) (w := w) (k := k) (View.set_slice_subset _ _)) $$ H
  iintro H
  iapply Hk
  iexists (M.view.writes (Elt F) f [⟨Rect.unit off size inb, w⟩])
  isplitr; · ipureintro; exact hw
  iexact H

end

end Cert.Proof.Mla
-- ==== Proof.Stages.lean ====
/- The stages of the attention kernel as programs with the rest of the program as their continuation, and as
   functions on the contents of the scratch memory:
   * `qk`: the scores of one block of 512 keys, as two chunks of 256, and their row maxima, into a slot;
   * `sm`: the online softmax update by the scores in a slot; `smMasked` the same with the chunk mask;
   * `pv`: the accumulation of one block of values by the weights in a slot. -/
module

public import proofs.«01_k».proof.Proof.Rules

@[expose] public section

noncomputable section

namespace Cert.Proof.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-! ## What the stages compute -/

/-- The scores of a chunk of 256 keys. -/
def scoreV (q : FVec F S512x256 .bf16) (k : FVec F S256x256 .bf16) : FVec F S512x256 .f32 :=
  matmul dot_S512x256_S256x256_S512x256_1_1_0_0_n_n none q k (constant S512x256 .f32 0x00000000#32)

/-- The row maxima of a chunk of scores, as a column. -/
def rowMax (s : FVec F S512x256 .f32) : FVec F S512x1 .f32 :=
  shapeCast S512x1 (multiReduction .maximumf [1] S512 s 0xFF800000#32 reduces_S512x256_S512 (.inl rfl) rfl) shapeCasts_S512_S512x1

/-- A column along the 128 lanes. -/
def lanes (v : FVec F S512x1 .f32) : FVec F S512x128 .f32 := broadcastTo S512x128 v broadcasts_S512x1_S512x128

/-- The row maxima of two chunks, along the lanes. -/
def smaxV (s0 s1 : FVec F S512x256 .f32) : FVec F S512x128 .f32 :=
  lanes (shapeCast S512x1 (rowMax (maximumf s0 s1)) shapeCasts_S512x1_S512x1)

/-- The rescaling of what was summed against the maxima `m` to the maxima `m'`. -/
def alphaV (m m' : FVec F S512x128 .f32) : FVec F S512x128 .f32 :=
  exp2 (mulf (subf m m') (broadcast S512x128 (Named.named κ "coef" 0x3DD53B95#32)))

/-- The weights of a chunk of scores against the maxima `m'`. -/
def weightV (s : FVec F S512x256 .f32) (m' : FVec F S512x128 .f32) : FVec F S512x256 .f32 :=
  exp2 (mulf (subf s (concatenate S512x256 1 [⟨S512x128, m'⟩, ⟨S512x128, m'⟩] concatenates_S512x128_S512x128_S512x256_d1))
    (broadcast S512x256 (Named.named κ "coef" 0x3DD53B95#32)))

/-- The row sums of a chunk of weights, as a column. -/
def rowSum (e : FVec F S512x256 .f32) : FVec F S512x1 .f32 :=
  shapeCast S512x1 (multiReduction .add [1] S512 e 0x00000000#32 reduces_S512x256_S512 (.inl rfl) rfl) shapeCasts_S512_S512x1

/-- The sum of the weights rescaled, with the weights of two more chunks. -/
def sumV (al l : FVec F S512x128 .f32) (e0 e1 : FVec F S512x256 .f32) : FVec F S512x128 .f32 :=
  addf (mulf al l) (lanes (addf (rowSum e0) (rowSum e1)))

/-- The weights as the product with the values takes them. -/
def roundV (e : FVec F S512x256 .f32) : FVec F S512x256 .bf16 := truncf .bf16 e bitsLt_bf16_f32

/-- The accumulated values rescaled, with two more chunks of weighted values. -/
def accV (acc al : FVec F S512x128 .f32) (p0 p1 : FVec F S512x256 .bf16) (v0 v1 : FVec F S256x128 .bf16) : FVec F S512x128 .f32 :=
  addf (mulf acc al)
    (addf (matmul dot_S512x256_S256x128_S512x128_1_0_0_1_n_n none p0 v0 (constant S512x128 .f32 0x00000000#32))
      (matmul dot_S512x256_S256x128_S512x128_1_0_0_1_n_n none p1 v1 (constant S512x128 .f32 0x00000000#32)))

/-- The rows' chunk numbers. -/
def rowChunk (q0 : BitVec 32) : IVec S512x1 32 :=
  shrsi (addi (broadcast S512x1 q0) (iota .tc S512x1 32 [0] iota_S512x1_d0_w32)) (broadcast S512x1 6#32)

/-- The columns' chunk numbers. -/
def colChunk (k0 : BitVec 32) : IVec S1x256 32 :=
  shrsi (addi (broadcast S1x256 k0) (iota .tc S1x256 32 [1] iota_S1x256_d1_w32)) (broadcast S1x256 6#32)

/-- A chunk of scores with the keys of later chunks masked. -/
def maskV (q0 k0 : BitVec 32) (s : FVec F S512x256 .f32) : FVec F S512x256 .f32 :=
  select (cmpi .sle (broadcastTo S512x256 (colChunk k0) broadcasts_S1x256_S512x256)
      (broadcastTo S512x256 (rowChunk q0) broadcasts_S512x1_S512x256))
    s (broadcast S512x256 (Named.named κ "masked" 0xF149F2CA#32))

/-- The maxima with those of two chunks. -/
def maskMaxV (m : FVec F S512x128 .f32) (s0 s1 : FVec F S512x256 .f32) : FVec F S512x128 .f32 :=
  maximumf (maximumf m (lanes (shapeCast S512x1 (rowMax s0) shapeCasts_S512x1_S512x1)))
    (lanes (shapeCast S512x1 (rowMax s1) shapeCasts_S512x1_S512x1))

/-! ## Casts between a slot and its contents -/

def up4 {e : EltTy} (v : Vec F S512x256 e) : Vec F S1x1x512x256 e := shapeCast S1x1x512x256 v shapeCasts_S512x256_S1x1x512x256
def dn4 {e : EltTy} (v : Vec F S1x1x512x256 e) : Vec F S512x256 e := shapeCast S512x256 v shapeCasts_S1x1x512x256_S512x256
def up3 (v : FVec F S512x128 .f32) : FVec F S1x512x128 .f32 := shapeCast S1x512x128 v shapeCasts_S512x128_S1x512x128
def dn3 (v : FVec F S1x512x128 .f32) : FVec F S512x128 .f32 := shapeCast S512x128 v shapeCasts_S1x512x128_S512x128
def id2 (v : FVec F S512x128 .f32) : FVec F S512x128 .f32 := shapeCast S512x128 v shapeCasts_S512x128_S512x128
def dnK (v : FVec F S1x1x256x256 .bf16) : FVec F S256x256 .bf16 := shapeCast S256x256 v shapeCasts_S1x1x256x256_S256x256
def dnV (v : FVec F S1x1x256x128 .bf16) : FVec F S256x128 .bf16 := shapeCast S256x128 v shapeCasts_S1x1x256x128_S256x128

/-! ## The memory -/

/-- The contents of the scratch memory. -/
structure Mem (F : FTy → Type) [FloatOps F] where
  s : Vec F S2x2x512x256 .f32
  mx : Vec F S2x512x128 .f32
  p : Vec F S2x2x512x256 .bf16
  al : Vec F S2x512x128 .f32
  m : Vec F S512x128 .f32
  l : Vec F S512x128 .f32
  acc : Vec F S512x128 .f32

theorem inb4 (b ch : ℕ) (hb : b < 2) (hc : ch < 2) : ∀ a, (![b, ch, 0, 0] : Fin 4 → ℕ) a + S1x1x512x256.size a ≤ S2x2x512x256.size a := by
  intro a; fin_cases a <;> simp <;> omega
theorem inb3 (b : ℕ) (hb : b < 2) : ∀ a, (![b, 0, 0] : Fin 3 → ℕ) a + S1x512x128.size a ≤ S2x512x128.size a := by
  intro a; fin_cases a <;> simp <;> omega
theorem inb2 : ∀ a, (![0, 0] : Fin 2 → ℕ) a + S512x128.size a ≤ S512x128.size a := by
  intro a; fin_cases a <;> simp

/-- A slot of two-chunk scratch. -/
def get4 {e : EltTy} (b ch : ℕ) (hb : b < 2) (hc : ch < 2) (x : Vec F S2x2x512x256 e) : Vec F S512x256 e :=
  dn4 (VecWindow.window x ![b, ch, 0, 0] S1x1x512x256.size (inb4 b ch hb hc))
def set4 {e : EltTy} (b ch : ℕ) (v : Vec F S512x256 e) (x : Vec F S2x2x512x256 e) : Vec F S2x2x512x256 e :=
  VecWindow.put x ![b, ch, 0, 0] S1x1x512x256.size (up4 v)
/-- A slot of one-chunk scratch. -/
def get3 (b : ℕ) (hb : b < 2) (x : Vec F S2x512x128 .f32) : FVec F S512x128 .f32 :=
  dn3 (VecWindow.window x ![b, 0, 0] S1x512x128.size (inb3 b hb))
def set3 (b : ℕ) (v : FVec F S512x128 .f32) (x : Vec F S2x512x128 .f32) : Vec F S2x512x128 .f32 :=
  VecWindow.put x ![b, 0, 0] S1x512x128.size (up3 v)
def get2 (x : Vec F S512x128 .f32) : FVec F S512x128 .f32 := VecWindow.window x ![0, 0] S512x128.size inb2
def set2 (v : FVec F S512x128 .f32) (x : Vec F S512x128 .f32) : Vec F S512x128 .f32 :=
  VecWindow.put x ![0, 0] S512x128.size (id2 v)

variable (b : ℕ) (hb : b < 2)

/-- The score stage on the memory. -/
def qkF (q : FVec F S512x256 .bf16) (k0 k1 : FVec F S256x256 .bf16) (x : Mem F) : Mem F :=
  { x with
    s := set4 b 1 (scoreV q k1) (set4 b 0 (scoreV q k0) x.s)
    mx := set3 b (smaxV (scoreV q k0) (scoreV q k1)) x.mx }

/-- The softmax update by the scores `s0 s1` at the new maxima `m'`. -/
def updF (s0 s1 : FVec F S512x256 .f32) (m' : FVec F S512x128 .f32) (x : Mem F) : Mem F :=
  { x with
    l := set2 (sumV (alphaV (get2 x.m) m') (get2 x.l) (weightV s0 m') (weightV s1 m')) x.l
    m := set2 m' x.m
    al := set3 b (alphaV (get2 x.m) m') x.al
    p := set4 b 1 (roundV (weightV s1 m')) (set4 b 0 (roundV (weightV s0 m')) x.p) }

/-- The softmax stage on the memory. -/
def smF (x : Mem F) : Mem F :=
  updF b (get4 b 0 hb (by omega) x.s) (get4 b 1 hb (by omega) x.s) (maximumf (get2 x.m) (get3 b hb x.mx)) x

/-- The masked softmax stage on the memory. -/
def smMaskedF (q0 k0 k1 : BitVec 32) (x : Mem F) : Mem F :=
  updF b (maskV q0 k0 (get4 b 0 hb (by omega) x.s)) (maskV q0 k1 (get4 b 1 hb (by omega) x.s))
    (maskMaxV (get2 x.m) (maskV q0 k0 (get4 b 0 hb (by omega) x.s)) (maskV q0 k1 (get4 b 1 hb (by omega) x.s))) x

/-- The value stage on the memory. -/
def pvF (v0 v1 : FVec F S256x128 .bf16) (x : Mem F) : Mem F :=
  { x with acc := set2 (accV (get2 x.acc) (get3 b hb x.al) (get4 b 0 hb (by omega) x.p) (get4 b 1 hb (by omega) x.p) v0 v1) x.acc }

/-! ## The programs -/

/-- The kernel's programs. -/
abbrev Pr (F : FTy → Type) (α : Type) := Prog (TpuEff nD τ sig (Elt F) Λ₀ .tc) α

section Progs

variable {α : Type}
variable (arg4 : Memref sig .tc .vmem S1x1x16384x256 .bf16) (arg5 : Memref sig .tc .vmem S1x1x16384x128 .bf16)
  (arg7 : Memref sig .tc .vmem S2x2x512x256 .f32) (arg8 : Memref sig .tc .vmem S2x512x128 .f32)
  (arg9 : Memref sig .tc .vmem S2x2x512x256 .bf16) (arg10 : Memref sig .tc .vmem S2x512x128 .f32)
  (arg11 arg12 arg13 : Memref sig .tc .vmem S512x128 .f32)

def ldK (off : Fin 4 → ℕ) (inb : ∀ a, off a + S1x1x256x256.size a ≤ S1x1x16384x256.size a) (k : FVec F S1x1x256x256 .bf16 → Pr F α) : Pr F α :=
  .op (.load arg4 (Rect.unit (s := S1x1x16384x256) off S1x1x256x256.size inb).toLoadRect (View.loadsAt_vmem h_S1x1x256x256)) k
def ldV (off : Fin 4 → ℕ) (inb : ∀ a, off a + S1x1x256x128.size a ≤ S1x1x16384x128.size a) (k : FVec F S1x1x256x128 .bf16 → Pr F α) : Pr F α :=
  .op (.load arg5 (Rect.unit (s := S1x1x16384x128) off S1x1x256x128.size inb).toLoadRect (View.loadsAt_vmem h_S1x1x256x128)) k
def ld4 {e : EltTy} (M : Memref sig .tc .vmem S2x2x512x256 e) (ch : ℕ) (hc : ch < 2) (k : Vec F S1x1x512x256 e → Pr F α) : Pr F α :=
  .op (.load M (Rect.unit (s := S2x2x512x256) ![b, ch, 0, 0] S1x1x512x256.size (inb4 b ch hb hc)).toLoadRect (View.loadsAt_vmem h_S1x1x512x256)) k
def ld3 (M : Memref sig .tc .vmem S2x512x128 .f32) (k : FVec F S1x512x128 .f32 → Pr F α) : Pr F α :=
  .op (.load M (Rect.unit (s := S2x512x128) ![b, 0, 0] S1x512x128.size (inb3 b hb)).toLoadRect (View.loadsAt_vmem h_S1x512x128)) k
def ld2 (M : Memref sig .tc .vmem S512x128 .f32) (k : FVec F S512x128 .f32 → Pr F α) : Pr F α :=
  .op (.load M (Rect.unit (s := S512x128) ![0, 0] S512x128.size inb2).toLoadRect (View.loadsAt_vmem h_S512x128)) k
def st4 {e : EltTy} (M : Memref sig .tc .vmem S2x2x512x256 e) (ch : ℕ) (hc : ch < 2)
    (hx : (M.access (Rect.unit (s := S2x2x512x256) ![b, ch, 0, 0] S1x1x512x256.size (inb4 b ch hb hc))).Stores Finset.univ)
    (v : Vec F S512x256 e) (k : Pr F α) : Pr F α :=
  .op (.store M (Rect.unit (s := S2x2x512x256) ![b, ch, 0, 0] S1x1x512x256.size (inb4 b ch hb hc)) (up4 v) Finset.univ hx (.inl rfl)) fun _ => k
def st3 (M : Memref sig .tc .vmem S2x512x128 .f32) (v : FVec F S512x128 .f32) (k : Pr F α) : Pr F α :=
  .op (.store M (Rect.unit (s := S2x512x128) ![b, 0, 0] S1x512x128.size (inb3 b hb)) (up3 v) Finset.univ
    (View.stores_vmem_bits_univ h_S1x512x128 rfl) (.inl rfl)) fun _ => k
def st2 (M : Memref sig .tc .vmem S512x128 .f32) (v : FVec F S512x128 .f32) (k : Pr F α) : Pr F α :=
  .op (.store M (Rect.unit (s := S512x128) ![0, 0] S512x128.size inb2) (id2 v) Finset.univ
    (View.stores_vmem_bits_univ h_S512x128 rfl) (.inl rfl)) fun _ => k

theorem stores32 (ch : ℕ) (hc : ch < 2) :
    (arg7.access (Rect.unit (s := S2x2x512x256) ![b, ch, 0, 0] S1x1x512x256.size (inb4 b ch hb hc))).Stores Finset.univ :=
  View.stores_vmem_bits_univ h_S1x1x512x256 rfl

def qkP (q : FVec F S512x256 .bf16) (off0 off1 : Fin 4 → ℕ)
    (inb0 : ∀ a, off0 a + S1x1x256x256.size a ≤ S1x1x16384x256.size a) (inb1 : ∀ a, off1 a + S1x1x256x256.size a ≤ S1x1x16384x256.size a)
    (k : Pr F α) : Pr F α :=
  ldK arg4 off0 inb0 fun k0 =>
  ld4 b hb arg7 0 (by omega) fun _ =>
  st4 b hb arg7 0 (by omega) (stores32 b hb arg7 0 (by omega)) (scoreV q (dnK k0)) <|
  ldK arg4 off1 inb1 fun k1 =>
  ld4 b hb arg7 1 (by omega) fun _ =>
  st4 b hb arg7 1 (by omega) (stores32 b hb arg7 1 (by omega)) (scoreV q (dnK k1)) <|
  ld3 b hb arg8 fun _ =>
  st3 b hb arg8 (smaxV (scoreV q (dnK k0)) (scoreV q (dnK k1))) k

/-- The end of a softmax stage: what it writes, at the new maxima. -/
def updP (hx0 : (arg9.access (Rect.unit (s := S2x2x512x256) ![b, 0, 0, 0] S1x1x512x256.size (inb4 b 0 hb (by omega)))).Stores Finset.univ)
    (hx1 : (arg9.access (Rect.unit (s := S2x2x512x256) ![b, 1, 0, 0] S1x1x512x256.size (inb4 b 1 hb (by omega)))).Stores Finset.univ)
    (s0 s1 : FVec F S512x256 .f32) (m m' : FVec F S512x128 .f32) (k : Pr F α) : Pr F α :=
  ld2 arg12 fun l =>
  ld2 arg12 fun _ =>
  st2 arg12 (sumV (alphaV m m') l (weightV s0 m') (weightV s1 m')) <|
  ld2 arg11 fun _ =>
  st2 arg11 m' <|
  ld3 b hb arg10 fun _ =>
  st3 b hb arg10 (alphaV m m') <|
  ld4 b hb arg9 0 (by omega) fun _ =>
  st4 b hb arg9 0 (by omega) hx0 (roundV (weightV s0 m')) <|
  ld4 b hb arg9 1 (by omega) fun _ =>
  st4 b hb arg9 1 (by omega) hx1 (roundV (weightV s1 m')) k

def smP (hx0 : (arg9.access (Rect.unit (s := S2x2x512x256) ![b, 0, 0, 0] S1x1x512x256.size (inb4 b 0 hb (by omega)))).Stores Finset.univ)
    (hx1 : (arg9.access (Rect.unit (s := S2x2x512x256) ![b, 1, 0, 0] S1x1x512x256.size (inb4 b 1 hb (by omega)))).Stores Finset.univ)
    (k : Pr F α) : Pr F α :=
  ld4 b hb arg7 0 (by omega) fun s0 =>
  ld4 b hb arg7 1 (by omega) fun s1 =>
  ld3 b hb arg8 fun mx =>
  ld2 arg11 fun m =>
  updP b hb arg9 arg10 arg11 arg12 hx0 hx1 (dn4 s0) (dn4 s1) m (maximumf m (dn3 mx)) k

def smMaskedP (q0 k0 k1 : BitVec 32)
    (hx0 : (arg9.access (Rect.unit (s := S2x2x512x256) ![b, 0, 0, 0] S1x1x512x256.size (inb4 b 0 hb (by omega)))).Stores Finset.univ)
    (hx1 : (arg9.access (Rect.unit (s := S2x2x512x256) ![b, 1, 0, 0] S1x1x512x256.size (inb4 b 1 hb (by omega)))).Stores Finset.univ)
    (k : Pr F α) : Pr F α :=
  ld4 b hb arg7 0 (by omega) fun s0 =>
  ld4 b hb arg7 1 (by omega) fun s1 =>
  ld2 arg11 fun m =>
  updP b hb arg9 arg10 arg11 arg12 hx0 hx1 (maskV q0 k0 (dn4 s0)) (maskV q0 k1 (dn4 s1)) m
    (maskMaxV m (maskV q0 k0 (dn4 s0)) (maskV q0 k1 (dn4 s1))) k

def pvP (off0 off1 : Fin 4 → ℕ)
    (inb0 : ∀ a, off0 a + S1x1x256x128.size a ≤ S1x1x16384x128.size a) (inb1 : ∀ a, off1 a + S1x1x256x128.size a ≤ S1x1x16384x128.size a)
    (k : Pr F α) : Pr F α :=
  ld3 b hb arg10 fun al =>
  ld4 b hb arg9 0 (by omega) fun p0 =>
  ld4 b hb arg9 1 (by omega) fun p1 =>
  ldV arg5 off0 inb0 fun v0 =>
  ldV arg5 off1 inb1 fun v1 =>
  ld2 arg13 fun acc =>
  ld2 arg13 fun _ =>
  st2 arg13 (accV acc (dn3 al) (dn4 p0) (dn4 p1) (dnV v0) (dnV v1)) k

end Progs

end Cert.Proof.Mla
-- ==== Proof.Body.lean ====
/- The attention kernel's body and the regions of its loops are compositions of the stages. -/
module

public import proofs.«01_k».proof.Proof.Stages
public import proofs.«01_k».proof.Proof.Gen.KernelIdeal.Skeleton

@[expose] public section

set_option maxRecDepth 16384

noncomputable section

namespace Cert.Proof.Mla

open Idealize.ShloMosaic Idealize.ShloMosaic.TcCoe Idealize.SL.Sem
open Cert.KernelIdeal Cert.KernelIdeal.Gen

variable {F : FTy → Type} [FloatOps F] [Named F]

theorem packed9 (b ch : ℕ) (hb : b < 2) (hc : ch < 2) :
    (Rect.unit (s := S2x2x512x256) ![b, ch, 0, 0] S1x1x512x256.size (inb4 b ch hb hc)).PackedRows (EltTy.packing .bf16) := by
  match b, hb, ch, hc with
  | 0, _, 0, _ => exact packedbf16_S2x2x512x256_S1x1x512x256_0_0_0_0
  | 0, _, 1, _ => exact packedbf16_S2x2x512x256_S1x1x512x256_0_1_0_0
  | 1, _, 0, _ => exact packedbf16_S2x2x512x256_S1x1x512x256_1_0_0_0
  | 1, _, 1, _ => exact packedbf16_S2x2x512x256_S1x1x512x256_1_1_0_0

theorem hx (arg9 : Memref sig .tc .vmem S2x2x512x256 .bf16) (harg9 : arg9.IsWhole) (b ch : ℕ) (hb : b < 2) (hc : ch < 2) :
    (arg9.access (Rect.unit (s := S2x2x512x256) ![b, ch, 0, 0] S1x1x512x256.size (inb4 b ch hb hc))).Stores Finset.univ :=
  View.stores_vmem h_S1x1x512x256 (harg9.storeExact_slice rfl _ (packed9 b ch hb hc)) (fun _ => rfl)

/-! ## The scalars the body computes from the grid point -/

/-- The floor division of the printed program. -/
def fdiv (x d : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
      (Scalar.cmpi .ne (Scalar.remsi x d) 0#32)) (Scalar.subi (Scalar.divsi x d) 1#32) (Scalar.divsi x d)
/-- The first row of the point's queries, -/
def wQ (i : grid0.Coords) : BitVec 32 := Scalar.addi 0#32 (Scalar.muli (BitVec.ofNat 32 (i 2).val) 512#32)
/-- the number of blocks of keys before the last, -/
def wN (i : grid0.Coords) : BitVec 32 := fdiv (wQ i) 512#32
/-- and one less; -/
def wN1 (i : grid0.Coords) : BitVec 32 := Scalar.subi (wN i) 1#32
/-- the trips of the loop by fours, -/
def w4 (i : grid0.Coords) : BitVec 32 := fdiv (wN1 i) 4#32
def wT2 (i : grid0.Coords) : BitVec 32 := Scalar.addi 0#32 (Scalar.muli (Scalar.divsi (Scalar.subi (w4 i) 0#32) 1#32) 1#32)
/-- What the loop by fours is followed with: its trips, and the parts of the floor division of the blocks by two. -/
def wRet (i : grid0.Coords) : Σ' (_ : BitVec 32) (_ : BitVec 32) (_ : BitVec 1), BitVec 32 :=
  ⟨w4 i, Scalar.divsi (wN1 i) 2#32,
    Scalar.andi (Scalar.cmpi .ne (Scalar.subi (Scalar.extui (Scalar.cmpi .sgt (wN1 i) 0#32)) (Scalar.extui (Scalar.cmpi .slt (wN1 i) 0#32)))
      (Scalar.subi (Scalar.extui (Scalar.cmpi .sgt 2#32 0#32)) (Scalar.extui (Scalar.cmpi .slt 2#32 0#32))))
      (Scalar.cmpi .ne (Scalar.remsi (wN1 i) 2#32) 0#32),
    Scalar.subi (Scalar.divsi (wN1 i) 2#32) 1#32⟩
/-- That floor division, -/
def w2 (w : Σ' (_ : BitVec 32) (_ : BitVec 32) (_ : BitVec 1), BitVec 32) : BitVec 32 := Scalar.select w.2.2.1 w.2.2.2 w.2.1
/-- where the loops by twos start, -/
def wT3 (w : Σ' (_ : BitVec 32) (_ : BitVec 32) (_ : BitVec 1), BitVec 32) : BitVec 32 := Scalar.muli 2#32 w.1
def wT4 (w : Σ' (_ : BitVec 32) (_ : BitVec 32) (_ : BitVec 1), BitVec 32) : BitVec 32 :=
  Scalar.addi (wT3 w) (Scalar.muli (Scalar.divsi (Scalar.subi (w2 w) (wT3 w)) 1#32) 1#32)
/-- and the block the loops end at. -/
def wEnd (w : Σ' (_ : BitVec 32) (_ : BitVec 32) (_ : BitVec 1), BitVec 32) : BitVec 32 := Scalar.muli 2#32 (w2 w)
/-- The first block is the last. -/
def wOne (i : grid0.Coords) : BitVec 1 := Scalar.cmpi .ne (Scalar.extui (Scalar.cmpi .eq (wN i) 0#32) : BitVec 32) 0#32
/-- The first key of the `r`-th block after the loops, at its chunk `c`, the loops ending at block `e`. -/
def wK (e r c : BitVec 32) : BitVec 32 := Scalar.addi (Scalar.muli (Scalar.addi e r) 512#32) c

section
variable (i : grid0.Coords) (arg3 : Memref sig .tc .vmem S1x1x512x256 .bf16) (harg3 : arg3.IsWhole) (arg4 : Memref sig .tc .vmem S1x1x16384x256 .bf16) (harg4 : arg4.IsWhole) (arg5 : Memref sig .tc .vmem S1x1x16384x128 .bf16) (harg5 : arg5.IsWhole)
    (arg6 : Memref sig .tc .vmem S1x512x128 .bf16) (harg6 : arg6.IsWhole) (arg7 : Memref sig .tc .vmem S2x2x512x256 .f32) (harg7 : arg7.IsWhole) (arg8 : Memref sig .tc .vmem S2x512x128 .f32) (harg8 : arg8.IsWhole)
    (arg9 : Memref sig .tc .vmem S2x2x512x256 .bf16) (harg9 : arg9.IsWhole) (arg10 : Memref sig .tc .vmem S2x512x128 .f32) (harg10 : arg10.IsWhole) (arg11 : Memref sig .tc .vmem S512x128 .f32) (harg11 : arg11.IsWhole)
    (arg12 : Memref sig .tc .vmem S512x128 .f32) (harg12 : arg12.IsWhole) (arg13 : Memref sig .tc .vmem S512x128 .f32) (harg13 : arg13.IsWhole)
  (q : FVec F S512x256 .bf16)

/-- Four steps of the pipelined loop. -/
theorem t1_eq (h2 : k0_cond2 i = 1#1) (v32 v133 c4 : BitVec 32) (t : Fin (k0_t1_loop i).trips) (u : Unit) :
    k0_t1_body i arg3 harg3 arg4 harg4 arg5 harg5 arg6 harg6 arg7 harg7 arg8 harg8 arg9 harg9 arg10 harg10 arg11 harg11 arg12 harg12 arg13 harg13 q v32 h2 v133 c4 t u =
    (qkP 0 (by omega) arg4 arg7 arg8 q (k0_off1 i t 0#32 0#32) (k0_off1 i t 0#32 256#32) (k0_off1_inb i t h2 0 0) (k0_off1_inb i t h2 0 1) <|
    smP 1 (by omega) arg7 arg8 arg9 arg10 arg11 arg12 (hx arg9 harg9 1 0 (by omega) (by omega)) (hx arg9 harg9 1 1 (by omega) (by omega)) <|
    pvP 0 (by omega) arg5 arg9 arg10 arg13 (k0_off2 i t 0#32 0#32) (k0_off2 i t 0#32 256#32) (k0_off2_inb i t h2 0 0) (k0_off2_inb i t h2 0 1) <|
    qkP 1 (by omega) arg4 arg7 arg8 q (k0_off1 i t 1#32 0#32) (k0_off1 i t 1#32 256#32) (k0_off1_inb i t h2 1 0) (k0_off1_inb i t h2 1 1) <|
    smP 0 (by omega) arg7 arg8 arg9 arg10 arg11 arg12 (hx arg9 harg9 0 0 (by omega) (by omega)) (hx arg9 harg9 0 1 (by omega) (by omega)) <|
    pvP 1 (by omega) arg5 arg9 arg10 arg13 (k0_off2 i t 1#32 0#32) (k0_off2 i t 1#32 256#32) (k0_off2_inb i t h2 1 0) (k0_off2_inb i t h2 1 1) <|
    qkP 0 (by omega) arg4 arg7 arg8 q (k0_off1 i t 2#32 0#32) (k0_off1 i t 2#32 256#32) (k0_off1_inb i t h2 2 0) (k0_off1_inb i t h2 2 1) <|
    smP 1 (by omega) arg7 arg8 arg9 arg10 arg11 arg12 (hx arg9 harg9 1 0 (by omega) (by omega)) (hx arg9 harg9 1 1 (by omega) (by omega)) <|
    pvP 0 (by omega) arg5 arg9 arg10 arg13 (k0_off2 i t 2#32 0#32) (k0_off2 i t 2#32 256#32) (k0_off2_inb i t h2 2 0) (k0_off2_inb i t h2 2 1) <|
    qkP 1 (by omega) arg4 arg7 arg8 q (k0_off1 i t 3#32 0#32) (k0_off1 i t 3#32 256#32) (k0_off1_inb i t h2 3 0) (k0_off1_inb i t h2 3 1) <|
    smP 0 (by omega) arg7 arg8 arg9 arg10 arg11 arg12 (hx arg9 harg9 0 0 (by omega) (by omega)) (hx arg9 harg9 0 1 (by omega) (by omega)) <|
    pvP 1 (by omega) arg5 arg9 arg10 arg13 (k0_off2 i t 3#32 0#32) (k0_off2 i t 3#32 256#32) (k0_off2_inb i t h2 3 0) (k0_off2_inb i t h2 3 1) <|
    pure ⟨⟩) := by
  rfl

/-- Two steps of it. -/
theorem t3_eq (h2 : k0_cond2 i = 1#1) (v174 : BitVec 32) (t : Fin (k0_t3_loop i).trips) (u : Unit) :
    k0_t3_body i arg3 harg3 arg4 harg4 arg5 harg5 arg6 harg6 arg7 harg7 arg8 harg8 arg9 harg9 arg10 harg10 arg11 harg11 arg12 harg12 arg13 harg13 q h2 v174 t u =
    (qkP 0 (by omega) arg4 arg7 arg8 q (k0_off5 i t 0#32 0#32) (k0_off5 i t 0#32 256#32) (k0_off5_inb i t h2 0 0) (k0_off5_inb i t h2 0 1) <|
    smP 1 (by omega) arg7 arg8 arg9 arg10 arg11 arg12 (hx arg9 harg9 1 0 (by omega) (by omega)) (hx arg9 harg9 1 1 (by omega) (by omega)) <|
    pvP 0 (by omega) arg5 arg9 arg10 arg13 (k0_off6 i t 0#32 0#32) (k0_off6 i t 0#32 256#32) (k0_off6_inb i t h2 0 0) (k0_off6_inb i t h2 0 1) <|
    qkP 1 (by omega) arg4 arg7 arg8 q (k0_off5 i t 1#32 0#32) (k0_off5 i t 1#32 256#32) (k0_off5_inb i t h2 1 0) (k0_off5_inb i t h2 1 1) <|
    smP 0 (by omega) arg7 arg8 arg9 arg10 arg11 arg12 (hx arg9 harg9 0 0 (by omega) (by omega)) (hx arg9 harg9 0 1 (by omega) (by omega)) <|
    pvP 1 (by omega) arg5 arg9 arg10 arg13 (k0_off6 i t 1#32 0#32) (k0_off6 i t 1#32 256#32) (k0_off6_inb i t h2 1 0) (k0_off6_inb i t h2 1 1) <|
    pure ⟨⟩) := by
  rfl

end

/-- What the body does first: the running maxima, sums and accumulated values start, and the queries are read. -/
def initP {α : Type} (arg3 : Memref sig .tc .vmem S1x1x512x256 .bf16) (arg11 arg12 arg13 : Memref sig .tc .vmem S512x128 .f32)
    (k : FVec F S512x256 .bf16 → Pr F α) : Pr F α :=
  ld2 arg11 fun _ =>
  st2 arg11 (broadcast S512x128 (Named.named κ "masked" 0xF149F2CA#32)) <|
  ld2 arg12 fun _ =>
  st2 arg12 (broadcast S512x128 (Scalar.ofBits .f32 0x00000000#32)) <|
  ld2 arg13 fun _ =>
  st2 arg13 (broadcast S512x128 (Scalar.ofBits .f32 0x00000000#32)) <|
  .op (.load arg3 (Rect.unit (s := S1x1x512x256) ![0, 0, 0, 0] S1x1x512x256.size inb_S1x1x512x256_S1x1x512x256_0_0_0_0).toLoadRect (View.loadsAt_vmem h_S1x1x512x256)) fun q =>
  k (dn4 (e := .bf16) q)

/-- The quotient of the accumulated values by the sums, as it is stored. -/
def outV (acc l : FVec F S512x128 .f32) : FVec F S1x512x128 .bf16 :=
  shapeCast S1x512x128 (truncf .bf16 (divf acc l) bitsLt_bf16_f32) shapeCasts_S512x128_S1x512x128

/-- What the body does last. -/
def finP (arg6 : Memref sig .tc .vmem S1x512x128 .bf16) (harg6 : arg6.IsWhole) (arg12 arg13 : Memref sig .tc .vmem S512x128 .f32) : Pr F PUnit :=
  ld2 arg13 fun acc =>
  ld2 arg12 fun l =>
  .op (.load arg6 (Rect.unit (s := S1x512x128) ![0, 0, 0] S1x512x128.size inb_S1x512x128_S1x512x128_0_0_0).toLoadRect (View.loadsAt_vmem h_S1x512x128)) fun _ =>
  .op (.store arg6 (Rect.unit (s := S1x512x128) ![0, 0, 0] S1x512x128.size inb_S1x512x128_S1x512x128_0_0_0) (outV acc l) Finset.univ
    (View.stores_vmem h_S1x512x128 (harg6.storeExact_slice rfl _ packedbf16_S1x512x128_S1x512x128_0_0_0) (fun _ => rfl)) (.inl rfl)) fun _ => .ret ⟨⟩

/-- The body where the first block of keys is the last. -/
def oneP {α : Type} (i : grid0.Coords) (arg4 : Memref sig .tc .vmem S1x1x16384x256 .bf16) (arg5 : Memref sig .tc .vmem S1x1x16384x128 .bf16)
    (arg7 : Memref sig .tc .vmem S2x2x512x256 .f32) (arg8 : Memref sig .tc .vmem S2x512x128 .f32)
    (arg9 : Memref sig .tc .vmem S2x2x512x256 .bf16) (harg9 : arg9.IsWhole) (arg10 : Memref sig .tc .vmem S2x512x128 .f32) (arg11 arg12 arg13 : Memref sig .tc .vmem S512x128 .f32)
    (q : FVec F S512x256 .bf16) (k : Pr F α) : Pr F α :=
    qkP 0 (by omega) arg4 arg7 arg8 q ![0, 0, 0, 0] ![0, 0, 256, 0] inb_S1x1x16384x256_S1x1x256x256_0_0_0_0 inb_S1x1x16384x256_S1x1x256x256_0_0_256_0 <|
    smMaskedP 0 (by omega) arg7 arg9 arg10 arg11 arg12 (wQ i) 0#32 256#32 (hx arg9 harg9 0 0 (by omega) (by omega)) (hx arg9 harg9 0 1 (by omega) (by omega)) <|
    pvP 0 (by omega) arg5 arg9 arg10 arg13 ![0, 0, 0, 0] ![0, 0, 256, 0] inb_S1x1x16384x128_S1x1x256x128_0_0_0_0 inb_S1x1x16384x128_S1x1x256x128_0_0_256_0 <|
    k

/-- The body's end with one block of keys left, -/
def tail1P {α : Type} (F : FTy → Type) [FloatOps F] [Named F] (i : grid0.Coords) (arg4 : Memref sig .tc .vmem S1x1x16384x256 .bf16) (arg5 : Memref sig .tc .vmem S1x1x16384x128 .bf16)
    (arg7 : Memref sig .tc .vmem S2x2x512x256 .f32) (arg8 : Memref sig .tc .vmem S2x512x128 .f32)
    (arg9 : Memref sig .tc .vmem S2x2x512x256 .bf16) (harg9 : arg9.IsWhole) (arg10 : Memref sig .tc .vmem S2x512x128 .f32) (arg11 arg12 arg13 : Memref sig .tc .vmem S512x128 .f32)
    (h2 : k0_cond2 i = 1#1) (h3 : k0_cond3 i = 1#1) (e : BitVec 32) (k : Pr F α) : Pr F α :=
    smMaskedP 1 (by omega) arg7 arg9 arg10 arg11 arg12 (wQ i) (wK e 1#32 0#32) (wK e 1#32 256#32) (hx arg9 harg9 1 0 (by omega) (by omega)) (hx arg9 harg9 1 1 (by omega) (by omega)) <|
    pvP 0 (by omega) arg5 arg9 arg10 arg13 (k0_off9 i 0#32) (k0_off9 i 256#32) (k0_off9_inb i h2 h3 0) (k0_off9_inb i h2 h3 1) <|
    pvP 1 (by omega) arg5 arg9 arg10 arg13 (k0_off10 i 0#32) (k0_off10 i 256#32) (k0_off10_inb i h2 h3 0) (k0_off10_inb i h2 h3 1) <|
    k

/-- and with two. -/
def tail2P {α : Type} (i : grid0.Coords) (arg4 : Memref sig .tc .vmem S1x1x16384x256 .bf16) (arg5 : Memref sig .tc .vmem S1x1x16384x128 .bf16)
    (arg7 : Memref sig .tc .vmem S2x2x512x256 .f32) (arg8 : Memref sig .tc .vmem S2x512x128 .f32)
    (arg9 : Memref sig .tc .vmem S2x2x512x256 .bf16) (harg9 : arg9.IsWhole) (arg10 : Memref sig .tc .vmem S2x512x128 .f32) (arg11 arg12 arg13 : Memref sig .tc .vmem S512x128 .f32)
    (q : FVec F S512x256 .bf16) (h2 : k0_cond2 i = 1#1) (h4 : k0_cond4 i = 1#1) (e : BitVec 32) (k : Pr F α) : Pr F α :=
    qkP 0 (by omega) arg4 arg7 arg8 q (k0_off11 i 0#32) (k0_off11 i 256#32) (k0_off11_inb i h2 h4 0) (k0_off11_inb i h2 h4 1) <|
    smP 1 (by omega) arg7 arg8 arg9 arg10 arg11 arg12 (hx arg9 harg9 1 0 (by omega) (by omega)) (hx arg9 harg9 1 1 (by omega) (by omega)) <|
    pvP 0 (by omega) arg5 arg9 arg10 arg13 (k0_off12 i 0#32) (k0_off12 i 256#32) (k0_off12_inb i h2 h4 0) (k0_off12_inb i h2 h4 1) <|
    smMaskedP 0 (by omega) arg7 arg9 arg10 arg11 arg12 (wQ i) (wK e 2#32 0#32) (wK e 2#32 256#32) (hx arg9 harg9 0 0 (by omega) (by omega)) (hx arg9 harg9 0 1 (by omega) (by omega)) <|
    pvP 1 (by omega) arg5 arg9 arg10 arg13 (k0_off13 i 1#32 0#32) (k0_off13 i 1#32 256#32) (k0_off13_inb i h2 h4 0 0) (k0_off13_inb i h2 h4 0 1) <|
    pvP 0 (by omega) arg5 arg9 arg10 arg13 (k0_off13 i 2#32 0#32) (k0_off13 i 2#32 256#32) (k0_off13_inb i h2 h4 1 0) (k0_off13_inb i h2 h4 1 1) <|
    k

section
variable (i : grid0.Coords) (arg3 : Memref sig .tc .vmem S1x1x512x256 .bf16) (harg3 : arg3.IsWhole) (arg4 : Memref sig .tc .vmem S1x1x16384x256 .bf16) (harg4 : arg4.IsWhole) (arg5 : Memref sig .tc .vmem S1x1x16384x128 .bf16) (harg5 : arg5.IsWhole)
    (arg6 : Memref sig .tc .vmem S1x512x128 .bf16) (harg6 : arg6.IsWhole) (arg7 : Memref sig .tc .vmem S2x2x512x256 .f32) (harg7 : arg7.IsWhole) (arg8 : Memref sig .tc .vmem S2x512x128 .f32) (harg8 : arg8.IsWhole)
    (arg9 : Memref sig .tc .vmem S2x2x512x256 .bf16) (harg9 : arg9.IsWhole) (arg10 : Memref sig .tc .vmem S2x512x128 .f32) (harg10 : arg10.IsWhole) (arg11 : Memref sig .tc .vmem S512x128 .f32) (harg11 : arg11.IsWhole)
    (arg12 : Memref sig .tc .vmem S512x128 .f32) (harg12 : arg12.IsWhole) (arg13 : Memref sig .tc .vmem S512x128 .f32) (harg13 : arg13.IsWhole)

/-- The body where the first block of keys is not the last. -/
def moreP {α : Type} (q : FVec F S512x256 .bf16) (h2 : k0_cond2 i = 1#1) (k : Pr F α) : Pr F α :=
    qkP 0 (by omega) arg4 arg7 arg8 q ![0, 0, 0, 0] ![0, 0, 256, 0] inb_S1x1x16384x256_S1x1x256x256_0_0_0_0 inb_S1x1x16384x256_S1x1x256x256_0_0_256_0 <|
    qkP 1 (by omega) arg4 arg7 arg8 q ![0, 0, 512, 0] ![0, 0, 768, 0] inb_S1x1x16384x256_S1x1x256x256_0_0_512_0 inb_S1x1x16384x256_S1x1x256x256_0_0_768_0 <|
    smP 0 (by omega) arg7 arg8 arg9 arg10 arg11 arg12 (hx arg9 harg9 0 0 (by omega) (by omega)) (hx arg9 harg9 0 1 (by omega) (by omega)) <|
    ((Scf.Loop.for (k0_t1_loop i) (k0_t1_ok i h2) ⟨⟩ (k0_t1_body i arg3 harg3 arg4 harg4 arg5 harg5 arg6 harg6 arg7 harg7 arg8 harg8 arg9 harg9 arg10 harg10 arg11 harg11 arg12 harg12 arg13 harg13 q (wN i) h2 (wN1 i) 4#32) >>= fun _ =>
      Scf.Loop.for (k0_t2_loop i) (k0_t2_ok i h2) ⟨⟩ (k0_t2_body i arg3 harg3 arg4 harg4 arg5 harg5 arg6 harg6 arg7 harg7 arg8 harg8 arg9 harg9 arg10 harg10 arg11 harg11 arg12 harg12 arg13 harg13 q (wN i) h2 (wN1 i) 4#32 (wT2 i)) >>= fun _ =>
      (pure (wRet i) : Pr F (Σ' (_ : BitVec 32) (_ : BitVec 32) (_ : BitVec 1), BitVec 32))) >>= fun w =>
     Scf.Loop.for (k0_t3_loop i) (k0_t3_ok i h2) ⟨⟩ (k0_t3_body i arg3 harg3 arg4 harg4 arg5 harg5 arg6 harg6 arg7 harg7 arg8 harg8 arg9 harg9 arg10 harg10 arg11 harg11 arg12 harg12 arg13 harg13 q h2 (wT3 w)) >>= fun _ =>
     Scf.Loop.for (k0_t4_loop i) (k0_t4_ok i h2) ⟨⟩ (k0_t4_body i arg3 harg3 arg4 harg4 arg5 harg5 arg6 harg6 arg7 harg7 arg8 harg8 arg9 harg9 arg10 harg10 arg11 harg11 arg12 harg12 arg13 harg13 q h2 (wT4 w)) >>= fun _ =>
     if h3 : k0_cond3 i = 1#1 then tail1P F i arg4 arg5 arg7 arg8 arg9 harg9 arg10 arg11 arg12 arg13 h2 h3 (wEnd w) (if h4 : k0_cond4 i = 1#1 then tail2P i arg4 arg5 arg7 arg8 arg9 harg9 arg10 arg11 arg12 arg13 q h2 h4 (wEnd w) k else k)
     else (if h4 : k0_cond4 i = 1#1 then tail2P i arg4 arg5 arg7 arg8 arg9 harg9 arg10 arg11 arg12 arg13 q h2 h4 (wEnd w) k else k))

theorem body_eq :
    cc0_mla_attn (F := F) i arg3 harg3 arg4 harg4 arg5 harg5 arg6 harg6 arg7 harg7 arg8 harg8 arg9 harg9 arg10 harg10 arg11 harg11 arg12 harg12 arg13 harg13 =
    (initP arg3 arg11 arg12 arg13 fun q =>
      if _h1 : wOne i = 1#1 then
        oneP i arg4 arg5 arg7 arg8 arg9 harg9 arg10 arg11 arg12 arg13 q (if h2 : k0_cond2 i = 1#1 then moreP i arg3 harg3 arg4 harg4 arg5 harg5 arg6 harg6 arg7 harg7 arg8 harg8 arg9 harg9 arg10 harg10 arg11 harg11 arg12 harg12 arg13 harg13 q h2 (finP arg6 harg6 arg12 arg13) else finP arg6 harg6 arg12 arg13)
      else (if h2 : k0_cond2 i = 1#1 then moreP i arg3 harg3 arg4 harg4 arg5 harg5 arg6 harg6 arg7 harg7 arg8 harg8 arg9 harg9 arg10 harg10 arg11 harg11 arg12 harg12 arg13 harg13 q h2 (finP arg6 harg6 arg12 arg13) else finP arg6 harg6 arg12 arg13)) := by
  rfl

end

end Cert.Proof.Mla
-- ==== Proof.Facts.lean ====
/- What the scalars of the attention kernel are at each grid point: the branches taken, the loops' trips, and the rows
   the keys and values are read at. -/
module

public import proofs.«01_k».proof.Proof.Body

@[expose] public section

set_option maxRecDepth 16384

namespace Cert.Proof.Mla

open Idealize.ShloMosaic Idealize.ShloMosaic.TcCoe Idealize.SL.Sem
open Cert.KernelIdeal Cert.KernelIdeal.Gen

theorem wOne_iff : ∀ i : grid0.Coords, wOne i = 1#1 ↔ (i 2).val = 0 := by decide +kernel
theorem cond2_iff : ∀ i : grid0.Coords, k0_cond2 i = 1#1 ↔ (i 2).val ≠ 0 := by decide +kernel
theorem cond3_iff : ∀ i : grid0.Coords, (i 2).val ≠ 0 → (k0_cond3 i = 1#1 ↔ (i 2).val % 2 = 1) := by decide +kernel
theorem cond4_iff : ∀ i : grid0.Coords, (i 2).val ≠ 0 → (k0_cond4 i = 1#1 ↔ (i 2).val % 2 = 0) := by decide +kernel
theorem trips1 : ∀ i : grid0.Coords, (i 2).val ≠ 0 → (k0_t1_loop i).trips = ((i 2).val - 1) / 4 := by decide +kernel
theorem trips2 : ∀ i : grid0.Coords, (i 2).val ≠ 0 → (k0_t2_loop i).trips = 0 := by decide +kernel
theorem trips3 : ∀ i : grid0.Coords, (i 2).val ≠ 0 → (k0_t3_loop i).trips = ((i 2).val - 1) / 2 - 2 * (((i 2).val - 1) / 4) := by decide +kernel
theorem trips4 : ∀ i : grid0.Coords, (i 2).val ≠ 0 → (k0_t4_loop i).trips = 0 := by decide +kernel

theorem off1_eq : ∀ (i : grid0.Coords) (t : Fin (k0_t1_loop i).trips) (r : Fin 4) (c : Fin 2),
    k0_off1 i t (BitVec.ofNat 32 r.val) (BitVec.ofNat 32 (256 * c.val)) = ![0, 0, (4 * t.val + r.val + 2) * 512 + 256 * c.val, 0] := by decide +kernel
theorem off2_eq : ∀ (i : grid0.Coords) (t : Fin (k0_t1_loop i).trips) (r : Fin 4) (c : Fin 2),
    k0_off2 i t (BitVec.ofNat 32 r.val) (BitVec.ofNat 32 (256 * c.val)) = ![0, 0, (4 * t.val + r.val) * 512 + 256 * c.val, 0] := by decide +kernel
theorem off5_eq : ∀ (i : grid0.Coords) (t : Fin (k0_t3_loop i).trips), (i 2).val ≠ 0 → ∀ (r : Fin 2) (c : Fin 2),
    k0_off5 i t (BitVec.ofNat 32 r.val) (BitVec.ofNat 32 (256 * c.val)) = ![0, 0, (4 * (((i 2).val - 1) / 4) + 2 * t.val + r.val + 2) * 512 + 256 * c.val, 0] := by decide +kernel
theorem off6_eq : ∀ (i : grid0.Coords) (t : Fin (k0_t3_loop i).trips), (i 2).val ≠ 0 → ∀ (r : Fin 2) (c : Fin 2),
    k0_off6 i t (BitVec.ofNat 32 r.val) (BitVec.ofNat 32 (256 * c.val)) = ![0, 0, (4 * (((i 2).val - 1) / 4) + 2 * t.val + r.val) * 512 + 256 * c.val, 0] := by decide +kernel
theorem off9_eq : ∀ (i : grid0.Coords), (i 2).val % 2 = 1 → ∀ (c : Fin 2),
    k0_off9 i (BitVec.ofNat 32 (256 * c.val)) = ![0, 0, ((i 2).val - 1) * 512 + 256 * c.val, 0] := by decide +kernel
theorem off10_eq : ∀ (i : grid0.Coords), (i 2).val % 2 = 1 → ∀ (c : Fin 2),
    k0_off10 i (BitVec.ofNat 32 (256 * c.val)) = ![0, 0, (i 2).val * 512 + 256 * c.val, 0] := by decide +kernel
theorem off11_eq : ∀ (i : grid0.Coords), (i 2).val ≠ 0 → (i 2).val % 2 = 0 → ∀ (c : Fin 2),
    k0_off11 i (BitVec.ofNat 32 (256 * c.val)) = ![0, 0, (i 2).val * 512 + 256 * c.val, 0] := by decide +kernel
theorem off12_eq : ∀ (i : grid0.Coords), (i 2).val ≠ 0 → (i 2).val % 2 = 0 → ∀ (c : Fin 2),
    k0_off12 i (BitVec.ofNat 32 (256 * c.val)) = ![0, 0, ((i 2).val - 2) * 512 + 256 * c.val, 0] := by decide +kernel
theorem off13_eq : ∀ (i : grid0.Coords), (i 2).val ≠ 0 → (i 2).val % 2 = 0 → ∀ (r c : Fin 2),
    k0_off13 i (BitVec.ofNat 32 (1 + r.val)) (BitVec.ofNat 32 (256 * c.val)) = ![0, 0, ((i 2).val - 1 + r.val) * 512 + 256 * c.val, 0] := by decide +kernel

theorem wQ_eq : ∀ i : grid0.Coords, wQ i = BitVec.ofNat 32 (512 * (i 2).val) := by decide +kernel
theorem wK1_eq : ∀ i : grid0.Coords, (i 2).val % 2 = 1 → ∀ c : Fin 2,
    wK (wEnd (wRet i)) 1#32 (BitVec.ofNat 32 (256 * c.val)) = BitVec.ofNat 32 (512 * (i 2).val + 256 * c.val) := by decide +kernel
theorem wK2_eq : ∀ i : grid0.Coords, (i 2).val ≠ 0 → (i 2).val % 2 = 0 → ∀ c : Fin 2,
    wK (wEnd (wRet i)) 2#32 (BitVec.ofNat 32 (256 * c.val)) = BitVec.ofNat 32 (512 * (i 2).val + 256 * c.val) := by decide +kernel

end Cert.Proof.Mla
-- ==== Proof.Triples.lean ====
/- Each stage of the attention kernel, run at the head of a program, takes the scratch memory from `x` to the
   stage's function of `x`. -/
module

public import proofs.«01_k».proof.Proof.Stages

@[expose] public section

noncomputable section

namespace Cert.Proof.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- A program's weakest precondition on core `c`. -/
abbrev WP {α : Type} (c : Dev nD) (P : Pr F α) (Q : α → sProp (MM F)) : sProp (MM F) :=
  wp frame (wpE (defs₀ (F := F)) Variants.none (c : Thread nD τ) none) Set.univ P Q

section
variable {α : Type} {Q : α → sProp (MM F)} (c : Dev nD)
variable (arg4 : Memref sig .tc .vmem S1x1x16384x256 .bf16) (arg5 : Memref sig .tc .vmem S1x1x16384x128 .bf16)
  (arg7 : Memref sig .tc .vmem S2x2x512x256 .f32) (arg8 : Memref sig .tc .vmem S2x512x128 .f32)
  (arg9 : Memref sig .tc .vmem S2x2x512x256 .bf16) (arg10 : Memref sig .tc .vmem S2x512x128 .f32)
  (arg11 arg12 arg13 : Memref sig .tc .vmem S512x128 .f32)
  (xk : Vec F S1x1x16384x256 .bf16) (xv : Vec F S1x1x16384x128 .bf16)

/-- The keys, the values and the scratch memory. -/
def St (x : Mem F) : sProp (MM F) :=
  iprop(owns (c : Thread nD τ) arg4 fullShare xk ∗ owns (c : Thread nD τ) arg5 fullShare xv
    ∗ owns (c : Thread nD τ) arg7 fullShare x.s ∗ owns (c : Thread nD τ) arg8 fullShare x.mx
    ∗ owns (c : Thread nD τ) arg9 fullShare x.p ∗ owns (c : Thread nD τ) arg10 fullShare x.al
    ∗ owns (c : Thread nD τ) arg11 fullShare x.m ∗ owns (c : Thread nD τ) arg12 fullShare x.l
    ∗ owns (c : Thread nD τ) arg13 fullShare x.acc)

/-- The keys of a chunk. -/
def keysAt (off : Fin 4 → ℕ) (inb : ∀ a, off a + S1x1x256x256.size a ≤ S1x1x16384x256.size a) : FVec F S256x256 .bf16 :=
  dnK (VecWindow.window xk off S1x1x256x256.size inb)
/-- The values of a chunk. -/
def valsAt (off : Fin 4 → ℕ) (inb : ∀ a, off a + S1x1x256x128.size a ≤ S1x1x16384x128.size a) : FVec F S256x128 .bf16 :=
  dnV (VecWindow.window xv off S1x1x256x128.size inb)

variable (b : ℕ) (hb : b < 2)

theorem qk_step (x : Mem F) (q : FVec F S512x256 .bf16) (off0 off1 : Fin 4 → ℕ)
    (inb0 : ∀ a, off0 a + S1x1x256x256.size a ≤ S1x1x16384x256.size a) (inb1 : ∀ a, off1 a + S1x1x256x256.size a ≤ S1x1x16384x256.size a)
    (k : Pr F α) :
    St c arg4 arg5 arg7 arg8 arg9 arg10 arg11 arg12 arg13 xk xv x
      ⊢ iprop((St c arg4 arg5 arg7 arg8 arg9 arg10 arg11 arg12 arg13 xk xv (qkF b q (keysAt xk off0 inb0) (keysAt xk off1 inb1) x) -∗ WP c k Q)
        -∗ WP c (qkP b hb arg4 arg7 arg8 q off0 off1 inb0 inb1 k) Q) := by
  unfold St qkP
  iintro ⟨H4, H5, H7, H8, H9, H10, H11, H12, H13⟩ Hk
  unfold ldK; iapply (own_load c arg4 _ _ _ xk) $$ H4; iintro H4
  unfold ld4; iapply (own_load c arg7 _ _ _ _) $$ H7; iintro H7
  unfold st4; iapply (own_store c arg7 _ _ _ _) $$ H7; iintro H7
  iapply (own_load c arg4 _ _ _ xk) $$ H4; iintro H4
  iapply (own_load c arg7 _ _ _ _) $$ H7; iintro H7
  iapply (own_store c arg7 _ _ _ _) $$ H7; iintro H7
  unfold ld3; iapply (own_load c arg8 _ _ _ _) $$ H8; iintro H8
  unfold st3; iapply (own_store c arg8 _ _ _ _) $$ H8; iintro H8
  iapply Hk
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexact H13

theorem upd_step (x : Mem F)
    (hx0 : (arg9.access (Rect.unit (s := S2x2x512x256) ![b, 0, 0, 0] S1x1x512x256.size (inb4 b 0 hb (by omega)))).Stores Finset.univ)
    (hx1 : (arg9.access (Rect.unit (s := S2x2x512x256) ![b, 1, 0, 0] S1x1x512x256.size (inb4 b 1 hb (by omega)))).Stores Finset.univ)
    (s0 s1 : FVec F S512x256 .f32) (m' : FVec F S512x128 .f32) (k : Pr F α) :
    St c arg4 arg5 arg7 arg8 arg9 arg10 arg11 arg12 arg13 xk xv x
      ⊢ iprop((St c arg4 arg5 arg7 arg8 arg9 arg10 arg11 arg12 arg13 xk xv (updF b s0 s1 m' x) -∗ WP c k Q)
        -∗ WP c (updP b hb arg9 arg10 arg11 arg12 hx0 hx1 s0 s1 (get2 x.m) m' k) Q) := by
  unfold St updP
  iintro ⟨H4, H5, H7, H8, H9, H10, H11, H12, H13⟩ Hk
  unfold ld2; iapply (own_load c arg12 _ _ _ _) $$ H12; iintro H12
  iapply (own_load c arg12 _ _ _ _) $$ H12; iintro H12
  unfold st2; iapply (own_store c arg12 _ _ _ _) $$ H12; iintro H12
  iapply (own_load c arg11 _ _ _ _) $$ H11; iintro H11
  iapply (own_store c arg11 _ _ _ _) $$ H11; iintro H11
  unfold ld3; iapply (own_load c arg10 _ _ _ _) $$ H10; iintro H10
  unfold st3; iapply (own_store c arg10 _ _ _ _) $$ H10; iintro H10
  unfold ld4; iapply (own_load c arg9 _ _ _ _) $$ H9; iintro H9
  unfold st4; iapply (own_store c arg9 _ _ _ _) $$ H9; iintro H9
  iapply (own_load c arg9 _ _ _ _) $$ H9; iintro H9
  iapply (own_store c arg9 _ _ _ _) $$ H9; iintro H9
  iapply Hk
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexact H13

theorem sm_step (x : Mem F)
    (hx0 : (arg9.access (Rect.unit (s := S2x2x512x256) ![b, 0, 0, 0] S1x1x512x256.size (inb4 b 0 hb (by omega)))).Stores Finset.univ)
    (hx1 : (arg9.access (Rect.unit (s := S2x2x512x256) ![b, 1, 0, 0] S1x1x512x256.size (inb4 b 1 hb (by omega)))).Stores Finset.univ)
    (k : Pr F α) :
    St c arg4 arg5 arg7 arg8 arg9 arg10 arg11 arg12 arg13 xk xv x
      ⊢ iprop((St c arg4 arg5 arg7 arg8 arg9 arg10 arg11 arg12 arg13 xk xv (smF b hb x) -∗ WP c k Q)
        -∗ WP c (smP b hb arg7 arg8 arg9 arg10 arg11 arg12 hx0 hx1 k) Q) := by
  iintro H Hk
  unfold smP ld4 ld3 ld2
  ihave H' := (show St c arg4 arg5 arg7 arg8 arg9 arg10 arg11 arg12 arg13 xk xv x ⊢ _ by unfold St; exact .rfl) $$ H
  icases H' with ⟨H4, H5, H7, H8, H9, H10, H11, H12, H13⟩
  iapply (own_load c arg7 _ _ _ _) $$ H7; iintro H7
  iapply (own_load c arg7 _ _ _ _) $$ H7; iintro H7
  iapply (own_load c arg8 _ _ _ _) $$ H8; iintro H8
  iapply (own_load c arg11 _ _ _ _) $$ H11; iintro H11
  iapply (upd_step c arg4 arg5 arg7 arg8 arg9 arg10 arg11 arg12 arg13 xk xv b hb x hx0 hx1 _ _ _ k) $$ [H4 H5 H7 H8 H9 H10 H11 H12 H13]
  · unfold St
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    iexact H13
  · iexact Hk

theorem smMasked_step (x : Mem F) (q0 k0 k1 : BitVec 32)
    (hx0 : (arg9.access (Rect.unit (s := S2x2x512x256) ![b, 0, 0, 0] S1x1x512x256.size (inb4 b 0 hb (by omega)))).Stores Finset.univ)
    (hx1 : (arg9.access (Rect.unit (s := S2x2x512x256) ![b, 1, 0, 0] S1x1x512x256.size (inb4 b 1 hb (by omega)))).Stores Finset.univ)
    (k : Pr F α) :
    St c arg4 arg5 arg7 arg8 arg9 arg10 arg11 arg12 arg13 xk xv x
      ⊢ iprop((St c arg4 arg5 arg7 arg8 arg9 arg10 arg11 arg12 arg13 xk xv (smMaskedF b hb q0 k0 k1 x) -∗ WP c k Q)
        -∗ WP c (smMaskedP b hb arg7 arg9 arg10 arg11 arg12 q0 k0 k1 hx0 hx1 k) Q) := by
  iintro H Hk
  unfold smMaskedP ld4 ld2
  ihave H' := (show St c arg4 arg5 arg7 arg8 arg9 arg10 arg11 arg12 arg13 xk xv x ⊢ _ by unfold St; exact .rfl) $$ H
  icases H' with ⟨H4, H5, H7, H8, H9, H10, H11, H12, H13⟩
  iapply (own_load c arg7 _ _ _ _) $$ H7; iintro H7
  iapply (own_load c arg7 _ _ _ _) $$ H7; iintro H7
  iapply (own_load c arg11 _ _ _ _) $$ H11; iintro H11
  iapply (upd_step c arg4 arg5 arg7 arg8 arg9 arg10 arg11 arg12 arg13 xk xv b hb x hx0 hx1 _ _ _ k) $$ [H4 H5 H7 H8 H9 H10 H11 H12 H13]
  · unfold St
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12
    iexact H13
  · iexact Hk

theorem pv_step (x : Mem F) (off0 off1 : Fin 4 → ℕ)
    (inb0 : ∀ a, off0 a + S1x1x256x128.size a ≤ S1x1x16384x128.size a) (inb1 : ∀ a, off1 a + S1x1x256x128.size a ≤ S1x1x16384x128.size a)
    (k : Pr F α) :
    St c arg4 arg5 arg7 arg8 arg9 arg10 arg11 arg12 arg13 xk xv x
      ⊢ iprop((St c arg4 arg5 arg7 arg8 arg9 arg10 arg11 arg12 arg13 xk xv (pvF b hb (valsAt xv off0 inb0) (valsAt xv off1 inb1) x) -∗ WP c k Q)
        -∗ WP c (pvP b hb arg5 arg9 arg10 arg13 off0 off1 inb0 inb1 k) Q) := by
  unfold St pvP ld3 ld4 ldV ld2 st2
  iintro ⟨H4, H5, H7, H8, H9, H10, H11, H12, H13⟩ Hk
  iapply (own_load c arg10 _ _ _ _) $$ H10; iintro H10
  iapply (own_load c arg9 _ _ _ _) $$ H9; iintro H9
  iapply (own_load c arg9 _ _ _ _) $$ H9; iintro H9
  iapply (own_load c arg5 _ _ _ xv) $$ H5; iintro H5
  iapply (own_load c arg5 _ _ _ xv) $$ H5; iintro H5
  iapply (own_load c arg13 _ _ _ _) $$ H13; iintro H13
  iapply (own_load c arg13 _ _ _ _) $$ H13; iintro H13
  iapply (own_store c arg13 _ _ _ _) $$ H13; iintro H13
  iapply Hk
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexact H13

end

end Cert.Proof.Mla
-- ==== Proof.Online.lean ====
/- The stages composed: the running maxima, sums and accumulated values after each block of keys, as a recursion
   over the blocks, and the scratch memory the pipelined stages leave, which holds them whatever it held at first. -/
module

public import proofs.«01_k».proof.Proof.Triples
public import Idealize.ShloMosaic.Lib.Pipeline.Value

@[expose] public section

noncomputable section

namespace Cert.Proof.Mla

open Idealize.ShloMosaic Idealize.ShloMosaic.TcCoe
open Cert.KernelIdeal Cert.KernelIdeal.Gen

variable {F : FTy → Type} [FloatOps F] [Named F]

/-! ## Slots -/

theorem dn4_up4 {e : EltTy} (v : Vec F S512x256 e) : dn4 (up4 v) = v := by
  unfold dn4 up4; rw [shapeCast_shapeCast]
theorem dn3_up3 (v : FVec F S512x128 .f32) : dn3 (up3 v) = v := by
  unfold dn3 up3; rw [shapeCast_shapeCast]

theorem get4_set4_same {e : EltTy} (b ch : ℕ) (hb : b < 2) (hc : ch < 2) (v : Vec F S512x256 e) (x : Vec F S2x2x512x256 e) :
    get4 b ch hb hc (set4 b ch v x) = v := by
  unfold get4 set4
  rw [VecWindow.window_put_same, dn4_up4]

theorem get4_set4_ne {e : EltTy} (b ch b' ch' : ℕ) (hb : b < 2) (hc : ch < 2) (hne : b ≠ b' ∨ ch ≠ ch') (v : Vec F S512x256 e) (x : Vec F S2x2x512x256 e) :
    get4 b ch hb hc (set4 b' ch' v x) = get4 b ch hb hc x := by
  unfold get4 set4
  rcases hne with h | h
  · rw [VecWindow.window_put_of_disjoint _ _ _ _ _ _ _ (0 : Fin 4)]
    show b + 1 ≤ b' ∨ b' + 1 ≤ b
    omega
  · rw [VecWindow.window_put_of_disjoint _ _ _ _ _ _ _ (1 : Fin 4)]
    show ch + 1 ≤ ch' ∨ ch' + 1 ≤ ch
    omega

theorem get3_set3_same (b : ℕ) (hb : b < 2) (v : FVec F S512x128 .f32) (x : Vec F S2x512x128 .f32) :
    get3 b hb (set3 b v x) = v := by
  unfold get3 set3
  rw [VecWindow.window_put_same, dn3_up3]

theorem get3_set3_ne (b b' : ℕ) (hb : b < 2) (hne : b ≠ b') (v : FVec F S512x128 .f32) (x : Vec F S2x512x128 .f32) :
    get3 b hb (set3 b' v x) = get3 b hb x := by
  unfold get3 set3
  rw [VecWindow.window_put_of_disjoint _ _ _ _ _ _ _ (0 : Fin 3)]
  show b + 1 ≤ b' ∨ b' + 1 ≤ b
  omega

theorem get2_set2 (v : FVec F S512x128 .f32) (x : Vec F S512x128 .f32) : get2 (set2 v x) = v := by
  unfold get2 set2 id2
  rw [VecWindow.window_put_same, shapeCast_self]

theorem get4_slot {e : EltTy} {b b' : ℕ} (h : b = b') (ch : ℕ) (hb : b < 2) (hc : ch < 2) (x : Vec F S2x2x512x256 e) :
    get4 b ch hb hc x = get4 b' ch (h ▸ hb) hc x := by subst h; rfl
theorem get3_slot {b b' : ℕ} (h : b = b') (hb : b < 2) (x : Vec F S2x512x128 .f32) : get3 b hb x = get3 b' (h ▸ hb) x := by subst h; rfl

/-! ## The recursion over the blocks -/

/-- The chunk of keys at row `o`. -/
def keyBlk (xk : Vec F S1x1x16384x256 .bf16) (o : ℕ) : FVec F S256x256 .bf16 :=
  if h : ∀ a, (![0, 0, o, 0] : Fin 4 → ℕ) a + S1x1x256x256.size a ≤ S1x1x16384x256.size a then keysAt xk ![0, 0, o, 0] h
  else keysAt xk ![0, 0, 0, 0] inb_S1x1x16384x256_S1x1x256x256_0_0_0_0
/-- The chunk of values at row `o`. -/
def valBlk (xv : Vec F S1x1x16384x128 .bf16) (o : ℕ) : FVec F S256x128 .bf16 :=
  if h : ∀ a, (![0, 0, o, 0] : Fin 4 → ℕ) a + S1x1x256x128.size a ≤ S1x1x16384x128.size a then valsAt xv ![0, 0, o, 0] h
  else valsAt xv ![0, 0, 0, 0] inb_S1x1x16384x128_S1x1x256x128_0_0_0_0

theorem keysAt_eq (xk : Vec F S1x1x16384x256 .bf16) (off : Fin 4 → ℕ) (inb : ∀ a, off a + S1x1x256x256.size a ≤ S1x1x16384x256.size a) (o : ℕ) (h : off = ![0, 0, o, 0]) :
    keysAt xk off inb = keyBlk xk o := by
  subst h; unfold keyBlk; rw [dif_pos inb]
theorem valsAt_eq (xv : Vec F S1x1x16384x128 .bf16) (off : Fin 4 → ℕ) (inb : ∀ a, off a + S1x1x256x128.size a ≤ S1x1x16384x128.size a) (o : ℕ) (h : off = ![0, 0, o, 0]) :
    valsAt xv off inb = valBlk xv o := by
  subst h; unfold valBlk; rw [dif_pos inb]

section
variable (q : FVec F S512x256 .bf16) (xk : Vec F S1x1x16384x256 .bf16) (xv : Vec F S1x1x16384x128 .bf16)

/-- The scores of chunk `ch` of block `j`. -/
def scr (j ch : ℕ) : FVec F S512x256 .f32 := scoreV q (keyBlk xk (j * 512 + ch * 256))
/-- The running maxima before block `j`. -/
def rmx : ℕ → FVec F S512x128 .f32
  | 0 => broadcast S512x128 (Named.named κ "masked" 0xF149F2CA#32)
  | j + 1 => maximumf (rmx j) (smaxV (scr q xk j 0) (scr q xk j 1))
/-- The weights of a chunk. -/
def wgt (j ch : ℕ) : FVec F S512x256 .f32 := weightV (scr q xk j ch) (rmx q xk (j + 1))
/-- The rescaling at block `j`. -/
def rsc (j : ℕ) : FVec F S512x128 .f32 := alphaV (rmx q xk j) (rmx q xk (j + 1))
/-- The running sums before block `j`. -/
def rsm : ℕ → FVec F S512x128 .f32
  | 0 => broadcast S512x128 (Scalar.ofBits .f32 0x00000000#32)
  | j + 1 => sumV (rsc q xk j) (rsm j) (wgt q xk j 0) (wgt q xk j 1)
/-- The accumulated values before block `j`. -/
def rac : ℕ → FVec F S512x128 .f32
  | 0 => broadcast S512x128 (Scalar.ofBits .f32 0x00000000#32)
  | j + 1 => accV (rac j) (rsc q xk j) (roundV (wgt q xk j 0)) (roundV (wgt q xk j 1)) (valBlk xv (j * 512)) (valBlk xv (j * 512 + 256))

/-! The last block, of rows from `q0` and columns from `k0` and `k1`. -/
variable (q0 k0 k1 : BitVec 32)

def lastS0 (n : ℕ) : FVec F S512x256 .f32 := maskV q0 k0 (scr q xk n 0)
def lastS1 (n : ℕ) : FVec F S512x256 .f32 := maskV q0 k1 (scr q xk n 1)
def lastM (n : ℕ) : FVec F S512x128 .f32 := maskMaxV (rmx q xk n) (lastS0 q xk q0 k0 n) (lastS1 q xk q0 k1 n)
def lastA (n : ℕ) : FVec F S512x128 .f32 := alphaV (rmx q xk n) (lastM q xk q0 k0 k1 n)
def lastW0 (n : ℕ) : FVec F S512x256 .f32 := weightV (lastS0 q xk q0 k0 n) (lastM q xk q0 k0 k1 n)
def lastW1 (n : ℕ) : FVec F S512x256 .f32 := weightV (lastS1 q xk q0 k1 n) (lastM q xk q0 k0 k1 n)
/-- The sums over all blocks, -/
def lastL (n : ℕ) : FVec F S512x128 .f32 := sumV (lastA q xk q0 k0 k1 n) (rsm q xk n) (lastW0 q xk q0 k0 k1 n) (lastW1 q xk q0 k0 k1 n)
/-- and the accumulated values. -/
def lastAcc (n : ℕ) : FVec F S512x128 .f32 :=
  accV (rac q xk xv n) (lastA q xk q0 k0 k1 n) (roundV (lastW0 q xk q0 k0 k1 n)) (roundV (lastW1 q xk q0 k0 k1 n)) (valBlk xv (n * 512)) (valBlk xv (n * 512 + 256))

/-! ## The stages on the memory -/

/-- The memory as the body starts it. -/
def initF (x : Mem F) : Mem F :=
  { x with
    m := set2 (broadcast S512x128 (Named.named κ "masked" 0xF149F2CA#32)) x.m
    l := set2 (broadcast S512x128 (Scalar.ofBits .f32 0x00000000#32)) x.l
    acc := set2 (broadcast S512x128 (Scalar.ofBits .f32 0x00000000#32)) x.acc }

abbrev qkB (b j : ℕ) : Mem F → Mem F := qkF b q (keyBlk xk (j * 512)) (keyBlk xk (j * 512 + 256))
abbrev pvB (b : ℕ) (hb : b < 2) (j : ℕ) : Mem F → Mem F := pvF b hb (valBlk xv (j * 512)) (valBlk xv (j * 512 + 256))

/-- What comes before the loops. -/
def preF (x : Mem F) : Mem F := smF 0 (by omega) (qkB q xk 1 1 (qkB q xk 0 0 x))
/-- One step of the pipelined loop. -/
def stepF (j : ℕ) (x : Mem F) : Mem F :=
  pvB xv (j % 2) (by omega) j (smF ((j + 1) % 2) (by omega) (qkB q xk (j % 2) (j + 2) x))
/-- The first `k` steps. -/
def runF : ℕ → Mem F → Mem F
  | 0, x => x
  | k + 1, x => stepF q xk xv k (runF k x)
/-- The end, at the block before the last. -/
def lastF (k : ℕ) (x : Mem F) : Mem F :=
  pvB xv ((k + 1) % 2) (by omega) (k + 1) (pvB xv (k % 2) (by omega) k (smMaskedF ((k + 1) % 2) (by omega) q0 k0 k1 x))
/-- The whole where the first block is the last. -/
def oneF (x : Mem F) : Mem F := pvB xv 0 (by omega) 0 (smMaskedF 0 (by omega) q0 k0 k1 (qkB q xk 0 0 x))

/-- The memory after `k` steps: block `k` has weights, block `k + 1` has scores. -/
structure Inv (k : ℕ) (x : Mem F) : Prop where
  al : get3 (k % 2) (by omega) x.al = rsc q xk k
  p0 : get4 (k % 2) 0 (by omega) (by omega) x.p = roundV (wgt q xk k 0)
  p1 : get4 (k % 2) 1 (by omega) (by omega) x.p = roundV (wgt q xk k 1)
  s0 : get4 ((k + 1) % 2) 0 (by omega) (by omega) x.s = scr q xk (k + 1) 0
  s1 : get4 ((k + 1) % 2) 1 (by omega) (by omega) x.s = scr q xk (k + 1) 1
  mx : get3 ((k + 1) % 2) (by omega) x.mx = smaxV (scr q xk (k + 1) 0) (scr q xk (k + 1) 1)
  m : get2 x.m = rmx q xk (k + 1)
  l : get2 x.l = rsm q xk (k + 1)
  acc : get2 x.acc = rac q xk xv k

theorem scr_zero (j : ℕ) : scr q xk j 0 = scoreV q (keyBlk xk (j * 512)) := rfl
theorem scr_one (j : ℕ) : scr q xk j 1 = scoreV q (keyBlk xk (j * 512 + 256)) := rfl

theorem inv_pre (x : Mem F) : Inv q xk xv 0 (preF q xk (initF x)) := by
  have hm : get2 (initF x).m = rmx q xk 0 := get2_set2 _ _
  have hl : get2 (initF x).l = rsm q xk 0 := get2_set2 _ _
  constructor
  all_goals
    simp only [preF, smF, updF, qkF, qkB, ← scr_zero, ← scr_one, get2_set2, get3_set3_same, get4_set4_same,
      get4_set4_ne _ _ _ _ _ _ (Or.inr (by decide : (0 : ℕ) ≠ 1)), get4_set4_ne _ _ _ _ _ _ (Or.inl (by decide : (0 : ℕ) ≠ 1)),
      get3_set3_ne _ _ _ (by decide : (0 : ℕ) ≠ 1), hm, hl]
  all_goals first | rfl | exact get2_set2 _ _

theorem inv_step (k : ℕ) (x : Mem F) (h : Inv q xk xv k x) : Inv q xk xv (k + 1) (stepF q xk xv k x) := by
  have e2 : (k + 1 + 1) % 2 = k % 2 := by omega
  have hne : (k + 1) % 2 ≠ k % 2 := by omega
  have h10 : (0 : ℕ) ≠ 1 := by decide
  obtain ⟨hal, hp0, hp1, hs0, hs1, hmx, hm, hl, hacc⟩ := h
  constructor
  case' s0 => rw [get4_slot e2]
  case' s1 => rw [get4_slot e2]
  case' mx => rw [get3_slot e2]
  all_goals
    simp only [stepF, smF, updF, qkF, pvF, qkB, pvB, ← scr_zero, ← scr_one, get2_set2, get3_set3_same, get4_set4_same,
      get4_set4_ne _ _ _ _ _ _ (Or.inr h10), get4_set4_ne _ _ _ _ _ _ (Or.inl hne), get4_set4_ne _ _ _ _ _ _ (Or.inl hne.symm),
      get3_set3_ne _ _ _ hne, get3_set3_ne _ _ _ hne.symm, hal, hp0, hp1, hs0, hs1, hmx, hm, hl, hacc]
  all_goals rfl

theorem inv_run (k : ℕ) (x : Mem F) : Inv q xk xv k (runF q xk xv k (preF q xk (initF x))) := by
  induction k with
  | zero => exact inv_pre q xk xv x
  | succ k ih => exact inv_step q xk xv k _ ih

theorem last_l (k : ℕ) (x : Mem F) (h : Inv q xk xv k x) : get2 (lastF xv q0 k0 k1 k x).l = lastL q xk q0 k0 k1 (k + 1) := by
  obtain ⟨hal, hp0, hp1, hs0, hs1, hmx, hm, hl, hacc⟩ := h
  simp only [lastF, smMaskedF, updF, pvF, pvB, get2_set2, hs0, hs1, hm, hl]
  rfl

theorem last_acc (k : ℕ) (x : Mem F) (h : Inv q xk xv k x) : get2 (lastF xv q0 k0 k1 k x).acc = lastAcc q xk xv q0 k0 k1 (k + 1) := by
  have hne : (k + 1) % 2 ≠ k % 2 := by omega
  have h10 : (0 : ℕ) ≠ 1 := by decide
  obtain ⟨hal, hp0, hp1, hs0, hs1, hmx, hm, hl, hacc⟩ := h
  simp only [lastF, smMaskedF, updF, pvF, pvB, get2_set2, get3_set3_same, get4_set4_same,
    get4_set4_ne _ _ _ _ _ _ (Or.inr h10), get4_set4_ne _ _ _ _ _ _ (Or.inl hne.symm),
    get3_set3_ne _ _ _ hne.symm, hal, hp0, hp1, hs0, hs1, hm, hacc]
  rfl

theorem one_l (x : Mem F) : get2 (oneF q xk xv q0 k0 k1 (initF x)).l = lastL q xk q0 k0 k1 0 := by
  have hm : get2 (initF x).m = rmx q xk 0 := get2_set2 _ _
  have hl : get2 (initF x).l = rsm q xk 0 := get2_set2 _ _
  have h10 : (0 : ℕ) ≠ 1 := by decide
  simp only [oneF, smMaskedF, updF, pvF, qkF, qkB, pvB, ← scr_zero, ← scr_one, get2_set2, get4_set4_same,
    get4_set4_ne _ _ _ _ _ _ (Or.inr h10), hm, hl]
  rfl

theorem one_acc (x : Mem F) : get2 (oneF q xk xv q0 k0 k1 (initF x)).acc = lastAcc q xk xv q0 k0 k1 0 := by
  have hm : get2 (initF x).m = rmx q xk 0 := get2_set2 _ _
  have hl : get2 (initF x).acc = rac q xk xv 0 := get2_set2 _ _
  have h10 : (0 : ℕ) ≠ 1 := by decide
  simp only [oneF, smMaskedF, updF, pvF, qkF, qkB, pvB, ← scr_zero, ← scr_one, get2_set2, get3_set3_same, get4_set4_same,
    get4_set4_ne _ _ _ _ _ _ (Or.inr h10), hm, hl]
  rfl

end

end Cert.Proof.Mla
-- ==== Proof.Steps.lean ====
/- The attention kernel's body, run on its blocks: from any scratch memory, it leaves the attended values of the block
   of queries in the output's block. -/
module

public import proofs.«01_k».proof.Proof.Facts
public import proofs.«01_k».proof.Proof.Online

@[expose] public section

set_option maxRecDepth 16384

noncomputable section

namespace Cert.Proof.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

theorem row_congr {a b : ℕ} (h : a = b) : (![0, 0, a, 0] : Fin 4 → ℕ) = ![0, 0, b, 0] := by rw [h]

section
variable {α : Type} {Q : α → sProp (MM F)} (c : Dev nD)
variable (arg4 : Memref sig .tc .vmem S1x1x16384x256 .bf16) (arg5 : Memref sig .tc .vmem S1x1x16384x128 .bf16)
  (arg7 : Memref sig .tc .vmem S2x2x512x256 .f32) (arg8 : Memref sig .tc .vmem S2x512x128 .f32)
  (arg9 : Memref sig .tc .vmem S2x2x512x256 .bf16) (arg10 : Memref sig .tc .vmem S2x512x128 .f32)
  (arg11 arg12 arg13 : Memref sig .tc .vmem S512x128 .f32)
  (xk : Vec F S1x1x16384x256 .bf16) (xv : Vec F S1x1x16384x128 .bf16)

theorem qk_at (b : ℕ) (hb : b < 2) (x : Mem F) (q : FVec F S512x256 .bf16) (j : ℕ) {off0 off1 : Fin 4 → ℕ}
    (inb0 : ∀ a, off0 a + S1x1x256x256.size a ≤ S1x1x16384x256.size a) (inb1 : ∀ a, off1 a + S1x1x256x256.size a ≤ S1x1x16384x256.size a)
    (h0 : off0 = ![0, 0, j * 512, 0]) (h1 : off1 = ![0, 0, j * 512 + 256, 0]) (k : Pr F α) :
    St c arg4 arg5 arg7 arg8 arg9 arg10 arg11 arg12 arg13 xk xv x
      ⊢ iprop((St c arg4 arg5 arg7 arg8 arg9 arg10 arg11 arg12 arg13 xk xv (qkB q xk b j x) -∗ WP c k Q)
        -∗ WP c (qkP b hb arg4 arg7 arg8 q off0 off1 inb0 inb1 k) Q) := by
  rw [qkB, ← keysAt_eq xk off0 inb0 _ h0, ← keysAt_eq xk off1 inb1 _ h1]
  exact qk_step c arg4 arg5 arg7 arg8 arg9 arg10 arg11 arg12 arg13 xk xv b hb x q off0 off1 inb0 inb1 k

theorem pv_at (b : ℕ) (hb : b < 2) (x : Mem F) (j : ℕ) {off0 off1 : Fin 4 → ℕ}
    (inb0 : ∀ a, off0 a + S1x1x256x128.size a ≤ S1x1x16384x128.size a) (inb1 : ∀ a, off1 a + S1x1x256x128.size a ≤ S1x1x16384x128.size a)
    (h0 : off0 = ![0, 0, j * 512, 0]) (h1 : off1 = ![0, 0, j * 512 + 256, 0]) (k : Pr F α) :
    St c arg4 arg5 arg7 arg8 arg9 arg10 arg11 arg12 arg13 xk xv x
      ⊢ iprop((St c arg4 arg5 arg7 arg8 arg9 arg10 arg11 arg12 arg13 xk xv (pvB xv b hb j x) -∗ WP c k Q)
        -∗ WP c (pvP b hb arg5 arg9 arg10 arg13 off0 off1 inb0 inb1 k) Q) := by
  rw [pvB, ← valsAt_eq xv off0 inb0 _ h0, ← valsAt_eq xv off1 inb1 _ h1]
  exact pv_step c arg4 arg5 arg7 arg8 arg9 arg10 arg11 arg12 arg13 xk xv b hb x off0 off1 inb0 inb1 k

/-- One step of the pipelined loop. -/
theorem step_at (b b' : ℕ) (hb : b < 2) (hb' : b' < 2) (x : Mem F) (q : FVec F S512x256 .bf16) (j : ℕ) (e : b = j % 2) (e' : b' = (j + 1) % 2) {off0 off1 off2 off3 : Fin 4 → ℕ}
    (inb0 : ∀ a, off0 a + S1x1x256x256.size a ≤ S1x1x16384x256.size a) (inb1 : ∀ a, off1 a + S1x1x256x256.size a ≤ S1x1x16384x256.size a)
    (inb2 : ∀ a, off2 a + S1x1x256x128.size a ≤ S1x1x16384x128.size a) (inb3 : ∀ a, off3 a + S1x1x256x128.size a ≤ S1x1x16384x128.size a)
    (h0 : off0 = ![0, 0, (j + 2) * 512, 0]) (h1 : off1 = ![0, 0, (j + 2) * 512 + 256, 0])
    (h2 : off2 = ![0, 0, j * 512, 0]) (h3 : off3 = ![0, 0, j * 512 + 256, 0])
    (hx0 : (arg9.access (Rect.unit (s := S2x2x512x256) ![b', 0, 0, 0] S1x1x512x256.size (inb4 b' 0 hb' (by omega)))).Stores Finset.univ)
    (hx1 : (arg9.access (Rect.unit (s := S2x2x512x256) ![b', 1, 0, 0] S1x1x512x256.size (inb4 b' 1 hb' (by omega)))).Stores Finset.univ)
    (k : Pr F α) :
    St c arg4 arg5 arg7 arg8 arg9 arg10 arg11 arg12 arg13 xk xv x
      ⊢ iprop((St c arg4 arg5 arg7 arg8 arg9 arg10 arg11 arg12 arg13 xk xv (stepF q xk xv j x) -∗ WP c k Q)
        -∗ WP c (qkP b hb arg4 arg7 arg8 q off0 off1 inb0 inb1 <| smP b' hb' arg7 arg8 arg9 arg10 arg11 arg12 hx0 hx1 <|
            pvP b hb arg5 arg9 arg10 arg13 off2 off3 inb2 inb3 k) Q) := by
  subst e e'
  iintro H Hk
  iapply (qk_at c arg4 arg5 arg7 arg8 arg9 arg10 arg11 arg12 arg13 xk xv _ hb x q (j + 2) inb0 inb1 h0 h1) $$ H; iintro H
  iapply (sm_step c arg4 arg5 arg7 arg8 arg9 arg10 arg11 arg12 arg13 xk xv _ hb' _ hx0 hx1) $$ H; iintro H
  iapply (pv_at c arg4 arg5 arg7 arg8 arg9 arg10 arg11 arg12 arg13 xk xv _ hb _ j inb2 inb3 h2 h3) $$ H; iintro H
  iapply Hk; iexact H

/-- The end. -/
theorem last_at (b b' : ℕ) (hb : b < 2) (hb' : b' < 2) (x : Mem F) (q0 k0 k1 : BitVec 32) (j : ℕ) (e : b = j % 2) (e' : b' = (j + 1) % 2) {off0 off1 off2 off3 : Fin 4 → ℕ}
    (inb0 : ∀ a, off0 a + S1x1x256x128.size a ≤ S1x1x16384x128.size a) (inb1 : ∀ a, off1 a + S1x1x256x128.size a ≤ S1x1x16384x128.size a)
    (inb2 : ∀ a, off2 a + S1x1x256x128.size a ≤ S1x1x16384x128.size a) (inb3 : ∀ a, off3 a + S1x1x256x128.size a ≤ S1x1x16384x128.size a)
    (h0 : off0 = ![0, 0, j * 512, 0]) (h1 : off1 = ![0, 0, j * 512 + 256, 0])
    (h2 : off2 = ![0, 0, (j + 1) * 512, 0]) (h3 : off3 = ![0, 0, (j + 1) * 512 + 256, 0])
    (hx0 : (arg9.access (Rect.unit (s := S2x2x512x256) ![b', 0, 0, 0] S1x1x512x256.size (inb4 b' 0 hb' (by omega)))).Stores Finset.univ)
    (hx1 : (arg9.access (Rect.unit (s := S2x2x512x256) ![b', 1, 0, 0] S1x1x512x256.size (inb4 b' 1 hb' (by omega)))).Stores Finset.univ)
    (k : Pr F α) :
    St c arg4 arg5 arg7 arg8 arg9 arg10 arg11 arg12 arg13 xk xv x
      ⊢ iprop((St c arg4 arg5 arg7 arg8 arg9 arg10 arg11 arg12 arg13 xk xv (lastF xv q0 k0 k1 j x) -∗ WP c k Q)
        -∗ WP c (smMaskedP b' hb' arg7 arg9 arg10 arg11 arg12 q0 k0 k1 hx0 hx1 <|
            pvP b hb arg5 arg9 arg10 arg13 off0 off1 inb0 inb1 <| pvP b' hb' arg5 arg9 arg10 arg13 off2 off3 inb2 inb3 k) Q) := by
  subst e e'
  iintro H Hk
  iapply (smMasked_step c arg4 arg5 arg7 arg8 arg9 arg10 arg11 arg12 arg13 xk xv _ hb' _ q0 k0 k1 hx0 hx1) $$ H; iintro H
  iapply (pv_at c arg4 arg5 arg7 arg8 arg9 arg10 arg11 arg12 arg13 xk xv _ hb _ j inb0 inb1 h0 h1) $$ H; iintro H
  iapply (pv_at c arg4 arg5 arg7 arg8 arg9 arg10 arg11 arg12 arg13 xk xv _ hb' _ (j + 1) inb2 inb3 h2 h3) $$ H; iintro H
  iapply Hk; iexact H

/-- The queries of a block. -/
def qOf (xq : Vec F S1x1x512x256 .bf16) : FVec F S512x256 .bf16 :=
  dn4 (e := .bf16) (VecWindow.window xq ![0, 0, 0, 0] S1x1x512x256.size inb_S1x1x512x256_S1x1x512x256_0_0_0_0)

theorem init_at (arg3 : Memref sig .tc .vmem S1x1x512x256 .bf16) (xq : Vec F S1x1x512x256 .bf16) (x : Mem F) (k : FVec F S512x256 .bf16 → Pr F α) :
    iprop(owns (c : Thread nD τ) arg3 fullShare xq ∗ St c arg4 arg5 arg7 arg8 arg9 arg10 arg11 arg12 arg13 xk xv x)
      ⊢ iprop((owns (c : Thread nD τ) arg3 fullShare xq ∗ St c arg4 arg5 arg7 arg8 arg9 arg10 arg11 arg12 arg13 xk xv (initF x) -∗ WP c (k (qOf xq)) Q)
        -∗ WP c (initP arg3 arg11 arg12 arg13 k) Q) := by
  unfold initP ld2 st2 St
  iintro ⟨H3, H4, H5, H7, H8, H9, H10, H11, H12, H13⟩ Hk
  iapply (own_load c arg11 _ _ _ _) $$ H11; iintro H11
  iapply (own_store c arg11 _ _ _ _) $$ H11; iintro H11
  iapply (own_load c arg12 _ _ _ _) $$ H12; iintro H12
  iapply (own_store c arg12 _ _ _ _) $$ H12; iintro H12
  iapply (own_load c arg13 _ _ _ _) $$ H13; iintro H13
  iapply (own_store c arg13 _ _ _ _) $$ H13; iintro H13
  iapply (own_load c arg3 _ _ _ xq) $$ H3; iintro H3
  iapply Hk
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexact H13

theorem put_whole (y w : Vec F S1x512x128 .bf16) : VecWindow.put y ![0, 0, 0] S1x512x128.size w = w := by
  have h := VecWindow.window_put_same y ![0, 0, 0] S1x512x128.size inb_S1x512x128_S1x512x128_0_0_0 w
  refine Eq.trans (funext fun z => ?_) h
  exact congrArg _ (Rect.emb_unit_full (s := S1x512x128) (off := ![0, 0, 0]) inb_S1x512x128_S1x512x128_0_0_0 z).symm

theorem fin_at {Q : PUnit → sProp (MM F)} (arg6 : Memref sig .tc .vmem S1x512x128 .bf16) (harg6 : arg6.IsWhole) (y : Vec F S1x512x128 .bf16) (x : Mem F) :
    iprop(owns (c : Thread nD τ) arg6 fullShare y ∗ St c arg4 arg5 arg7 arg8 arg9 arg10 arg11 arg12 arg13 xk xv x)
      ⊢ iprop((owns (c : Thread nD τ) arg6 fullShare (outV (get2 x.acc) (get2 x.l)) ∗ St c arg4 arg5 arg7 arg8 arg9 arg10 arg11 arg12 arg13 xk xv x -∗ Q ⟨⟩)
        -∗ WP c (finP arg6 harg6 arg12 arg13) Q) := by
  rw [← put_whole y (outV (get2 x.acc) (get2 x.l))]
  unfold finP ld2 St
  iintro ⟨H6, H4, H5, H7, H8, H9, H10, H11, H12, H13⟩ Hk
  iapply (own_load c arg13 _ _ _ _) $$ H13; iintro H13
  iapply (own_load c arg12 _ _ _ _) $$ H12; iintro H12
  iapply (own_load c arg6 _ _ _ _) $$ H6; iintro H6
  iapply (own_store c arg6 _ _ _ _) $$ H6; iintro H6
  rw [wp_ret]; imodintro
  iapply Hk
  isplitl [H6]; · iexact H6
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexact H13

end

end Cert.Proof.Mla
-- ==== Proof.Attend.lean ====
/- The attention kernel's body, run on its blocks: from any scratch memory, it leaves the attended values of the block
   of queries in the output's block. -/
module

public import proofs.«01_k».proof.Proof.Steps

@[expose] public section

set_option maxRecDepth 16384

noncomputable section

namespace Cert.Proof.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

theorem pure_at {α : Type} {Q : α → sProp (MM F)} (c : Dev nD) (a : α) : Q a ⊢ WP c (pure a : Pr F α) Q := by
  unfold WP; rw [wp_pure]; iintro H; imodintro; iexact H
theorem bind_at {α β : Type} {Q : β → sProp (MM F)} (c : Dev nD) (p : Pr F α) (k : α → Pr F β) :
    WP c p (fun a => WP c (k a) Q) ⊢ WP c (p >>= k) Q := by
  unfold WP; rw [wp_bind]

section
variable {α : Type} {Q : α → sProp (MM F)} (c : Dev nD) (i : grid0.Coords)
  (arg3 : Memref sig .tc .vmem S1x1x512x256 .bf16) (harg3 : arg3.IsWhole) (arg4 : Memref sig .tc .vmem S1x1x16384x256 .bf16) (harg4 : arg4.IsWhole) (arg5 : Memref sig .tc .vmem S1x1x16384x128 .bf16) (harg5 : arg5.IsWhole)
    (arg6 : Memref sig .tc .vmem S1x512x128 .bf16) (harg6 : arg6.IsWhole) (arg7 : Memref sig .tc .vmem S2x2x512x256 .f32) (harg7 : arg7.IsWhole) (arg8 : Memref sig .tc .vmem S2x512x128 .f32) (harg8 : arg8.IsWhole)
    (arg9 : Memref sig .tc .vmem S2x2x512x256 .bf16) (harg9 : arg9.IsWhole) (arg10 : Memref sig .tc .vmem S2x512x128 .f32) (harg10 : arg10.IsWhole) (arg11 : Memref sig .tc .vmem S512x128 .f32) (harg11 : arg11.IsWhole)
    (arg12 : Memref sig .tc .vmem S512x128 .f32) (harg12 : arg12.IsWhole) (arg13 : Memref sig .tc .vmem S512x128 .f32) (harg13 : arg13.IsWhole)
  (xk : Vec F S1x1x16384x256 .bf16) (xv : Vec F S1x1x16384x128 .bf16) (q : FVec F S512x256 .bf16)

/-- The loop by fours. -/
theorem t1_run (h2 : k0_cond2 i = 1#1) (v32 v133 c4 : BitVec 32) (x : Mem F) (kk : Unit → Pr F α) :
    St c arg4 arg5 arg7 arg8 arg9 arg10 arg11 arg12 arg13 xk xv (x)
      ⊢ iprop((St c arg4 arg5 arg7 arg8 arg9 arg10 arg11 arg12 arg13 xk xv (runF q xk xv (4 * (k0_t1_loop i).trips) x) -∗ WP c (kk ⟨⟩) Q)
        -∗ WP c (Scf.Loop.for (k0_t1_loop i) (k0_t1_ok i h2) ⟨⟩ (k0_t1_body i arg3 harg3 arg4 harg4 arg5 harg5 arg6 harg6 arg7 harg7 arg8 harg8 arg9 harg9 arg10 harg10 arg11 harg11 arg12 harg12 arg13 harg13 q v32 h2 v133 c4) >>= kk) Q) := by
  have hbody : ∀ (t : Fin (k0_t1_loop i).trips) (u : Unit), St c arg4 arg5 arg7 arg8 arg9 arg10 arg11 arg12 arg13 xk xv (runF q xk xv (4 * t.val) x)
      ⊢ WP c (k0_t1_body i arg3 harg3 arg4 harg4 arg5 harg5 arg6 harg6 arg7 harg7 arg8 harg8 arg9 harg9 arg10 harg10 arg11 harg11 arg12 harg12 arg13 harg13 q v32 h2 v133 c4 t u)
        (fun _ => St c arg4 arg5 arg7 arg8 arg9 arg10 arg11 arg12 arg13 xk xv (runF q xk xv (4 * (t.val + 1)) x)) := by
    intro t u
    rw [t1_eq]
    iintro H
    iapply (step_at c arg4 arg5 arg7 arg8 arg9 arg10 arg11 arg12 arg13 xk xv 0 1 Nat.zero_lt_two Nat.one_lt_two _ q (4 * t.val + 0) (by omega) (by omega)
      (k0_off1_inb i t h2 0 0) (k0_off1_inb i t h2 0 1) (k0_off2_inb i t h2 0 0) (k0_off2_inb i t h2 0 1)
      ((off1_eq i t 0 0).trans (row_congr (show (4 * t.val + 0 + 2) * 512 + 256 * 0 = (4 * t.val + 0 + 2) * 512 by omega))) ((off1_eq i t 0 1).trans (row_congr (show (4 * t.val + 0 + 2) * 512 + 256 * 1 = (4 * t.val + 0 + 2) * 512 + 256 by omega)))
      ((off2_eq i t 0 0).trans (row_congr (show (4 * t.val + 0) * 512 + 256 * 0 = (4 * t.val + 0) * 512 by omega))) ((off2_eq i t 0 1).trans (row_congr (show (4 * t.val + 0) * 512 + 256 * 1 = (4 * t.val + 0) * 512 + 256 by omega)))
      (hx arg9 harg9 1 0 (by omega) (by omega)) (hx arg9 harg9 1 1 (by omega) (by omega))) $$ H; iintro H
    iapply (step_at c arg4 arg5 arg7 arg8 arg9 arg10 arg11 arg12 arg13 xk xv 1 0 Nat.one_lt_two Nat.zero_lt_two _ q (4 * t.val + 1) (by omega) (by omega)
      (k0_off1_inb i t h2 1 0) (k0_off1_inb i t h2 1 1) (k0_off2_inb i t h2 1 0) (k0_off2_inb i t h2 1 1)
      ((off1_eq i t 1 0).trans (row_congr (show (4 * t.val + 1 + 2) * 512 + 256 * 0 = (4 * t.val + 1 + 2) * 512 by omega))) ((off1_eq i t 1 1).trans (row_congr (show (4 * t.val + 1 + 2) * 512 + 256 * 1 = (4 * t.val + 1 + 2) * 512 + 256 by omega)))
      ((off2_eq i t 1 0).trans (row_congr (show (4 * t.val + 1) * 512 + 256 * 0 = (4 * t.val + 1) * 512 by omega))) ((off2_eq i t 1 1).trans (row_congr (show (4 * t.val + 1) * 512 + 256 * 1 = (4 * t.val + 1) * 512 + 256 by omega)))
      (hx arg9 harg9 0 0 (by omega) (by omega)) (hx arg9 harg9 0 1 (by omega) (by omega))) $$ H; iintro H
    iapply (step_at c arg4 arg5 arg7 arg8 arg9 arg10 arg11 arg12 arg13 xk xv 0 1 Nat.zero_lt_two Nat.one_lt_two _ q (4 * t.val + 2) (by omega) (by omega)
      (k0_off1_inb i t h2 2 0) (k0_off1_inb i t h2 2 1) (k0_off2_inb i t h2 2 0) (k0_off2_inb i t h2 2 1)
      ((off1_eq i t 2 0).trans (row_congr (show (4 * t.val + 2 + 2) * 512 + 256 * 0 = (4 * t.val + 2 + 2) * 512 by omega))) ((off1_eq i t 2 1).trans (row_congr (show (4 * t.val + 2 + 2) * 512 + 256 * 1 = (4 * t.val + 2 + 2) * 512 + 256 by omega)))
      ((off2_eq i t 2 0).trans (row_congr (show (4 * t.val + 2) * 512 + 256 * 0 = (4 * t.val + 2) * 512 by omega))) ((off2_eq i t 2 1).trans (row_congr (show (4 * t.val + 2) * 512 + 256 * 1 = (4 * t.val + 2) * 512 + 256 by omega)))
      (hx arg9 harg9 1 0 (by omega) (by omega)) (hx arg9 harg9 1 1 (by omega) (by omega))) $$ H; iintro H
    iapply (step_at c arg4 arg5 arg7 arg8 arg9 arg10 arg11 arg12 arg13 xk xv 1 0 Nat.one_lt_two Nat.zero_lt_two _ q (4 * t.val + 3) (by omega) (by omega)
      (k0_off1_inb i t h2 3 0) (k0_off1_inb i t h2 3 1) (k0_off2_inb i t h2 3 0) (k0_off2_inb i t h2 3 1)
      ((off1_eq i t 3 0).trans (row_congr (show (4 * t.val + 3 + 2) * 512 + 256 * 0 = (4 * t.val + 3 + 2) * 512 by omega))) ((off1_eq i t 3 1).trans (row_congr (show (4 * t.val + 3 + 2) * 512 + 256 * 1 = (4 * t.val + 3 + 2) * 512 + 256 by omega)))
      ((off2_eq i t 3 0).trans (row_congr (show (4 * t.val + 3) * 512 + 256 * 0 = (4 * t.val + 3) * 512 by omega))) ((off2_eq i t 3 1).trans (row_congr (show (4 * t.val + 3) * 512 + 256 * 1 = (4 * t.val + 3) * 512 + 256 by omega)))
      (hx arg9 harg9 0 0 (by omega) (by omega)) (hx arg9 harg9 0 1 (by omega) (by omega))) $$ H; iintro H
    iapply pure_at
    iexact H
  show St c arg4 arg5 arg7 arg8 arg9 arg10 arg11 arg12 arg13 xk xv (runF q xk xv (4 * 0) x) ⊢ _
  iintro H Hk
  iapply (Scf.wp_for_bind frame (wpE (defs₀ (F := F)) Variants.none (c : Thread nD τ) none) Set.univ _ _ _ (k0_t1_ok i h2) ⟨⟩ _
    (fun t _ => St c arg4 arg5 arg7 arg8 arg9 arg10 arg11 arg12 arg13 xk xv (runF q xk xv (4 * t) x)) hbody) $$ H
  iintro %u H
  iapply Hk; iexact H

/-- The loop by twos. -/
theorem t3_run (h2 : k0_cond2 i = 1#1) (hn : (i 2).val ≠ 0) (v174 : BitVec 32) (x : Mem F) (kk : Unit → Pr F α) :
    St c arg4 arg5 arg7 arg8 arg9 arg10 arg11 arg12 arg13 xk xv (runF q xk xv (4 * (((i 2).val - 1) / 4)) x)
      ⊢ iprop((St c arg4 arg5 arg7 arg8 arg9 arg10 arg11 arg12 arg13 xk xv (runF q xk xv (4 * (((i 2).val - 1) / 4) + 2 * (k0_t3_loop i).trips) x) -∗ WP c (kk ⟨⟩) Q)
        -∗ WP c (Scf.Loop.for (k0_t3_loop i) (k0_t3_ok i h2) ⟨⟩ (k0_t3_body i arg3 harg3 arg4 harg4 arg5 harg5 arg6 harg6 arg7 harg7 arg8 harg8 arg9 harg9 arg10 harg10 arg11 harg11 arg12 harg12 arg13 harg13 q h2 v174) >>= kk) Q) := by
  have hbody : ∀ (t : Fin (k0_t3_loop i).trips) (u : Unit), St c arg4 arg5 arg7 arg8 arg9 arg10 arg11 arg12 arg13 xk xv (runF q xk xv (4 * (((i 2).val - 1) / 4) + 2 * t.val) x)
      ⊢ WP c (k0_t3_body i arg3 harg3 arg4 harg4 arg5 harg5 arg6 harg6 arg7 harg7 arg8 harg8 arg9 harg9 arg10 harg10 arg11 harg11 arg12 harg12 arg13 harg13 q h2 v174 t u)
        (fun _ => St c arg4 arg5 arg7 arg8 arg9 arg10 arg11 arg12 arg13 xk xv (runF q xk xv (4 * (((i 2).val - 1) / 4) + 2 * (t.val + 1)) x)) := by
    intro t u
    rw [t3_eq]
    iintro H
    iapply (step_at c arg4 arg5 arg7 arg8 arg9 arg10 arg11 arg12 arg13 xk xv 0 1 Nat.zero_lt_two Nat.one_lt_two _ q (4 * (((i 2).val - 1) / 4) + 2 * t.val + 0) (by omega) (by omega)
      (k0_off5_inb i t h2 0 0) (k0_off5_inb i t h2 0 1) (k0_off6_inb i t h2 0 0) (k0_off6_inb i t h2 0 1)
      ((off5_eq i t hn 0 0).trans (row_congr (show (4 * (((i 2).val - 1) / 4) + 2 * t.val + 0 + 2) * 512 + 256 * 0 = (4 * (((i 2).val - 1) / 4) + 2 * t.val + 0 + 2) * 512 by omega))) ((off5_eq i t hn 0 1).trans (row_congr (show (4 * (((i 2).val - 1) / 4) + 2 * t.val + 0 + 2) * 512 + 256 * 1 = (4 * (((i 2).val - 1) / 4) + 2 * t.val + 0 + 2) * 512 + 256 by omega)))
      ((off6_eq i t hn 0 0).trans (row_congr (show (4 * (((i 2).val - 1) / 4) + 2 * t.val + 0) * 512 + 256 * 0 = (4 * (((i 2).val - 1) / 4) + 2 * t.val + 0) * 512 by omega))) ((off6_eq i t hn 0 1).trans (row_congr (show (4 * (((i 2).val - 1) / 4) + 2 * t.val + 0) * 512 + 256 * 1 = (4 * (((i 2).val - 1) / 4) + 2 * t.val + 0) * 512 + 256 by omega)))
      (hx arg9 harg9 1 0 (by omega) (by omega)) (hx arg9 harg9 1 1 (by omega) (by omega))) $$ H; iintro H
    iapply (step_at c arg4 arg5 arg7 arg8 arg9 arg10 arg11 arg12 arg13 xk xv 1 0 Nat.one_lt_two Nat.zero_lt_two _ q (4 * (((i 2).val - 1) / 4) + 2 * t.val + 1) (by omega) (by omega)
      (k0_off5_inb i t h2 1 0) (k0_off5_inb i t h2 1 1) (k0_off6_inb i t h2 1 0) (k0_off6_inb i t h2 1 1)
      ((off5_eq i t hn 1 0).trans (row_congr (show (4 * (((i 2).val - 1) / 4) + 2 * t.val + 1 + 2) * 512 + 256 * 0 = (4 * (((i 2).val - 1) / 4) + 2 * t.val + 1 + 2) * 512 by omega))) ((off5_eq i t hn 1 1).trans (row_congr (show (4 * (((i 2).val - 1) / 4) + 2 * t.val + 1 + 2) * 512 + 256 * 1 = (4 * (((i 2).val - 1) / 4) + 2 * t.val + 1 + 2) * 512 + 256 by omega)))
      ((off6_eq i t hn 1 0).trans (row_congr (show (4 * (((i 2).val - 1) / 4) + 2 * t.val + 1) * 512 + 256 * 0 = (4 * (((i 2).val - 1) / 4) + 2 * t.val + 1) * 512 by omega))) ((off6_eq i t hn 1 1).trans (row_congr (show (4 * (((i 2).val - 1) / 4) + 2 * t.val + 1) * 512 + 256 * 1 = (4 * (((i 2).val - 1) / 4) + 2 * t.val + 1) * 512 + 256 by omega)))
      (hx arg9 harg9 0 0 (by omega) (by omega)) (hx arg9 harg9 0 1 (by omega) (by omega))) $$ H; iintro H
    iapply pure_at
    iexact H
  show St c arg4 arg5 arg7 arg8 arg9 arg10 arg11 arg12 arg13 xk xv (runF q xk xv (4 * (((i 2).val - 1) / 4) + 2 * 0) x) ⊢ _
  iintro H Hk
  iapply (Scf.wp_for_bind frame (wpE (defs₀ (F := F)) Variants.none (c : Thread nD τ) none) Set.univ _ _ _ (k0_t3_ok i h2) ⟨⟩ _
    (fun t _ => St c arg4 arg5 arg7 arg8 arg9 arg10 arg11 arg12 arg13 xk xv (runF q xk xv (4 * (((i 2).val - 1) / 4) + 2 * t) x)) hbody) $$ H
  iintro %u H
  iapply Hk; iexact H

/-- The two loops that never run. -/
theorem t2_run (h2 : k0_cond2 i = 1#1) (hn : (i 2).val ≠ 0) (v32 v133 c4 w : BitVec 32) (x : Mem F) (kk : Unit → Pr F α) :
    St c arg4 arg5 arg7 arg8 arg9 arg10 arg11 arg12 arg13 xk xv (x) ⊢ iprop((St c arg4 arg5 arg7 arg8 arg9 arg10 arg11 arg12 arg13 xk xv (x) -∗ WP c (kk ⟨⟩) Q) -∗ WP c (Scf.Loop.for (k0_t2_loop i) (k0_t2_ok i h2) ⟨⟩ (k0_t2_body i arg3 harg3 arg4 harg4 arg5 harg5 arg6 harg6 arg7 harg7 arg8 harg8 arg9 harg9 arg10 harg10 arg11 harg11 arg12 harg12 arg13 harg13 q v32 h2 v133 c4 w) >>= kk) Q) := by
  iintro H Hk
  iapply (Scf.wp_for_bind frame (wpE (defs₀ (F := F)) Variants.none (c : Thread nD τ) none) Set.univ _ _ _ (k0_t2_ok i h2) ⟨⟩ _
    (fun _ _ => St c arg4 arg5 arg7 arg8 arg9 arg10 arg11 arg12 arg13 xk xv (x)) (fun t _ => absurd (lt_of_lt_of_eq t.isLt (trips2 i hn)) (Nat.not_lt_zero _))) $$ H
  iintro %u H
  iapply Hk; iexact H

theorem t4_run (h2 : k0_cond2 i = 1#1) (hn : (i 2).val ≠ 0) (w : BitVec 32) (x : Mem F) (kk : Unit → Pr F α) :
    St c arg4 arg5 arg7 arg8 arg9 arg10 arg11 arg12 arg13 xk xv (x) ⊢ iprop((St c arg4 arg5 arg7 arg8 arg9 arg10 arg11 arg12 arg13 xk xv (x) -∗ WP c (kk ⟨⟩) Q) -∗ WP c (Scf.Loop.for (k0_t4_loop i) (k0_t4_ok i h2) ⟨⟩ (k0_t4_body i arg3 harg3 arg4 harg4 arg5 harg5 arg6 harg6 arg7 harg7 arg8 harg8 arg9 harg9 arg10 harg10 arg11 harg11 arg12 harg12 arg13 harg13 q h2 w) >>= kk) Q) := by
  iintro H Hk
  iapply (Scf.wp_for_bind frame (wpE (defs₀ (F := F)) Variants.none (c : Thread nD τ) none) Set.univ _ _ _ (k0_t4_ok i h2) ⟨⟩ _
    (fun _ _ => St c arg4 arg5 arg7 arg8 arg9 arg10 arg11 arg12 arg13 xk xv (x)) (fun t _ => absurd (lt_of_lt_of_eq t.isLt (trips4 i hn)) (Nat.not_lt_zero _))) $$ H
  iintro %u H
  iapply Hk; iexact H

/-- The row the point's queries and its last block's keys start at, and the second chunk's. -/
def row (i : grid0.Coords) : BitVec 32 := BitVec.ofNat 32 (512 * (i 2).val)
def row1 (i : grid0.Coords) : BitVec 32 := BitVec.ofNat 32 (512 * (i 2).val + 256)

/-- The end of a point with an odd number of blocks before the last. -/
theorem tail1_run (h2 : k0_cond2 i = 1#1) (h3 : k0_cond3 i = 1#1) (hn : (i 2).val % 2 = 1) (x : Mem F) (k : Pr F α) :
    St c arg4 arg5 arg7 arg8 arg9 arg10 arg11 arg12 arg13 xk xv (x)
      ⊢ iprop((St c arg4 arg5 arg7 arg8 arg9 arg10 arg11 arg12 arg13 xk xv (lastF xv (row i) (row i) (row1 i) ((i 2).val - 1) x) -∗ WP c k Q)
        -∗ WP c (tail1P F i arg4 arg5 arg7 arg8 arg9 harg9 arg10 arg11 arg12 arg13 h2 h3 (wEnd (wRet i)) k) Q) := by
  unfold tail1P
  rw [wQ_eq i, show wK (wEnd (wRet i)) 1#32 0#32 = row i from wK1_eq i hn 0, show wK (wEnd (wRet i)) 1#32 256#32 = row1 i from wK1_eq i hn 1]
  iintro H Hk
  iapply (last_at c arg4 arg5 arg7 arg8 arg9 arg10 arg11 arg12 arg13 xk xv 0 1 Nat.zero_lt_two Nat.one_lt_two x (row i) (row i) (row1 i) ((i 2).val - 1) (by omega) (by omega)
    (k0_off9_inb i h2 h3 0) (k0_off9_inb i h2 h3 1) (k0_off10_inb i h2 h3 0) (k0_off10_inb i h2 h3 1)
    ((off9_eq i hn 0).trans (row_congr (show ((i 2).val - 1) * 512 + 256 * 0 = ((i 2).val - 1) * 512 by omega)))
    ((off9_eq i hn 1).trans (row_congr (show ((i 2).val - 1) * 512 + 256 * 1 = ((i 2).val - 1) * 512 + 256 by omega)))
    ((off10_eq i hn 0).trans (row_congr (show (i 2).val * 512 + 256 * 0 = ((i 2).val - 1 + 1) * 512 by omega)))
    ((off10_eq i hn 1).trans (row_congr (show (i 2).val * 512 + 256 * 1 = ((i 2).val - 1 + 1) * 512 + 256 by omega)))
    (hx arg9 harg9 1 0 (by omega) (by omega)) (hx arg9 harg9 1 1 (by omega) (by omega))) $$ H; iintro H
  iapply Hk; iexact H

/-- The end of a point with an even number, one more step before it. -/
theorem tail2_run (h2 : k0_cond2 i = 1#1) (h4 : k0_cond4 i = 1#1) (h0 : (i 2).val ≠ 0) (hn : (i 2).val % 2 = 0) (x : Mem F) (k : Pr F α) :
    St c arg4 arg5 arg7 arg8 arg9 arg10 arg11 arg12 arg13 xk xv (x)
      ⊢ iprop((St c arg4 arg5 arg7 arg8 arg9 arg10 arg11 arg12 arg13 xk xv (lastF xv (row i) (row i) (row1 i) ((i 2).val - 1) (stepF q xk xv ((i 2).val - 2) x)) -∗ WP c k Q)
        -∗ WP c (tail2P i arg4 arg5 arg7 arg8 arg9 harg9 arg10 arg11 arg12 arg13 q h2 h4 (wEnd (wRet i)) k) Q) := by
  unfold tail2P
  rw [wQ_eq i, show wK (wEnd (wRet i)) 2#32 0#32 = row i from wK2_eq i h0 hn 0, show wK (wEnd (wRet i)) 2#32 256#32 = row1 i from wK2_eq i h0 hn 1]
  iintro H Hk
  iapply (step_at c arg4 arg5 arg7 arg8 arg9 arg10 arg11 arg12 arg13 xk xv 0 1 Nat.zero_lt_two Nat.one_lt_two x q ((i 2).val - 2) (by omega) (by omega)
    (k0_off11_inb i h2 h4 0) (k0_off11_inb i h2 h4 1) (k0_off12_inb i h2 h4 0) (k0_off12_inb i h2 h4 1)
    ((off11_eq i h0 hn 0).trans (row_congr (show (i 2).val * 512 + 256 * 0 = ((i 2).val - 2 + 2) * 512 by omega)))
    ((off11_eq i h0 hn 1).trans (row_congr (show (i 2).val * 512 + 256 * 1 = ((i 2).val - 2 + 2) * 512 + 256 by omega)))
    ((off12_eq i h0 hn 0).trans (row_congr (show ((i 2).val - 2) * 512 + 256 * 0 = ((i 2).val - 2) * 512 by omega)))
    ((off12_eq i h0 hn 1).trans (row_congr (show ((i 2).val - 2) * 512 + 256 * 1 = ((i 2).val - 2) * 512 + 256 by omega)))
    (hx arg9 harg9 1 0 (by omega) (by omega)) (hx arg9 harg9 1 1 (by omega) (by omega))) $$ H; iintro H
  iapply (last_at c arg4 arg5 arg7 arg8 arg9 arg10 arg11 arg12 arg13 xk xv 1 0 Nat.one_lt_two Nat.zero_lt_two _ (row i) (row i) (row1 i) ((i 2).val - 1) (by omega) (by omega)
    (k0_off13_inb i h2 h4 0 0) (k0_off13_inb i h2 h4 0 1) (k0_off13_inb i h2 h4 1 0) (k0_off13_inb i h2 h4 1 1)
    ((off13_eq i h0 hn 0 0).trans (row_congr (show ((i 2).val - 1 + 0) * 512 + 256 * 0 = ((i 2).val - 1) * 512 by omega)))
    ((off13_eq i h0 hn 0 1).trans (row_congr (show ((i 2).val - 1 + 0) * 512 + 256 * 1 = ((i 2).val - 1) * 512 + 256 by omega)))
    ((off13_eq i h0 hn 1 0).trans (row_congr (show ((i 2).val - 1 + 1) * 512 + 256 * 0 = ((i 2).val - 1 + 1) * 512 by omega)))
    ((off13_eq i h0 hn 1 1).trans (row_congr (show ((i 2).val - 1 + 1) * 512 + 256 * 1 = ((i 2).val - 1 + 1) * 512 + 256 by omega)))
    (hx arg9 harg9 0 0 (by omega) (by omega)) (hx arg9 harg9 0 1 (by omega) (by omega))) $$ H; iintro H
  iapply Hk; iexact H

/-- A point after the first. -/
theorem more_run (h2 : k0_cond2 i = 1#1) (h0 : (i 2).val ≠ 0) (x : Mem F) (k : Pr F α) :
    St c arg4 arg5 arg7 arg8 arg9 arg10 arg11 arg12 arg13 xk xv (x)
      ⊢ iprop((St c arg4 arg5 arg7 arg8 arg9 arg10 arg11 arg12 arg13 xk xv (lastF xv (row i) (row i) (row1 i) ((i 2).val - 1) (runF q xk xv ((i 2).val - 1) (preF q xk x))) -∗ WP c k Q)
        -∗ WP c (moreP i arg3 harg3 arg4 harg4 arg5 harg5 arg6 harg6 arg7 harg7 arg8 harg8 arg9 harg9 arg10 harg10 arg11 harg11 arg12 harg12 arg13 harg13 q h2 k) Q) := by
  unfold moreP
  iintro H Hk
  iapply (qk_at c arg4 arg5 arg7 arg8 arg9 arg10 arg11 arg12 arg13 xk xv 0 Nat.zero_lt_two x q 0 inb_S1x1x16384x256_S1x1x256x256_0_0_0_0 inb_S1x1x16384x256_S1x1x256x256_0_0_256_0 rfl rfl) $$ H; iintro H
  iapply (qk_at c arg4 arg5 arg7 arg8 arg9 arg10 arg11 arg12 arg13 xk xv 1 Nat.one_lt_two _ q 1 inb_S1x1x16384x256_S1x1x256x256_0_0_512_0 inb_S1x1x16384x256_S1x1x256x256_0_0_768_0 rfl rfl) $$ H; iintro H
  iapply (sm_step c arg4 arg5 arg7 arg8 arg9 arg10 arg11 arg12 arg13 xk xv 0 Nat.zero_lt_two _ (hx arg9 harg9 0 0 (by omega) (by omega)) (hx arg9 harg9 0 1 (by omega) (by omega))) $$ H; iintro H
  iapply bind_at
  iapply (t1_run c i arg3 harg3 arg4 harg4 arg5 harg5 arg6 harg6 arg7 harg7 arg8 harg8 arg9 harg9 arg10 harg10 arg11 harg11 arg12 harg12 arg13 harg13 xk xv q h2 _ _ _ _ _) $$ H; iintro H
  iapply (t2_run c i arg3 harg3 arg4 harg4 arg5 harg5 arg6 harg6 arg7 harg7 arg8 harg8 arg9 harg9 arg10 harg10 arg11 harg11 arg12 harg12 arg13 harg13 xk xv q h2 h0 _ _ _ _ _ _) $$ H; iintro H
  iapply pure_at
  rw [trips1 i h0]
  iapply (t3_run c i arg3 harg3 arg4 harg4 arg5 harg5 arg6 harg6 arg7 harg7 arg8 harg8 arg9 harg9 arg10 harg10 arg11 harg11 arg12 harg12 arg13 harg13 xk xv q h2 h0 _ _ _) $$ H; iintro H
  iapply (t4_run c i arg3 harg3 arg4 harg4 arg5 harg5 arg6 harg6 arg7 harg7 arg8 harg8 arg9 harg9 arg10 harg10 arg11 harg11 arg12 harg12 arg13 harg13 xk xv q h2 h0 _ _ _) $$ H; iintro H
  rw [trips3 i h0]
  rcases Nat.mod_two_eq_zero_or_one (i 2).val with hn | hn
  · have h3 : ¬ k0_cond3 i = 1#1 := fun h => by have := (cond3_iff i h0).1 h; omega
    have h4 : k0_cond4 i = 1#1 := (cond4_iff i h0).2 hn
    rw [dif_neg h3, dif_pos h4]
    iapply (tail2_run c i arg4 arg5 arg7 arg8 arg9 harg9 arg10 arg11 arg12 arg13 xk xv q h2 h4 h0 hn _ _) $$ H; iintro H
    have e : 4 * (((i 2).val - 1) / 4) + 2 * (((i 2).val - 1) / 2 - 2 * (((i 2).val - 1) / 4)) = (i 2).val - 2 := by omega
    have e' : (i 2).val - 1 = ((i 2).val - 2) + 1 := by omega
    rw [e]
    iapply Hk
    rw [show runF q xk xv ((i 2).val - 1) (preF q xk x) = stepF q xk xv ((i 2).val - 2) (runF q xk xv ((i 2).val - 2) (preF q xk x)) by rw [e']; rfl]
    iexact H
  · have h3 : k0_cond3 i = 1#1 := (cond3_iff i h0).2 hn
    have h4 : ¬ k0_cond4 i = 1#1 := fun h => by have := (cond4_iff i h0).1 h; omega
    rw [dif_pos h3, dif_neg h4]
    iapply (tail1_run c i arg4 arg5 arg7 arg8 arg9 harg9 arg10 arg11 arg12 arg13 xk xv h2 h3 hn _ _) $$ H; iintro H
    have e : 4 * (((i 2).val - 1) / 4) + 2 * (((i 2).val - 1) / 2 - 2 * (((i 2).val - 1) / 4)) = (i 2).val - 1 := by omega
    rw [e]
    iapply Hk; iexact H

/-- The first point. -/
theorem one_run (h0 : (i 2).val = 0) (x : Mem F) (k : Pr F α) :
    St c arg4 arg5 arg7 arg8 arg9 arg10 arg11 arg12 arg13 xk xv (x)
      ⊢ iprop((St c arg4 arg5 arg7 arg8 arg9 arg10 arg11 arg12 arg13 xk xv (oneF q xk xv (row i) (row i) (row1 i) x) -∗ WP c k Q) -∗ WP c (oneP i arg4 arg5 arg7 arg8 arg9 harg9 arg10 arg11 arg12 arg13 q k) Q) := by
  unfold oneP
  rw [wQ_eq i, show (0#32 : BitVec 32) = row i by unfold row; rw [h0], show (256#32 : BitVec 32) = row1 i by unfold row1; rw [h0]]
  iintro H Hk
  iapply (qk_at c arg4 arg5 arg7 arg8 arg9 arg10 arg11 arg12 arg13 xk xv 0 Nat.zero_lt_two x q 0 inb_S1x1x16384x256_S1x1x256x256_0_0_0_0 inb_S1x1x16384x256_S1x1x256x256_0_0_256_0 rfl rfl) $$ H; iintro H
  iapply (smMasked_step c arg4 arg5 arg7 arg8 arg9 arg10 arg11 arg12 arg13 xk xv 0 Nat.zero_lt_two _ _ _ _ (hx arg9 harg9 0 0 (by omega) (by omega)) (hx arg9 harg9 0 1 (by omega) (by omega))) $$ H; iintro H
  iapply (pv_at c arg4 arg5 arg7 arg8 arg9 arg10 arg11 arg12 arg13 xk xv 0 Nat.zero_lt_two _ 0 inb_S1x1x16384x128_S1x1x256x128_0_0_0_0 inb_S1x1x16384x128_S1x1x256x128_0_0_256_0 rfl rfl) $$ H; iintro H
  iapply Hk; iexact H

/-- The attended values of a block of queries. -/
def outB (i : grid0.Coords) (xq : Vec F S1x1x512x256 .bf16) (xk : Vec F S1x1x16384x256 .bf16) (xv : Vec F S1x1x16384x128 .bf16) : FVec F S1x512x128 .bf16 :=
  outV (lastAcc (qOf xq) xk xv (row i) (row i) (row1 i) (i 2).val) (lastL (qOf xq) xk (row i) (row i) (row1 i) (i 2).val)

theorem body_run {Q : PUnit → sProp (MM F)} (xq : Vec F S1x1x512x256 .bf16) (y : Vec F S1x512x128 .bf16) (x : Mem F) :
    iprop(owns (c : Thread nD τ) arg3 fullShare xq ∗ owns (c : Thread nD τ) arg6 fullShare y ∗ St c arg4 arg5 arg7 arg8 arg9 arg10 arg11 arg12 arg13 xk xv (x))
      ⊢ iprop((∀ x', owns (c : Thread nD τ) arg3 fullShare xq ∗ owns (c : Thread nD τ) arg6 fullShare (outB i xq xk xv) ∗ St c arg4 arg5 arg7 arg8 arg9 arg10 arg11 arg12 arg13 xk xv (x') -∗ Q ⟨⟩)
        -∗ WP c (cc0_mla_attn i arg3 harg3 arg4 harg4 arg5 harg5 arg6 harg6 arg7 harg7 arg8 harg8 arg9 harg9 arg10 harg10 arg11 harg11 arg12 harg12 arg13 harg13) Q) := by
  rw [body_eq]
  iintro ⟨H3, H6, H⟩ Hk
  iapply (init_at c arg4 arg5 arg7 arg8 arg9 arg10 arg11 arg12 arg13 xk xv arg3 xq x) $$ [H3 H]
  · isplitl [H3]; · iexact H3
    iexact H
  iintro ⟨H3, H⟩
  by_cases h0 : (i 2).val = 0
  · have h1 : wOne i = 1#1 := (wOne_iff i).2 h0
    have h2 : ¬ k0_cond2 i = 1#1 := fun h => (cond2_iff i).1 h h0
    rw [dif_pos h1, dif_neg h2]
    iapply (one_run c i arg4 arg5 arg7 arg8 arg9 harg9 arg10 arg11 arg12 arg13 xk xv (qOf xq) h0 _ _) $$ H; iintro H
    iapply (fin_at c arg4 arg5 arg7 arg8 arg9 arg10 arg11 arg12 arg13 xk xv arg6 harg6 y _) $$ [H6 H]
    · isplitl [H6]; · iexact H6
      iexact H
    iintro ⟨H6, H⟩
    rw [one_l, one_acc]
    iapply Hk $$ %_
    isplitl [H3]; · iexact H3
    isplitl [H6]
    · unfold outB; rw [h0]; iexact H6
    · iexact H
  · have h1 : ¬ wOne i = 1#1 := fun h => h0 ((wOne_iff i).1 h)
    have h2 : k0_cond2 i = 1#1 := (cond2_iff i).2 h0
    rw [dif_neg h1, dif_pos h2]
    iapply (more_run c i arg3 harg3 arg4 harg4 arg5 harg5 arg6 harg6 arg7 harg7 arg8 harg8 arg9 harg9 arg10 harg10 arg11 harg11 arg12 harg12 arg13 harg13 xk xv (qOf xq) h2 h0 _ _) $$ H; iintro H
    iapply (fin_at c arg4 arg5 arg7 arg8 arg9 arg10 arg11 arg12 arg13 xk xv arg6 harg6 y _) $$ [H6 H]
    · isplitl [H6]; · iexact H6
      iexact H
    iintro ⟨H6, H⟩
    rw [last_l (qOf xq) xk xv _ _ _ _ _ (inv_run (qOf xq) xk xv ((i 2).val - 1) x), last_acc (qOf xq) xk xv _ _ _ _ _ (inv_run (qOf xq) xk xv ((i 2).val - 1) x)]
    iapply Hk $$ %_
    isplitl [H3]; · iexact H3
    isplitl [H6]
    · unfold outB; rw [show (i 2).val - 1 + 1 = (i 2).val by omega]; iexact H6
    · iexact H

end

end Cert.Proof.Mla
-- ==== Proof.Launch.lean ====
/- The attention kernel's launch: every point's body leaves the attended values of its block of queries in the output's
   block, so the whole run leaves them in the output's array and the arguments as they were. -/
module

public import proofs.«01_k».proof.Proof.Attend
public import proofs.«01_k».proof.Proof.Gen.KernelIdeal.Frame
public import Idealize.ShloMosaic.Lib.Claim

@[expose] public section

set_option maxRecDepth 16384

noncomputable section

namespace Cert.Proof.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

abbrev ms0 (t : Fin cfg0.N) : Memref sig .tc .vmem S1x1x512x256 .bf16 := win0_0.stage (cfg0.slots t 0)
abbrev ms1 (t : Fin cfg0.N) : Memref sig .tc .vmem S1x1x16384x256 .bf16 := win0_1.stage (cfg0.slots t 1)
abbrev ms2 (t : Fin cfg0.N) : Memref sig .tc .vmem S1x1x16384x128 .bf16 := win0_2.stage (cfg0.slots t 2)
abbrev ms3 (t : Fin cfg0.N) : Memref sig .tc .vmem S1x512x128 .bf16 := win0_3.stage (cfg0.slots t 3)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev sc0 : Memref sig .tc .vmem S2x2x512x256 .f32 := Memref.whole cc0_scratch0
abbrev sc1 : Memref sig .tc .vmem S2x512x128 .f32 := Memref.whole cc0_scratch1
abbrev sc2 : Memref sig .tc .vmem S2x2x512x256 .bf16 := Memref.whole cc0_scratch2
abbrev sc3 : Memref sig .tc .vmem S2x512x128 .f32 := Memref.whole cc0_scratch3
abbrev sc4 : Memref sig .tc .vmem S512x128 .f32 := Memref.whole cc0_scratch4
abbrev sc5 : Memref sig .tc .vmem S512x128 .f32 := Memref.whole cc0_scratch5
abbrev sc6 : Memref sig .tc .vmem S512x128 .f32 := Memref.whole cc0_scratch6

/-- The launch's invariant, the scratch buffers owned at some contents. -/
theorem inv_eq (c : Dev nD) :
    (Pipeline.ΦA spec0 c : sProp (MM F)) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The proof data: each point leaves the inputs' blocks and the attended values of its queries. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outB (grid0.coords t) (iblk m c 0 t) (iblk m c 1 t) (iblk m c 2 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

def bodyPre (c : Dev nD) (t : Fin cfg0.N) : sProp (MM F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp (MM F) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves_eq (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, inv_eq]
  rw [leaves_eq m c t 0 rfl, leaves_eq m c t 1 rfl, leaves_eq m c t 2 rfl, leaves_eq m c t 3 rfl, after0, after1, after2, after3]
  iintro ⟨⟨⟨⟨%d0, S0⟩, ⟨%d1, S1⟩, ⟨%d2, S2⟩, ⟨%d3, S3⟩, ⟨%d4, S4⟩, ⟨%d5, S5⟩, ⟨%d6, S6⟩⟩, Hg⟩, Ho, ⟨%e0, H0⟩, ⟨%e1, H1⟩, ⟨%e2, H2⟩, ⟨%e3, H3⟩⟩
  iapply (body_run c (grid0.coords t) (ms0 t) (hs0 t) (ms1 t) (hs1 t) (ms2 t) (hs2 t) (ms3 t) (hs3 t) sc0 (Memref.isWhole_whole _) sc1 (Memref.isWhole_whole _) sc2 (Memref.isWhole_whole _)
    sc3 (Memref.isWhole_whole _) sc4 (Memref.isWhole_whole _) sc5 (Memref.isWhole_whole _) sc6 (Memref.isWhole_whole _)
    (iblk m c 1 t) (iblk m c 2 t) (iblk m c 0 t) ((dats m 0 c).before 3 t e3) ⟨d0, d1, d2, d3, d4, d5, d6⟩) $$ [S0 S1 S2 S3 S4 S5 S6 H0 H1 H2 H3]
  · isplitl [H0]; · iexact H0
    isplitl [H3]; · iexact H3
    unfold St
    isplitl [H1]; · iexact H1
    isplitl [H2]; · iexact H2
    isplitl [S0]; · iexact S0
    isplitl [S1]; · iexact S1
    isplitl [S2]; · iexact S2
    isplitl [S3]; · iexact S3
    isplitl [S4]; · iexact S4
    isplitl [S5]; · iexact S5
    iexact S6
  unfold St
  iintro %x ⟨H0, H3, H1, H2, S0, S1, S2, S3, S4, S5, S6⟩
  isplitl [S0 S1 S2 S3 S4 S5 S6 Hg]
  · isplitl [S0 S1 S2 S3 S4 S5 S6]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    iexact Hg
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at the proof data's, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments end as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Mla
-- ==== Proof.Frames.lean ====
module

public import proofs.«01_k».proof.Defs
public import proofs.«01_k».proof.Proof.Launch
public import proofs.«01_k».proof.Proof.Gen.Kernel
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run

@[expose] public section
namespace Cert.Proof.Mla
open Idealize.ShloMosaic Idealize.ShloMosaic.TcCoe

/-- A named constant read as its own bits. -/
@[reducible] def namedBits : Named Bits where
  named _ _ {φ} bits := FloatOps.ofBits φ bits
attribute [local instance] namedBits

set_option maxRecDepth 100000 in
/-- The two programs' bodies are one, -/
theorem cc0_same : Cert.Kernel.cc0_mla_attn (F := Bits) = Cert.KernelIdeal.cc0_mla_attn (F := Bits) := rfl

/-- and so are their tables of bodies, -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun cc0_same _) _) _) _) _) _) _) _) _) _) _) _) _) _) _) _) _) _) _) _) _) _) _
  | ⟨_ + 1, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) defs₀_same

theorem frame_kernel : Cert.quiescent_Kernel := fun m ρ _ => by
  rw [show Cert.Kernel.defs (F := Bits) = Cert.KernelIdeal.defs (F := Bits) from defs_same]
  exact frame_main (F := Bits) m ρ

theorem frame_kernelIdeal : Cert.quiescent_KernelIdeal := fun m ρ _ => frame_main m ρ

theorem preserves_kernel : Cert.preserves_Kernel_KernelIdeal :=
  ⟨IdealRules.named_const.statement (κ := Cert.KernelIdeal.κ) (name := "masked") .f32 _ _ rfl, IdealRules.named_const.statement (κ := Cert.KernelIdeal.κ) (name := "coef") .f32 _ _ rfl⟩

theorem preserves_kernel2 : Cert.preserves_Kernel2_Kernel2Ideal := trivial
theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.Mla
-- ==== Proof.SoftMath.lean ====
/- The softmax over the extended reals: the sums the kernel carries from block to block, and the quotient at the end
   against the softmax over all keys. -/
module

public import Idealize.ShloMosaic.PureOps.Ideal

@[expose] public section
noncomputable section

namespace Cert.Proof.Soft

open Idealize.ShloMosaic

/-- The scale of the scores, and the scale with the change of base. -/
abbrev scl : ℝ := (Real.sqrt 192)⁻¹
abbrev cf : ℝ := (Real.sqrt 192)⁻¹ * (Real.log 2)⁻¹

theorem scl_pos : 0 < scl := by unfold scl; positivity
theorem cf_pos : 0 < cf := mul_pos scl_pos (inv_pos.mpr (Real.log_pos (by norm_num)))

/-- The weight of a score against a maximum. -/
def wt (s M : EReal) : EReal := Ideal.exp2 ((s - M) * ((cf : ℝ) : EReal))

theorem wt_bot (M : EReal) : wt ⊥ M = 0 := by
  unfold wt
  rw [sub_eq_add_neg, EReal.bot_add, EReal.bot_mul_coe_of_pos cf_pos]
  rfl

theorem wt_coe (r s : ℝ) : wt r s = ((Real.rpow 2 ((r - s) * cf) : ℝ) : EReal) := by
  unfold wt
  rw [← EReal.coe_sub, ← EReal.coe_mul]
  rfl

theorem rb (x : EReal) (h : x ≠ ⊤) : x = ⊥ ∨ ∃ r : ℝ, x = r := by
  induction x with
  | bot => exact .inl rfl
  | coe r => exact .inr ⟨r, rfl⟩
  | top => exact absurd rfl h

theorem wt_real (s M : EReal) (hs : s ≠ ⊤) (hM : M ≠ ⊤) (h : s ≤ M) : ∃ r : ℝ, 0 ≤ r ∧ wt s M = r := by
  rcases rb s hs with rfl | ⟨r, rfl⟩
  · exact ⟨0, le_refl _, wt_bot M⟩
  · rcases rb M hM with rfl | ⟨t, rfl⟩
    · exact absurd (le_bot_iff.mp h) (EReal.coe_ne_bot r)
    · exact ⟨_, Real.rpow_nonneg (by norm_num) _, wt_coe r t⟩

theorem mul_sum_real {ι : Type*} (c : ℝ) (hc : 0 ≤ c) (S : Finset ι) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

theorem coe_sum {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

section
variable (σ : ℕ → EReal) (v : ℕ → EReal)

/-- The greatest of the first `n` scores, -/
def mx (n : ℕ) : EReal := (Finset.range n).sup σ
/-- the sum of their weights, -/
def sm (n : ℕ) : EReal := ∑ j ∈ Finset.range n, wt (σ j) (mx σ n)
/-- and of the weighted values. -/
def av (n : ℕ) : EReal := ∑ j ∈ Finset.range n, wt (σ j) (mx σ n) * v j

theorem le_mx {n j : ℕ} (h : j < n) : σ j ≤ mx σ n := Finset.le_sup (Finset.mem_range.mpr h)
theorem mx_mono {n k : ℕ} (h : n ≤ k) : mx σ n ≤ mx σ k := Finset.sup_mono (Finset.range_mono h)
theorem mx_ne_top (hσ : ∀ j, σ j ≠ ⊤) (n : ℕ) : mx σ n ≠ ⊤ := by
  refine ne_of_lt ((Finset.sup_lt_iff (by exact bot_lt_top)).mpr fun j _ => lt_top_iff_ne_top.mpr (hσ j))
theorem mx_add (n k : ℕ) : mx σ (n + k) = max (mx σ n) ((Finset.range k).sup fun j => σ (n + j)) := by
  unfold mx
  induction k with
  | zero => simp
  | succ k ih => rw [← Nat.add_assoc, Finset.range_add_one, Finset.sup_insert, ih, Finset.range_add_one, Finset.sup_insert];
                 rw [max_left_comm]

theorem rescale (hσ : ∀ j, σ j ≠ ⊤) {n k j : ℕ} (hn : n ≤ k) (hj : j < n) : wt (mx σ n) (mx σ k) * wt (σ j) (mx σ n) = wt (σ j) (mx σ k) := by
  rcases rb (σ j) (hσ j) with h | ⟨r, h⟩
  · rw [h, wt_bot, wt_bot, mul_zero]
  · rcases rb _ (mx_ne_top σ hσ n) with hm | ⟨s, hm⟩
    · exact absurd (le_bot_iff.mp (hm ▸ h ▸ le_mx σ hj)) (EReal.coe_ne_bot r)
    · rcases rb _ (mx_ne_top σ hσ k) with hk | ⟨t, hk⟩
      · exact absurd (le_bot_iff.mp (hk ▸ hm ▸ mx_mono σ hn)) (EReal.coe_ne_bot s)
      · rw [h, hm, hk, wt_coe, wt_coe, wt_coe, ← EReal.coe_mul]
        congr 1
        show (2 : ℝ) ^ ((s - t) * cf) * (2 : ℝ) ^ ((r - s) * cf) = (2 : ℝ) ^ ((r - t) * cf)
        rw [← Real.rpow_add (by norm_num)]
        congr 1
        ring

theorem sm_step (hσ : ∀ j, σ j ≠ ⊤) (n k : ℕ) :
    wt (mx σ n) (mx σ (n + k)) * sm σ n + ∑ j ∈ Finset.range k, wt (σ (n + j)) (mx σ (n + k)) = sm σ (n + k) := by
  obtain ⟨c, hc, e⟩ := wt_real _ _ (mx_ne_top σ hσ n) (mx_ne_top σ hσ (n + k)) (mx_mono σ (Nat.le_add_right n k))
  unfold sm
  rw [Finset.sum_range_add, e, mul_sum_real c hc, ← e]
  congr 1
  exact Finset.sum_congr rfl fun j hj => rescale σ hσ (Nat.le_add_right n k) (Finset.mem_range.mp hj)

theorem av_step (hσ : ∀ j, σ j ≠ ⊤) (n k : ℕ) :
    av σ v n * wt (mx σ n) (mx σ (n + k)) + ∑ j ∈ Finset.range k, wt (σ (n + j)) (mx σ (n + k)) * v (n + j) = av σ v (n + k) := by
  obtain ⟨c, hc, e⟩ := wt_real _ _ (mx_ne_top σ hσ n) (mx_ne_top σ hσ (n + k)) (mx_mono σ (Nat.le_add_right n k))
  unfold av
  rw [Finset.sum_range_add, mul_comm, e, mul_sum_real c hc, ← e]
  congr 1
  exact Finset.sum_congr rfl fun j hj => by
    rw [← mul_assoc, rescale σ hσ (Nat.le_add_right n k) (Finset.mem_range.mp hj)]

/-- The weight as the exponential of the scaled scores. -/
theorem exp_wt (s M : EReal) (hs : s ≠ ⊤) (hM : M ≠ ⊤) (h : M ≠ ⊥) :
    Ideal.exp (s * ((scl : ℝ) : EReal) - M * ((scl : ℝ) : EReal)) = wt s M := by
  rcases rb M hM with rfl | ⟨t, rfl⟩
  · exact absurd rfl h
  rcases rb s hs with rfl | ⟨r, rfl⟩
  · rw [wt_bot, EReal.bot_mul_coe_of_pos scl_pos, sub_eq_add_neg, EReal.bot_add]; rfl
  · rw [wt_coe, ← EReal.coe_mul, ← EReal.coe_mul, ← EReal.coe_sub]
    show ((Real.exp _ : ℝ) : EReal) = (((2 : ℝ) ^ ((r - t) * cf) : ℝ) : EReal)
    rw [Real.rpow_def_of_pos (by norm_num)]
    congr 2
    have : Real.log 2 ≠ 0 := (Real.log_pos (by norm_num)).ne'
    unfold cf scl
    field_simp

theorem mx_scl (T : ℕ) : (Finset.univ : Finset (Fin T)).sup (fun j => σ j.val * ((scl : ℝ) : EReal)) = mx σ T * ((scl : ℝ) : EReal) := by
  have hm : Monotone fun x : EReal => x * ((scl : ℝ) : EReal) := fun x y h => mul_le_mul_of_nonneg_right h (by exact_mod_cast scl_pos.le)
  have hb : (⊥ : EReal) * ((scl : ℝ) : EReal) = ⊥ := EReal.bot_mul_coe_of_pos scl_pos
  have e : mx σ T = (Finset.univ : Finset (Fin T)).sup fun j => σ j.val := by
    apply le_antisymm
    · exact Finset.sup_le fun j hj => Finset.le_sup (f := fun j : Fin T => σ j.val) (Finset.mem_univ ⟨j, Finset.mem_range.mp hj⟩)
    · exact Finset.sup_le fun j _ => le_mx σ j.isLt
  rw [e]
  exact (Finset.apply_sup_eq_sup_comp_of_linearOrder (fun x : EReal => x * ((scl : ℝ) : EReal)) hm hb).symm

theorem mx_ext {n T : ℕ} (h : n ≤ T) (hb : ∀ j, n ≤ j → σ j = ⊥) : mx σ T = mx σ n := by
  apply le_antisymm
  · refine Finset.sup_le fun j _ => ?_
    rcases lt_or_ge j n with hj | hj
    · exact le_mx σ hj
    · rw [hb j hj]; exact bot_le
  · exact mx_mono σ h

theorem sum_ext {n T : ℕ} (h : n ≤ T) (f : ℕ → EReal) (h0 : ∀ j, n ≤ j → f j = 0) :
    ∑ j : Fin T, f j.val = ∑ j ∈ Finset.range n, f j := by
  rw [Fin.sum_univ_eq_sum_range f T]
  symm
  refine Finset.sum_subset (Finset.range_mono h) fun j _ hj => h0 j (by simpa using hj)

/-- The sum of the weights is a positive real. -/
theorem sm_real (hσ : ∀ j, σ j ≠ ⊤) {n : ℕ} (hn : 0 < n) (h0 : σ 0 ≠ ⊥) : ∃ r : ℝ, 0 < r ∧ sm σ n = r := by
  have hw : ∀ j, ∃ r : ℝ, 0 ≤ r ∧ (j < n → wt (σ j) (mx σ n) = r) := fun j => by
    by_cases hj : j < n
    · obtain ⟨r, h, e⟩ := wt_real _ _ (hσ j) (mx_ne_top σ hσ n) (le_mx σ hj)
      exact ⟨r, h, fun _ => e⟩
    · exact ⟨0, le_refl _, fun h => absurd h hj⟩
  choose w h0w hw using hw
  have hpos : 0 < w 0 := by
    obtain ⟨r, hr⟩ := (rb _ (hσ 0)).resolve_left h0
    have hb : mx σ n ≠ ⊥ := fun hb => h0 (le_bot_iff.mp (hb ▸ le_mx σ hn))
    obtain ⟨s, hs⟩ := (rb _ (mx_ne_top σ hσ n)).resolve_left hb
    have e := hw 0 hn
    rw [hr, hs, wt_coe] at e
    have e' : (2 : ℝ) ^ ((r - s) * cf) = w 0 := EReal.coe_injective e
    rw [← e']
    positivity
  refine ⟨∑ j ∈ Finset.range n, w j, ?_, ?_⟩
  · exact lt_of_lt_of_le hpos (Finset.single_le_sum (fun j _ => h0w j) (Finset.mem_range.mpr hn))
  · unfold sm
    rw [coe_sum]
    exact Finset.sum_congr rfl fun j hj => hw j (Finset.mem_range.mp hj)

theorem div_real (x : EReal) (r : ℝ) (h : 0 < r) : Ideal.div x r = ((r⁻¹ : ℝ) : EReal) * x := by
  unfold Ideal.div
  rw [if_neg (by exact_mod_cast h.ne'), ← EReal.coe_inv, mul_comm]

/-- The quotient of the kernel's sums is the softmax-weighted sum of the values. -/
theorem soft_eq (hσ : ∀ j, σ j ≠ ⊤) {n T : ℕ} (hn : 0 < n) (h : n ≤ T) (hb : ∀ j, n ≤ j → σ j = ⊥) (h0 : σ 0 ≠ ⊥)
    (M : EReal) (hM : M = (Finset.univ : Finset (Fin T)).sup (fun j => σ j.val * ((scl : ℝ) : EReal))) :
    Ideal.div (av σ v n) (sm σ n) = ∑ j : Fin T, v j.val * Ideal.div (Ideal.exp (σ j.val * ((scl : ℝ) : EReal) - M))
      (∑ k : Fin T, Ideal.exp (σ k.val * ((scl : ℝ) : EReal) - M)) := by
  have hbot : mx σ n ≠ ⊥ := fun hb => h0 (le_bot_iff.mp (hb ▸ le_mx σ hn))
  have e : ∀ j, Ideal.exp (σ j * ((scl : ℝ) : EReal) - M) = wt (σ j) (mx σ n) := fun j => by
    rw [hM, mx_scl, mx_ext σ h hb]
    exact exp_wt _ _ (hσ j) (mx_ne_top σ hσ n) hbot
  have es : ∑ k : Fin T, Ideal.exp (σ k.val * ((scl : ℝ) : EReal) - M) = sm σ n := by
    rw [Finset.sum_congr rfl fun (k : Fin T) _ => e k.val]
    exact sum_ext h (fun j => wt (σ j) (mx σ n)) fun j hj => by rw [hb j hj, wt_bot]
  obtain ⟨r, hr, er⟩ := sm_real σ hσ hn h0
  rw [es, er, div_real _ r hr, av, mul_sum_real _ (inv_nonneg.mpr hr.le)]
  rw [← sum_ext h (fun j => ((r⁻¹ : ℝ) : EReal) * (wt (σ j) (mx σ n) * v j)) fun j hj => by rw [hb j hj, wt_bot, zero_mul, mul_zero]]
  exact Finset.sum_congr rfl fun j _ => by rw [e j.val, div_real _ r hr, ← mul_assoc, mul_comm]

end

end Cert.Proof.Soft
-- ==== Proof.StageAt.lean ====
/- The stages of the attention kernel read at an index over the extended reals. -/
module

public import proofs.«01_k».proof.Proof.Steps
public import proofs.«01_k».proof.Proof.SoftMath
public import Idealize.ShloMosaic.Lib.Pointwise
public import Idealize.ShloMosaic.Lib.WordCmp

@[expose] public section
noncomputable section

namespace Cert.Proof.Mla

open Idealize.ShloMosaic Idealize.ShloMosaic.TcCoe
open Cert.KernelIdeal Cert.KernelIdeal.Gen Cert.Proof.Soft

set_option maxRecDepth 16384

theorem ofBits_ninf : Ideal.ofBits .f32 0xFF800000#32 = ⊥ := by simp [Ideal.ofBits, Ideal.ieee]

theorem coef_eq : Named.named (F := Ideal) κ "coef" (φ := .f32) 0x3DD53B95#32 = ((cf : ℝ) : EReal) := rfl
theorem masked_eq : Named.named (F := Ideal) κ "masked" (φ := .f32) 0xF149F2CA#32 = (⊥ : EReal) := rfl

/-- A maximum over an index range as one over numbers. -/
theorem fold_max (n : ℕ) (f : Fin n → EReal) (g : ℕ → EReal) (h : ∀ j : Fin n, f j = g j.val) :
    Finset.fold max (Ideal.ofBits .f32 0xFF800000#32) f Finset.univ = (Finset.range n).sup g := by
  rw [ofBits_ninf]
  show (Finset.univ : Finset (Fin n)).sup f = _
  apply le_antisymm
  · exact Finset.sup_le fun j _ => (h j).le.trans (Finset.le_sup (f := g) (Finset.mem_range.mpr j.isLt))
  · exact Finset.sup_le fun j hj => by
      have e := h ⟨j, Finset.mem_range.mp hj⟩
      dsimp only at e
      rw [← e]
      exact Finset.le_sup (Finset.mem_univ _)

theorem score_at (q : FVec Ideal S512x256 .bf16) (k : FVec Ideal S256x256 .bf16) (a : Fin 512) (j : Fin 256) :
    scoreV q k (ix2 a j) = ∑ x : Fin 256, (q (ix2 a x) * k (ix2 j x) : EReal) := by
  pointwise [scoreV]
theorem smax_at (s0 s1 : FVec Ideal S512x256 .f32) (a : Fin 512) (l : Fin 128) :
    smaxV s0 s1 (ix2 a l) = Finset.fold max (Ideal.ofBits FTy.f32 0xFF800000#32) (fun x : Fin 256 => max (s0 (ix2 a x)) (s1 (ix2 a x)) : Fin 256 → EReal) Finset.univ := by
  pointwise [smaxV, lanes, rowMax]
theorem alpha_at (m m' : FVec Ideal S512x128 .f32) (a : Fin 512) (l : Fin 128) :
    alphaV m m' (ix2 a l) = wt (m (ix2 a l)) (m' (ix2 a l)) := by
  pointwise [alphaV]
  rw [coef_eq]
  rfl
theorem weight_at (s : FVec Ideal S512x256 .f32) (m' : FVec Ideal S512x128 .f32) (a : Fin 512) (j : Fin 256) (M : EReal) (h : ∀ l : Fin 128, m' (ix2 a l) = M) :
    weightV s m' (ix2 a j) = wt (s (ix2 a j)) M := by
  pointwise [weightV]
  rw [coef_eq]
  refine congrArg (fun z : EReal => Ideal.exp2 (((s (ix2 a j) : EReal) - z) * ((cf : ℝ) : EReal))) ?_
  split
  · exact h _
  · exact h _
theorem sum_at (al l : FVec Ideal S512x128 .f32) (e0 e1 : FVec Ideal S512x256 .f32) (a : Fin 512) (b : Fin 128) :
    sumV al l e0 e1 (ix2 a b) = (al (ix2 a b) * l (ix2 a b) : EReal) + (∑ x : Fin 256, (e0 (ix2 a x) : EReal) + ∑ x : Fin 256, (e1 (ix2 a x) : EReal)) := by
  pointwise [sumV, lanes, rowSum]
theorem acc_at (acc al : FVec Ideal S512x128 .f32) (e0 e1 : FVec Ideal S512x256 .f32) (v0 v1 : FVec Ideal S256x128 .bf16) (a : Fin 512) (b : Fin 128) :
    accV acc al (roundV e0) (roundV e1) v0 v1 (ix2 a b) = (acc (ix2 a b) * al (ix2 a b) : EReal)
      + (∑ x : Fin 256, (e0 (ix2 a x) * v0 (ix2 x b) : EReal) + ∑ x : Fin 256, (e1 (ix2 a x) * v1 (ix2 x b) : EReal)) := by
  pointwise [accV, roundV]

theorem word_div (n : ℕ) (h : n < 2 ^ 31) : IntOp.shrsi .vector (BitVec.ofNat 32 n) 6#32 = BitVec.ofNat 32 (n / 64) := by
  unfold IntOp.shrsi
  rw [if_pos (by decide)]
  have hm : (BitVec.ofNat 32 n).msb = false := by rw [BitVec.msb_eq_false_iff_two_mul_lt, BitVec.toNat_ofNat]; omega
  apply BitVec.eq_of_toNat_eq
  rw [BitVec.sshiftRight', BitVec.sshiftRight_eq_of_msb_false hm, BitVec.toNat_ushiftRight, BitVec.toNat_ofNat]
  show (n % 2 ^ 32) >>> (6 : ℕ) = _
  rw [Nat.shiftRight_eq_div_pow, BitVec.toNat_ofNat, Nat.mod_eq_of_lt (by omega : n < 2 ^ 32), Nat.mod_eq_of_lt (by omega : n / 64 < 2 ^ 32)]

theorem mask_at (q0 k0 : ℕ) (hq : q0 < 16384) (hk : k0 < 16384) (s : FVec Ideal S512x256 .f32) (a : Fin 512) (b : Fin 256) :
    maskV (BitVec.ofNat 32 q0) (BitVec.ofNat 32 k0) s (ix2 a b) = if (k0 + b.val) / 64 ≤ (q0 + a.val) / 64 then s (ix2 a b) else (⊥ : EReal) := by
  pointwise [maskV, rowChunk, colChunk]
  rw [masked_eq]
  unfold IntOp.addi
  rw [← BitVec.ofNat_add, ← BitVec.ofNat_add, word_div _ (by omega), word_div _ (by omega)]
  by_cases h : (k0 + b.val) / 64 ≤ (q0 + a.val) / 64
  · rw [if_pos h, (WordCmp.cmpi_sle_ofNat_eq_one_iff (by omega) (by omega)).mpr h]; rfl
  · rw [if_neg h, (WordCmp.cmpi_sle_ofNat_eq_zero_iff (by omega) (by omega)).mpr (by omega)]; rfl

theorem maskMax_at (m : FVec Ideal S512x128 .f32) (s0 s1 : FVec Ideal S512x256 .f32) (a : Fin 512) (b : Fin 128) :
    maskMaxV m s0 s1 (ix2 a b) = max (max (m (ix2 a b) : EReal) (Finset.fold max (Ideal.ofBits FTy.f32 0xFF800000#32) (fun x : Fin 256 => (s0 (ix2 a x) : EReal)) Finset.univ))
      (Finset.fold max (Ideal.ofBits FTy.f32 0xFF800000#32) (fun x : Fin 256 => (s1 (ix2 a x) : EReal)) Finset.univ) := by
  pointwise [maskMaxV, lanes, rowMax]

theorem dn4_at (w : Vec Ideal S1x1x512x256 .bf16) (a : Fin 512) (x : Fin 256) : dn4 w (ix2 a x) = w (ix4 0 0 a x) := by
  pointwise [dn4]
theorem dnK_at (w : FVec Ideal S1x1x256x256 .bf16) (a : Fin 256) (x : Fin 256) : dnK w (ix2 a x) = w (ix4 0 0 a x) := by
  pointwise [dnK]
theorem dnV_at (w : FVec Ideal S1x1x256x128 .bf16) (a : Fin 256) (x : Fin 128) : dnV w (ix2 a x) = w (ix4 0 0 a x) := by
  pointwise [dnV]

theorem keyBlk_at (xk : Vec Ideal S1x1x16384x256 .bf16) (o : ℕ) (h : o + 256 ≤ 16384) (j : Fin 256) (x : Fin 256) :
    keyBlk xk o (ix2 j x) = xk (ix4 0 0 ⟨o + j.val, by omega⟩ x) := by
  unfold keyBlk
  rw [dif_pos (by intro a; fin_cases a <;> simp <;> omega)]
  unfold keysAt
  rw [dnK_at]
  unfold VecWindow.window
  congr 1
  funext d
  apply Fin.ext
  match d with
  | ⟨0, _⟩ => rfl
  | ⟨1, _⟩ => rfl
  | ⟨2, _⟩ => show o + 1 * j.val = o + j.val; omega
  | ⟨3, _⟩ => show 0 + 1 * x.val = x.val; omega

theorem valBlk_at (xv : Vec Ideal S1x1x16384x128 .bf16) (o : ℕ) (h : o + 256 ≤ 16384) (j : Fin 256) (x : Fin 128) :
    valBlk xv o (ix2 j x) = xv (ix4 0 0 ⟨o + j.val, by omega⟩ x) := by
  unfold valBlk
  rw [dif_pos (by intro a; fin_cases a <;> simp <;> omega)]
  unfold valsAt
  rw [dnV_at]
  unfold VecWindow.window
  congr 1
  funext d
  apply Fin.ext
  match d with
  | ⟨0, _⟩ => rfl
  | ⟨1, _⟩ => rfl
  | ⟨2, _⟩ => show o + 1 * j.val = o + j.val; omega
  | ⟨3, _⟩ => show 0 + 1 * x.val = x.val; omega

theorem qOf_at (xq : Vec Ideal S1x1x512x256 .bf16) (a : Fin 512) (x : Fin 256) : qOf xq (ix2 a x) = xq (ix4 0 0 a x) := by
  unfold qOf
  rw [dn4_at]
  unfold VecWindow.window
  congr 1
  funext d
  apply Fin.ext
  match d with
  | ⟨0, _⟩ => rfl
  | ⟨1, _⟩ => rfl
  | ⟨2, _⟩ => show 0 + 1 * a.val = a.val; omega
  | ⟨3, _⟩ => show 0 + 1 * x.val = x.val; omega

theorem out_at (acc l : FVec Ideal S512x128 .f32) (a : Fin 512) (b : Fin 128) :
    outV acc l (ix3 0 a b) = Ideal.div (acc (ix2 a b)) (l (ix2 a b)) := by
  pointwise [outV]

/-! ## One block -/

section
variable (σ v : ℕ → EReal) (hσ : ∀ j, σ j ≠ ⊤) (n : ℕ) (a : Fin 512)
  (s0 s1 : FVec Ideal S512x256 .f32) (h0 : ∀ j : Fin 256, s0 (ix2 a j) = σ (n + j.val)) (h1 : ∀ j : Fin 256, s1 (ix2 a j) = σ (n + 256 + j.val))
include h0 h1

theorem sup512 : mx σ (n + 512) = max (max (mx σ n) ((Finset.range 256).sup fun j => σ (n + j))) ((Finset.range 256).sup fun j => σ (n + 256 + j)) := by
  rw [show n + 512 = n + 256 + 256 from rfl, mx_add, mx_add]

theorem mx_block (m : FVec Ideal S512x128 .f32) (hm : ∀ l : Fin 128, m (ix2 a l) = mx σ n) (l : Fin 128) :
    maximumf m (smaxV s0 s1) (ix2 a l) = mx σ (n + 512) := by
  show max (m (ix2 a l) : EReal) (smaxV s0 s1 (ix2 a l)) = _
  rw [smax_at, hm, sup512 σ n a s0 s1 h0 h1, max_assoc]
  congr 1
  rw [fold_max 256 _ (fun j => max (σ (n + j)) (σ (n + 256 + j))) fun j => by rw [h0, h1]]
  exact Finset.sup_sup

theorem mxMask_block (m : FVec Ideal S512x128 .f32) (hm : ∀ l : Fin 128, m (ix2 a l) = mx σ n) (l : Fin 128) :
    maskMaxV m s0 s1 (ix2 a l) = mx σ (n + 512) := by
  rw [maskMax_at, hm, sup512 σ n a s0 s1 h0 h1, fold_max 256 _ (fun j => σ (n + j)) h0, fold_max 256 _ (fun j => σ (n + 256 + j)) h1]

variable (m m' : FVec Ideal S512x128 .f32) (hm : ∀ l : Fin 128, m (ix2 a l) = mx σ n) (hm' : ∀ l : Fin 128, m' (ix2 a l) = mx σ (n + 512))
include hσ hm hm'

theorem sm_block (l : FVec Ideal S512x128 .f32) (b : Fin 128) (hl : l (ix2 a b) = sm σ n) :
    sumV (alphaV m m') l (weightV s0 m') (weightV s1 m') (ix2 a b) = sm σ (n + 512) := by
  rw [sum_at, alpha_at, hm, hm', hl, ← Soft.sm_step σ hσ n 512]
  congr 1
  rw [show Finset.range 512 = Finset.range (256 + 256) from rfl, Finset.sum_range_add, ← Fin.sum_univ_eq_sum_range (fun j => wt (σ (n + j)) (mx σ (n + 512))) 256,
    ← Fin.sum_univ_eq_sum_range (fun j => wt (σ (n + (256 + j))) (mx σ (n + 512))) 256]
  congr 1
  · exact Finset.sum_congr rfl fun j _ => by rw [weight_at _ _ _ _ _ hm', h0]
  · exact Finset.sum_congr rfl fun j _ => by rw [weight_at _ _ _ _ _ hm', h1, Nat.add_assoc]

theorem av_block (acc : FVec Ideal S512x128 .f32) (v0 v1 : FVec Ideal S256x128 .bf16) (b : Fin 128)
    (hv0 : ∀ j : Fin 256, v0 (ix2 j b) = v (n + j.val)) (hv1 : ∀ j : Fin 256, v1 (ix2 j b) = v (n + 256 + j.val)) (hl : acc (ix2 a b) = av σ v n) :
    accV acc (alphaV m m') (roundV (weightV s0 m')) (roundV (weightV s1 m')) v0 v1 (ix2 a b) = av σ v (n + 512) := by
  rw [acc_at, alpha_at, hm, hm', hl, ← Soft.av_step σ v hσ n 512]
  congr 1
  rw [show Finset.range 512 = Finset.range (256 + 256) from rfl, Finset.sum_range_add, ← Fin.sum_univ_eq_sum_range (fun j => wt (σ (n + j)) (mx σ (n + 512)) * v (n + j)) 256,
    ← Fin.sum_univ_eq_sum_range (fun j => wt (σ (n + (256 + j))) (mx σ (n + 512)) * v (n + (256 + j))) 256]
  congr 1
  · exact Finset.sum_congr rfl fun j _ => by rw [weight_at _ _ _ _ _ hm', h0, hv0]
  · exact Finset.sum_congr rfl fun j _ => by rw [weight_at _ _ _ _ _ hm', h1, hv1, Nat.add_assoc]

end

end Cert.Proof.Mla
-- ==== Proof.Row.lean ====
/- One row of queries over all its blocks: the running maxima, sums and accumulated values of the attention kernel are
   those of the scores the mask keeps. -/
module

public import proofs.«01_k».proof.Proof.StageAt
public import proofs.«01_k».proof.Proof.Attend

@[expose] public section
noncomputable section

namespace Cert.Proof.Mla

open Idealize.ShloMosaic Idealize.ShloMosaic.TcCoe
open Cert.KernelIdeal Cert.KernelIdeal.Gen Cert.Proof.Soft

variable (q : FVec Ideal S512x256 .bf16) (xk : Vec Ideal S1x1x16384x256 .bf16) (xv : Vec Ideal S1x1x16384x128 .bf16)
  (i : ℕ) (hi : i < 32) (a : Fin 512) (b : Fin 128)

/-- The score of key `j`, -/
def rawAt (j : ℕ) : EReal := if h : j < 16384 then ∑ x : Fin 256, (q (ix2 a x) * xk (ix4 0 0 ⟨j, h⟩ x) : EReal) else ⊥
/-- the masked score, -/
def keptAt (j : ℕ) : EReal := if j < 64 * ((512 * i + a.val) / 64 + 1) then rawAt q xk a j else ⊥
/-- and the value of key `j`. -/
def valAt (j : ℕ) : EReal := if h : j < 16384 then xv (ix4 0 0 ⟨j, h⟩ b) else 0

theorem scr_at (j ch : ℕ) (h : j * 512 + ch * 256 + 256 ≤ 16384) (y : Fin 256) :
    scr q xk j ch (ix2 a y) = rawAt q xk a (j * 512 + ch * 256 + y.val) := by
  rw [scr, score_at, rawAt, dif_pos (by omega)]
  exact Finset.sum_congr rfl fun x _ => by rw [keyBlk_at _ _ h]

theorem val_at (o : ℕ) (h : o + 256 ≤ 16384) (y : Fin 256) : valBlk xv o (ix2 y b) = valAt xv b (o + y.val) := by
  rw [valBlk_at _ _ h, valAt, dif_pos (by omega)]

include hi in
theorem scr_kept (n ch : ℕ) (hn : n < i) (hc : ch < 2) (y : Fin 256) :
    scr q xk n ch (ix2 a y) = keptAt q xk i a (512 * n + ch * 256 + y.val) := by
  rw [scr_at q xk a n ch (by omega), keptAt, if_pos (by omega), Nat.mul_comm n 512]

variable (hS : ∀ j, rawAt q xk a j ≠ ⊤)

include hS in
theorem kept_ne_top (j : ℕ) : keptAt q xk i a j ≠ ⊤ := by
  unfold keptAt; split
  · exact hS j
  · exact bot_ne_top

include hi

theorem rmx_at : ∀ (n : ℕ), n ≤ i → ∀ l : Fin 128, rmx q xk n (ix2 a l) = mx (keptAt q xk i a) (512 * n)
  | 0, _, l => by
    show Named.named (F := Ideal) κ "masked" (φ := .f32) 0xF149F2CA#32 = _
    rw [masked_eq]; simp [mx]
  | n + 1, h, l => by
    rw [rmx]
    exact mx_block (keptAt q xk i a) (512 * n) a _ _ (fun y => scr_kept q xk i hi a n 0 (by omega) (by omega) y)
      (fun y => scr_kept q xk i hi a n 1 (by omega) (by omega) y) _ (fun l => rmx_at n (by omega) l) l

include hS

theorem rsm_at : ∀ (n : ℕ), n ≤ i → rsm q xk n (ix2 a b) = sm (keptAt q xk i a) (512 * n)
  | 0, _ => by
    show Ideal.ofBits .f32 0x00000000#32 = _
    rw [show Ideal.ofBits .f32 0x00000000#32 = 0 by simp [Ideal.ofBits, Ideal.ieee]]; simp [sm]
  | n + 1, h => by
    rw [rsm]
    exact sm_block (keptAt q xk i a) (kept_ne_top q xk i a hS) (512 * n) a _ _ (fun y => scr_kept q xk i hi a n 0 (by omega) (by omega) y)
      (fun y => scr_kept q xk i hi a n 1 (by omega) (by omega) y) _ _ (rmx_at q xk i hi a n (by omega)) (rmx_at q xk i hi a (n + 1) h) _ b (rsm_at n (by omega))

theorem rac_at : ∀ (n : ℕ), n ≤ i → rac q xk xv n (ix2 a b) = av (keptAt q xk i a) (valAt xv b) (512 * n)
  | 0, _ => by
    show Ideal.ofBits .f32 0x00000000#32 = _
    rw [show Ideal.ofBits .f32 0x00000000#32 = 0 by simp [Ideal.ofBits, Ideal.ieee]]; simp [av]
  | n + 1, h => by
    rw [rac]
    exact av_block (keptAt q xk i a) (valAt xv b) (kept_ne_top q xk i a hS) (512 * n) a _ _ (fun y => scr_kept q xk i hi a n 0 (by omega) (by omega) y)
      (fun y => scr_kept q xk i hi a n 1 (by omega) (by omega) y) _ _ (rmx_at q xk i hi a n (by omega)) (rmx_at q xk i hi a (n + 1) h) _ _ _ b
      (fun y => by rw [val_at xv b _ (by omega), Nat.mul_comm]) (fun y => by rw [val_at xv b _ (by omega), Nat.mul_comm n 512]) (rac_at n (by omega))

omit hS in
theorem mask0_at (y : Fin 256) :
    lastS0 q xk (BitVec.ofNat 32 (512 * i)) (BitVec.ofNat 32 (512 * i)) i (ix2 a y) = keptAt q xk i a (512 * i + y.val) := by
  rw [lastS0, mask_at _ _ (by omega) (by omega), keptAt, scr_at q xk a i 0 (by omega)]
  by_cases h : (512 * i + y.val) / 64 ≤ (512 * i + a.val) / 64
  · rw [if_pos h, if_pos (by omega)]; congr 1; omega
  · rw [if_neg h, if_neg (by omega)]

omit hS in
theorem mask1_at (y : Fin 256) :
    lastS1 q xk (BitVec.ofNat 32 (512 * i)) (BitVec.ofNat 32 (512 * i + 256)) i (ix2 a y) = keptAt q xk i a (512 * i + 256 + y.val) := by
  rw [lastS1, mask_at _ _ (by omega) (by omega), keptAt, scr_at q xk a i 1 (by omega)]
  by_cases h : (512 * i + 256 + y.val) / 64 ≤ (512 * i + a.val) / 64
  · rw [if_pos h, if_pos (by omega)]; congr 1; omega
  · rw [if_neg h, if_neg (by omega)]

omit hS in
theorem lastM_at (l : Fin 128) :
    lastM q xk (BitVec.ofNat 32 (512 * i)) (BitVec.ofNat 32 (512 * i)) (BitVec.ofNat 32 (512 * i + 256)) i (ix2 a l)
      = mx (keptAt q xk i a) (512 * i + 512) := by
  rw [lastM]
  exact mxMask_block (keptAt q xk i a) (512 * i) a _ _ (mask0_at q xk i hi a) (mask1_at q xk i hi a) _ (rmx_at q xk i hi a i le_rfl) l

theorem lastL_at :
    lastL q xk (BitVec.ofNat 32 (512 * i)) (BitVec.ofNat 32 (512 * i)) (BitVec.ofNat 32 (512 * i + 256)) i (ix2 a b)
      = sm (keptAt q xk i a) (512 * i + 512) := by
  rw [lastL]
  exact sm_block (keptAt q xk i a) (kept_ne_top q xk i a hS) (512 * i) a _ _ (mask0_at q xk i hi a) (mask1_at q xk i hi a) _ _
    (rmx_at q xk i hi a i le_rfl) (lastM_at q xk i hi a) _ b (rsm_at q xk i hi a b hS i le_rfl)

theorem lastAcc_at :
    lastAcc q xk xv (BitVec.ofNat 32 (512 * i)) (BitVec.ofNat 32 (512 * i)) (BitVec.ofNat 32 (512 * i + 256)) i (ix2 a b)
      = av (keptAt q xk i a) (valAt xv b) (512 * i + 512) := by
  rw [lastAcc]
  exact av_block (keptAt q xk i a) (valAt xv b) (kept_ne_top q xk i a hS) (512 * i) a _ _ (mask0_at q xk i hi a) (mask1_at q xk i hi a) _ _
    (rmx_at q xk i hi a i le_rfl) (lastM_at q xk i hi a) _ _ _ b
    (fun y => by rw [val_at xv b _ (by omega), Nat.mul_comm]) (fun y => by rw [val_at xv b _ (by omega), Nat.mul_comm i 512]) (rac_at q xk xv i hi a b hS i le_rfl)

omit hi hS in
/-- The block a point leaves, at row `a` and column `b`. -/
theorem outB_at (p : grid0.Coords) (xq : Vec Ideal S1x1x512x256 .bf16) (hS : ∀ j, rawAt (qOf xq) xk a j ≠ ⊤) :
    outB p xq xk xv (ix3 0 a b) = Ideal.div (av (keptAt (qOf xq) xk (p 2).val a) (valAt xv b) (512 * (p 2).val + 512))
      (sm (keptAt (qOf xq) xk (p 2).val a) (512 * (p 2).val + 512)) := by
  have hi : (p 2).val < 32 := (p 2).isLt
  rw [outB, out_at]
  unfold row row1
  rw [lastAcc_at _ _ _ _ hi _ _ hS, lastL_at _ _ _ hi _ _ hS]

end Cert.Proof.Mla
-- ==== Proof.MlaBlocks.lean ====
/- The attention kernel's blocks read off its arguments, over the extended reals. -/
module

public import proofs.«01_k».proof.Proof.Launch
public import proofs.«01_k».proof.Proof.Row
public import Idealize.ShloMosaic.Lib.Pointwise
public import Idealize.ShloMosaic.Lib.Claim

@[expose] public section
noncomputable section

namespace Cert.Proof.Mla

open Idealize.ShloMosaic Idealize.ShloMosaic.TcCoe Idealize.SL.Sem
open Cert.KernelIdeal Cert.KernelIdeal.Gen Cert.Proof.Soft

variable (m : (ℓ : Loc nD τ sig) → Buf (Elt Ideal) ℓ) (c : Dev nD)

abbrev argQn : FVec Ideal S1x16384x8x128 .f32 := m ((c : Thread nD τ).loc main_arg0)
abbrev argQp : FVec Ideal S1x16384x8x64 .f32 := m ((c : Thread nD τ).loc main_arg1)
abbrev argKn : FVec Ideal S1x16384x8x128 .f32 := m ((c : Thread nD τ).loc main_arg2)
abbrev argKp : FVec Ideal S1x16384x64 .f32 := m ((c : Thread nD τ).loc main_arg3)
abbrev argV : FVec Ideal S1x16384x8x128 .f32 := m ((c : Thread nD τ).loc main_arg4)

theorem index0 : ∀ t : Fin cfg0.N, win0_0.index t (0 : Fin 4) = t.val / 32 ∧ win0_0.index t (1 : Fin 4) = 0 ∧ win0_0.index t (2 : Fin 4) = t.val % 32 ∧ win0_0.index t (3 : Fin 4) = 0 := (by decide +kernel : ∀ t : Fin grid0.N, _)
theorem index1 : ∀ t : Fin cfg0.N, win0_1.index t (0 : Fin 4) = t.val / 32 ∧ win0_1.index t (1 : Fin 4) = 0 ∧ win0_1.index t (2 : Fin 4) = 0 ∧ win0_1.index t (3 : Fin 4) = 0 := (by decide +kernel : ∀ t : Fin grid0.N, _)
theorem index2 : ∀ t : Fin cfg0.N, win0_2.index t (0 : Fin 4) = t.val / 32 ∧ win0_2.index t (1 : Fin 4) = 0 ∧ win0_2.index t (2 : Fin 4) = 0 ∧ win0_2.index t (3 : Fin 4) = 0 := (by decide +kernel : ∀ t : Fin grid0.N, _)
theorem index3 : ∀ t : Fin cfg0.N, win0_3.index t (0 : Fin 3) = 0 ∧ win0_3.index t (1 : Fin 3) = t.val % 32 ∧ win0_3.index t (2 : Fin 3) = t.val / 32 := (by decide +kernel : ∀ t : Fin grid0.N, _)
theorem coord2 : ∀ t : Fin cfg0.N, (grid0.coords t 2).val = t.val % 32 := (by decide +kernel : ∀ t : Fin grid0.N, _)

theorem pt_lt (h : Fin 8) (i : Fin 32) : 32 * h.val + i.val < cfg0.N := lt_of_lt_of_eq (by omega) (N_0 : grid0.N = 256).symm
/-- The point of head `h` and block of queries `i`. -/
abbrev pt (h : Fin 8) (i : Fin 32) : Fin cfg0.N := ⟨32 * h.val + i.val, pt_lt h i⟩
abbrev rowAt (i : Fin 32) (a : Fin 512) : Fin 16384 := ⟨512 * i.val + a.val, by omega⟩

set_option maxRecDepth 16384

/-- A row's 128 and 64 entries, with 64 more after them. -/
def cat3 (x : FVec Ideal S1x16384x8x128 .f32) (y z : FVec Ideal S1x16384x8x64 .f32) : FVec Ideal S1x16384x8x256 .f32 :=
  concatenate S1x16384x8x256 3 [⟨S1x16384x8x128, x⟩, ⟨S1x16384x8x64, y⟩, ⟨S1x16384x8x64, z⟩] concatenates_S1x16384x8x128_S1x16384x8x64_S1x16384x8x64_S1x16384x8x256_d3
/-- The rows as the kernel takes them, head by head. -/
def byHead (x : FVec Ideal S1x16384x8x128 .f32) (y : FVec Ideal S1x16384x8x64 .f32) : FVec Ideal S8x1x16384x256 .bf16 :=
  transpose S8x1x16384x256 [2, 0, 1, 3] (truncf .bf16 (cat3 x y (broadcastInDim S1x16384x8x64 ![] bcast_S_S1x16384x8x64 (constant S_ .f32 0x00000000#32))) bitsLt_bf16_f32)
    transposes_S1x16384x8x256_S8x1x16384x256_2_0_1_3
/-- The keys' shared entries, for every head. -/
def shared (y : FVec Ideal S1x16384x64 .f32) : FVec Ideal S1x16384x8x64 .f32 :=
  broadcastInDim S1x16384x8x64 ![0, 1, 2, 3] bcast_S1x16384x1x64_S1x16384x8x64_0_1_2_3 (broadcastInDim S1x16384x1x64 ![0, 1, 3] bcast_S1x16384x64_S1x16384x1x64_0_1_3 y)

theorem V_q : V m c main_v7 = byHead (argQn m c) (argQp m c) := rfl
theorem V_k : V m c main_v8 = byHead (argKn m c) (shared (argKp m c)) := rfl
theorem V_v : V m c main_v10 = transpose S8x1x16384x128 [2, 0, 1, 3] (truncf .bf16 (argV m c) bitsLt_bf16_f32) transposes_S1x16384x8x128_S8x1x16384x128_2_0_1_3 := rfl

theorem cat3_at (x : FVec Ideal S1x16384x8x128 .f32) (y z : FVec Ideal S1x16384x8x64 .f32) (p : Fin 16384) (h : Fin 8) (k : Fin 256) :
    cat3 x y z (ix4 0 p h k) = if hx : k.val < 128 then x (ix4 0 p h ⟨k.val, hx⟩) else if hy : k.val - 128 < 64 then y (ix4 0 p h ⟨k.val - 128, hy⟩)
      else z (ix4 0 p h ⟨k.val - 128 - 64, by omega⟩) := by
  pointwise [cat3]

theorem byHead_at (x : FVec Ideal S1x16384x8x128 .f32) (y : FVec Ideal S1x16384x8x64 .f32) (p : Fin 16384) (h : Fin 8) (k : Fin 256) :
    byHead x y (ix4 h 0 p k) = if hx : k.val < 128 then x (ix4 0 p h ⟨k.val, hx⟩) else if hy : k.val - 128 < 64 then y (ix4 0 p h ⟨k.val - 128, hy⟩) else (0 : EReal) := by
  pointwise [byHead]
  rw [cat3_at]
  by_cases hx : k.val < 128
  · rw [dif_pos hx, dif_pos hx]
  · rw [dif_neg hx, dif_neg hx]
    by_cases hy : k.val - 128 < 64
    · rw [dif_pos hy, dif_pos hy]
    · rw [dif_neg hy, dif_neg hy]
      show Ideal.ofBits .f32 0x00000000#32 = 0
      simp [Ideal.ofBits, Ideal.ieee]

theorem shared_at (y : FVec Ideal S1x16384x64 .f32) (p : Fin 16384) (h : Fin 8) (k : Fin 64) : shared y (ix4 0 p h k) = y (ix3 0 p k) := by
  pointwise [shared]

theorem blkQ (h : Fin 8) (i : Fin 32) (a : Fin 512) (x : Fin 256) :
    (iblk m c 0 (pt h i) : Vec Ideal S1x1x512x256 .bf16) (ix4 0 0 a x)
      = if hx : x.val < 128 then argQn m c (ix4 0 (rowAt i a) h ⟨x.val, hx⟩) else if hy : x.val - 128 < 64 then argQp m c (ix4 0 (rowAt i a) h ⟨x.val - 128, hy⟩) else (0 : EReal) := by
  have hi := index0 (pt h i)
  unfold iblk
  rw [View.read_apply]
  show V m c main_v7 _ = _
  rw [V_q]
  have e : ((cfg0.win 0).blk (pt h i)).view.emb (ix4 0 0 a x) = (ix4 h 0 (rowAt i a) x : S8x1x16384x256.Idx) := by
    funext d
    apply Fin.ext
    match d with
    | ⟨0, _⟩ => show win0_0.index _ 0 * 1 + 1 * 0 = h.val; rw [hi.1]; dsimp only; omega
    | ⟨1, _⟩ => show win0_0.index _ 1 * 1 + 1 * 0 = 0; rw [hi.2.1]
    | ⟨2, _⟩ => show win0_0.index _ 2 * 512 + 1 * a.val = 512 * i.val + a.val; rw [hi.2.2.1]; dsimp only; omega
    | ⟨3, _⟩ => show win0_0.index _ 3 * 256 + 1 * x.val = x.val; rw [hi.2.2.2]; omega
  rw [e]
  exact byHead_at _ _ _ _ _

theorem blkK (h : Fin 8) (i : Fin 32) (j : Fin 16384) (x : Fin 256) :
    (iblk m c 1 (pt h i) : Vec Ideal S1x1x16384x256 .bf16) (ix4 0 0 j x)
      = if hx : x.val < 128 then argKn m c (ix4 0 j h ⟨x.val, hx⟩) else if hy : x.val - 128 < 64 then argKp m c (ix3 0 j ⟨x.val - 128, hy⟩) else (0 : EReal) := by
  have hi := index1 (pt h i)
  unfold iblk
  rw [View.read_apply]
  show V m c main_v8 _ = _
  rw [V_k]
  have e : ((cfg0.win 1).blk (pt h i)).view.emb (ix4 0 0 j x) = (ix4 h 0 j x : S8x1x16384x256.Idx) := by
    funext d
    apply Fin.ext
    match d with
    | ⟨0, _⟩ => show win0_1.index _ 0 * 1 + 1 * 0 = h.val; rw [hi.1]; dsimp only; omega
    | ⟨1, _⟩ => show win0_1.index _ 1 * 1 + 1 * 0 = 0; rw [hi.2.1]
    | ⟨2, _⟩ => show win0_1.index _ 2 * 16384 + 1 * j.val = j.val; rw [hi.2.2.1]; omega
    | ⟨3, _⟩ => show win0_1.index _ 3 * 256 + 1 * x.val = x.val; rw [hi.2.2.2]; omega
  rw [e]
  refine (byHead_at _ _ _ _ _).trans ?_
  simp only [shared_at]

theorem blkV (h : Fin 8) (i : Fin 32) (j : Fin 16384) (b : Fin 128) :
    (iblk m c 2 (pt h i) : Vec Ideal S1x1x16384x128 .bf16) (ix4 0 0 j b) = argV m c (ix4 0 j h b) := by
  have hi := index2 (pt h i)
  unfold iblk
  rw [View.read_apply]
  show V m c main_v10 _ = _
  rw [V_v]
  have e : ((cfg0.win 2).blk (pt h i)).view.emb (ix4 0 0 j b) = (ix4 h 0 j b : S8x1x16384x128.Idx) := by
    funext d
    apply Fin.ext
    match d with
    | ⟨0, _⟩ => show win0_2.index _ 0 * 1 + 1 * 0 = h.val; rw [hi.1]; dsimp only; omega
    | ⟨1, _⟩ => show win0_2.index _ 1 * 1 + 1 * 0 = 0; rw [hi.2.1]
    | ⟨2, _⟩ => show win0_2.index _ 2 * 16384 + 1 * j.val = j.val; rw [hi.2.2.1]; omega
    | ⟨3, _⟩ => show win0_2.index _ 3 * 128 + 1 * b.val = b.val; rw [hi.2.2.2]; omega
  rw [e]
  pointwise

theorem sum256 (t : Fin 256 → EReal) (A : Fin 128 → EReal) (B : Fin 64 → EReal) (hA : ∀ x : Fin 128, t ⟨x.val, by omega⟩ = A x)
    (hB : ∀ x : Fin 64, t ⟨128 + x.val, by omega⟩ = B x) (hC : ∀ x : Fin 64, t ⟨128 + (64 + x.val), by omega⟩ = 0) :
    ∑ x, t x = ∑ x, A x + ∑ x, B x := by
  refine (Fin.sum_univ_add (a := 128) (b := 128) t).trans ?_
  congr 1
  · exact Finset.sum_congr rfl fun x _ => hA x
  · refine (Fin.sum_univ_add (a := 64) (b := 64) (fun x => t (Fin.natAdd 128 x))).trans ?_
    rw [← add_zero (∑ x, B x)]
    congr 1
    · exact Finset.sum_congr rfl fun x _ => hB x
    · exact Finset.sum_eq_zero fun x _ => hC x

/-- The score of query `p` and key `j` at head `h`, before scaling. -/
def dotAt (h : Fin 8) (p j : Fin 16384) : EReal :=
  ∑ x : Fin 128, (argQn m c (ix4 0 p h x) * argKn m c (ix4 0 j h x) : EReal) + ∑ x : Fin 64, (argKp m c (ix3 0 j x) * argQp m c (ix4 0 p h x) : EReal)

theorem raw_eq (h : Fin 8) (i : Fin 32) (a : Fin 512) (j : Fin 16384) :
    rawAt (qOf (iblk m c 0 (pt h i))) (iblk m c 1 (pt h i)) a j.val = dotAt m c h (rowAt i a) j := by
  rw [rawAt, dif_pos j.isLt]
  refine sum256 _ _ _ (fun x => ?_) (fun x => ?_) (fun x => ?_)
  · refine (congrArg₂ (fun u v : EReal => u * v) ((qOf_at _ a _).trans (blkQ m c h i a _)) (blkK m c h i j _)).trans ?_
    rw [dif_pos x.isLt, dif_pos x.isLt]
  · refine (congrArg₂ (fun u v : EReal => u * v) ((qOf_at _ a _).trans (blkQ m c h i a _)) (blkK m c h i j _)).trans ?_
    have e : (⟨128 + x.val - 128, by omega⟩ : Fin 64) = x := Fin.ext (by dsimp only; omega)
    rw [dif_neg (by dsimp only; omega), dif_pos (by dsimp only; omega), dif_neg (by dsimp only; omega), dif_pos (by dsimp only; omega), e, mul_comm]
  · refine (congrArg₂ (fun u v : EReal => u * v) ((qOf_at _ a _).trans (blkQ m c h i a _)) (blkK m c h i j _)).trans ?_
    rw [dif_neg (by dsimp only; omega), dif_neg (by dsimp only; omega), zero_mul]

end Cert.Proof.Mla
-- ==== Proof.MlaRef.lean ====
/- The reference attention over the extended reals, read at an index. -/
module

public import proofs.«01_k».proof.Proof.Gen.ReferenceIdeal.Run
public import proofs.«01_k».proof.Proof.SoftMath
public import Idealize.ShloMosaic.Lib.Pointwise
public import Idealize.ShloMosaic.Lib.WordCmp

@[expose] public section
noncomputable section

namespace Cert.Proof.MlaRef

open Cert.ReferenceIdeal Cert.ReferenceIdeal.Gen Idealize.ShloMosaic Idealize.ShloMosaic.TcCoe

set_option maxRecDepth 16384

/-- The chunk of 64 rows each row is in. -/
def chunkR : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32)))) (broadcastInDim S16384 ![] bcast_S_S16384 (constantI S_ 32 0#32))))
    (subi (Host.divsi (iotaInDim S16384 32 0) (broadcastInDim S16384 ![] bcast_S_S16384 (id (constantI S_ 32 64#32)))) (broadcastInDim S16384 ![] bcast_S_S16384 (constantI S_ 32 1#32)))
    (Host.divsi (iotaInDim S16384 32 0) (broadcastInDim S16384 ![] bcast_S_S16384 (id (constantI S_ 32 64#32))))

/-- Which keys each query attends to. -/
def maskR : IVec S16384x16384 1 :=
  cmpi .sle (broadcastInDim S16384x16384 ![0, 1] bcast_S1x16384_S16384x16384_0_1 (broadcastInDim S1x16384 ![1] bcast_S16384_S1x16384_1 chunkR))
    (broadcastInDim S16384x16384 ![0, 1] bcast_S16384x1_S16384x16384_0_1 (broadcastInDim S16384x1 ![0] bcast_S16384_S16384x1_0 chunkR))

/-- The scaled scores. -/
def scoreR (a0 : FVec Ideal S1x16384x8x128 .f32) (a1 : FVec Ideal S1x16384x8x64 .f32) (a2 : FVec Ideal S1x16384x8x128 .f32) (a3 : FVec Ideal S1x16384x64 .f32) : FVec Ideal S1x8x16384x16384 .f32 :=
  mulf (addf (Host.dotGeneral dot_S1x16384x8x128_S1x16384x8x128_S1x8x16384x16384_3_3_1_1_02_02 none a0 a2)
      (transpose S1x8x16384x16384 [0, 3, 2, 1] (Host.dotGeneral dot_S1x16384x64_S1x16384x8x64_S1x16384x16384x8_2_3_1_12_0_0 none a3 a1) transposes_S1x16384x16384x8_S1x8x16384x16384_0_3_2_1))
    (broadcastInDim S1x8x16384x16384 ![] bcast_S_S1x8x16384x16384 (Host.rsqrt (constant S_ .f32 0x43400000#32)))

def keptR (s : FVec Ideal S1x8x16384x16384 .f32) : FVec Ideal S1x8x16384x16384 .f32 :=
  select (broadcastInDim S1x8x16384x16384 ![0, 1, 2, 3] bcast_S1x1x16384x16384_S1x8x16384x16384_0_1_2_3 (broadcastInDim S1x1x16384x16384 ![2, 3] bcast_S16384x16384_S1x1x16384x16384_2_3 maskR))
    s (broadcastInDim S1x8x16384x16384 ![] bcast_S_S1x8x16384x16384 (id (constant S_ .f32 0xFF800000#32)))

def maxR (s : FVec Ideal S1x8x16384x16384 .f32) : FVec Ideal S1x8x16384 .f32 :=
  maximumf (broadcastInDim S1x8x16384 ![] bcast_S_S1x8x16384 (constant S_ .f32 0xFF800000#32))
    (Host.reduce FloatOps.maximumf s (constant S_ .f32 0xFF800000#32) reducesTo_S1x8x16384x16384_S1x8x16384_d3 h_S_)

def expR (s : FVec Ideal S1x8x16384x16384 .f32) (M : FVec Ideal S1x8x16384 .f32) : FVec Ideal S1x8x16384x16384 .f32 :=
  Host.exp (subf s (broadcastInDim S1x8x16384x16384 ![0, 1, 2, 3] bcast_S1x8x16384x1_S1x8x16384x16384_0_1_2_3 (broadcastInDim S1x8x16384x1 ![0, 1, 2] bcast_S1x8x16384_S1x8x16384x1_0_1_2 M)))

def outR (e : FVec Ideal S1x8x16384x16384 .f32) (a4 : FVec Ideal S1x16384x8x128 .f32) : FVec Ideal S1x16384x1024 .bf16 :=
  truncf .bf16 (shapeCast _ (transpose S1x16384x8x128 [0, 3, 1, 2] (Host.dotGeneral dot_S1x16384x8x128_S1x8x16384x16384_S1x8x128x16384_1_3_3_2_02_01 none a4
    (Host.divf e (broadcastInDim S1x8x16384x16384 ![0, 1, 2, 3] bcast_S1x8x16384x1_S1x8x16384x16384_0_1_2_3
      (broadcastInDim S1x8x16384x1 ![0, 1, 2] bcast_S1x8x16384_S1x8x16384x1_0_1_2
        (Host.reduceAdd e (constant S_ .f32 0x00000000#32) reducesTo_S1x8x16384x16384_S1x8x16384_d3 h_S_)))))
    transposes_S1x8x128x16384_S1x16384x8x128_0_3_1_2) shapeCasts_S1x16384x8x128_S1x16384x1024) bitsLt_bf16_f32

theorem res_eq (m : (ℓ : Loc nD τ sig) → Buf (Elt Ideal) ℓ) (c : Dev nD) :
    Value.res_main_v32 m c = outR (expR (keptR (scoreR (m ((c.tc : Thread nD τ).loc main_arg0)) (m ((c.tc : Thread nD τ).loc main_arg1)) (m ((c.tc : Thread nD τ).loc main_arg2)) (m ((c.tc : Thread nD τ).loc main_arg3))))
      (maxR (keptR (scoreR (m ((c.tc : Thread nD τ).loc main_arg0)) (m ((c.tc : Thread nD τ).loc main_arg1)) (m ((c.tc : Thread nD τ).loc main_arg2)) (m ((c.tc : Thread nD τ).loc main_arg3)))))) (m ((c.tc : Thread nD τ).loc main_arg4)) := rfl

theorem chunk_word (j : ℕ) (hj : j < 16384) :
    Scalar.select
      (IntOp.andi
        (IntOp.cmpi CmpIPredicate.ne
          (if BitVec.ofNat 32 j = 0 then (0 : BitVec 32) else if (BitVec.ofNat 32 j).msb = true then -1 else 1)
          (if (64#32 : BitVec 32) = 0 then 0 else if (64#32 : BitVec 32).msb = true then -1 else 1))
        (IntOp.cmpi CmpIPredicate.ne (IntOp.remsi ArithUnit.host (BitVec.ofNat 32 j) 64#32) 0#32))
      (IntOp.subi (IntOp.divsi ArithUnit.host (BitVec.ofNat 32 j) 64#32) 1#32)
      (IntOp.divsi ArithUnit.host (BitVec.ofNat 32 j) 64#32) = BitVec.ofNat 32 (j / 64) := by
  have hm : (BitVec.ofNat 32 j).msb = false := by rw [BitVec.msb_eq_false_iff_two_mul_lt, BitVec.toNat_ofNat]; omega
  have hd : IntOp.divsi ArithUnit.host (BitVec.ofNat 32 j) 64#32 = BitVec.ofNat 32 (j / 64) := by
    unfold IntOp.divsi
    rw [if_neg (by simp [IntOp.SDivCorner]), BitVec.sdiv_eq, hm, show (64#32 : BitVec 32).msb = false by decide]
    apply BitVec.eq_of_toNat_eq
    show (BitVec.ofNat 32 j / 64#32).toNat = _
    rw [BitVec.toNat_udiv, BitVec.toNat_ofNat, BitVec.toNat_ofNat, BitVec.toNat_ofNat, Nat.mod_eq_of_lt (by omega : j < 2 ^ 32), Nat.mod_eq_of_lt (by omega : j / 64 < 2 ^ 32)]
  by_cases h0 : j = 0
  · subst h0
    decide +kernel
  · have hn : BitVec.ofNat 32 j ≠ 0 := fun h => h0 (by
      have := congrArg BitVec.toNat h
      rw [BitVec.toNat_ofNat] at this
      simp only [BitVec.toNat_zero, BitVec.ofNat_eq_ofNat, BitVec.toNat_ofNat] at this
      omega)
    rw [if_neg hn, hm, if_neg (by decide), if_neg (by decide), if_neg (by decide), hd]
    rw [show IntOp.cmpi CmpIPredicate.ne (1 : BitVec 32) 1 = 0#1 by decide]
    unfold IntOp.andi
    rw [BitVec.zero_and]
    rfl

theorem chunk_at (j : Fin 16384) : chunkR (ix1 j) = BitVec.ofNat 32 (j.val / 64) := by
  pointwise [chunkR]
  exact chunk_word j.val j.isLt

theorem mask_at (p j : Fin 16384) : maskR (ix2 p j) = BitVec.ofBool (decide (j.val / 64 ≤ p.val / 64)) := by
  pointwise [maskR]
  rw [chunk_at, chunk_at, WordCmp.cmpi_sle_ofNat (by omega) (by omega)]

theorem ofBits_ninf : Ideal.ofBits .f32 0xFF800000#32 = ⊥ := by simp [Ideal.ofBits, Ideal.ieee]
theorem rsqrt_192 : Ideal.rsqrt (Ideal.ofBits FTy.f32 0x43400000#32) = ((Soft.scl : ℝ) : EReal) := by
  have h : Ideal.ofBits FTy.f32 0x43400000#32 = ((192 : ℝ) : EReal) := by
    simp [Ideal.ofBits, Ideal.ieee, -EReal.coe_mul]; norm_num
  rw [h]
  show (if (192 : ℝ) < 0 then _ else if (192 : ℝ) = 0 then _ else _) = _
  rw [if_neg (by norm_num), if_neg (by norm_num)]

theorem score_at (a0 : FVec Ideal S1x16384x8x128 .f32) (a1 : FVec Ideal S1x16384x8x64 .f32) (a2 : FVec Ideal S1x16384x8x128 .f32) (a3 : FVec Ideal S1x16384x64 .f32) (h : Fin 8) (p j : Fin 16384) :
    scoreR a0 a1 a2 a3 (ix4 0 h p j) = (∑ x : Fin 128, (a0 (ix4 0 p h x) * a2 (ix4 0 j h x) : EReal) + ∑ x : Fin 64, (a3 (ix3 0 j x) * a1 (ix4 0 p h x) : EReal)) * ((Soft.scl : ℝ) : EReal) := by
  pointwise [scoreR, rsqrt_192]

theorem kept_at (s : FVec Ideal S1x8x16384x16384 .f32) (h : Fin 8) (p j : Fin 16384) :
    keptR s (ix4 0 h p j) = if j.val / 64 ≤ p.val / 64 then s (ix4 0 h p j) else (⊥ : EReal) := by
  pointwise [keptR]
  rw [mask_at]
  by_cases hc : j.val / 64 ≤ p.val / 64
  · rw [if_pos hc, decide_eq_true hc]; rfl
  · rw [if_neg hc, decide_eq_false hc]; exact ofBits_ninf

/-- A maximum over the last axis of an array of any sizes. -/
theorem max_gen (a b n : ℕ) (s : FVec Ideal ⟨4, ![1, a, b, n]⟩ .f32) (hr : (⟨4, ![1, a, b, n]⟩ : Shape).ReducesTo [3] ⟨3, ![1, a, b]⟩)
    (hu : 0 < S_.numel) (hb : S_.BroadcastsInDim ⟨3, ![1, a, b]⟩ ![]) (h : Fin a) (p : Fin b) :
    maximumf (broadcastInDim ⟨3, ![1, a, b]⟩ ![] hb (constant S_ .f32 0xFF800000#32)) (Host.reduce FloatOps.maximumf s (constant S_ .f32 0xFF800000#32) hr hu) (ix3 0 h p)
      = (Finset.univ : Finset (Fin n)).sup (fun j => (s (ix4 0 h p j) : EReal)) := by
  simp only [pointwise]
  rw [ofBits_ninf]
  exact max_eq_right bot_le

theorem max_at (s : FVec Ideal S1x8x16384x16384 .f32) (h : Fin 8) (p : Fin 16384) :
    maxR s (ix3 0 h p) = (Finset.univ : Finset (Fin 16384)).sup (fun j => (s (ix4 0 h p j) : EReal)) := by
  unfold maxR
  exact max_gen 8 16384 16384 s reducesTo_S1x8x16384x16384_S1x8x16384_d3 h_S_ bcast_S_S1x8x16384 h p

theorem exp_at (s : FVec Ideal S1x8x16384x16384 .f32) (M : FVec Ideal S1x8x16384 .f32) (h : Fin 8) (p j : Fin 16384) :
    expR s M (ix4 0 h p j) = Ideal.exp ((s (ix4 0 h p j) : EReal) - M (ix3 0 h p)) := by
  pointwise [expR]

theorem out_at (e : FVec Ideal S1x8x16384x16384 .f32) (a4 : FVec Ideal S1x16384x8x128 .f32) (p : Fin 16384) (h : Fin 8) (b : Fin 128) :
    outR e a4 (ix3 0 p ⟨128 * h.val + b.val, by omega⟩) = ∑ j : Fin 16384, (a4 (ix4 0 j h b) * Ideal.div (e (ix4 0 h p j)) (∑ j : Fin 16384, (e (ix4 0 h p j) : EReal)) : EReal) := by
  pointwise [outR]

end Cert.Proof.MlaRef
-- ==== Proof.MlaFinite.lean ====
/- What the precondition says: the queries' and keys' entries are real numbers. -/
module

public import proofs.«01_k».proof.Defs
public import Idealize.ShloMosaic.Lib.Pointwise
public import Idealize.ShloMosaic.PureOps.Ideal

@[expose] public section
noncomputable section

namespace Cert.Proof.Mla

open Idealize.ShloMosaic Idealize.ShloMosaic.TcCoe

theorem facts_finite : Cert.Pre_finite.Facts where
  bcast_S_S1x16384x8x128 := by decide
  bcast_S_S1x16384x8x64 := by decide
  bcast_S_S1x16384x64 := by decide

theorem ofBits_inf : Ideal.ofBits .f32 0x7F800000#32 = ⊤ := by simp [Ideal.ofBits, Ideal.ieee]

theorem real_of_abs (x : EReal) (h : max x (-x) < ⊤) : ∃ r : ℝ, x = r := by
  induction x with
  | bot => simp at h
  | top => simp at h
  | coe r => exact ⟨r, rfl⟩

/-- An entry whose absolute value is below infinity is real. -/
theorem real_of_finite (s : Shape) (hb : Cert.Pre_finite.S_.BroadcastsInDim s ![]) (x : FVec Ideal s .f32)
    (h : cmpf .olt (Host.absf x) (broadcastInDim s ![] hb (constant Cert.Pre_finite.S_ .f32 0x7F800000#32)) = fun _ => 1#1) (i : s.Idx) : ∃ r : ℝ, (x i : EReal) = r := by
  have e : BitVec.ofBool (decide (max (x i : EReal) (-(x i : EReal)) < Ideal.ofBits .f32 0x7F800000#32)) = 1#1 := congrFun h i
  rw [ofBits_inf] at e
  refine real_of_abs _ ?_
  by_contra hn
  rw [decide_eq_false hn] at e
  exact absurd e (by decide)

/-- A sum of products of real numbers is real. -/
theorem real_dot {n : ℕ} (f g : Fin n → EReal) (hf : ∀ x, ∃ r : ℝ, f x = r) (hg : ∀ x, ∃ r : ℝ, g x = r) : ∃ r : ℝ, ∑ x, f x * g x = r := by
  choose u hu using hf
  choose v hv using hg
  refine Finset.sum_induction _ (fun z : EReal => ∃ r : ℝ, z = r) ?_ ⟨0, rfl⟩ ?_
  · rintro _ _ ⟨a, rfl⟩ ⟨b, rfl⟩
    exact ⟨a + b, rfl⟩
  · intro x _
    exact ⟨u x * v x, by rw [hu, hv]; rfl⟩

end Cert.Proof.Mla
-- ==== Proof.MlaValue.lean ====
/- The attention kernel's value over the extended reals: the reference's attention, where queries and keys are finite. -/
module

public import proofs.«01_k».proof.Proof.MlaBlocks
public import proofs.«01_k».proof.Proof.MlaRef
public import proofs.«01_k».proof.Proof.MlaFinite

@[expose] public section
set_option maxRecDepth 16384
noncomputable section

namespace Cert.Proof.Mla

open Idealize.ShloMosaic Idealize.ShloMosaic.TcCoe Idealize.SL.Sem
open Cert.KernelIdeal Cert.KernelIdeal.Gen Cert.Proof.Soft

variable (m : (ℓ : Loc nD τ sig) → Buf (Elt Ideal) ℓ) (c : Dev nD)

/-- The scaled score of key `j` where the mask keeps it. -/
def scoreAt (h : Fin 8) (p j : Fin 16384) : EReal := if j.val / 64 ≤ p.val / 64 then dotAt m c h p j * ((scl : ℝ) : EReal) else ⊥
/-- The largest score of a row. -/
def topAt (h : Fin 8) (p : Fin 16384) : EReal := (Finset.univ : Finset (Fin 16384)).sup (fun j => scoreAt m c h p j)
/-- The attention of head `h` at query `p`, column `b`. -/
def attAt (h : Fin 8) (p : Fin 16384) (b : Fin 128) : EReal :=
  ∑ j : Fin 16384, argV m c (ix4 0 j h b) * Ideal.div (Ideal.exp (scoreAt m c h p j - topAt m c h p))
    (∑ k : Fin 16384, Ideal.exp (scoreAt m c h p k - topAt m c h p))

section
variable (hd : ∀ h p j, ∃ r : ℝ, dotAt m c h p j = r)

include hd in
theorem block_at (h : Fin 8) (i : Fin 32) (a : Fin 512) (b : Fin 128) :
    outB (grid0.coords (pt h i)) (iblk m c 0 (pt h i)) (iblk m c 1 (pt h i)) (iblk m c 2 (pt h i)) (ix3 0 a b) = attAt m c h (rowAt i a) b := by
  have hr : ∀ j : Fin 16384, rawAt (qOf (iblk m c 0 (pt h i))) (iblk m c 1 (pt h i)) a j.val = dotAt m c h (rowAt i a) j := raw_eq m c h i a
  have hc : (grid0.coords (pt h i) 2).val = i.val := (coord2 (pt h i)).trans (by dsimp only; omega)
  have hS : ∀ j, rawAt (qOf (iblk m c 0 (pt h i))) (iblk m c 1 (pt h i)) a j ≠ ⊤ := fun j => by
    by_cases hj : j < 16384
    · obtain ⟨r, e⟩ := hd h (rowAt i a) ⟨j, hj⟩
      rw [hr ⟨j, hj⟩, e]
      exact EReal.coe_ne_top r
    · rw [rawAt, dif_neg hj]; exact bot_ne_top
  rw [outB_at _ _ _ _ _ _ hS, hc]
  have hk : ∀ j : Fin 16384, keptAt (qOf (iblk m c 0 (pt h i))) (iblk m c 1 (pt h i)) i.val a j.val * ((scl : ℝ) : EReal) = scoreAt m c h (rowAt i a) j := fun j => by
    rw [keptAt, scoreAt]
    by_cases hj : j.val / 64 ≤ (rowAt i a).val / 64
    · rw [if_pos hj, if_pos (by dsimp only at hj; omega), hr]
    · rw [if_neg hj, if_neg (by dsimp only at hj; omega)]
      exact EReal.bot_mul_coe_of_pos scl_pos
  refine (soft_eq (T := 16384) _ _ (kept_ne_top _ _ _ _ hS) (by omega) (by omega) (fun j hj => ?_) ?_ (topAt m c h (rowAt i a)) ?_).trans ?_
  · rw [keptAt, if_neg (by omega)]
  · obtain ⟨r, e⟩ := hd h (rowAt i a) 0
    rw [keptAt, if_pos (by omega)]
    exact ne_of_eq_of_ne ((hr 0).trans e) (EReal.coe_ne_bot r)
  · rw [topAt]
    simp only [hk]
  · rw [attAt]
    refine Finset.sum_congr rfl fun j _ => ?_
    simp only [hk]
    congr 1
    rw [valAt, dif_pos j.isLt]
    exact blkV m c h i j b

include hd in
theorem block_all (h : Fin 8) (i : Fin 32) (y : S1x512x128.Idx) :
    outB (grid0.coords (pt h i)) (iblk m c 0 (pt h i)) (iblk m c 1 (pt h i)) (iblk m c 2 (pt h i)) y = attAt m c h (rowAt i (y 1)) (y 2) := by
  have hx : y = (ix3 0 (y 1) (y 2) : S1x512x128.Idx) := by
    have hy0 : (y 0).val < 1 := (y 0).isLt
    funext d
    apply Fin.ext
    match d with
    | ⟨0, _⟩ => show (y 0).val = 0; omega
    | ⟨1, _⟩ => rfl
    | ⟨2, _⟩ => rfl
  exact (congrArg _ hx).trans (block_at m c hd h i (y 1) (y 2))

/-- The output array: the attention at every entry. -/
def result : Buf (Elt Ideal) ((c.tc : Thread nD τ).loc main_v11) := fun i : S1x16384x1024.Idx =>
  attAt m c ⟨(i 2).val / 128, by have h : (i 2).val < 1024 := (i 2).isLt; omega⟩ (i 1) ⟨(i 2).val % 128, by omega⟩

theorem result_at (h : Fin 8) (p : Fin 16384) (b : Fin 128) (i : S1x16384x1024.Idx)
    (eh : h.val = (i 2).val / 128) (ep : p.val = (i 1).val) (eb : b.val = (i 2).val % 128) : attAt m c h p b = result m c i := by
  obtain rfl : p = i 1 := Fin.ext ep
  rw [result]
  exact congrArg₂ (fun u v => attAt m c u (i 1) v) (Fin.ext eh) (Fin.ext eb)

include hd in
theorem flushed_eq (t : Fin cfg0.N) (_ : (cfg0.win 3).flush t = true) :
    (dats m 0 c).flushed 3 t = ((cfg0.win 3).blk t).view.read (Elt Ideal) (result m c) := by
  show (cfg0.win 3).cut (grid0.coords t) ((dats m 0 c).after 3 t) = _
  have hN := lt_of_lt_of_eq t.isLt (show cfg0.N = 256 from N_0)
  obtain ⟨e0, e1, e2⟩ := index3 t
  obtain ⟨h, i, rfl⟩ : ∃ (h : Fin 8) (i : Fin 32), t = pt h i :=
    ⟨⟨t.val / 32, by omega⟩, ⟨t.val % 32, by omega⟩, Fin.ext (by dsimp only; omega)⟩
  rw [after3]
  funext y
  have hb1 : (((cfg0.win 3).blk (pt h i)).view.emb y 1).val = win0_3.index (pt h i) (1 : Fin 3) * 512 + 1 * (y 1).val := rfl
  have hb2 : (((cfg0.win 3).blk (pt h i)).view.emb y 2).val = win0_3.index (pt h i) (2 : Fin 3) * 128 + 1 * (y 2).val := rfl
  have hy0 : (y 0).val < 1 := (y 0).isLt
  have hy1 : (y 1).val < 512 := (y 1).isLt
  have hy2 : (y 2).val < 128 := (y 2).isLt
  dsimp only at e1 e2
  refine (block_all m c hd h i ((cfg0.win 3).xinj (grid0.coords (pt h i)) y)).trans ?_
  have hread (f : Buf (Elt Ideal) ((c.tc : Thread nD τ).loc main_v11)) :
      ((cfg0.win 3).blk (pt h i)).view.read (Elt Ideal) f y = f (((cfg0.win 3).blk (pt h i)).view.emb y) := rfl
  rw [hread]
  have hx1 : (((cfg0.win 3).xinj (grid0.coords (pt h i)) y : S1x512x128.Idx) 1) = (⟨(y 1).val, hy1⟩ : Fin 512) := rfl
  have hx2 : (((cfg0.win 3).xinj (grid0.coords (pt h i)) y : S1x512x128.Idx) 2) = (⟨(y 2).val, hy2⟩ : Fin 128) := rfl
  rw [hx1, hx2]
  refine result_at m c h _ _ (((cfg0.win 3).blk (pt h i)).view.emb y) ?_ ?_ ?_
  · rw [hb2]
    show h.val = _
    omega
  · rw [hb1]
    show 512 * i.val + (y 1).val = _
    omega
  · rw [hb2]
    show (y 2).val = _
    omega

omit c in
theorem mem_blk (t : Fin cfg0.N) (i : S1x16384x1024.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v11).slice (win0_3.rect t)).set ↔ _
  rw [View.set_slice_whole, Rect.mem_set_unit]
  exact Iff.rfl

theorem covered (i : S1x16384x1024.Idx) : ∃ t : Fin cfg0.N, (cfg0.win 3).flush t = true ∧ i ∈ ((cfg0.win 3).blk t).view.set := by
  have hi0 : (i 0).val < 1 := (i 0).isLt
  have hi1 : (i 1).val < 16384 := (i 1).isLt
  have hi2 : (i 2).val < 1024 := (i 2).isLt
  refine ⟨pt ⟨(i 2).val / 128, by omega⟩ ⟨(i 1).val / 512, by omega⟩, flush0_3 _, ?_⟩
  obtain ⟨e0, e1, e2⟩ := index3 (pt ⟨(i 2).val / 128, by omega⟩ ⟨(i 1).val / 512, by omega⟩)
  dsimp only at e1 e2
  rw [mem_blk]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 512 ≤ (i 1).val ∧ (i 1).val < win0_3.index _ (1 : Fin 3) * 512 + 512; omega
  | ⟨2, _⟩ => show win0_3.index _ (2 : Fin 3) * 128 ≤ (i 2).val ∧ (i 2).val < win0_3.index _ (2 : Fin 3) * 128 + 128; omega

include hd in
theorem final : (dats m 0 c).arrAt 3 cfg0.N = result m c :=
  (dats m 0 c).arrAt_eq_of_cover 3 _ (fun t hf => flushed_eq m c hd t hf) covered

end

/-- The reference at an entry. -/
theorem reference_at (m' : (ℓ : Loc Cert.ReferenceIdeal.nD Cert.ReferenceIdeal.τ Cert.ReferenceIdeal.sig) → Buf (Elt Ideal) ℓ)
    (e0 : m' ((c.tc : Thread Cert.ReferenceIdeal.nD Cert.ReferenceIdeal.τ).loc Cert.ReferenceIdeal.main_arg0) = argQn m c)
    (e1 : m' ((c.tc : Thread Cert.ReferenceIdeal.nD Cert.ReferenceIdeal.τ).loc Cert.ReferenceIdeal.main_arg1) = argQp m c)
    (e2 : m' ((c.tc : Thread Cert.ReferenceIdeal.nD Cert.ReferenceIdeal.τ).loc Cert.ReferenceIdeal.main_arg2) = argKn m c)
    (e3 : m' ((c.tc : Thread Cert.ReferenceIdeal.nD Cert.ReferenceIdeal.τ).loc Cert.ReferenceIdeal.main_arg3) = argKp m c)
    (e4 : m' ((c.tc : Thread Cert.ReferenceIdeal.nD Cert.ReferenceIdeal.τ).loc Cert.ReferenceIdeal.main_arg4) = argV m c)
    (p : Fin 16384) (h : Fin 8) (b : Fin 128) :
    Cert.ReferenceIdeal.Value.res_main_v32 m' c (ix3 0 p ⟨128 * h.val + b.val, by omega⟩) = attAt m c h p b := by
  rw [MlaRef.res_eq, MlaRef.out_at, e0, e1, e2, e3, e4]
  have hs : ∀ j, MlaRef.keptR (MlaRef.scoreR (argQn m c) (argQp m c) (argKn m c) (argKp m c)) (ix4 0 h p j) = scoreAt m c h p j := fun j => by
    rw [MlaRef.kept_at, MlaRef.score_at, scoreAt, dotAt]
  have hM : MlaRef.maxR (MlaRef.keptR (MlaRef.scoreR (argQn m c) (argQp m c) (argKn m c) (argKp m c))) (ix3 0 h p) = topAt m c h p := by
    rw [MlaRef.max_at, topAt]
    simp only [hs]
  simp only [MlaRef.exp_at, hs, hM]
  rfl

theorem algebraic : @Cert.algebraic_KernelIdeal_ReferenceIdeal_pre_finite Cert.KernelIdeal.Gen.facts Cert.ReferenceIdeal.Gen.facts facts_finite := by
  intro m g m' g' hp hm
  have hd : ∀ c h p j, ∃ r : ℝ, dotAt m c h p j = r := fun c h p j => by
    obtain ⟨h0, h1, h2, h3⟩ := hp c
    have f0 := real_of_finite _ _ _ h0
    have f1 := real_of_finite _ _ _ h1
    have f2 := real_of_finite _ _ _ h2
    have f3 := real_of_finite _ _ _ h3
    obtain ⟨u, hu⟩ := real_dot _ _ (fun x => f0 (ix4 0 p h x)) (fun x => f2 (ix4 0 j h x))
    obtain ⟨v, hv⟩ := real_dot _ _ (fun x => f3 (ix3 0 j x)) (fun x => f1 (ix4 0 p h x))
    exact ⟨u + v, (congrArg₂ (fun s t : EReal => s + t) hu hv).trans rfl⟩
  refine ⟨fun c => result m c, ?_, ?_⟩
  · refine (θ_run defs _ _).mono (fun r h c => ?_) (θ_run_and (run_main m g) (frame_main m g))
    exact ⟨((h.1.1 c).1 3).trans (final m c (hd c)), h.2.1 c⟩
  · refine (θ_run Cert.ReferenceIdeal.defs _ _).mono (fun r h c => ⟨(h c).1.trans ?_, (h c).2⟩) (Cert.ReferenceIdeal.Value.run m' g')
    obtain ⟨e0, e1, e2, e3, e4⟩ := hm c
    funext (i : S1x16384x1024.Idx)
    have hi0 : (i 0).val < 1 := (i 0).isLt
    have hi2 : (i 2).val < 1024 := (i 2).isLt
    have hx : i = (ix3 0 (i 1) ⟨128 * ((i 2).val / 128) + (i 2).val % 128, by omega⟩ : S1x16384x1024.Idx) := by
      funext d
      apply Fin.ext
      match d with
      | ⟨0, _⟩ => show (i 0).val = 0; omega
      | ⟨1, _⟩ => rfl
      | ⟨2, _⟩ => show (i 2).val = 128 * ((i 2).val / 128) + (i 2).val % 128; omega
    exact (congrArg (Cert.ReferenceIdeal.Value.res_main_v32 m' c) hx).trans
      (reference_at m c m' e0 e1 e2 e3 e4 (i 1) ⟨(i 2).val / 128, by omega⟩ ⟨(i 2).val % 128, by omega⟩)

end Cert.Proof.Mla
-- ==== Proof.FfnState.lean ====
module

public import proofs.«01_k».proof.Proof.Gen.Kernel2Ideal.Value

/-! The feed-forward kernel's points: what each leaves in the rounded rows, in the accumulator and in the output block. -/

@[expose] public section
noncomputable section

namespace Cert.Proof.Ffn

open Cert.Kernel2Ideal Cert.Kernel2Ideal.Gen Idealize.ShloMosaic Idealize.ShloMosaic.TcCoe Idealize.SL.Sem

variable {F : FTy → Type} [FloatOps F]

theorem off0 : (![0, 0] : Fin 2 → Nat) = fun _ => 0 := funext fun a => by fin_cases a <;> rfl

section Cases
variable (c : Dev nD) (i : grid0.Coords) (a2 : Memref sig .tc .vmem S512x2048 .f32) (h2 : a2.IsWhole) (a3 : Memref sig .tc .vmem S2048x512 .bf16) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S1x2048 .f32) (h7 : a7.IsWhole) (a8 : Memref sig .tc .vmem S512x2048 .f32) (h8 : a8.IsWhole) (a9 : Memref sig .tc .vmem S512x2048 .bf16) (h9 : a9.IsWhole) (a10 : Memref sig .tc .vmem S512x2048 .f32) (h10 : a10.IsWhole)
  (x0 : Vec F S512x2048 .f32) (x1 : Vec F S2048x512 .bf16) (x2 : Vec F S2048x512 .bf16) (x3 : Vec F S512x2048 .bf16) (x4 x5 : Vec F S1x2048 .f32)

/-- The first point of a row block rounds the rows, -/
theorem first_rows (hc0 : cond0_0 i) (hc1 : ¬cond0_1 i) : sout0_A_0 c i a2 h2 a3 h3 a4 h4 a5 h5 a6 h6 a7 h7 a8 h8 a9 h9 a10 h10 hc0 hc1 x0 x1 x2 x3 x4 x5 = k0_pay1 x0 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  simp only [View.canon_cons_unit_zero (S := S512x2048) off0, View.readAt_eq_ld, h2.read_unread, View.ld_unit_zero (S := S512x2048) off0]

/-- and starts the accumulator at the zeros. -/
theorem first_acc (hc0 : cond0_0 i) (hc1 : ¬cond0_1 i) : sout0_A_1 c i a2 h2 a3 h3 a4 h4 a5 h5 a6 h6 a7 h7 a8 h8 a9 h9 a10 h10 hc0 hc1 x0 x1 x2 x3 x4 x5 = k0_pay3 (k0_pay1 x0) x1 x2 k0_pay2 x3 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  simp only [View.canon_cons_unit_zero (S := S512x2048) off0, View.readCov_unit_zero (S := S512x2048) _ off0, View.readAt_eq_ld, h2.read_unread, h3.read_unread, h4.read_unread, h5.read_unread,
    View.ld_unit_zero (S := S512x2048) off0, View.ld_unit_zero (S := S2048x512) off0]

variable (xs0 : Vec F S512x2048 .bf16) (xs1 : Vec F S512x2048 .f32)

/-- A middle point adds its columns. -/
theorem mid_acc (hc0 : ¬cond0_0 i) (hc1 : ¬cond0_1 i) : sout0_B_1 c i a2 h2 a3 h3 a4 h4 a5 h5 a6 h6 a7 h7 a8 h8 a9 h9 a10 h10 hc0 hc1 x0 x1 x2 x3 x4 x5 xs0 xs1 = k0_pay3 xs0 x1 x2 xs1 x3 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 xs0 xs1)]
  unfold kernelRun0_B
  dsimp only
  sl_unfold_words
  simp only [View.canon_cons_unit_zero (S := S512x2048) off0, View.readAt_eq_ld, h3.read_unread, h4.read_unread, h5.read_unread, h9.read_unread, h10.read_unread,
    View.ld_unit_zero (S := S512x2048) off0, View.ld_unit_zero (S := S2048x512) off0]

/-- The last point adds its columns and normalises the rows. -/
theorem last_out (hc0 : ¬cond0_0 i) (hc1 : cond0_1 i) : out0_C_6 c i a2 h2 a3 h3 a4 h4 a5 h5 a6 h6 a7 h7 a8 h8 a9 h9 a10 h10 hc0 hc1 x0 x1 x2 x3 x4 x5 xs0 xs1 = k0_pay4 x0 (k0_pay3 xs0 x1 x2 xs1 x3) x4 x5 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 xs0 xs1)]
  unfold kernelRun0_C
  dsimp only
  sl_unfold_words
  simp only [View.canon_cons_unit_zero (S := S512x2048) off0, View.readCov_unit_zero (S := S512x2048) _ off0, View.readAt_eq_ld, h2.read_unread, h3.read_unread, h4.read_unread, h5.read_unread, h6.read_unread, h7.read_unread, h9.read_unread, h10.read_unread,
    View.ld_unit_zero (S := S512x2048) off0, View.ld_unit_zero (S := S2048x512) off0, View.ld_unit_zero (S := S1x2048) off0]
end Cases

variable (m : (ℓ : Loc nD τ sig) → Buf (Elt F) ℓ)

/-- The point `k` of the row block `r`. -/
theorem pt_lt (r : Fin 32) {k : ℕ} (h : k < 11) : 11 * r.val + k < cfg0.N := by
  have hN : cfg0.N = 352 := N_0
  have := r.isLt; omega

/-- The accumulator after the point `k` of the row block `r`: the zeros, and the columns `0 … k` added in turn. -/
def accAt (c : Dev nD) (r : Fin 32) : (k : ℕ) → k < 11 → FVec F S512x2048 .f32
  | 0, h => k0_pay3 (k0_pay1 (iblk m c 0 ⟨11 * r.val, pt_lt r h⟩)) (iblk m c 1 ⟨11 * r.val, pt_lt r h⟩) (iblk m c 2 ⟨11 * r.val, pt_lt r h⟩) k0_pay2 (iblk m c 3 ⟨11 * r.val, pt_lt r h⟩)
  | k + 1, h => k0_pay3 (k0_pay1 (iblk m c 0 ⟨11 * r.val, pt_lt r (by decide : 0 < 11)⟩)) (iblk m c 1 ⟨11 * r.val + (k + 1), pt_lt r h⟩) (iblk m c 2 ⟨11 * r.val + (k + 1), pt_lt r h⟩)
      (accAt c r k (Nat.lt_of_succ_lt h)) (iblk m c 3 ⟨11 * r.val + (k + 1), pt_lt r h⟩)

/-- What the points but the last leave in the scratch. -/
theorem state (c : Dev nD) (r : Fin 32) : ∀ (k : ℕ) (h : k < 10),
    (outsAt0 m c (11 * r.val + k) (pt_lt r (by omega))).2 = (k0_pay1 (iblk m c 0 ⟨11 * r.val, pt_lt r (by decide : 0 < 11)⟩), accAt m c r k (by omega))
  | 0, h => by
    have hA := outsAt0_A m c ⟨11 * r.val + 0, pt_lt r (by omega)⟩ (by dsimp only; omega) (by dsimp only; omega)
    dsimp only at hA
    rw [hA, first_rows, first_acc]
    rfl
  | k + 1, h => by
    have hB := outsAt0_B m c ⟨11 * r.val + (k + 1), pt_lt r (by omega)⟩ (by dsimp only; omega) (by dsimp only; omega)
    have ih := state c r k (by omega)
    dsimp only at hB
    have e : 11 * r.val + (k + 1) - 1 = 11 * r.val + k := by omega
    rw [hB, mid_acc]
    simp only [e, ih]
    rfl

/-- The block a row block's last point leaves. -/
def blockV (c : Dev nD) (r : Fin 32) : FVec F S512x2048 .f32 :=
  k0_pay4 (iblk m c 0 ⟨11 * r.val + 10, pt_lt r (by decide)⟩) (accAt m c r 10 (by decide)) (iblk m c 4 ⟨11 * r.val + 10, pt_lt r (by decide)⟩) (iblk m c 5 ⟨11 * r.val + 10, pt_lt r (by decide)⟩)

theorem block_eq (c : Dev nD) (r : Fin 32) : (outsAt0 m c (11 * r.val + 10) (pt_lt r (by decide))).1 = blockV m c r := by
  have hC := outsAt0_C m c ⟨11 * r.val + 10, pt_lt r (by decide)⟩ (by dsimp only; omega) (by dsimp only; omega)
  have ih := state m c r 9 (by decide)
  dsimp only at hC
  have e : 11 * r.val + 10 - 1 = 11 * r.val + 9 := by omega
  rw [hC, last_out]
  simp only [e, ih]
  rfl

end Cert.Proof.Ffn
-- ==== Proof.FfnValue.lean ====
module

public import proofs.«01_k».proof.Proof.FfnState
public import proofs.«01_k».proof.Proof.Gen.Reference2Ideal.Run
public import proofs.«01_k».proof.Defs
public import Idealize.ShloMosaic.Lib.Pointwise
public import Idealize.ShloMosaic.Lib.Claim

/-! The feed-forward kernel's blocks over the extended reals. -/

@[expose] public section
noncomputable section

namespace Cert.Proof.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

abbrev argX : FVec Ideal S1x16384x2048 .f32 := m ((c : Thread nD τ).loc main_arg0)
abbrev argG : FVec Ideal S2048x5632 .f32 := m ((c : Thread nD τ).loc main_arg1)
abbrev argU : FVec Ideal S2048x5632 .f32 := m ((c : Thread nD τ).loc main_arg2)
abbrev argD : FVec Ideal S5632x2048 .f32 := m ((c : Thread nD τ).loc main_arg3)
abbrev argS : FVec Ideal S2048 .f32 := m ((c : Thread nD τ).loc main_arg4)
abbrev argB : FVec Ideal S2048 .f32 := m ((c : Thread nD τ).loc main_arg5)

theorem index0 : ∀ t : Fin cfg0.N, win0_0.index t (0 : Fin 2) = t.val / 11 ∧ win0_0.index t (1 : Fin 2) = 0 := (by decide +kernel : ∀ t : Fin grid0.N, _)
theorem index1 : ∀ t : Fin cfg0.N, win0_1.index t (0 : Fin 2) = 0 ∧ win0_1.index t (1 : Fin 2) = t.val % 11 := (by decide +kernel : ∀ t : Fin grid0.N, _)
theorem index2 : ∀ t : Fin cfg0.N, win0_2.index t (0 : Fin 2) = 0 ∧ win0_2.index t (1 : Fin 2) = t.val % 11 := (by decide +kernel : ∀ t : Fin grid0.N, _)
theorem index3 : ∀ t : Fin cfg0.N, win0_3.index t (0 : Fin 2) = t.val % 11 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)

abbrev rowAt (r : Fin 32) (a : Fin 512) : Fin 16384 := ⟨512 * r.val + a.val, by omega⟩
abbrev colAt (k : ℕ) (h : k < 11) (f : Fin 512) : Fin 5632 := ⟨512 * k + f.val, by omega⟩

theorem blk0 (r : Fin 32) (k : ℕ) (h : k < 11) (a : Fin 512) (b : Fin 2048) :
    (iblk m c 0 ⟨11 * r.val + k, pt_lt r h⟩ : Vec Ideal S512x2048 .f32) (ix2 a b) = argX m c (ix3 0 (rowAt r a) b) := by
  have hi := index0 ⟨11 * r.val + k, pt_lt r h⟩
  unfold iblk
  rw [View.read_apply]
  show V m c main_v5 _ = _
  entry_read
  have e : ((cfg0.win 0).blk ⟨11 * r.val + k, pt_lt r h⟩).view.emb (ix2 a b) = (ix2 (rowAt r a) b : S16384x2048.Idx) := by
    funext d
    apply Fin.ext
    match d with
    | ⟨0, _⟩ => show win0_0.index _ 0 * 512 + 1 * a.val = 512 * r.val + a.val; rw [hi.1]; dsimp only; omega
    | ⟨1, _⟩ => show win0_0.index _ 1 * 2048 + 1 * b.val = b.val; rw [hi.2]; omega
  rw [e]
  pointwise

theorem blk1 (r : Fin 32) (k : ℕ) (h : k < 11) (a : Fin 2048) (f : Fin 512) :
    (iblk m c 1 ⟨11 * r.val + k, pt_lt r h⟩ : Vec Ideal S2048x512 .bf16) (ix2 a f) = argG m c (ix2 a (colAt k h f)) := by
  have hi := index1 ⟨11 * r.val + k, pt_lt r h⟩
  unfold iblk
  rw [View.read_apply]
  show V m c main_v0 _ = _
  entry_read
  have e : ((cfg0.win 1).blk ⟨11 * r.val + k, pt_lt r h⟩).view.emb (ix2 a f) = (ix2 a (colAt k h f) : S2048x5632.Idx) := by
    funext d
    apply Fin.ext
    match d with
    | ⟨0, _⟩ => show win0_1.index _ 0 * 2048 + 1 * a.val = a.val; rw [hi.1]; omega
    | ⟨1, _⟩ => show win0_1.index _ 1 * 512 + 1 * f.val = 512 * k + f.val; rw [hi.2]; dsimp only; omega
  rw [e]
  pointwise

theorem blk2 (r : Fin 32) (k : ℕ) (h : k < 11) (a : Fin 2048) (f : Fin 512) :
    (iblk m c 2 ⟨11 * r.val + k, pt_lt r h⟩ : Vec Ideal S2048x512 .bf16) (ix2 a f) = argU m c (ix2 a (colAt k h f)) := by
  have hi := index2 ⟨11 * r.val + k, pt_lt r h⟩
  unfold iblk
  rw [View.read_apply]
  show V m c main_v1 _ = _
  entry_read
  have e : ((cfg0.win 2).blk ⟨11 * r.val + k, pt_lt r h⟩).view.emb (ix2 a f) = (ix2 a (colAt k h f) : S2048x5632.Idx) := by
    funext d
    apply Fin.ext
    match d with
    | ⟨0, _⟩ => show win0_2.index _ 0 * 2048 + 1 * a.val = a.val; rw [hi.1]; omega
    | ⟨1, _⟩ => show win0_2.index _ 1 * 512 + 1 * f.val = 512 * k + f.val; rw [hi.2]; dsimp only; omega
  rw [e]
  pointwise

theorem blk3 (r : Fin 32) (k : ℕ) (h : k < 11) (f : Fin 512) (b : Fin 2048) :
    (iblk m c 3 ⟨11 * r.val + k, pt_lt r h⟩ : Vec Ideal S512x2048 .bf16) (ix2 f b) = argD m c (ix2 (colAt k h f) b) := by
  have hi := index3 ⟨11 * r.val + k, pt_lt r h⟩
  unfold iblk
  rw [View.read_apply]
  show V m c main_v2 _ = _
  entry_read
  have e : ((cfg0.win 3).blk ⟨11 * r.val + k, pt_lt r h⟩).view.emb (ix2 f b) = (ix2 (colAt k h f) b : S5632x2048.Idx) := by
    funext d
    apply Fin.ext
    match d with
    | ⟨0, _⟩ => show win0_3.index _ 0 * 512 + 1 * f.val = 512 * k + f.val; rw [hi.1]; dsimp only; omega
    | ⟨1, _⟩ => show win0_3.index _ 1 * 2048 + 1 * b.val = b.val; rw [hi.2]; omega
  rw [e]
  pointwise

theorem blk4 (t : Fin cfg0.N) (b : Fin 2048) : (iblk m c 4 t : Vec Ideal S1x2048 .f32) (ix2 0 b) = argS m c (ix1 b) := by
  have hi := index4 t
  unfold iblk
  rw [View.read_apply]
  show V m c main_v3 _ = _
  entry_read
  have e : ((cfg0.win 4).blk t).view.emb (ix2 0 b) = (ix2 0 b : S1x2048.Idx) := by
    funext d
    apply Fin.ext
    match d with
    | ⟨0, _⟩ => show win0_4.index _ 0 * 1 + 1 * 0 = 0; rw [hi.1]
    | ⟨1, _⟩ => show win0_4.index _ 1 * 2048 + 1 * b.val = b.val; rw [hi.2]; omega
  rw [e]
  pointwise

theorem blk5 (t : Fin cfg0.N) (b : Fin 2048) : (iblk m c 5 t : Vec Ideal S1x2048 .f32) (ix2 0 b) = argB m c (ix1 b) := by
  have hi := index5 t
  unfold iblk
  rw [View.read_apply]
  show V m c main_v4 _ = _
  entry_read
  have e : ((cfg0.win 5).blk t).view.emb (ix2 0 b) = (ix2 0 b : S1x2048.Idx) := by
    funext d
    apply Fin.ext
    match d with
    | ⟨0, _⟩ => show win0_5.index _ 0 * 1 + 1 * 0 = 0; rw [hi.1]
    | ⟨1, _⟩ => show win0_5.index _ 1 * 2048 + 1 * b.val = b.val; rw [hi.2]; omega
  rw [e]
  pointwise

/-- The gated product of the hidden column `f` at row `p`, times the down weight. -/
abbrev gateAt (p : Fin 16384) (f : Fin 5632) : EReal := ∑ x : Fin 2048, argX m c (ix3 0 p x) * argG m c (ix2 x f)
abbrev upAt (p : Fin 16384) (f : Fin 5632) : EReal := ∑ x : Fin 2048, argX m c (ix3 0 p x) * argU m c (ix2 x f)
def term (p : Fin 16384) (b : Fin 2048) (f : Fin 5632) : EReal :=
  (gateAt m c p f * Ideal.div 1 (1 + Ideal.exp (-gateAt m c p f)) * upAt m c p f) * argD m c (ix2 f b)

/-- The layer norm of a row `h` with scale `g` and shift `s`, at column `b`. -/
def norm (h : Fin 2048 → EReal) (g s : EReal) (b : Fin 2048) : EReal :=
  (h b - Ideal.div (∑ x, h x) (Ideal.ofBits FTy.f32 1157627904#32)) *
      Ideal.rsqrt
        (Ideal.div
            (∑ x, (h x - Ideal.div (∑ x, h x) (Ideal.ofBits FTy.f32 1157627904#32)) *
                (h x - Ideal.div (∑ x, h x) (Ideal.ofBits FTy.f32 1157627904#32)))
            (Ideal.ofBits FTy.f32 1157627904#32) + Ideal.ofBits FTy.f32 925353388#32) * g + s

set_option maxRecDepth 16384 in
theorem step_at (xb : Vec Ideal S512x2048 .f32) (g u : Vec Ideal S2048x512 .bf16) (acc : Vec Ideal S512x2048 .f32)
    (d : Vec Ideal S512x2048 .bf16) (a : Fin 512) (b : Fin 2048) :
    k0_pay3 (k0_pay1 xb) g u acc d (ix2 a b) = acc (ix2 a b) + ∑ x : Fin 512,
      ((∑ y : Fin 2048, xb (ix2 a y) * g (ix2 y x)) * Ideal.div 1 (1 + Ideal.exp (0 - ∑ y : Fin 2048, xb (ix2 a y) * g (ix2 y x)))
        * ∑ y : Fin 2048, xb (ix2 a y) * u (ix2 y x)) * d (ix2 x b) := by
  pointwise [k0_pay3, k0_pay1]

/-- A step whose blocks' entries are known. -/
theorem step_of (xb : Vec Ideal S512x2048 .f32) (g u : Vec Ideal S2048x512 .bf16) (acc : Vec Ideal S512x2048 .f32)
    (d : Vec Ideal S512x2048 .bf16) (a : Fin 512) (b : Fin 2048) (X : Fin 2048 → EReal) (G U : Fin 2048 → Fin 512 → EReal) (D : Fin 512 → EReal)
    (hx : ∀ y, xb (ix2 a y) = X y) (hg : ∀ y f, g (ix2 y f) = G y f) (hu : ∀ y f, u (ix2 y f) = U y f) (hd : ∀ f, d (ix2 f b) = D f) :
    k0_pay3 (k0_pay1 xb) g u acc d (ix2 a b) = acc (ix2 a b) + ∑ f : Fin 512,
      ((∑ y : Fin 2048, X y * G y f) * Ideal.div 1 (1 + Ideal.exp (-∑ y : Fin 2048, X y * G y f)) * ∑ y : Fin 2048, X y * U y f) * D f := by
  rw [step_at]
  simp only [hx, hg, hu, hd, zero_sub]

/-- The row the norm is taken of. -/
def mixed (x acc : Vec Ideal S512x2048 .f32) (a : Fin 512) (y : Fin 2048) : EReal :=
  Ideal.ofBits FTy.f32 1066940400#32 * x (ix2 a y) + acc (ix2 a y)

set_option maxRecDepth 16384 in
theorem last_at (x acc : Vec Ideal S512x2048 .f32) (g u : Vec Ideal S1x2048 .f32) (a : Fin 512) (b : Fin 2048) :
    k0_pay4 x acc g u (ix2 a b) = norm (mixed x acc a) (g (ix2 0 b)) (u (ix2 0 b)) b := by
  pointwise [k0_pay4]
  rfl

theorem zero_at (a : Fin 512) (b : Fin 2048) : (k0_pay2 : FVec Ideal S512x2048 .f32) (ix2 a b) = 0 := by
  pointwise [k0_pay2]

/-- One step adds the terms of the point's 512 hidden columns. -/
theorem step_term (r : Fin 32) (k : ℕ) (h : k < 11) (acc : Vec Ideal S512x2048 .f32) (a : Fin 512) (b : Fin 2048) :
    k0_pay3 (k0_pay1 (iblk m c 0 ⟨11 * r.val, pt_lt r (by omega : 0 < 11)⟩)) (iblk m c 1 ⟨11 * r.val + k, pt_lt r h⟩)
        (iblk m c 2 ⟨11 * r.val + k, pt_lt r h⟩) acc (iblk m c 3 ⟨11 * r.val + k, pt_lt r h⟩) (ix2 a b)
      = acc (ix2 a b) + ∑ f : Fin 512, term m c (rowAt r a) b (colAt k h f) := by
  exact step_of _ _ _ acc _ a b _ _ _ _ (fun y => blk0 m c r 0 (by omega) a y) (fun y f => blk1 m c r k h y f)
    (fun y f => blk2 m c r k h y f) (fun f => blk3 m c r k h f b)

/-- The terms by plain numbers, zero beyond the columns. -/
def termN (p : Fin 16384) (b : Fin 2048) (f : ℕ) : EReal := if h : f < 5632 then term m c p b ⟨f, h⟩ else 0

theorem block_sum (p : Fin 16384) (b : Fin 2048) (k : ℕ) (h : k < 11) :
    ∑ f : Fin 512, term m c p b (colAt k h f) = ∑ f ∈ Finset.range 512, termN m c p b (512 * k + f) := by
  rw [← Fin.sum_univ_eq_sum_range (fun f => termN m c p b (512 * k + f)) 512]
  exact Finset.sum_congr rfl fun f _ => by rw [termN, dif_pos (by omega)]

theorem acc_at (r : Fin 32) (a : Fin 512) (b : Fin 2048) : ∀ (k : ℕ) (h : k < 11),
    accAt m c r k h (ix2 a b) = ∑ f ∈ Finset.range (512 * (k + 1)), termN m c (rowAt r a) b f
  | 0, h => by
    rw [accAt]
    refine (step_term m c r 0 h _ a b).trans ?_
    rw [zero_at, zero_add, block_sum]
    simp only [Nat.mul_zero, Nat.zero_add, Nat.mul_one]
  | k + 1, h => by
    rw [accAt]
    refine (step_term m c r (k + 1) h _ a b).trans ?_
    rw [acc_at r a b k (by omega), block_sum, show 512 * (k + 1 + 1) = 512 * (k + 1) + 512 by omega, Finset.sum_range_add]

theorem acc_full (r : Fin 32) (a : Fin 512) (b : Fin 2048) (h : 10 < 11) :
    accAt m c r 10 h (ix2 a b) = ∑ f : Fin 5632, term m c (rowAt r a) b f := by
  rw [acc_at, ← Fin.sum_univ_eq_sum_range (fun f => termN m c (rowAt r a) b f) 5632]
  exact Finset.sum_congr rfl fun f _ => by rw [termN, dif_pos f.isLt]

/-- The layer at row `p`, column `b`. -/
def layerAt (p : Fin 16384) (b : Fin 2048) : EReal :=
  norm (fun y => Ideal.ofBits FTy.f32 1066940400#32 * argX m c (ix3 0 p y) + ∑ f : Fin 5632, term m c p y f)
    (argS m c (ix1 b)) (argB m c (ix1 b)) b

theorem block_at (r : Fin 32) (a : Fin 512) (b : Fin 2048) : blockV m c r (ix2 a b) = layerAt m c (rowAt r a) b := by
  rw [blockV, last_at, layerAt, blk4, blk5]
  congr 1
  funext y
  exact congrArg₂ (fun u v => Ideal.ofBits FTy.f32 1066940400#32 * u + v) (blk0 m c r 10 (by omega) a y) (acc_full m c r a y (by omega))

/-- The output array: the layer at every entry. -/
def result : Buf (Elt Ideal) ((c : Thread nD τ).loc main_v6) := fun i : S16384x2048.Idx => layerAt m c (i 0) (i 1)

theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  have hm : t.val % 11 = 10 := (flush0_6 t).mp hf
  have hN := lt_of_lt_of_eq t.isLt (show cfg0.N = 352 from N_0)
  obtain ⟨e0, e1, e2, e3, e4⟩ := Value.idx_facts6 t
  have hr : t.val / 11 < 32 := by omega
  have ht : t = ⟨11 * (⟨t.val / 11, hr⟩ : Fin 32).val + 10, pt_lt _ (by omega)⟩ := Fin.ext (by dsimp only; omega)
  rw [after0_6]
  have hb : (outsAt0 m c t.val t.isLt).1 = blockV m c ⟨t.val / 11, hr⟩ := by
    rw [← block_eq]
    congr 2
    exact Fin.val_eq_of_eq ht
  rw [hb]
  funext y
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  have hy0 : (y 0).val < 512 := (y 0).isLt
  have hy1 : (y 1).val < 2048 := (y 1).isLt
  show blockV m c ⟨t.val / 11, hr⟩ ((cfg0.win 6).xinj (grid0.coords t) y) = result m c (((cfg0.win 6).blk t).view.emb y)
  have hx : (cfg0.win 6).xinj (grid0.coords t) y = (ix2 ⟨(y 0).val, hy0⟩ ⟨(y 1).val, hy1⟩ : S512x2048.Idx) := by
    funext d
    apply Fin.ext
    match d with
    | ⟨0, _⟩ => rfl
    | ⟨1, _⟩ => rfl
  rw [hx, block_at]
  show layerAt m c _ _ = layerAt m c _ _
  congr 1
  · exact Fin.ext (by rw [hb0]; dsimp only; omega)
  · exact Fin.ext (by rw [hb1]; dsimp only; omega)

theorem final : (dats m 0 c).arrAt 6 cfg0.N = result m c :=
  (dats m 0 c).arrAt_eq_of_cover 6 _ (fun t hf => flushed_eq m c t hf) (fun i => (Value.covered_iff6 i).2 (by
    have h0 : (i 0).val < 16384 := (i 0).isLt; have h1 : (i 1).val < 2048 := (i 1).isLt; omega))

set_option maxRecDepth 16384 in
/-- The reference at an entry is the layer there. -/
theorem reference_at (m' : (ℓ : Loc Cert.Reference2Ideal.nD Cert.Reference2Ideal.τ Cert.Reference2Ideal.sig) → Buf (Elt Ideal) ℓ)
    (e0 : m' ((c.tc : Thread Cert.Reference2Ideal.nD Cert.Reference2Ideal.τ).loc Cert.Reference2Ideal.main_arg0) = argX m c)
    (e1 : m' ((c.tc : Thread Cert.Reference2Ideal.nD Cert.Reference2Ideal.τ).loc Cert.Reference2Ideal.main_arg1) = argG m c)
    (e2 : m' ((c.tc : Thread Cert.Reference2Ideal.nD Cert.Reference2Ideal.τ).loc Cert.Reference2Ideal.main_arg2) = argU m c)
    (e3 : m' ((c.tc : Thread Cert.Reference2Ideal.nD Cert.Reference2Ideal.τ).loc Cert.Reference2Ideal.main_arg3) = argD m c)
    (e4 : m' ((c.tc : Thread Cert.Reference2Ideal.nD Cert.Reference2Ideal.τ).loc Cert.Reference2Ideal.main_arg4) = argS m c)
    (e5 : m' ((c.tc : Thread Cert.Reference2Ideal.nD Cert.Reference2Ideal.τ).loc Cert.Reference2Ideal.main_arg5) = argB m c)
    (a : Fin 16384) (b : Fin 2048) : Cert.Reference2Ideal.Value.res_main_v32 m' c (ix2 a b) = layerAt m c a b := by
  unfold layerAt norm term
  pointwise [Cert.Reference2Ideal.Value.res_main_v32]
  rw [e0, e1, e2, e3, e4, e5]

theorem algebraic : Cert.algebraic_Kernel2Ideal_Reference2Ideal := by
  intro m g m' g' _ hm
  refine ⟨fun c => result m c, ?_, ?_⟩
  · exact (θ_run defs _ _).mono (fun r h c => ⟨(Value.post6 m r h c).trans (final m c), Value.kept_main_arg0 m r h c,
      Value.kept_main_arg1 m r h c, Value.kept_main_arg2 m r h c, Value.kept_main_arg3 m r h c, Value.kept_main_arg4 m r h c,
      Value.kept_main_arg5 m r h c⟩) (run_main m g)
  · refine (θ_run Cert.Reference2Ideal.defs _ _).mono (fun r h c => ⟨(h c).1.trans ?_, (h c).2⟩) (Cert.Reference2Ideal.Value.run m' g')
    obtain ⟨e0, e1, e2, e3, e4, e5⟩ := hm c
    funext i
    rw [eq_ix2 i]
    exact reference_at m c m' e0 e1 e2 e3 e4 e5 (i 0) (i 1)

end Cert.Proof.Ffn
-- ==== Proof.ProjLaunch.lean ====
/- The projection's launch: what a point's body leaves in each output block, the proof data, the run. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1380000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev r0_0 : Rect S512x2048 := Rect.unit (s := S512x2048) ![0, 0] S512x2048.size inb_S512x2048_S512x2048_0_0
abbrev r0_1 : Rect S512x128 := Rect.unit (s := S512x128) ![0, 0] S512x128.size inb_S512x128_S512x128_0_0
abbrev r0_2 : Rect S2048x4096 := Rect.unit (s := S2048x4096) ![0, 0] S2048x512.size inb_S2048x4096_S2048x512_0_0
abbrev r0_3 : Rect S1x512 := Rect.unit (s := S1x512) ![0, 0] S1x512.size inb_S1x512_S1x512_0_0
abbrev r0_4 : Rect S512x2048 := Rect.unit (s := S512x2048) ![0, 0] S512x256.size inb_S512x2048_S512x256_0_0
abbrev r0_5 : Rect S8x512x256 := Rect.unit (s := S8x512x256) ![0, 0, 0] S1x512x128.size inb_S8x512x256_S1x512x128_0_0_0
abbrev r0_6 : Rect S8x512x256 := Rect.unit (s := S8x512x256) ![0, 0, 128] S1x512x128.size inb_S8x512x256_S1x512x128_0_0_128
abbrev r0_7 : Rect S512x2048 := Rect.unit (s := S512x2048) ![0, 256] S512x256.size inb_S512x2048_S512x256_0_256
abbrev r0_8 : Rect S8x512x256 := Rect.unit (s := S8x512x256) ![1, 0, 0] S1x512x128.size inb_S8x512x256_S1x512x128_1_0_0
abbrev r0_9 : Rect S8x512x256 := Rect.unit (s := S8x512x256) ![1, 0, 128] S1x512x128.size inb_S8x512x256_S1x512x128_1_0_128
abbrev r0_10 : Rect S512x2048 := Rect.unit (s := S512x2048) ![0, 512] S512x256.size inb_S512x2048_S512x256_0_512
abbrev r0_11 : Rect S8x512x256 := Rect.unit (s := S8x512x256) ![2, 0, 0] S1x512x128.size inb_S8x512x256_S1x512x128_2_0_0
abbrev r0_12 : Rect S8x512x256 := Rect.unit (s := S8x512x256) ![2, 0, 128] S1x512x128.size inb_S8x512x256_S1x512x128_2_0_128
abbrev r0_13 : Rect S512x2048 := Rect.unit (s := S512x2048) ![0, 768] S512x256.size inb_S512x2048_S512x256_0_768
abbrev r0_14 : Rect S8x512x256 := Rect.unit (s := S8x512x256) ![3, 0, 0] S1x512x128.size inb_S8x512x256_S1x512x128_3_0_0
abbrev r0_15 : Rect S8x512x256 := Rect.unit (s := S8x512x256) ![3, 0, 128] S1x512x128.size inb_S8x512x256_S1x512x128_3_0_128
abbrev r0_16 : Rect S512x2048 := Rect.unit (s := S512x2048) ![0, 1024] S512x256.size inb_S512x2048_S512x256_0_1024
abbrev r0_17 : Rect S8x512x256 := Rect.unit (s := S8x512x256) ![4, 0, 0] S1x512x128.size inb_S8x512x256_S1x512x128_4_0_0
abbrev r0_18 : Rect S8x512x256 := Rect.unit (s := S8x512x256) ![4, 0, 128] S1x512x128.size inb_S8x512x256_S1x512x128_4_0_128
abbrev r0_19 : Rect S512x2048 := Rect.unit (s := S512x2048) ![0, 1280] S512x256.size inb_S512x2048_S512x256_0_1280
abbrev r0_20 : Rect S8x512x256 := Rect.unit (s := S8x512x256) ![5, 0, 0] S1x512x128.size inb_S8x512x256_S1x512x128_5_0_0
abbrev r0_21 : Rect S8x512x256 := Rect.unit (s := S8x512x256) ![5, 0, 128] S1x512x128.size inb_S8x512x256_S1x512x128_5_0_128
abbrev r0_22 : Rect S512x2048 := Rect.unit (s := S512x2048) ![0, 1536] S512x256.size inb_S512x2048_S512x256_0_1536
abbrev r0_23 : Rect S8x512x256 := Rect.unit (s := S8x512x256) ![6, 0, 0] S1x512x128.size inb_S8x512x256_S1x512x128_6_0_0
abbrev r0_24 : Rect S8x512x256 := Rect.unit (s := S8x512x256) ![6, 0, 128] S1x512x128.size inb_S8x512x256_S1x512x128_6_0_128
abbrev r0_25 : Rect S512x2048 := Rect.unit (s := S512x2048) ![0, 1792] S512x256.size inb_S512x2048_S512x256_0_1792
abbrev r0_26 : Rect S8x512x256 := Rect.unit (s := S8x512x256) ![7, 0, 0] S1x512x128.size inb_S8x512x256_S1x512x128_7_0_0
abbrev r0_27 : Rect S8x512x256 := Rect.unit (s := S8x512x256) ![7, 0, 128] S1x512x128.size inb_S8x512x256_S1x512x128_7_0_128
abbrev r0_28 : Rect S2048x4096 := Rect.unit (s := S2048x4096) ![0, 512] S2048x512.size inb_S2048x4096_S2048x512_0_512
abbrev r0_29 : Rect S512x512 := Rect.unit (s := S512x512) ![0, 0] S512x512.size inb_S512x512_S512x512_0_0
abbrev r0_30 : Rect S2048x4096 := Rect.unit (s := S2048x4096) ![0, 1024] S2048x256.size inb_S2048x4096_S2048x256_0_1024
abbrev r0_31 : Rect S8x512x128 := Rect.unit (s := S8x512x128) ![0, 0, 0] S1x512x128.size inb_S8x512x128_S1x512x128_0_0_0
abbrev r0_32 : Rect S8x512x128 := Rect.unit (s := S8x512x128) ![1, 0, 0] S1x512x128.size inb_S8x512x128_S1x512x128_1_0_0
abbrev r0_33 : Rect S2048x4096 := Rect.unit (s := S2048x4096) ![0, 1280] S2048x256.size inb_S2048x4096_S2048x256_0_1280
abbrev r0_34 : Rect S8x512x128 := Rect.unit (s := S8x512x128) ![2, 0, 0] S1x512x128.size inb_S8x512x128_S1x512x128_2_0_0
abbrev r0_35 : Rect S8x512x128 := Rect.unit (s := S8x512x128) ![3, 0, 0] S1x512x128.size inb_S8x512x128_S1x512x128_3_0_0
abbrev r0_36 : Rect S2048x4096 := Rect.unit (s := S2048x4096) ![0, 1536] S2048x256.size inb_S2048x4096_S2048x256_0_1536
abbrev r0_37 : Rect S8x512x128 := Rect.unit (s := S8x512x128) ![4, 0, 0] S1x512x128.size inb_S8x512x128_S1x512x128_4_0_0
abbrev r0_38 : Rect S8x512x128 := Rect.unit (s := S8x512x128) ![5, 0, 0] S1x512x128.size inb_S8x512x128_S1x512x128_5_0_0
abbrev r0_39 : Rect S2048x4096 := Rect.unit (s := S2048x4096) ![0, 1792] S2048x256.size inb_S2048x4096_S2048x256_0_1792
abbrev r0_40 : Rect S8x512x128 := Rect.unit (s := S8x512x128) ![6, 0, 0] S1x512x128.size inb_S8x512x128_S1x512x128_6_0_0
abbrev r0_41 : Rect S8x512x128 := Rect.unit (s := S8x512x128) ![7, 0, 0] S1x512x128.size inb_S8x512x128_S1x512x128_7_0_0
abbrev r0_42 : Rect S2048x4096 := Rect.unit (s := S2048x4096) ![0, 2048] S2048x256.size inb_S2048x4096_S2048x256_0_2048
abbrev r0_43 : Rect S512x256 := Rect.unit (s := S512x256) ![0, 0] S512x128.size inb_S512x256_S512x128_0_0
abbrev r0_44 : Rect S512x256 := Rect.unit (s := S512x256) ![0, 128] S512x128.size inb_S512x256_S512x128_0_128
abbrev r0_45 : Rect S2048x4096 := Rect.unit (s := S2048x4096) ![0, 2304] S2048x256.size inb_S2048x4096_S2048x256_0_2304
abbrev r0_46 : Rect S512x256 := Rect.unit (s := S512x256) ![0, 0] S512x256.size inb_S512x256_S512x256_0_0
abbrev r0_47 : Rect S2048x4096 := Rect.unit (s := S2048x4096) ![0, 2560] S2048x256.size inb_S2048x4096_S2048x256_0_2560
abbrev r0_48 : Rect S2048x4096 := Rect.unit (s := S2048x4096) ![0, 2816] S2048x256.size inb_S2048x4096_S2048x256_0_2816
abbrev r0_49 : Rect S2048x4096 := Rect.unit (s := S2048x4096) ![0, 3072] S2048x256.size inb_S2048x4096_S2048x256_0_3072
abbrev r0_50 : Rect S2048x4096 := Rect.unit (s := S2048x4096) ![0, 3328] S2048x256.size inb_S2048x4096_S2048x256_0_3328
abbrev r0_51 : Rect S2048x4096 := Rect.unit (s := S2048x4096) ![0, 3584] S2048x256.size inb_S2048x4096_S2048x256_0_3584
abbrev r0_52 : Rect S512x64 := Rect.unit (s := S512x64) ![0, 0] S512x64.size inb_S512x64_S512x64_0_0
abbrev r0_53 : Rect S2048x4096 := Rect.unit (s := S2048x4096) ![0, 3840] S2048x256.size inb_S2048x4096_S2048x256_0_3840

def k0_pay91 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x2048 .bf16 :=
  k0_pay2 (View.ld x0 r0_0)
def k0_pay92 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x128 .f32 :=
  k0_pay3 (View.ld x5 r0_1)
def k0_pay93 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x128 .f32 :=
  k0_pay4 (View.ld x6 r0_1)
def k0_pay94 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x128 .f32 :=
  k0_pay5 (View.ld x7 r0_1)
def k0_pay95 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x128 .f32 :=
  k0_pay6 (View.ld x8 r0_1)
def k0_pay96 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : IVec S512x128 1 :=
  k0_pay7
def k0_pay97 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x512 .f32 :=
  k0_pay8 (View.ld x0 r0_0) (View.ld x1 r0_2)
def k0_pay98 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S1x512 .f32 :=
  k0_pay9 (View.ld x3 r0_3)
def k0_pay99 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x512 .f32 :=
  k0_pay10 (View.ld x0 r0_0) (View.ld x1 r0_2)
def k0_pay100 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x512 .bf16 :=
  k0_pay11 (k0_pay97 x0 x1 x2 x3 x4 x5 x6 x7 x8) (k0_pay98 x0 x1 x2 x3 x4 x5 x6 x7 x8) (k0_pay99 x0 x1 x2 x3 x4 x5 x6 x7 x8)
def k0_pay101 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x256 .f32 :=
  k0_pay28 (k0_pay100 x0 x1 x2 x3 x4 x5 x6 x7 x8) (View.ld x2 r0_19)
def k0_pay102 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x256 .f32 :=
  k0_pay58 (k0_pay91 x0 x1 x2 x3 x4 x5 x6 x7 x8) (View.ld x1 r0_45)
def k0_pay103 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x128 .f32 :=
  k0_pay79 (k0_pay91 x0 x1 x2 x3 x4 x5 x6 x7 x8) (View.ld x1 r0_51)
def k0_pay104 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x128 .f32 :=
  k0_pay80 (k0_pay91 x0 x1 x2 x3 x4 x5 x6 x7 x8) (k0_pay96 x0 x1 x2 x3 x4 x5 x6 x7 x8) (View.ld x1 r0_51)
def k0_pay105 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : FVec F S512x128 .f32 :=
  k0_pay81 (k0_pay91 x0 x1 x2 x3 x4 x5 x6 x7 x8) (k0_pay94 x0 x1 x2 x3 x4 x5 x6 x7 x8) (View.ld x1 r0_51)

def out0_9 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x512 .f32 :=
  View.canon [⟨r0_29, k0_pay37 (k0_pay91 x0 x1 x2 x3 x4 x5 x6 x7 x8) (View.ld x1 r0_28) (View.ld x4 r0_3)⟩]

theorem cover0_9 (p0 : Vec F S512x512 .f32) (y : S512x512.Idx) :
    ∃ pc ∈ ([⟨r0_29, p0⟩] : List (View.Piece (Elt F) S512x512 .f32)), y ∈ pc.1.set :=
  View.cover_of_tiled [⟨r0_29, p0⟩] S512x512.size (by rfl) y

def out0_10 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x64 .f32 :=
  View.canon [⟨r0_52, k0_pay83 (k0_pay95 x0 x1 x2 x3 x4 x5 x6 x7 x8) (k0_pay104 x0 x1 x2 x3 x4 x5 x6 x7 x8) (k0_pay105 x0 x1 x2 x3 x4 x5 x6 x7 x8)⟩]

theorem cover0_10 (p0 : Vec F S512x64 .f32) (y : S512x64.Idx) :
    ∃ pc ∈ ([⟨r0_52, p0⟩] : List (View.Piece (Elt F) S512x64 .f32)), y ∈ pc.1.set :=
  View.cover_of_tiled [⟨r0_52, p0⟩] S512x64.size (by rfl) y

def out0_11 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x256 .f32 :=
  View.canon [⟨r0_44, k0_pay56 (k0_pay91 x0 x1 x2 x3 x4 x5 x6 x7 x8) (k0_pay92 x0 x1 x2 x3 x4 x5 x6 x7 x8) (k0_pay93 x0 x1 x2 x3 x4 x5 x6 x7 x8) (View.ld x1 r0_42)⟩,
    ⟨r0_43, k0_pay54 (k0_pay91 x0 x1 x2 x3 x4 x5 x6 x7 x8) (k0_pay92 x0 x1 x2 x3 x4 x5 x6 x7 x8) (k0_pay93 x0 x1 x2 x3 x4 x5 x6 x7 x8) (View.ld x1 r0_42)⟩]

theorem cover0_11 (p0 : Vec F S512x128 .f32) (p1 : Vec F S512x128 .f32) (y : S512x256.Idx) :
    ∃ pc ∈ ([⟨r0_44, p0⟩, ⟨r0_43, p1⟩] : List (View.Piece (Elt F) S512x256 .f32)), y ∈ pc.1.set :=
  View.cover_of_tiled [⟨r0_44, p0⟩, ⟨r0_43, p1⟩] S512x128.size (by rfl) y

def out0_12 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x256 .f32 :=
  View.canon [⟨r0_46, k0_pay102 x0 x1 x2 x3 x4 x5 x6 x7 x8⟩]

theorem cover0_12 (p0 : Vec F S512x256 .f32) (y : S512x256.Idx) :
    ∃ pc ∈ ([⟨r0_46, p0⟩] : List (View.Piece (Elt F) S512x256 .f32)), y ∈ pc.1.set :=
  View.cover_of_tiled [⟨r0_46, p0⟩] S512x256.size (by rfl) y

def out0_13 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x64 .f32 :=
  View.canon [⟨r0_52, k0_pay86 (k0_pay94 x0 x1 x2 x3 x4 x5 x6 x7 x8) (k0_pay95 x0 x1 x2 x3 x4 x5 x6 x7 x8) (k0_pay96 x0 x1 x2 x3 x4 x5 x6 x7 x8) (k0_pay103 x0 x1 x2 x3 x4 x5 x6 x7 x8)⟩]

theorem cover0_13 (p0 : Vec F S512x64 .f32) (y : S512x64.Idx) :
    ∃ pc ∈ ([⟨r0_52, p0⟩] : List (View.Piece (Elt F) S512x64 .f32)), y ∈ pc.1.set :=
  View.cover_of_tiled [⟨r0_52, p0⟩] S512x64.size (by rfl) y

def out0_14 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S8x512x256 .bf16 :=
  View.canon [⟨r0_27, k0_pay36 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_25)⟩,
    ⟨r0_26, k0_pay35 (k0_pay100 x0 x1 x2 x3 x4 x5 x6 x7 x8) (View.ld x2 r0_25)⟩,
    ⟨r0_24, k0_pay33 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_22)⟩,
    ⟨r0_23, k0_pay32 (k0_pay100 x0 x1 x2 x3 x4 x5 x6 x7 x8) (View.ld x2 r0_22)⟩,
    ⟨r0_21, k0_pay30 (k0_pay94 x0 x1 x2 x3 x4 x5 x6 x7 x8) (k0_pay95 x0 x1 x2 x3 x4 x5 x6 x7 x8) (k0_pay96 x0 x1 x2 x3 x4 x5 x6 x7 x8) (k0_pay101 x0 x1 x2 x3 x4 x5 x6 x7 x8)⟩,
    ⟨r0_20, k0_pay29 (k0_pay101 x0 x1 x2 x3 x4 x5 x6 x7 x8)⟩,
    ⟨r0_18, k0_pay27 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_16)⟩,
    ⟨r0_17, k0_pay26 (k0_pay100 x0 x1 x2 x3 x4 x5 x6 x7 x8) (View.ld x2 r0_16)⟩,
    ⟨r0_15, k0_pay24 (k0_pay94 x0 x1 x2 x3 x4 x5 x6 x7 x8) (k0_pay95 x0 x1 x2 x3 x4 x5 x6 x7 x8) (k0_pay96 x0 x1 x2 x3 x4 x5 x6 x7 x8) (k0_pay21 (k0_pay100 x0 x1 x2 x3 x4 x5 x6 x7 x8) (View.ld x2 r0_13))⟩,
    ⟨r0_14, k0_pay23 (k0_pay22 (k0_pay100 x0 x1 x2 x3 x4 x5 x6 x7 x8) (View.ld x2 r0_13))⟩,
    ⟨r0_12, k0_pay20 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_10)⟩,
    ⟨r0_11, k0_pay19 (k0_pay100 x0 x1 x2 x3 x4 x5 x6 x7 x8) (View.ld x2 r0_10)⟩,
    ⟨r0_9, k0_pay17 (k0_pay94 x0 x1 x2 x3 x4 x5 x6 x7 x8) (k0_pay95 x0 x1 x2 x3 x4 x5 x6 x7 x8) (k0_pay96 x0 x1 x2 x3 x4 x5 x6 x7 x8) (k0_pay15 (k0_pay97 x0 x1 x2 x3 x4 x5 x6 x7 x8) (k0_pay98 x0 x1 x2 x3 x4 x5 x6 x7 x8) (k0_pay99 x0 x1 x2 x3 x4 x5 x6 x7 x8) (View.ld x2 r0_7))⟩,
    ⟨r0_8, k0_pay16 (k0_pay97 x0 x1 x2 x3 x4 x5 x6 x7 x8) (k0_pay98 x0 x1 x2 x3 x4 x5 x6 x7 x8) (k0_pay99 x0 x1 x2 x3 x4 x5 x6 x7 x8) (View.ld x2 r0_7)⟩,
    ⟨r0_6, k0_pay14 (k0_pay94 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (k0_pay98 x0 x1 x2 x3 x4 x5 x6 x7 x8) (k0_pay99 x0 x1 x2 x3 x4 x5 x6 x7 x8) (View.ld x2 r0_4)⟩,
    ⟨r0_5, k0_pay13 (k0_pay97 x0 x1 x2 x3 x4 x5 x6 x7 x8) (k0_pay98 x0 x1 x2 x3 x4 x5 x6 x7 x8) (k0_pay99 x0 x1 x2 x3 x4 x5 x6 x7 x8) (View.ld x2 r0_4)⟩]

theorem cover0_14 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (p8 : Vec F S1x512x128 .bf16) (p9 : Vec F S1x512x128 .bf16) (p10 : Vec F S1x512x128 .bf16) (p11 : Vec F S1x512x128 .bf16) (p12 : Vec F S1x512x128 .bf16) (p13 : Vec F S1x512x128 .bf16) (p14 : Vec F S1x512x128 .bf16) (p15 : Vec F S1x512x128 .bf16) (y : S8x512x256.Idx) :
    ∃ pc ∈ ([⟨r0_27, p0⟩, ⟨r0_26, p1⟩, ⟨r0_24, p2⟩, ⟨r0_23, p3⟩, ⟨r0_21, p4⟩, ⟨r0_20, p5⟩, ⟨r0_18, p6⟩, ⟨r0_17, p7⟩, ⟨r0_15, p8⟩, ⟨r0_14, p9⟩, ⟨r0_12, p10⟩, ⟨r0_11, p11⟩, ⟨r0_9, p12⟩, ⟨r0_8, p13⟩, ⟨r0_6, p14⟩, ⟨r0_5, p15⟩] : List (View.Piece (Elt F) S8x512x256 .bf16)), y ∈ pc.1.set :=
  View.cover_of_tiled [⟨r0_27, p0⟩, ⟨r0_26, p1⟩, ⟨r0_24, p2⟩, ⟨r0_23, p3⟩, ⟨r0_21, p4⟩, ⟨r0_20, p5⟩, ⟨r0_18, p6⟩, ⟨r0_17, p7⟩, ⟨r0_15, p8⟩, ⟨r0_14, p9⟩, ⟨r0_12, p10⟩, ⟨r0_11, p11⟩, ⟨r0_9, p12⟩, ⟨r0_8, p13⟩, ⟨r0_6, p14⟩, ⟨r0_5, p15⟩] S1x512x128.size (by rfl) y

def out0_15 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S8x512x128 .bf16 :=
  View.canon [⟨r0_41, k0_pay52 (k0_pay92 x0 x1 x2 x3 x4 x5 x6 x7 x8) (k0_pay93 x0 x1 x2 x3 x4 x5 x6 x7 x8) (k0_pay49 (k0_pay91 x0 x1 x2 x3 x4 x5 x6 x7 x8) (View.ld x1 r0_39))⟩,
    ⟨r0_40, k0_pay51 (k0_pay50 (k0_pay91 x0 x1 x2 x3 x4 x5 x6 x7 x8) (k0_pay92 x0 x1 x2 x3 x4 x5 x6 x7 x8) (k0_pay93 x0 x1 x2 x3 x4 x5 x6 x7 x8) (View.ld x1 r0_39))⟩,
    ⟨r0_38, k0_pay47 (k0_pay91 x0 x1 x2 x3 x4 x5 x6 x7 x8) (k0_pay92 x0 x1 x2 x3 x4 x5 x6 x7 x8) (k0_pay93 x0 x1 x2 x3 x4 x5 x6 x7 x8) (View.ld x1 r0_36)⟩,
    ⟨r0_37, k0_pay46 (k0_pay91 x0 x1 x2 x3 x4 x5 x6 x7 x8) (k0_pay92 x0 x1 x2 x3 x4 x5 x6 x7 x8) (k0_pay93 x0 x1 x2 x3 x4 x5 x6 x7 x8) (View.ld x1 r0_36)⟩,
    ⟨r0_35, k0_pay44 (k0_pay43 (k0_pay91 x0 x1 x2 x3 x4 x5 x6 x7 x8) (k0_pay92 x0 x1 x2 x3 x4 x5 x6 x7 x8) (k0_pay93 x0 x1 x2 x3 x4 x5 x6 x7 x8) (View.ld x1 r0_33))⟩,
    ⟨r0_34, k0_pay42 (k0_pay91 x0 x1 x2 x3 x4 x5 x6 x7 x8) (k0_pay92 x0 x1 x2 x3 x4 x5 x6 x7 x8) (k0_pay93 x0 x1 x2 x3 x4 x5 x6 x7 x8) (View.ld x1 r0_33)⟩,
    ⟨r0_32, k0_pay40 (k0_pay91 x0 x1 x2 x3 x4 x5 x6 x7 x8) (k0_pay92 x0 x1 x2 x3 x4 x5 x6 x7 x8) (k0_pay93 x0 x1 x2 x3 x4 x5 x6 x7 x8) (View.ld x1 r0_30)⟩,
    ⟨r0_31, k0_pay39 (k0_pay91 x0 x1 x2 x3 x4 x5 x6 x7 x8) (k0_pay92 x0 x1 x2 x3 x4 x5 x6 x7 x8) (k0_pay93 x0 x1 x2 x3 x4 x5 x6 x7 x8) (View.ld x1 r0_30)⟩]

theorem cover0_15 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S8x512x128.Idx) :
    ∃ pc ∈ ([⟨r0_41, p0⟩, ⟨r0_40, p1⟩, ⟨r0_38, p2⟩, ⟨r0_37, p3⟩, ⟨r0_35, p4⟩, ⟨r0_34, p5⟩, ⟨r0_32, p6⟩, ⟨r0_31, p7⟩] : List (View.Piece (Elt F) S8x512x128 .bf16)), y ∈ pc.1.set :=
  View.cover_of_tiled [⟨r0_41, p0⟩, ⟨r0_40, p1⟩, ⟨r0_38, p2⟩, ⟨r0_37, p3⟩, ⟨r0_35, p4⟩, ⟨r0_34, p5⟩, ⟨r0_32, p6⟩, ⟨r0_31, p7⟩] S1x512x128.size (by rfl) y

def out0_16 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S8x512x128 .bf16 :=
  View.canon [⟨r0_41, k0_pay76 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_50)⟩,
    ⟨r0_40, k0_pay75 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_50)⟩,
    ⟨r0_38, k0_pay73 (k0_pay72 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_49))⟩,
    ⟨r0_37, k0_pay71 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_49)⟩,
    ⟨r0_35, k0_pay69 (k0_pay94 x0 x1 x2 x3 x4 x5 x6 x7 x8) (k0_pay95 x0 x1 x2 x3 x4 x5 x6 x7 x8) (k0_pay96 x0 x1 x2 x3 x4 x5 x6 x7 x8) (k0_pay65 (k0_pay91 x0 x1 x2 x3 x4 x5 x6 x7 x8) (View.ld x1 r0_48))⟩,
    ⟨r0_34, k0_pay68 (k0_pay95 x0 x1 x2 x3 x4 x5 x6 x7 x8) (k0_pay66 (k0_pay91 x0 x1 x2 x3 x4 x5 x6 x7 x8) (k0_pay96 x0 x1 x2 x3 x4 x5 x6 x7 x8) (View.ld x1 r0_48)) (k0_pay67 (k0_pay91 x0 x1 x2 x3 x4 x5 x6 x7 x8) (k0_pay94 x0 x1 x2 x3 x4 x5 x6 x7 x8) (View.ld x1 r0_48))⟩,
    ⟨r0_32, k0_pay62 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_47)⟩,
    ⟨r0_31, k0_pay61 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_47)⟩]

theorem cover0_16 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S8x512x128.Idx) :
    ∃ pc ∈ ([⟨r0_41, p0⟩, ⟨r0_40, p1⟩, ⟨r0_38, p2⟩, ⟨r0_37, p3⟩, ⟨r0_35, p4⟩, ⟨r0_34, p5⟩, ⟨r0_32, p6⟩, ⟨r0_31, p7⟩] : List (View.Piece (Elt F) S8x512x128 .bf16)), y ∈ pc.1.set :=
  View.cover_of_tiled [⟨r0_41, p0⟩, ⟨r0_40, p1⟩, ⟨r0_38, p2⟩, ⟨r0_37, p3⟩, ⟨r0_35, p4⟩, ⟨r0_34, p5⟩, ⟨r0_32, p6⟩, ⟨r0_31, p7⟩] S1x512x128.size (by rfl) y

def out0_17 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x128 .f32 :=
  View.canon [⟨r0_1, k0_pay1 (k0_pay89 (k0_pay91 x0 x1 x2 x3 x4 x5 x6 x7 x8) (View.ld x1 r0_53))⟩]

theorem cover0_17 (p0 : Vec F S512x128 .f32) (y : S512x128.Idx) :
    ∃ pc ∈ ([⟨r0_1, p0⟩] : List (View.Piece (Elt F) S512x128 .f32)), y ∈ pc.1.set :=
  View.cover_of_tiled [⟨r0_1, p0⟩] S512x128.size (by rfl) y

def out0_18 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x128 .bf16 :=
  View.canon [⟨r0_1, k0_pay84 (k0_pay95 x0 x1 x2 x3 x4 x5 x6 x7 x8) (k0_pay104 x0 x1 x2 x3 x4 x5 x6 x7 x8) (k0_pay105 x0 x1 x2 x3 x4 x5 x6 x7 x8)⟩]

theorem cover0_18 (p0 : Vec F S512x128 .bf16) (y : S512x128.Idx) :
    ∃ pc ∈ ([⟨r0_1, p0⟩] : List (View.Piece (Elt F) S512x128 .bf16)), y ∈ pc.1.set :=
  View.cover_of_tiled [⟨r0_1, p0⟩] S512x128.size (by rfl) y

def out0_19 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x256 .bf16 :=
  View.canon [⟨r0_44, k0_pay57 (k0_pay91 x0 x1 x2 x3 x4 x5 x6 x7 x8) (k0_pay92 x0 x1 x2 x3 x4 x5 x6 x7 x8) (k0_pay93 x0 x1 x2 x3 x4 x5 x6 x7 x8) (View.ld x1 r0_42)⟩,
    ⟨r0_43, k0_pay55 (k0_pay91 x0 x1 x2 x3 x4 x5 x6 x7 x8) (k0_pay92 x0 x1 x2 x3 x4 x5 x6 x7 x8) (k0_pay93 x0 x1 x2 x3 x4 x5 x6 x7 x8) (View.ld x1 r0_42)⟩]

theorem cover0_19 (p0 : Vec F S512x128 .bf16) (p1 : Vec F S512x128 .bf16) (y : S512x256.Idx) :
    ∃ pc ∈ ([⟨r0_44, p0⟩, ⟨r0_43, p1⟩] : List (View.Piece (Elt F) S512x256 .bf16)), y ∈ pc.1.set :=
  View.cover_of_tiled [⟨r0_44, p0⟩, ⟨r0_43, p1⟩] S512x128.size (by rfl) y

def out0_20 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x256 .bf16 :=
  View.canon [⟨r0_46, k0_pay59 (k0_pay102 x0 x1 x2 x3 x4 x5 x6 x7 x8)⟩]

theorem cover0_20 (p0 : Vec F S512x256 .bf16) (y : S512x256.Idx) :
    ∃ pc ∈ ([⟨r0_46, p0⟩] : List (View.Piece (Elt F) S512x256 .bf16)), y ∈ pc.1.set :=
  View.cover_of_tiled [⟨r0_46, p0⟩] S512x256.size (by rfl) y

def out0_21 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x128 .bf16 :=
  View.canon [⟨r0_1, k0_pay87 (k0_pay94 x0 x1 x2 x3 x4 x5 x6 x7 x8) (k0_pay95 x0 x1 x2 x3 x4 x5 x6 x7 x8) (k0_pay96 x0 x1 x2 x3 x4 x5 x6 x7 x8) (k0_pay103 x0 x1 x2 x3 x4 x5 x6 x7 x8)⟩]

theorem cover0_21 (p0 : Vec F S512x128 .bf16) (y : S512x128.Idx) :
    ∃ pc ∈ ([⟨r0_1, p0⟩] : List (View.Piece (Elt F) S512x128 .bf16)), y ∈ pc.1.set :=
  View.cover_of_tiled [⟨r0_1, p0⟩] S512x128.size (by rfl) y

def out0_22 (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) : Vec F S512x128 .bf16 :=
  View.canon [⟨r0_1, k0_pay90 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_53)⟩]

theorem cover0_22 (p0 : Vec F S512x128 .bf16) (y : S512x128.Idx) :
    ∃ pc ∈ ([⟨r0_1, p0⟩] : List (View.Piece (Elt F) S512x128 .bf16)), y ∈ pc.1.set :=
  View.cover_of_tiled [⟨r0_1, p0⟩] S512x128.size (by rfl) y

set_option maxHeartbeats 1000000 in
theorem sound_kernel (c : Dev nD) (E : Set ℕ) (i : grid0.Coords) (arg1 : Memref sig .tc .vmem S512x2048 .f32) (harg1 : arg1.IsWhole) (arg2 : Memref sig .tc .vmem S2048x4096 .bf16) (harg2 : arg2.IsWhole) (arg3 : Memref sig .tc .vmem S512x2048 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x64 .f32) (harg11 : arg11.IsWhole) (arg12 : Memref sig .tc .vmem S512x256 .f32) (harg12 : arg12.IsWhole) (arg13 : Memref sig .tc .vmem S512x256 .f32) (harg13 : arg13.IsWhole) (arg14 : Memref sig .tc .vmem S512x64 .f32) (harg14 : arg14.IsWhole) (arg15 : Memref sig .tc .vmem S8x512x256 .bf16) (harg15 : arg15.IsWhole) (arg16 : Memref sig .tc .vmem S8x512x128 .bf16) (harg16 : arg16.IsWhole) (arg17 : Memref sig .tc .vmem S8x512x128 .bf16) (harg17 : arg17.IsWhole) (arg18 : Memref sig .tc .vmem S512x128 .f32) (harg18 : arg18.IsWhole) (arg19 : Memref sig .tc .vmem S512x128 .bf16) (harg19 : arg19.IsWhole) (arg20 : Memref sig .tc .vmem S512x256 .bf16) (harg20 : arg20.IsWhole) (arg21 : Memref sig .tc .vmem S512x256 .bf16) (harg21 : arg21.IsWhole) (arg22 : Memref sig .tc .vmem S512x128 .bf16) (harg22 : arg22.IsWhole) (arg23 : Memref sig .tc .vmem S512x128 .bf16) (harg23 : arg23.IsWhole)
    (x0 : Vec F S512x2048 .f32) (x1 : Vec F S2048x4096 .bf16) (x2 : Vec F S512x2048 .bf16) (x3 : Vec F S1x512 .f32) (x4 : Vec F S1x512 .f32) (x5 : Vec F S512x128 .f32) (x6 : Vec F S512x128 .f32) (x7 : Vec F S512x128 .f32) (x8 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8) ∗ owns (c : Thread nD τ) arg19 fullShare (out0_18 x0 x1 x2 x3 x4 x5 x6 x7 x8) ∗ owns (c : Thread nD τ) arg20 fullShare (out0_19 x0 x1 x2 x3 x4 x5 x6 x7 x8) ∗ owns (c : Thread nD τ) arg21 fullShare (out0_20 x0 x1 x2 x3 x4 x5 x6 x7 x8) ∗ owns (c : Thread nD τ) arg22 fullShare (out0_21 x0 x1 x2 x3 x4 x5 x6 x7 x8) ∗ owns (c : Thread nD τ) arg23 fullShare (out0_22 x0 x1 x2 x3 x4 x5 x6 x7 x8)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _ _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _ _ _ _ _ _ _ _ _ _ _ _ _ _ _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _ _ _ _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t)
    | ⟨14, _⟩ => out0_14 (iblk m c 0 t) (iblk m c 1 t) (iblk m c 2 t) (iblk m c 3 t) (iblk m c 4 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t)
    | ⟨16, _⟩ => out0_16 (iblk m c 0 t) (iblk m c 1 t) (iblk m c 2 t) (iblk m c 3 t) (iblk m c 4 t) (iblk m c 5 t) (iblk m c 6 t) (iblk m c 7 t) (iblk m c 8 t)
    | ⟨17, _⟩ => out0_17 (iblk m c 0 t) (iblk m c 1 t) (iblk m c 2 t) (iblk m c 3 t) (iblk m c 4 t) (iblk m c 5 t) (iblk m c 6 t) (iblk m c 7 t) (iblk m c 8 t)
    | ⟨18, _⟩ => out0_18 (iblk m c 0 t) (iblk m c 1 t) (iblk m c 2 t) (iblk m c 3 t) (iblk m c 4 t) (iblk m c 5 t) (iblk m c 6 t) (iblk m c 7 t) (iblk m c 8 t)
    | ⟨19, _⟩ => out0_19 (iblk m c 0 t) (iblk m c 1 t) (iblk m c 2 t) (iblk m c 3 t) (iblk m c 4 t) (iblk m c 5 t) (iblk m c 6 t) (iblk m c 7 t) (iblk m c 8 t)
    | ⟨20, _⟩ => out0_20 (iblk m c 0 t) (iblk m c 1 t) (iblk m c 2 t) (iblk m c 3 t) (iblk m c 4 t) (iblk m c 5 t) (iblk m c 6 t) (iblk m c 7 t) (iblk m c 8 t)
    | ⟨21, _⟩ => out0_21 (iblk m c 0 t) (iblk m c 1 t) (iblk m c 2 t) (iblk m c 3 t) (iblk m c 4 t) (iblk m c 5 t) (iblk m c 6 t) (iblk m c 7 t) (iblk m c 8 t)
    | ⟨22, _⟩ => out0_22 (iblk m c 0 t) (iblk m c 1 t) (iblk m c 2 t) (iblk m c 3 t) (iblk m c 4 t) (iblk m c 5 t) (iblk m c 6 t) (iblk m c 7 t) (iblk m c 8 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Proj

end
-- ==== Proof.ProjFrames.lean ====
/- The frames of the projection's programs. -/
module

public import proofs.«01_k».proof.Defs
public import proofs.«01_k».proof.Proof.ProjLaunch
public import proofs.«01_k».proof.Proof.Gen.Kernel3
public import proofs.«01_k».proof.Proof.Gen.Reference3Ideal
public import proofs.«01_k».proof.Proof.Gen.Reference3Ideal.Run

@[expose] public section
set_option maxRecDepth 100000
set_option maxHeartbeats 16000000
noncomputable section

namespace Cert.Proof.Proj

open Idealize.ShloMosaic Idealize.ShloMosaic.TcCoe Idealize.SL.Sem

/-- The two programs' bodies are one, -/
theorem cc0_same : Cert.Kernel3.cc0_proj (F := Bits) = Cert.Kernel3Ideal.cc0_proj (F := Bits) := rfl

/-- and so are their tables of bodies. -/
theorem defs₀_same : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc0_same _) _) _) _) _) _) _) _) _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))

theorem defs_same : Cert.Kernel3.defs (F := Bits) = Cert.Kernel3Ideal.defs (F := Bits) :=
  congrArg (Pipeline.defs (Cert.Kernel3Ideal.pcfgs (F := Bits))) defs₀_same

theorem preserves_kernel : Cert.preserves_Kernel3_Kernel3Ideal := trivial

theorem frame_kernel : Cert.quiescent_Kernel3 := fun m ρ _ => by
  rw [show Cert.Kernel3.defs (F := Bits) = Cert.Kernel3Ideal.defs (F := Bits) from defs_same]
  exact frame (F := Bits) m ρ

theorem frame_kernelIdeal : Cert.quiescent_Kernel3Ideal := fun m ρ _ => frame m ρ

theorem frame_referenceIdeal : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

end Cert.Proof.Proj
-- ==== Proof.ProjPoints.lean ====
module

public import proofs.«01_k».proof.Proof.ProjLaunch
public import Idealize.ShloMosaic.Lib.Pointwise

/-! The projection's payloads, entry by entry. -/

@[expose] public section
noncomputable section

namespace Cert.Proof.Proj

open Cert.Kernel3Ideal Cert.Kernel3Ideal.Gen Idealize.ShloMosaic Idealize.ShloMosaic.TcCoe Idealize.SL.Sem

variable (x : Vec Ideal S512x2048 .f32) (w : Vec Ideal S2048x256 .bf16) (c s : FVec Ideal S512x128 .f32)

/-- A row of the inputs times a column of the weights. -/
abbrev dotAt (a : Fin 512) (j : Fin 256) : EReal := ∑ k : Fin 2048, x (ix2 a k) * w (ix2 k j)

theorem dotAt_congr (a : Fin 512) {j j' : Fin 256} (h : j.val = j'.val) : dotAt x w a j = dotAt x w a j' := by rw [Fin.ext h]

set_option maxRecDepth 16384 in
theorem plain_at (a : Fin 512) (j : Fin 256) : k0_pay58 (k0_pay2 x) w (ix2 a j) = dotAt x w a j := by
  pointwise [k0_pay58, k0_pay2]

set_option maxRecDepth 16384 in
theorem slab_at (a : Fin 512) (j : Fin 256) : k0_pay53 (k0_pay2 x) w (ix2 a j) = dotAt x w a j := by
  pointwise [k0_pay53, k0_pay2]

set_option maxRecDepth 16384 in
theorem slab'_at (a : Fin 512) (j : Fin 256) : k0_pay77 (k0_pay2 x) w (ix2 a j) = dotAt x w a j := by
  pointwise [k0_pay77, k0_pay2]

set_option maxRecDepth 16384 in
theorem kd0_at (a : Fin 512) (l : Fin 128) : k0_pay54 (k0_pay2 x) c s w (ix2 a l)
    = dotAt x w a ⟨l.val, by omega⟩ * c (ix2 a l) + dotAt x w a ⟨(l.val + 64) % 128, by omega⟩ * s (ix2 a l) := by
  pointwise [k0_pay54, k0_pay53, k0_pay2]
  exact congrArg₂ (fun u v => u * c (ix2 a l) + v * s (ix2 a l)) (dotAt_congr x w a (by rfl)) (dotAt_congr x w a (by dsimp only; omega))

set_option maxRecDepth 16384 in
theorem kd1_at (a : Fin 512) (l : Fin 128) : k0_pay56 (k0_pay2 x) c s w (ix2 a l)
    = dotAt x w a ⟨l.val + 128, by omega⟩ * c (ix2 a l) + dotAt x w a ⟨(l.val + 64) % 128 + 128, by omega⟩ * s (ix2 a l) := by
  pointwise [k0_pay56, k0_pay53, k0_pay2]
  exact congrArg₂ (fun u v => u * c (ix2 a l) + v * s (ix2 a l)) (dotAt_congr x w a (by dsimp only; omega)) (dotAt_congr x w a (by dsimp only; omega))

set_option maxRecDepth 16384 in
theorem first_at (a : Fin 512) (l : Fin 128) : k0_pay7 (ix2 a l) = if l.val % 64 < 32 then 1#1 else 0#1 := by
  pointwise [k0_pay7]
  revert l
  decide

set_option maxRecDepth 16384 in
theorem kpe_at (a : Fin 512) (l : Fin 64) : k0_pay83 s (k0_pay80 (k0_pay2 x) k0_pay7 w) (k0_pay81 (k0_pay2 x) c w) (ix2 a l)
    = dotAt x w a ⟨l.val, by omega⟩ * c (ix2 a ⟨l.val, by omega⟩) + dotAt x w a ⟨if l.val < 32 then l.val + 32 else l.val - 32, by split <;> omega⟩ * s (ix2 a ⟨l.val, by omega⟩) := by
  pointwise [k0_pay83, k0_pay82, k0_pay80, k0_pay81, k0_pay78, k0_pay77, k0_pay2]
  rw [first_at]
  by_cases h : l.val < 32
  · have h' : l.val % 64 < 32 := by omega
    rw [if_pos h']
    exact congrArg₂ (fun u v => u * c (ix2 a _) + v * s (ix2 a _)) (dotAt_congr x w a rfl) (dotAt_congr x w a (by dsimp only; split <;> omega))
  · have h' : ¬ l.val % 64 < 32 := by omega
    rw [if_neg h']
    exact congrArg₂ (fun u v => u * c (ix2 a _) + v * s (ix2 a _)) (dotAt_congr x w a rfl) (dotAt_congr x w a (by dsimp only; split <;> omega))

set_option maxRecDepth 16384 in
theorem ki_at (a : Fin 512) (l : Fin 64) : k0_pay86 c s k0_pay7 (k0_pay79 (k0_pay2 x) w) (ix2 a l)
    = dotAt x w a ⟨l.val + 128, by omega⟩ * c (ix2 a ⟨l.val, by omega⟩) + dotAt x w a ⟨(if l.val < 32 then l.val + 32 else l.val - 32) + 128, by split <;> omega⟩ * s (ix2 a ⟨l.val, by omega⟩) := by
  pointwise [k0_pay86, k0_pay85, k0_pay79, k0_pay77, k0_pay2]
  rw [first_at]
  by_cases h : l.val < 32
  · have h' : l.val % 64 < 32 := by omega
    rw [if_pos h']
    exact congrArg₂ (fun u v => u * c (ix2 a _) + v * s (ix2 a _)) (dotAt_congr x w a (by dsimp only; omega)) (dotAt_congr x w a (by dsimp only; split <;> omega))
  · have h' : ¬ l.val % 64 < 32 := by omega
    rw [if_neg h']
    exact congrArg₂ (fun u v => u * c (ix2 a _) + v * s (ix2 a _)) (dotAt_congr x w a (by dsimp only; omega)) (dotAt_congr x w a (by dsimp only; split <;> omega))

variable (w' : Vec Ideal S2048x512 .bf16) (g : Vec Ideal S1x512 .f32)

/-- A row's root-mean-square norm with scale `g`. -/
def rms (h : Fin 512 → EReal) (g : EReal) (b : Fin 512) : EReal :=
  h b * Ideal.rsqrt (Ideal.div (∑ y, h y * h y) (Ideal.ofBits FTy.f32 0x44000000#32) + Ideal.ofBits FTy.f32 0x358637BD#32) * g

set_option maxRecDepth 16384 in
theorem ckv_at (a b : Fin 512) : k0_pay37 (k0_pay2 x) w' g (ix2 a b)
    = rms (fun y => ∑ k : Fin 2048, x (ix2 a k) * w' (ix2 k y)) (g (ix2 0 b)) b := by
  pointwise [k0_pay37, k0_pay2]
  rfl

end Cert.Proof.Proj
-- ==== Proof.ProjHost.lean ====
module

public import proofs.«01_k».proof.Proof.ProjLaunch
public import Idealize.ShloMosaic.Lib.Pointwise
public import Idealize.ShloMosaic.Lib.Pipeline.Value

/-! The projection's arrays before the launch: the weights packed column block by column block, the tables of the rotations. -/

@[expose] public section
noncomputable section

namespace Cert.Proof.Proj

open Cert.Kernel3Ideal Cert.Kernel3Ideal.Gen Idealize.ShloMosaic Idealize.ShloMosaic.TcCoe Idealize.SL.Sem

/-- The dimensions of a gather that takes whole columns. -/
abbrev colDims (N K C : Nat) (wf : GatherDims.WF ⟨2, ![N, K]⟩ ⟨2, ![C, 1]⟩ ⟨2, ![N, C]⟩ [0] [1] [] [1] [] 1 ![N, 1]) :
    GatherDims ⟨2, ![N, K]⟩ ⟨2, ![C, 1]⟩ ⟨2, ![N, C]⟩ where
  offsetDims := [0]
  collapsedSliceDims := [1]
  operandBatchingDims := []
  startIndicesBatchingDims := []
  startIndexMap := [1]
  indexVectorDim := 1
  sliceSizes := ![N, 1]
  wf := wf

/-- Such a gather read at `(n, l)`: the operand at row `n` and at the column the `l`-th start index names. -/
theorem gather_cols {α : Type} {N K C w : Nat} (hK : 0 < K)
    (wf : GatherDims.WF ⟨2, ![N, K]⟩ ⟨2, ![C, 1]⟩ ⟨2, ![N, C]⟩ [0] [1] [] [1] [] 1 ![N, 1])
    (x : (⟨2, ![N, K]⟩ : Shape).Idx → α) (idx : IVec ⟨2, ![C, 1]⟩ w) (n : Fin N) (l : Fin C) :
    Host.gather (colDims N K C wf) x idx (ix2 n l) = x (ix2 n ⟨min (idx (ix2 l 0)).toInt.toNat (K - 1), by omega⟩) := by
  unfold Host.gather
  congr 1
  funext a
  refine Fin.ext ?_
  show (colDims N K C wf).start (ix2 n l) idx a + (colDims N K C wf).batchCoord (ix2 n l) a + (colDims N K C wf).offCoord (ix2 n l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ (colDims N K C wf).startIndexMap from by simp)]
    unfold GatherDims.offCoord
    rw [dif_pos ((GatherDims.mem_sKept _ _).mpr ⟨by simp, by simp⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N K C wf).startIndexMap from List.mem_singleton.mpr rfl)]
    have hsi : (colDims N K C wf).siIdx (ix2 n l) ⟨List.idxOf (1 : Fin 2) (colDims N K C wf).startIndexMap,
        List.idxOf_lt_length_iff.2 (List.mem_singleton.mpr rfl)⟩ = ix2 l 0 := by
      funext b; refine Fin.ext ?_
      match b with
      | ⟨0, _⟩ => rfl
      | ⟨1, _⟩ => rfl
    rw [hsi]
    rfl

variable (m : (ℓ : Loc nD τ sig) → Buf (Elt Ideal) ℓ) (c : Dev nD)

abbrev argX : FVec Ideal S1x16384x2048 .f32 := m ((c : Thread nD τ).loc main_arg0)
abbrev argW : FVec Ideal S2048x3728 .f32 := m ((c : Thread nD τ).loc main_arg1)
abbrev argG : FVec Ideal S512 .f32 := m ((c : Thread nD τ).loc main_arg4)

/-- The zero columns. -/
abbrev zeros64 : FVec Ideal S2048x64 .f32 := broadcastInDim S2048x64 ![] bcast_S_S2048x64 (constant S_ .f32 0x00000000#32)

abbrev zeros112 : FVec Ideal S2048x112 .f32 := broadcastInDim S2048x112 ![] bcast_S_S2048x112 (constant S_ .f32 0x00000000#32)

/-- The pieces the packed weights are laid out of, -/
def pieces (w : FVec Ideal S2048x3728 .f32) : List ((s : Shape) × (s.Idx → EReal)) :=
  [⟨S2048x512, extractStridedSlice S2048x512 ![0, 0] w slices_S2048x3728_S2048x512_0_0⟩,
    ⟨S2048x512, extractStridedSlice S2048x512 ![0, 512] w slices_S2048x3728_S2048x512_0_512⟩,
    ⟨S2048x1024, extractStridedSlice S2048x1024 ![0, 1088] w slices_S2048x3728_S2048x1024_0_1088⟩,
    ⟨S2048x256, extractStridedSlice S2048x256 ![0, 2112] w slices_S2048x3728_S2048x256_0_2112⟩,
    ⟨S2048x256, extractStridedSlice S2048x256 ![0, 2368] w slices_S2048x3728_S2048x256_0_2368⟩,
    ⟨S2048x1024, extractStridedSlice S2048x1024 ![0, 2624] w slices_S2048x3728_S2048x1024_0_2624⟩,
    ⟨S2048x64, extractStridedSlice S2048x64 ![0, 1024] w slices_S2048x3728_S2048x64_0_1024⟩,
    ⟨S2048x64, zeros64⟩,
    ⟨S2048x64, extractStridedSlice S2048x64 ![0, 3648] w slices_S2048x3728_S2048x64_0_3648⟩,
    ⟨S2048x64, zeros64⟩, ⟨S2048x64, zeros64⟩,
    ⟨S2048x64, extractStridedSlice S2048x64 ![0, 3648] w slices_S2048x3728_S2048x64_0_3648⟩,
    ⟨S2048x16, extractStridedSlice S2048x16 ![0, 3712] w slices_S2048x3728_S2048x16_0_3712⟩,
    ⟨S2048x112, zeros112⟩]

/-- and the packed weights. -/
def packed (w : FVec Ideal S2048x3728 .f32) : FVec Ideal S2048x4096 .f32 :=
  concatenate S2048x4096 1 (pieces w) concatenates_S2048x512_S2048x512_S2048x1024_S2048x256_S2048x256_S2048x1024_S2048x64_S2048x64_S2048x64_S2048x64_S2048x64_S2048x64_S2048x16_S2048x112_S2048x4096_d1

theorem V_w : V m c main_v17 = truncf .bf16 (packed (argW m c)) bitsLt_bf16_f32 := rfl
theorem V_x : V m c main_v23 = shapeCast S16384x2048 (argX m c) shapeCasts_S1x16384x2048_S16384x2048 := rfl
theorem V_g : V m c main_v21 = shapeCast S1x512 (argG m c) shapeCasts_S512_S1x512 := rfl

/-- A column of the packed weights inside the piece `k`. -/
theorem packed_piece (w : FVec Ideal S2048x3728 .f32) (n : Nat) (q : (⟨2, ![2048, n]⟩ : Shape).Idx → EReal) (k : Nat) (hk : k < 14) (pre : Nat)
    (hq : (pieces w)[k]'hk = ⟨⟨2, ![2048, n]⟩, q⟩)
    (hpre : ((((pieces w).take k).map (·.1)).map fun s => if h : s.rank = S2048x4096.rank then s.size ((1 : Fin S2048x4096.rank).cast h.symm) else 0).sum = pre)
    (x : Fin 2048) (j : Fin n) (J : Fin 4096) (hJ : pre + j.val = J.val) : packed w (ix2 x J) = q (ix2 x j) := by
  refine concatenate_apply_piece 1 (pieces w) _ (ix2 x J) k hk ⟨2, ![2048, n]⟩ q hq rfl pre hpre (ix2 x j) (fun b hb => ?_) hJ
  match b with
  | ⟨0, _⟩ => rfl
  | ⟨1, _⟩ => exact absurd rfl hb

set_option maxRecDepth 16384

theorem packed_ckv (w : FVec Ideal S2048x3728 .f32) (x : Fin 2048) (j : Fin 512) (J : Fin 4096) (hJ : 512 + j.val = J.val) :
    packed w (ix2 x J) = w (ix2 x ⟨512 + j.val, by omega⟩) := by
  rw [packed_piece w 512 _ 1 (by decide) 512 rfl rfl x j J hJ]
  pointwise

theorem packed_kd (w : FVec Ideal S2048x3728 .f32) (x : Fin 2048) (j : Fin 256) (J : Fin 4096) (hJ : 2048 + j.val = J.val) :
    packed w (ix2 x J) = w (ix2 x ⟨2112 + j.val, by omega⟩) := by
  rw [packed_piece w 256 _ 3 (by decide) 2048 rfl rfl x j J hJ]
  pointwise

theorem packed_vd (w : FVec Ideal S2048x3728 .f32) (x : Fin 2048) (j : Fin 256) (J : Fin 4096) (hJ : 2304 + j.val = J.val) :
    packed w (ix2 x J) = w (ix2 x ⟨2368 + j.val, by omega⟩) := by
  rw [packed_piece w 256 _ 4 (by decide) 2304 rfl rfl x j J hJ]
  pointwise

theorem packed_kpe (w : FVec Ideal S2048x3728 .f32) (x : Fin 2048) (j : Fin 64) (J : Fin 4096) (hJ : 3584 + j.val = J.val) :
    packed w (ix2 x J) = w (ix2 x ⟨1024 + j.val, by omega⟩) := by
  rw [packed_piece w 64 _ 6 (by decide) 3584 rfl rfl x j J hJ]
  pointwise

theorem packed_ki (w : FVec Ideal S2048x3728 .f32) (x : Fin 2048) (j : Fin 64) (J : Fin 4096) (hJ : 3712 + j.val = J.val) :
    packed w (ix2 x J) = w (ix2 x ⟨3648 + j.val, by omega⟩) := by
  rw [packed_piece w 64 _ 8 (by decide) 3712 rfl rfl x j J hJ]
  pointwise

/-- The angles of a rotation of halves of 64, -/
def ang64 : FVec Ideal S16384x64 .f32 :=
  mulf (broadcastInDim S16384x64 ![0, 1] bcast_S16384x1_S16384x64_0_1 (broadcastInDim S16384x1 ![0] bcast_S16384_S16384x1_0 (sitofp .f32 (iotaInDim S16384 32 0))))
    (broadcastInDim S16384x64 ![0, 1] bcast_S1x64_S16384x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (iotaInDim S64 32 0)) (broadcastInDim S64 ![] bcast_S_S64 (constant S_ .f32 0x42800000#32)))))))

/-- and of halves of 32. -/
def ang32 : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

/-- The columns a table repeats, -/
def cols (lit : Fin 128 → BitVec 32) (k : BitVec 32) : IVec S128x1 32 :=
  broadcastInDim S128x1 ![0] bcast_S128_S128x1_0 (select (constantI S128 1 0#1)
    (addi (fun i => lit (S128.rowMajor i)) (broadcastInDim S128 ![] bcast_S_S128 (constantI S_ 32 k))) (fun i => lit (S128.rowMajor i)))

/-- and the signs of its sines. -/
def signs (lit : Fin 128 → BitVec 32) : FVec Ideal S16384x128 .f32 :=
  broadcastInDim S16384x128 ![0, 1] bcast_S1x128_S16384x128_0_1 (broadcastInDim S1x128 ![1] bcast_S128_S1x128_1
    (fun i => FloatOps.ofBits .f32 (lit (S128.rowMajor i))))

theorem V_c128 : V m c main_v43 = Host.gather gather_S16384x64_S128x1_S16384x128_0_1_n_n_1_1_163841 (Host.cos ang64) (cols lit0 64#32) := rfl
theorem V_s128 : V m c main_v50 = mulf (Host.gather gather_S16384x64_S128x1_S16384x128_0_1_n_n_1_1_163841 (Host.sin ang64) (cols lit0 64#32)) (signs lit1) := rfl
theorem V_c64 : V m c main_v68 = Host.gather gather_S16384x32_S128x1_S16384x128_0_1_n_n_1_1_163841 (Host.cos ang32) (cols lit2 32#32) := rfl
theorem V_s64 : V m c main_v75 = mulf (Host.gather gather_S16384x32_S128x1_S16384x128_0_1_n_n_1_1_163841 (Host.sin ang32) (cols lit2 32#32)) (signs lit3) := rfl

theorem row128 (l : Fin 128) : S128.rowMajor (ix1 l) = l := by
  exact Fin.ext (Shape.rowMajor_val_one _)

theorem cols_at (lit : Fin 128 → BitVec 32) (k : BitVec 32) (l : Fin 128) : cols lit k (ix2 l 0) = lit l := by
  pointwise [cols]
  rw [row128]

theorem signs_at (lit : Fin 128 → BitVec 32) (n : Fin 16384) (l : Fin 128) : signs lit (ix2 n l) = Ideal.ofBits .f32 (lit l) := by
  pointwise [signs]
  rw [row128]

theorem negOne : Ideal.ofBits FTy.f32 0xBF800000#32 = -1 := by
  rw [show (-1 : EReal) = ((-(1 : ℝ)) : EReal) by rw [EReal.coe_one]]
  simp [Ideal.ofBits, Ideal.ieee, -EReal.coe_mul, -EReal.coe_neg]
  norm_num

theorem lit0_at : ∀ l : Fin 128, min (lit0 l).toInt.toNat (64 - 1) = l.val % 64 := by decide
theorem lit2_at : ∀ l : Fin 128, min (lit2 l).toInt.toNat (32 - 1) = l.val % 32 := by decide
theorem lit1_at : ∀ l : Fin 128, lit1 l = if l.val < 64 then 0xBF800000#32 else 0x3F800000#32 := by decide
theorem lit3_at : ∀ l : Fin 128, lit3 l = if l.val % 64 < 32 then 0xBF800000#32 else 0x3F800000#32 := by decide

theorem c128_at (n : Fin 16384) (l : Fin 128) : (V m c main_v43 : FVec Ideal S16384x128 .f32) (ix2 n l) = Host.cos ang64 (ix2 n ⟨l.val % 64, by omega⟩) := by
  rw [V_c128]
  refine (gather_cols (by decide) _ _ _ n l).trans (congrArg (fun j => Host.cos ang64 (ix2 n j)) (Fin.ext ?_))
  dsimp only
  rw [cols_at, lit0_at]

theorem c64_at (n : Fin 16384) (l : Fin 128) : (V m c main_v68 : FVec Ideal S16384x128 .f32) (ix2 n l) = Host.cos ang32 (ix2 n ⟨l.val % 32, by omega⟩) := by
  rw [V_c64]
  refine (gather_cols (by decide) _ _ _ n l).trans (congrArg (fun j => Host.cos ang32 (ix2 n j)) (Fin.ext ?_))
  dsimp only
  rw [cols_at, lit2_at]

theorem s128_at (n : Fin 16384) (l : Fin 128) : (V m c main_v50 : FVec Ideal S16384x128 .f32) (ix2 n l)
    = Host.sin ang64 (ix2 n ⟨l.val % 64, by omega⟩) * if l.val < 64 then -1 else 1 := by
  rw [V_s128]
  refine congrArg₂ (fun u v : EReal => u * v) ((gather_cols (by decide) _ _ _ n l).trans (congrArg (fun j => Host.sin ang64 (ix2 n j)) (Fin.ext ?_))) ?_
  · dsimp only
    rw [cols_at, lit0_at]
  · rw [signs_at, lit1_at]
    split
    · exact negOne
    · pointwise

theorem s64_at (n : Fin 16384) (l : Fin 128) : (V m c main_v75 : FVec Ideal S16384x128 .f32) (ix2 n l)
    = Host.sin ang32 (ix2 n ⟨l.val % 32, by omega⟩) * if l.val % 64 < 32 then -1 else 1 := by
  rw [V_s64]
  refine congrArg₂ (fun u v : EReal => u * v) ((gather_cols (by decide) _ _ _ n l).trans (congrArg (fun j => Host.sin ang32 (ix2 n j)) (Fin.ext ?_))) ?_
  · dsimp only
    rw [cols_at, lit2_at]
  · rw [signs_at, lit3_at]
    split
    · exact negOne
    · pointwise

end Cert.Proof.Proj
-- ==== Proof.ProjBlocks.lean ====
module

public import proofs.«01_k».proof.Proof.ProjPoints
public import proofs.«01_k».proof.Proof.ProjHost

/-! What a point of the projection leaves in its five blocks, read off the arguments. -/

@[expose] public section
noncomputable section

namespace Cert.Proof.Proj

open Cert.Kernel3Ideal Cert.Kernel3Ideal.Gen Idealize.ShloMosaic Idealize.ShloMosaic.TcCoe Idealize.SL.Sem

theorem off0 : (![0, 0] : Fin 2 → Nat) = fun _ => 0 := funext fun a => by fin_cases a <;> rfl

section Outs
variable (x0 : Vec Ideal S512x2048 .f32) (x1 : Vec Ideal S2048x4096 .bf16) (x2 : Vec Ideal S512x2048 .bf16) (x3 x4 : Vec Ideal S1x512 .f32) (x5 x6 x7 x8 : Vec Ideal S512x128 .f32)

/-- A row of the inputs times a column of the packed weights. -/
abbrev colDot (a : Fin 512) (j : ℕ) (h : j < 4096) : EReal := ∑ k : Fin 2048, x0 (ix2 a k) * x1 (ix2 k ⟨j, h⟩)

theorem colDot_congr (a : Fin 512) {j j' : ℕ} (h : j < 4096) (h' : j' < 4096) (e : j = j') : colDot x0 x1 a j h = colDot x0 x1 a j' h' := by subst e; rfl

theorem x_eq : k0_pay91 x0 x1 x2 x3 x4 x5 x6 x7 x8 = k0_pay2 x0 := by
  rw [k0_pay91, View.ld_unit_zero (S := S512x2048) off0]

theorem same3 (v : Vec Ideal S512x128 .f32) : k0_pay3 v = v := by
  funext y
  rw [eq_ix2 y]
  pointwise [k0_pay3]

theorem c128_eq : k0_pay92 x0 x1 x2 x3 x4 x5 x6 x7 x8 = x5 := by
  rw [k0_pay92, View.ld_unit_zero (S := S512x128) off0]
  exact same3 x5
theorem s128_eq : k0_pay93 x0 x1 x2 x3 x4 x5 x6 x7 x8 = x6 := by
  rw [k0_pay93, View.ld_unit_zero (S := S512x128) off0]
  exact same3 x6
theorem c64_eq : k0_pay94 x0 x1 x2 x3 x4 x5 x6 x7 x8 = x7 := by
  rw [k0_pay94, View.ld_unit_zero (S := S512x128) off0]
  exact same3 x7
theorem s64_eq : k0_pay95 x0 x1 x2 x3 x4 x5 x6 x7 x8 = x8 := by
  rw [k0_pay95, View.ld_unit_zero (S := S512x128) off0]
  exact same3 x8

set_option maxRecDepth 16384 in
theorem ld28 (k : Fin 2048) (j : Fin 512) : View.ld x1 r0_28 (ix2 k j) = x1 (ix2 k ⟨512 + j.val, by omega⟩) := by
  pointwise
set_option maxRecDepth 16384 in
theorem ld42 (k : Fin 2048) (j : Fin 256) : View.ld x1 r0_42 (ix2 k j) = x1 (ix2 k ⟨2048 + j.val, by omega⟩) := by
  pointwise
set_option maxRecDepth 16384 in
theorem ld45 (k : Fin 2048) (j : Fin 256) : View.ld x1 r0_45 (ix2 k j) = x1 (ix2 k ⟨2304 + j.val, by omega⟩) := by
  pointwise
set_option maxRecDepth 16384 in
theorem ld51 (k : Fin 2048) (j : Fin 256) : View.ld x1 r0_51 (ix2 k j) = x1 (ix2 k ⟨3584 + j.val, by omega⟩) := by
  pointwise

theorem dot42 (a : Fin 512) (j : Fin 256) : dotAt x0 (View.ld x1 r0_42) a j = colDot x0 x1 a (2048 + j.val) (by omega) := by
  exact Finset.sum_congr rfl fun k _ => congrArg (fun z : EReal => x0 (ix2 a k) * z) (ld42 x1 k j)
theorem dot45 (a : Fin 512) (j : Fin 256) : dotAt x0 (View.ld x1 r0_45) a j = colDot x0 x1 a (2304 + j.val) (by omega) := by
  exact Finset.sum_congr rfl fun k _ => congrArg (fun z : EReal => x0 (ix2 a k) * z) (ld45 x1 k j)
theorem dot51 (a : Fin 512) (j : Fin 256) : dotAt x0 (View.ld x1 r0_51) a j = colDot x0 x1 a (3584 + j.val) (by omega) := by
  exact Finset.sum_congr rfl fun k _ => congrArg (fun z : EReal => x0 (ix2 a k) * z) (ld51 x1 k j)

theorem out9_at (a b : Fin 512) : out0_9 x0 x1 x2 x3 x4 x5 x6 x7 x8 (ix2 a b)
    = rms (fun y => colDot x0 x1 a (512 + y.val) (by omega)) (x4 (ix2 0 b)) b := by
  rw [out0_9, View.canon_unit_zero (S := S512x512) off0, x_eq, View.ld_unit_zero (S := S1x512) off0, ckv_at]
  exact congrArg (fun f => rms f (x4 (ix2 0 b)) b) (funext fun y => Finset.sum_congr rfl fun k _ => congrArg (fun z : EReal => x0 (ix2 a k) * z) (ld28 x1 k y))

theorem out10_at (a : Fin 512) (l : Fin 64) : out0_10 x0 x1 x2 x3 x4 x5 x6 x7 x8 (ix2 a l)
    = colDot x0 x1 a (3584 + l.val) (by omega) * x7 (ix2 a ⟨l.val, by omega⟩)
      + colDot x0 x1 a (3584 + if l.val < 32 then l.val + 32 else l.val - 32) (by split <;> omega) * x8 (ix2 a ⟨l.val, by omega⟩) := by
  rw [out0_10, View.canon_unit_zero (S := S512x64) off0, k0_pay104, k0_pay105, x_eq, c64_eq, s64_eq, k0_pay96, kpe_at, dot51, dot51]

theorem out12_at (a : Fin 512) (j : Fin 256) : out0_12 x0 x1 x2 x3 x4 x5 x6 x7 x8 (ix2 a j) = colDot x0 x1 a (2304 + j.val) (by omega) := by
  rw [out0_12, View.canon_unit_zero (S := S512x256) off0, k0_pay102, x_eq, plain_at, dot45]

theorem out13_at (a : Fin 512) (l : Fin 64) : out0_13 x0 x1 x2 x3 x4 x5 x6 x7 x8 (ix2 a l)
    = colDot x0 x1 a (3584 + (l.val + 128)) (by omega) * x7 (ix2 a ⟨l.val, by omega⟩)
      + colDot x0 x1 a (3584 + ((if l.val < 32 then l.val + 32 else l.val - 32) + 128)) (by split <;> omega) * x8 (ix2 a ⟨l.val, by omega⟩) := by
  rw [out0_13, View.canon_unit_zero (S := S512x64) off0, k0_pay103, x_eq, c64_eq, s64_eq, k0_pay96, ki_at, dot51, dot51]

/-- The two turned rows of 128. -/
def kdG (a : Fin 512) (j : Fin 256) : EReal :=
  colDot x0 x1 a (2048 + j.val) (by omega) * x5 (ix2 a ⟨j.val % 128, by omega⟩)
    + colDot x0 x1 a (2048 + (j.val / 128 * 128 + (j.val % 128 + 64) % 128)) (by omega) * x6 (ix2 a ⟨j.val % 128, by omega⟩)

theorem kd_piece0 (a : Fin 512) (l : Fin 128) : k0_pay54 (k0_pay2 x0) x5 x6 (View.ld x1 r0_42) (ix2 a l) = kdG x0 x1 x5 x6 a ⟨l.val, by omega⟩ := by
  rw [kd0_at, dot42, dot42, kdG]
  simp only [show l.val % 128 = l.val by omega, show l.val / 128 = 0 by omega, Nat.zero_mul, Nat.zero_add]

theorem kd_piece1 (a : Fin 512) (l : Fin 128) : k0_pay56 (k0_pay2 x0) x5 x6 (View.ld x1 r0_42) (ix2 a l) = kdG x0 x1 x5 x6 a ⟨128 + l.val, by omega⟩ := by
  rw [kd1_at, dot42, dot42, kdG]
  exact congrArg₂ (fun u v : EReal => u + v)
    (congrArg₂ (fun u v : EReal => u * v) (colDot_congr x0 x1 a _ _ (by dsimp only; omega)) (congrArg (fun z => x5 (ix2 a z)) (Fin.ext (by dsimp only; omega))))
    (congrArg₂ (fun u v : EReal => u * v) (colDot_congr x0 x1 a _ _ (by dsimp only; omega)) (congrArg (fun z => x6 (ix2 a z)) (Fin.ext (by dsimp only; omega))))

theorem out11_at (a : Fin 512) (j : Fin 256) : out0_11 x0 x1 x2 x3 x4 x5 x6 x7 x8 (ix2 a j) = kdG x0 x1 x5 x6 a j := by
  rw [out0_11, x_eq, c128_eq, s128_eq]
  refine View.canon_apply_of_pieces (Val := Elt Ideal) (e := .f32) (fun y : S512x256.Idx => kdG x0 x1 x5 x6 (y 0) (y 1)) _ (fun p hp => ?_) (ix2 a j) (cover0_11 _ _ _)
  rcases List.mem_cons.mp hp with rfl | hp
  · intro (y : S512x128.Idx)
    rw [eq_ix2 y]
    refine (kd_piece1 x0 x1 x5 x6 (y 0) (y 1)).trans (congrArg₂ (kdG x0 x1 x5 x6) (Fin.ext ?_) (Fin.ext ?_))
    · show (y 0).val = 0 + 1 * (y 0).val
      omega
    · show 128 + (y 1).val = 128 + 1 * (y 1).val
      omega
  · obtain rfl := List.mem_singleton.mp hp
    intro (y : S512x128.Idx)
    rw [eq_ix2 y]
    refine (kd_piece0 x0 x1 x5 x6 (y 0) (y 1)).trans (congrArg₂ (kdG x0 x1 x5 x6) (Fin.ext ?_) (Fin.ext ?_))
    · show (y 0).val = 0 + 1 * (y 0).val
      omega
    · show (y 1).val = 0 + 1 * (y 1).val
      omega
end Outs

variable (m : (ℓ : Loc nD τ sig) → Buf (Elt Ideal) ℓ) (c : Dev nD)

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)
theorem index8 : ∀ t : Fin cfg0.N, win0_8.index t (0 : Fin 2) = t.val ∧ win0_8.index t (1 : Fin 2) = 0 := (by decide +kernel : ∀ t : Fin grid0.N, _)

theorem pt_lt (t : Fin cfg0.N) : t.val < 32 := lt_of_lt_of_eq t.isLt (N_0 : grid0.N = 32)
abbrev rowAt (t : Fin cfg0.N) (a : Fin 512) : Fin 16384 := ⟨512 * t.val + a.val, by have := pt_lt t; omega⟩

theorem x_at (x : FVec Ideal S1x16384x2048 .f32) (p : Fin 16384) (k : Fin 2048) :
    shapeCast S16384x2048 x shapeCasts_S1x16384x2048_S16384x2048 (ix2 p k) = x (ix3 0 p k) := by
  pointwise

theorem g_at (g : FVec Ideal S512 .f32) (b : Fin 512) : shapeCast S1x512 g shapeCasts_S512_S1x512 (ix2 0 b) = g (ix1 b) := by
  pointwise

theorem blk0 (t : Fin cfg0.N) (a : Fin 512) (k : Fin 2048) : (iblk m c 0 t : Vec Ideal S512x2048 .f32) (ix2 a k) = argX m c (ix3 0 (rowAt t a) k) := by
  have hi := index0 t
  unfold iblk
  rw [View.read_apply]
  show V m c main_v23 _ = _
  rw [V_x]
  have e : ((cfg0.win 0).blk t).view.emb (ix2 a k) = (ix2 (rowAt t a) k : S16384x2048.Idx) := by
    funext d
    apply Fin.ext
    match d with
    | ⟨0, _⟩ => show win0_0.index _ 0 * 512 + 1 * a.val = 512 * t.val + a.val; rw [hi.1]; omega
    | ⟨1, _⟩ => show win0_0.index _ 1 * 2048 + 1 * k.val = k.val; rw [hi.2]; omega
  rw [e]
  exact x_at _ _ _

theorem blk1 (t : Fin cfg0.N) (k : Fin 2048) (j : Fin 4096) : (iblk m c 1 t : Vec Ideal S2048x4096 .bf16) (ix2 k j) = packed (argW m c) (ix2 k j) := by
  have hi := index1 t
  unfold iblk
  rw [View.read_apply]
  show V m c main_v17 _ = _
  rw [V_w]
  have e : ((cfg0.win 1).blk t).view.emb (ix2 k j) = (ix2 k j : S2048x4096.Idx) := by
    funext d
    apply Fin.ext
    match d with
    | ⟨0, _⟩ => show win0_1.index _ 0 * 2048 + 1 * k.val = k.val; rw [hi.1]; omega
    | ⟨1, _⟩ => show win0_1.index _ 1 * 4096 + 1 * j.val = j.val; rw [hi.2]; omega
  rw [e]
  rfl

theorem blk4 (t : Fin cfg0.N) (b : Fin 512) : (iblk m c 4 t : Vec Ideal S1x512 .f32) (ix2 0 b) = argG m c (ix1 b) := by
  have hi := index4 t
  unfold iblk
  rw [View.read_apply]
  show V m c main_v21 _ = _
  rw [V_g]
  have e : ((cfg0.win 4).blk t).view.emb (ix2 0 b) = (ix2 0 b : S1x512.Idx) := by
    funext d
    apply Fin.ext
    match d with
    | ⟨0, _⟩ => show win0_4.index _ 0 * 1 + 1 * 0 = 0; rw [hi.1]
    | ⟨1, _⟩ => show win0_4.index _ 1 * 512 + 1 * b.val = b.val; rw [hi.2]; omega
  rw [e]
  exact g_at _ _

theorem blk5 (t : Fin cfg0.N) (a : Fin 512) (l : Fin 128) : (iblk m c 5 t : Vec Ideal S512x128 .f32) (ix2 a l) = Host.cos ang64 (ix2 (rowAt t a) ⟨l.val % 64, by omega⟩) := by
  have hi := index5 t
  unfold iblk
  rw [View.read_apply]
  have e : ((cfg0.win 5).blk t).view.emb (ix2 a l) = (ix2 (rowAt t a) l : S16384x128.Idx) := by
    funext d
    apply Fin.ext
    match d with
    | ⟨0, _⟩ => show win0_5.index _ 0 * 512 + 1 * a.val = 512 * t.val + a.val; rw [hi.1]; omega
    | ⟨1, _⟩ => show win0_5.index _ 1 * 128 + 1 * l.val = l.val; rw [hi.2]; omega
  rw [e]
  exact c128_at m c (rowAt t a) l

theorem blk6 (t : Fin cfg0.N) (a : Fin 512) (l : Fin 128) : (iblk m c 6 t : Vec Ideal S512x128 .f32) (ix2 a l) = Host.sin ang64 (ix2 (rowAt t a) ⟨l.val % 64, by omega⟩) * if l.val < 64 then -1 else 1 := by
  have hi := index6 t
  unfold iblk
  rw [View.read_apply]
  have e : ((cfg0.win 6).blk t).view.emb (ix2 a l) = (ix2 (rowAt t a) l : S16384x128.Idx) := by
    funext d
    apply Fin.ext
    match d with
    | ⟨0, _⟩ => show win0_6.index _ 0 * 512 + 1 * a.val = 512 * t.val + a.val; rw [hi.1]; omega
    | ⟨1, _⟩ => show win0_6.index _ 1 * 128 + 1 * l.val = l.val; rw [hi.2]; omega
  rw [e]
  exact s128_at m c (rowAt t a) l

theorem blk7 (t : Fin cfg0.N) (a : Fin 512) (l : Fin 128) : (iblk m c 7 t : Vec Ideal S512x128 .f32) (ix2 a l) = Host.cos ang32 (ix2 (rowAt t a) ⟨l.val % 32, by omega⟩) := by
  have hi := index7 t
  unfold iblk
  rw [View.read_apply]
  have e : ((cfg0.win 7).blk t).view.emb (ix2 a l) = (ix2 (rowAt t a) l : S16384x128.Idx) := by
    funext d
    apply Fin.ext
    match d with
    | ⟨0, _⟩ => show win0_7.index _ 0 * 512 + 1 * a.val = 512 * t.val + a.val; rw [hi.1]; omega
    | ⟨1, _⟩ => show win0_7.index _ 1 * 128 + 1 * l.val = l.val; rw [hi.2]; omega
  rw [e]
  exact c64_at m c (rowAt t a) l

theorem blk8 (t : Fin cfg0.N) (a : Fin 512) (l : Fin 128) : (iblk m c 8 t : Vec Ideal S512x128 .f32) (ix2 a l) = Host.sin ang32 (ix2 (rowAt t a) ⟨l.val % 32, by omega⟩) * if l.val % 64 < 32 then -1 else 1 := by
  have hi := index8 t
  unfold iblk
  rw [View.read_apply]
  have e : ((cfg0.win 8).blk t).view.emb (ix2 a l) = (ix2 (rowAt t a) l : S16384x128.Idx) := by
    funext d
    apply Fin.ext
    match d with
    | ⟨0, _⟩ => show win0_8.index _ 0 * 512 + 1 * a.val = 512 * t.val + a.val; rw [hi.1]; omega
    | ⟨1, _⟩ => show win0_8.index _ 1 * 128 + 1 * l.val = l.val; rw [hi.2]; omega
  rw [e]
  exact s64_at m c (rowAt t a) l

end Cert.Proof.Proj
-- ==== Proof.ProjRef.lean ====
module

public import proofs.«01_k».proof.Proof.Gen.Reference3Ideal
public import proofs.«01_k».proof.Proof.Gen.Reference3Ideal.Run
public import Idealize.ShloMosaic.Lib.Pointwise

/-! The projection's reference, entry by entry. -/

@[expose] public section
noncomputable section

namespace Cert.Proof.ProjRef

open Cert.Reference3Ideal Cert.Reference3Ideal.Gen Idealize.ShloMosaic Idealize.ShloMosaic.TcCoe Idealize.SL.Sem

set_option maxRecDepth 16384

/-- The inputs times the weights. -/
def prod (X : FVec Ideal S1x16384x2048 .f32) (W : FVec Ideal S2048x3728 .f32) : FVec Ideal S1x16384x3728 .f32 :=
  Host.dotGeneral dot_S1x16384x2048_S2048x3728_S1x16384x3728_2_0_01_1_n_n none X W

theorem prod_at (X : FVec Ideal S1x16384x2048 .f32) (W : FVec Ideal S2048x3728 .f32) (p : Fin 16384) (j : Fin 3728) :
    prod X W (ix3 0 p j) = ∑ k : Fin 2048, X (ix3 0 p k) * W (ix2 k j) := by
  pointwise [prod]

/-- A row of 64 turned in its two halves of 32, -/
def turn32 (Y : FVec Ideal S1x16384x64 .f32) (Cs Sn : FVec Ideal S16384x32 .f32) : FVec Ideal S16384x64 .f32 :=
  shapeCast _ (shapeCast _ (concatenate S1x16384x1x64 3
    [⟨S1x16384x1x32, (subf
      (mulf (extractStridedSlice S1x16384x1x32 ![0, 0, 0, 0] (broadcastInDim S1x16384x1x64 ![0, 1, 3] bcast_S1x16384x64_S1x16384x1x64_0_1_3 Y) slices_S1x16384x1x64_S1x16384x1x32_0_0_0_0)
        (broadcastInDim S1x16384x1x32 ![1, 3] bcast_S16384x32_S1x16384x1x32_1_3 Cs))
      (mulf (extractStridedSlice S1x16384x1x32 ![0, 0, 0, 32] (broadcastInDim S1x16384x1x64 ![0, 1, 3] bcast_S1x16384x64_S1x16384x1x64_0_1_3 Y) slices_S1x16384x1x64_S1x16384x1x32_0_0_0_32)
        (broadcastInDim S1x16384x1x32 ![1, 3] bcast_S16384x32_S1x16384x1x32_1_3 Sn)))⟩,
     ⟨S1x16384x1x32, (addf
      (mulf (extractStridedSlice S1x16384x1x32 ![0, 0, 0, 32] (broadcastInDim S1x16384x1x64 ![0, 1, 3] bcast_S1x16384x64_S1x16384x1x64_0_1_3 Y) slices_S1x16384x1x64_S1x16384x1x32_0_0_0_32)
        (broadcastInDim S1x16384x1x32 ![1, 3] bcast_S16384x32_S1x16384x1x32_1_3 Cs))
      (mulf (extractStridedSlice S1x16384x1x32 ![0, 0, 0, 0] (broadcastInDim S1x16384x1x64 ![0, 1, 3] bcast_S1x16384x64_S1x16384x1x64_0_1_3 Y) slices_S1x16384x1x64_S1x16384x1x32_0_0_0_0)
        (broadcastInDim S1x16384x1x32 ![1, 3] bcast_S16384x32_S1x16384x1x32_1_3 Sn)))⟩]
    concatenates_S1x16384x1x32_S1x16384x1x32_S1x16384x1x64_d3) shapeCasts_S1x16384x1x64_S1x16384x64) shapeCasts_S1x16384x64_S16384x64

theorem turn32_at (Y : FVec Ideal S1x16384x64 .f32) (Cs Sn : FVec Ideal S16384x32 .f32) (p : Fin 16384) (j : Fin 64) :
    turn32 Y Cs Sn (ix2 p j) = if h : j.val < 32 then
      Y (ix3 0 p ⟨j.val, by omega⟩) * Cs (ix2 p ⟨j.val, h⟩) - Y (ix3 0 p ⟨32 + j.val, by omega⟩) * Sn (ix2 p ⟨j.val, h⟩)
      else Y (ix3 0 p ⟨j.val, by omega⟩) * Cs (ix2 p ⟨j.val - 32, by omega⟩) + Y (ix3 0 p ⟨j.val - 32, by omega⟩) * Sn (ix2 p ⟨j.val - 32, by omega⟩) := by
  pointwise [turn32]
  split
  · rfl
  · exact congrArg (fun u : EReal => u * Cs _ + Y _ * Sn _) (congrArg (fun z => Y (ix3 0 p z)) (Fin.ext (by dsimp only; omega)))

/-- and two rows of 128 in their halves of 64. -/
def turn64 (Y : FVec Ideal S1x16384x256 .f32) (Cs Sn : FVec Ideal S16384x64 .f32) : FVec Ideal S16384x256 .f32 :=
  shapeCast _ (concatenate S1x16384x2x128 3
    [⟨S1x16384x2x64, (subf
      (mulf (extractStridedSlice S1x16384x2x64 ![0, 0, 0, 0] (shapeCast _ Y shapeCasts_S1x16384x256_S1x16384x2x128) slices_S1x16384x2x128_S1x16384x2x64_0_0_0_0)
        (broadcastInDim S1x16384x2x64 ![0, 1, 2, 3] bcast_S1x16384x1x64_S1x16384x2x64_0_1_2_3 (broadcastInDim S1x16384x1x64 ![1, 3] bcast_S16384x64_S1x16384x1x64_1_3 Cs)))
      (mulf (extractStridedSlice S1x16384x2x64 ![0, 0, 0, 64] (shapeCast _ Y shapeCasts_S1x16384x256_S1x16384x2x128) slices_S1x16384x2x128_S1x16384x2x64_0_0_0_64)
        (broadcastInDim S1x16384x2x64 ![0, 1, 2, 3] bcast_S1x16384x1x64_S1x16384x2x64_0_1_2_3 (broadcastInDim S1x16384x1x64 ![1, 3] bcast_S16384x64_S1x16384x1x64_1_3 Sn))))⟩,
     ⟨S1x16384x2x64, (addf
      (mulf (extractStridedSlice S1x16384x2x64 ![0, 0, 0, 64] (shapeCast _ Y shapeCasts_S1x16384x256_S1x16384x2x128) slices_S1x16384x2x128_S1x16384x2x64_0_0_0_64)
        (broadcastInDim S1x16384x2x64 ![0, 1, 2, 3] bcast_S1x16384x1x64_S1x16384x2x64_0_1_2_3 (broadcastInDim S1x16384x1x64 ![1, 3] bcast_S16384x64_S1x16384x1x64_1_3 Cs)))
      (mulf (extractStridedSlice S1x16384x2x64 ![0, 0, 0, 0] (shapeCast _ Y shapeCasts_S1x16384x256_S1x16384x2x128) slices_S1x16384x2x128_S1x16384x2x64_0_0_0_0)
        (broadcastInDim S1x16384x2x64 ![0, 1, 2, 3] bcast_S1x16384x1x64_S1x16384x2x64_0_1_2_3 (broadcastInDim S1x16384x1x64 ![1, 3] bcast_S16384x64_S1x16384x1x64_1_3 Sn))))⟩]
    concatenates_S1x16384x2x64_S1x16384x2x64_S1x16384x2x128_d3) shapeCasts_S1x16384x2x128_S16384x256

theorem turn64_at (Y : FVec Ideal S1x16384x256 .f32) (Cs Sn : FVec Ideal S16384x64 .f32) (p : Fin 16384) (j : Fin 256) :
    turn64 Y Cs Sn (ix2 p j) = if h : j.val % 128 < 64 then
      Y (ix3 0 p j) * Cs (ix2 p ⟨j.val % 128, h⟩) - Y (ix3 0 p ⟨j.val + 64, by omega⟩) * Sn (ix2 p ⟨j.val % 128, h⟩)
      else Y (ix3 0 p j) * Cs (ix2 p ⟨j.val % 128 - 64, by omega⟩) + Y (ix3 0 p ⟨j.val - 64, by omega⟩) * Sn (ix2 p ⟨j.val % 128 - 64, by omega⟩) := by
  pointwise [turn64]
  split
  · exact congrArg (fun u : EReal => Y _ * Cs _ - u * Sn _) (congrArg (fun z => Y (ix3 0 p z)) (Fin.ext (by dsimp only; omega)))
  · exact congrArg₂ (fun u v : EReal => u * Cs _ + v * Sn _) (congrArg (fun z => Y (ix3 0 p z)) (Fin.ext (by dsimp only; omega)))
      (congrArg (fun z => Y (ix3 0 p z)) (Fin.ext (by dsimp only; omega)))

/-- The rows' root-mean-square norm with scale `G`. -/
def rmsRow (Y : FVec Ideal S1x16384x512 .f32) (G : FVec Ideal S512 .f32) : FVec Ideal S16384x512 .f32 :=
  shapeCast _ (mulf (mulf Y (broadcastInDim S1x16384x512 ![0, 1, 2] bcast_S1x16384x1_S1x16384x512_0_1_2 (Host.rsqrt (addf (Host.divf
    (broadcastInDim S1x16384x1 ![0, 1] bcast_S1x16384_S1x16384x1_0_1 (Host.reduceAdd (mulf Y Y) (constant S_ .f32 0x00000000#32) reducesTo_S1x16384x512_S1x16384_d2 h_S_))
    (broadcastInDim S1x16384x1 ![] bcast_S_S1x16384x1 (constant S_ .f32 0x44000000#32))) (broadcastInDim S1x16384x1 ![] bcast_S_S1x16384x1 (constant S_ .f32 0x358637BD#32))))))
    (broadcastInDim S1x16384x512 ![0, 1, 2] bcast_S1x1x512_S1x16384x512_0_1_2 (broadcastInDim S1x1x512 ![2] bcast_S512_S1x1x512_2 G))) shapeCasts_S1x16384x512_S16384x512

theorem rmsRow_at (Y : FVec Ideal S1x16384x512 .f32) (G : FVec Ideal S512 .f32) (p : Fin 16384) (b : Fin 512) :
    rmsRow Y G (ix2 p b) = Y (ix3 0 p b) * Ideal.rsqrt (Ideal.div (∑ y : Fin 512, Y (ix3 0 p y) * Y (ix3 0 p y)) (Ideal.ofBits FTy.f32 0x44000000#32) + Ideal.ofBits FTy.f32 0x358637BD#32) * G (ix1 b) := by
  pointwise [rmsRow]

theorem cut512_at (D : FVec Ideal S1x16384x3728 .f32) (p : Fin 16384) (j : Fin 512) :
    extractStridedSlice S1x16384x512 ![0, 0, 512] D slices_S1x16384x3728_S1x16384x512_0_0_512 (ix3 0 p j) = D (ix3 0 p ⟨512 + j.val, by omega⟩) := by
  pointwise

theorem cut1024_at (D : FVec Ideal S1x16384x3728 .f32) (p : Fin 16384) (j : Fin 64) :
    extractStridedSlice S1x16384x64 ![0, 0, 1024] D slices_S1x16384x3728_S1x16384x64_0_0_1024 (ix3 0 p j) = D (ix3 0 p ⟨1024 + j.val, by omega⟩) := by
  pointwise

theorem cut2112_at (D : FVec Ideal S1x16384x3728 .f32) (p : Fin 16384) (j : Fin 256) :
    extractStridedSlice S1x16384x256 ![0, 0, 2112] D slices_S1x16384x3728_S1x16384x256_0_0_2112 (ix3 0 p j) = D (ix3 0 p ⟨2112 + j.val, by omega⟩) := by
  pointwise

theorem cut3648_at (D : FVec Ideal S1x16384x3728 .f32) (p : Fin 16384) (j : Fin 64) :
    extractStridedSlice S1x16384x64 ![0, 0, 3648] D slices_S1x16384x3728_S1x16384x64_0_0_3648 (ix3 0 p j) = D (ix3 0 p ⟨3648 + j.val, by omega⟩) := by
  pointwise

/-- The rows of 256 as they are. -/
def plain (D : FVec Ideal S1x16384x3728 .f32) : FVec Ideal S16384x256 .f32 :=
  shapeCast _ (shapeCast _ (extractStridedSlice S1x16384x256 ![0, 0, 2368] D slices_S1x16384x3728_S1x16384x256_0_0_2368) shapeCasts_S1x16384x256_S1x16384x2x128) shapeCasts_S1x16384x2x128_S16384x256

theorem plain_at (D : FVec Ideal S1x16384x3728 .f32) (p : Fin 16384) (j : Fin 256) : plain D (ix2 p j) = D (ix3 0 p ⟨2368 + j.val, by omega⟩) := by
  pointwise [plain]

variable (m : (ℓ : Loc nD τ sig) → Buf (Elt Ideal) ℓ) (c : Dev nD)

abbrev argX : FVec Ideal S1x16384x2048 .f32 := m ((c.tc : Thread nD τ).loc main_arg0)
abbrev argW : FVec Ideal S2048x3728 .f32 := m ((c.tc : Thread nD τ).loc main_arg1)
abbrev argG : FVec Ideal S512 .f32 := m ((c.tc : Thread nD τ).loc main_arg4)

/-- The angles of a rotation of halves of 64, -/
def ang64 : FVec Ideal S16384x64 .f32 :=
  mulf (broadcastInDim S16384x64 ![0, 1] bcast_S16384x1_S16384x64_0_1 (broadcastInDim S16384x1 ![0] bcast_S16384_S16384x1_0 (sitofp .f32 (iotaInDim S16384 32 0))))
    (broadcastInDim S16384x64 ![0, 1] bcast_S1x64_S16384x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (iotaInDim S64 32 0)) (broadcastInDim S64 ![] bcast_S_S64 (constant S_ .f32 0x42800000#32)))))))

/-- and of halves of 32. -/
def ang32 : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

theorem kpe_eq : Cert.Reference3Ideal.Value.res_main_v113 m c
    = turn32 (extractStridedSlice S1x16384x64 ![0, 0, 1024] (prod (argX m c) (argW m c)) slices_S1x16384x3728_S1x16384x64_0_0_1024) (Host.cos ang32) (Host.sin ang32) := rfl
theorem kd_eq : Cert.Reference3Ideal.Value.res_main_v114 m c
    = turn64 (extractStridedSlice S1x16384x256 ![0, 0, 2112] (prod (argX m c) (argW m c)) slices_S1x16384x3728_S1x16384x256_0_0_2112) (Host.cos ang64) (Host.sin ang64) := rfl
theorem ki_eq : Cert.Reference3Ideal.Value.res_main_v116 m c
    = turn32 (extractStridedSlice S1x16384x64 ![0, 0, 3648] (prod (argX m c) (argW m c)) slices_S1x16384x3728_S1x16384x64_0_0_3648) (Host.cos ang32) (Host.sin ang32) := rfl

/-- An entry of the product. -/
abbrev dotRow (X : FVec Ideal S1x16384x2048 .f32) (W : FVec Ideal S2048x3728 .f32) (p : Fin 16384) (j : ℕ) (h : j < 3728) : EReal :=
  ∑ k : Fin 2048, X (ix3 0 p k) * W (ix2 k ⟨j, h⟩)

/-- The reference's rows: the norm, -/
theorem ckv_row (X : FVec Ideal S1x16384x2048 .f32) (W : FVec Ideal S2048x3728 .f32) (G : FVec Ideal S512 .f32) (p : Fin 16384) (b : Fin 512) :
    rmsRow (extractStridedSlice S1x16384x512 ![0, 0, 512] (prod X W) slices_S1x16384x3728_S1x16384x512_0_0_512) G (ix2 p b)
      = dotRow X W p (512 + b.val) (by omega) * Ideal.rsqrt (Ideal.div (∑ y : Fin 512, dotRow X W p (512 + y.val) (by omega) * dotRow X W p (512 + y.val) (by omega)) (Ideal.ofBits FTy.f32 0x44000000#32) + Ideal.ofBits FTy.f32 0x358637BD#32) * G (ix1 b) := by
  rw [rmsRow_at]
  simp only [cut512_at, prod_at]

/-- the rotary keys, -/
theorem kpe_row (X : FVec Ideal S1x16384x2048 .f32) (W : FVec Ideal S2048x3728 .f32) (Cs Sn : FVec Ideal S16384x32 .f32) (p : Fin 16384) (j : Fin 64) :
    turn32 (extractStridedSlice S1x16384x64 ![0, 0, 1024] (prod X W) slices_S1x16384x3728_S1x16384x64_0_0_1024) Cs Sn (ix2 p j)
      = if h : j.val < 32 then dotRow X W p (1024 + j.val) (by omega) * Cs (ix2 p ⟨j.val, h⟩) - dotRow X W p (1024 + (32 + j.val)) (by omega) * Sn (ix2 p ⟨j.val, h⟩)
        else dotRow X W p (1024 + j.val) (by omega) * Cs (ix2 p ⟨j.val - 32, by omega⟩) + dotRow X W p (1024 + (j.val - 32)) (by omega) * Sn (ix2 p ⟨j.val - 32, by omega⟩) := by
  rw [turn32_at]
  simp only [cut1024_at, prod_at]

/-- the indexer's keys, -/
theorem ki_row (X : FVec Ideal S1x16384x2048 .f32) (W : FVec Ideal S2048x3728 .f32) (Cs Sn : FVec Ideal S16384x32 .f32) (p : Fin 16384) (j : Fin 64) :
    turn32 (extractStridedSlice S1x16384x64 ![0, 0, 3648] (prod X W) slices_S1x16384x3728_S1x16384x64_0_0_3648) Cs Sn (ix2 p j)
      = if h : j.val < 32 then dotRow X W p (3648 + j.val) (by omega) * Cs (ix2 p ⟨j.val, h⟩) - dotRow X W p (3648 + (32 + j.val)) (by omega) * Sn (ix2 p ⟨j.val, h⟩)
        else dotRow X W p (3648 + j.val) (by omega) * Cs (ix2 p ⟨j.val - 32, by omega⟩) + dotRow X W p (3648 + (j.val - 32)) (by omega) * Sn (ix2 p ⟨j.val - 32, by omega⟩) := by
  rw [turn32_at]
  simp only [cut3648_at, prod_at]

/-- the sparse keys, -/
theorem kd_row (X : FVec Ideal S1x16384x2048 .f32) (W : FVec Ideal S2048x3728 .f32) (Cs Sn : FVec Ideal S16384x64 .f32) (p : Fin 16384) (j : Fin 256) :
    turn64 (extractStridedSlice S1x16384x256 ![0, 0, 2112] (prod X W) slices_S1x16384x3728_S1x16384x256_0_0_2112) Cs Sn (ix2 p j)
      = if h : j.val % 128 < 64 then dotRow X W p (2112 + j.val) (by omega) * Cs (ix2 p ⟨j.val % 128, h⟩) - dotRow X W p (2112 + (j.val + 64)) (by omega) * Sn (ix2 p ⟨j.val % 128, h⟩)
        else dotRow X W p (2112 + j.val) (by omega) * Cs (ix2 p ⟨j.val % 128 - 64, by omega⟩) + dotRow X W p (2112 + (j.val - 64)) (by omega) * Sn (ix2 p ⟨j.val % 128 - 64, by omega⟩) := by
  rw [turn64_at]
  simp only [cut2112_at, prod_at]

/-- and the sparse values. -/
theorem vd_row (X : FVec Ideal S1x16384x2048 .f32) (W : FVec Ideal S2048x3728 .f32) (p : Fin 16384) (j : Fin 256) :
    plain (prod X W) (ix2 p j) = dotRow X W p (2368 + j.val) (by omega) := by
  rw [plain_at, prod_at]

end Cert.Proof.ProjRef
-- ==== Proof.ProjValue.lean ====
module

public import proofs.«01_k».proof.Defs
public import proofs.«01_k».proof.Proof.ProjBlocks
public import proofs.«01_k».proof.Proof.ProjRef

/-! The projection's five arrays are the reference's. -/

@[expose] public section
noncomputable section

namespace Cert.Proof.Proj

open Cert.Kernel3Ideal Cert.Kernel3Ideal.Gen Idealize.ShloMosaic Idealize.ShloMosaic.TcCoe Idealize.SL.Sem

/-- The five arrays as the reference computes them. -/
def ckvR (X : FVec Ideal S1x16384x2048 .f32) (W : FVec Ideal S2048x3728 .f32) (G : FVec Ideal S512 .f32) : FVec Ideal S16384x512 .f32 :=
  ProjRef.rmsRow (extractStridedSlice Cert.Reference3Ideal.S1x16384x512 ![0, 0, 512] (ProjRef.prod X W) Cert.Reference3Ideal.Facts₀.slices_S1x16384x3728_S1x16384x512_0_0_512) G
def kpeR (X : FVec Ideal S1x16384x2048 .f32) (W : FVec Ideal S2048x3728 .f32) : FVec Ideal S16384x64 .f32 :=
  ProjRef.turn32 (extractStridedSlice Cert.Reference3Ideal.S1x16384x64 ![0, 0, 1024] (ProjRef.prod X W) Cert.Reference3Ideal.Facts₀.slices_S1x16384x3728_S1x16384x64_0_0_1024) (Host.cos ProjRef.ang32) (Host.sin ProjRef.ang32)
def kdR (X : FVec Ideal S1x16384x2048 .f32) (W : FVec Ideal S2048x3728 .f32) : FVec Ideal S16384x256 .f32 :=
  ProjRef.turn64 (extractStridedSlice Cert.Reference3Ideal.S1x16384x256 ![0, 0, 2112] (ProjRef.prod X W) Cert.Reference3Ideal.Facts₀.slices_S1x16384x3728_S1x16384x256_0_0_2112) (Host.cos ProjRef.ang64) (Host.sin ProjRef.ang64)
def vdR (X : FVec Ideal S1x16384x2048 .f32) (W : FVec Ideal S2048x3728 .f32) : FVec Ideal S16384x256 .f32 := ProjRef.plain (ProjRef.prod X W)
def kiR (X : FVec Ideal S1x16384x2048 .f32) (W : FVec Ideal S2048x3728 .f32) : FVec Ideal S16384x64 .f32 :=
  ProjRef.turn32 (extractStridedSlice Cert.Reference3Ideal.S1x16384x64 ![0, 0, 3648] (ProjRef.prod X W) Cert.Reference3Ideal.Facts₀.slices_S1x16384x3728_S1x16384x64_0_0_3648) (Host.cos ProjRef.ang32) (Host.sin ProjRef.ang32)

theorem ang64_same : ang64 = ProjRef.ang64 := rfl
theorem ang32_same : ang32 = ProjRef.ang32 := rfl

/-- A turn by the signed sine is the difference on the first half, -/
theorem turn_neg (u v cs sn : EReal) : u * cs + v * (sn * -1) = u * cs - v * sn := by
  rw [mul_neg, mul_one, mul_neg, sub_eq_add_neg]

/-- and the sum on the second. -/
theorem turn_pos (u v cs sn : EReal) : u * cs + v * (sn * 1) = u * cs + v * sn := by rw [mul_one]

section
variable (m : (ℓ : Loc nD τ sig) → Buf (Elt Ideal) ℓ) (c : Dev nD) (t : Fin cfg0.N) (a : Fin 512)

theorem colDot_of (J : ℕ) (hJ : J < 4096) (j : ℕ) (hj : j < 3728) (hp : ∀ k : Fin 2048, packed (argW m c) (ix2 k ⟨J, hJ⟩) = argW m c (ix2 k ⟨j, hj⟩)) :
    colDot (iblk m c 0 t) (iblk m c 1 t) a J hJ = ProjRef.dotRow (argX m c) (argW m c) (rowAt t a) j hj :=
  Finset.sum_congr rfl fun k _ => congrArg₂ (fun u v : EReal => u * v) (blk0 m c t a k) ((blk1 m c t k ⟨J, hJ⟩).trans (hp k))

theorem block9 (b : Fin 512) : out0_9 (iblk m c 0 t) (iblk m c 1 t) (iblk m c 2 t) (iblk m c 3 t) (iblk m c 4 t) (iblk m c 5 t) (iblk m c 6 t) (iblk m c 7 t) (iblk m c 8 t) (ix2 a b) = ckvR (argX m c) (argW m c) (argG m c) (ix2 (rowAt t a) b) := by
  have h : (fun y : Fin 512 => colDot (iblk m c 0 t) (iblk m c 1 t) a (512 + y.val) (by omega))
      = fun y => ProjRef.dotRow (argX m c) (argW m c) (rowAt t a) (512 + y.val) (by omega) :=
    funext fun y => colDot_of m c t a _ _ _ _ fun k => packed_ckv (argW m c) k y _ rfl
  rw [out9_at, h, blk4, rms]
  exact (ProjRef.ckv_row (argX m c) (argW m c) (argG m c) (rowAt t a) b).symm

theorem block12 (b : Fin 256) : out0_12 (iblk m c 0 t) (iblk m c 1 t) (iblk m c 2 t) (iblk m c 3 t) (iblk m c 4 t) (iblk m c 5 t) (iblk m c 6 t) (iblk m c 7 t) (iblk m c 8 t) (ix2 a b) = vdR (argX m c) (argW m c) (ix2 (rowAt t a) b) := by
  rw [out12_at]
  exact (colDot_of m c t a _ _ _ _ fun k => packed_vd (argW m c) k b _ rfl).trans (ProjRef.vd_row (argX m c) (argW m c) (rowAt t a) b).symm

theorem block10 (l : Fin 64) : out0_10 (iblk m c 0 t) (iblk m c 1 t) (iblk m c 2 t) (iblk m c 3 t) (iblk m c 4 t) (iblk m c 5 t) (iblk m c 6 t) (iblk m c 7 t) (iblk m c 8 t) (ix2 a l) = kpeR (argX m c) (argW m c) (ix2 (rowAt t a) l) := by
  rw [out10_at, blk7, blk8, ang32_same]
  refine Eq.trans ?_ (ProjRef.kpe_row (argX m c) (argW m c) (Host.cos ProjRef.ang32) (Host.sin ProjRef.ang32) (rowAt t a) l).symm
  have h1 : colDot (iblk m c 0 t) (iblk m c 1 t) a (3584 + l.val) (by omega) = ProjRef.dotRow (argX m c) (argW m c) (rowAt t a) (1024 + l.val) (by omega) :=
    colDot_of m c t a _ _ _ _ fun k => packed_kpe (argW m c) k l _ (by dsimp only)
  by_cases h : l.val < 32
  · have h2 : colDot (iblk m c 0 t) (iblk m c 1 t) a (3584 + if l.val < 32 then l.val + 32 else l.val - 32) (by split <;> omega)
        = ProjRef.dotRow (argX m c) (argW m c) (rowAt t a) (1024 + (32 + l.val)) (by omega) :=
      colDot_of m c t a _ _ _ _ fun k => packed_kpe (argW m c) k ⟨32 + l.val, by omega⟩ _ (by dsimp only; rw [if_pos h]; omega)
    have h3 : l.val % 64 < 32 := by omega
    have h4 : (⟨l.val % 32, by omega⟩ : Fin 32) = ⟨l.val, h⟩ := Fin.ext (by dsimp only; omega)
    rw [dif_pos h, h1, h2, if_pos h3, h4, turn_neg]
  · have h2 : colDot (iblk m c 0 t) (iblk m c 1 t) a (3584 + if l.val < 32 then l.val + 32 else l.val - 32) (by split <;> omega)
        = ProjRef.dotRow (argX m c) (argW m c) (rowAt t a) (1024 + (l.val - 32)) (by omega) :=
      colDot_of m c t a _ _ _ _ fun k => packed_kpe (argW m c) k ⟨l.val - 32, by omega⟩ _ (by dsimp only; rw [if_neg h])
    have h3 : ¬ l.val % 64 < 32 := by omega
    have h4 : (⟨l.val % 32, by omega⟩ : Fin 32) = ⟨l.val - 32, by omega⟩ := Fin.ext (by dsimp only; omega)
    rw [dif_neg h, h1, h2, if_neg h3, h4, turn_pos]

theorem block13 (l : Fin 64) : out0_13 (iblk m c 0 t) (iblk m c 1 t) (iblk m c 2 t) (iblk m c 3 t) (iblk m c 4 t) (iblk m c 5 t) (iblk m c 6 t) (iblk m c 7 t) (iblk m c 8 t) (ix2 a l) = kiR (argX m c) (argW m c) (ix2 (rowAt t a) l) := by
  rw [out13_at, blk7, blk8, ang32_same]
  refine Eq.trans ?_ (ProjRef.ki_row (argX m c) (argW m c) (Host.cos ProjRef.ang32) (Host.sin ProjRef.ang32) (rowAt t a) l).symm
  have h1 : colDot (iblk m c 0 t) (iblk m c 1 t) a (3584 + (l.val + 128)) (by omega) = ProjRef.dotRow (argX m c) (argW m c) (rowAt t a) (3648 + l.val) (by omega) :=
    colDot_of m c t a _ _ _ _ fun k => packed_ki (argW m c) k l _ (by dsimp only; omega)
  by_cases h : l.val < 32
  · have h2 : colDot (iblk m c 0 t) (iblk m c 1 t) a (3584 + ((if l.val < 32 then l.val + 32 else l.val - 32) + 128)) (by split <;> omega)
        = ProjRef.dotRow (argX m c) (argW m c) (rowAt t a) (3648 + (32 + l.val)) (by omega) :=
      colDot_of m c t a _ _ _ _ fun k => packed_ki (argW m c) k ⟨32 + l.val, by omega⟩ _ (by dsimp only; rw [if_pos h]; omega)
    have h3 : l.val % 64 < 32 := by omega
    have h4 : (⟨l.val % 32, by omega⟩ : Fin 32) = ⟨l.val, h⟩ := Fin.ext (by dsimp only; omega)
    rw [dif_pos h, h1, h2, if_pos h3, h4, turn_neg]
  · have h2 : colDot (iblk m c 0 t) (iblk m c 1 t) a (3584 + ((if l.val < 32 then l.val + 32 else l.val - 32) + 128)) (by split <;> omega)
        = ProjRef.dotRow (argX m c) (argW m c) (rowAt t a) (3648 + (l.val - 32)) (by omega) :=
      colDot_of m c t a _ _ _ _ fun k => packed_ki (argW m c) k ⟨l.val - 32, by omega⟩ _ (by dsimp only; rw [if_neg h]; omega)
    have h3 : ¬ l.val % 64 < 32 := by omega
    have h4 : (⟨l.val % 32, by omega⟩ : Fin 32) = ⟨l.val - 32, by omega⟩ := Fin.ext (by dsimp only; omega)
    rw [dif_neg h, h1, h2, if_neg h3, h4, turn_pos]

theorem block11 (j : Fin 256) : out0_11 (iblk m c 0 t) (iblk m c 1 t) (iblk m c 2 t) (iblk m c 3 t) (iblk m c 4 t) (iblk m c 5 t) (iblk m c 6 t) (iblk m c 7 t) (iblk m c 8 t) (ix2 a j) = kdR (argX m c) (argW m c) (ix2 (rowAt t a) j) := by
  rw [out11_at, kdG, blk5, blk6, ang64_same]
  refine Eq.trans ?_ (ProjRef.kd_row (argX m c) (argW m c) (Host.cos ProjRef.ang64) (Host.sin ProjRef.ang64) (rowAt t a) j).symm
  have h1 : colDot (iblk m c 0 t) (iblk m c 1 t) a (2048 + j.val) (by omega) = ProjRef.dotRow (argX m c) (argW m c) (rowAt t a) (2112 + j.val) (by omega) :=
    colDot_of m c t a _ _ _ _ fun k => packed_kd (argW m c) k j _ rfl
  by_cases h : j.val % 128 < 64
  · have h2 : colDot (iblk m c 0 t) (iblk m c 1 t) a (2048 + (j.val / 128 * 128 + (j.val % 128 + 64) % 128)) (by omega)
        = ProjRef.dotRow (argX m c) (argW m c) (rowAt t a) (2112 + (j.val + 64)) (by omega) :=
      colDot_of m c t a _ _ _ _ fun k => packed_kd (argW m c) k ⟨j.val + 64, by omega⟩ _ (by dsimp only; omega)
    have h4 : (⟨j.val % 128 % 64, by omega⟩ : Fin 64) = ⟨j.val % 128, h⟩ := Fin.ext (by dsimp only; omega)
    rw [dif_pos h, h1, h2, if_pos h, h4, turn_neg]
  · have h2 : colDot (iblk m c 0 t) (iblk m c 1 t) a (2048 + (j.val / 128 * 128 + (j.val % 128 + 64) % 128)) (by omega)
        = ProjRef.dotRow (argX m c) (argW m c) (rowAt t a) (2112 + (j.val - 64)) (by omega) :=
      colDot_of m c t a _ _ _ _ fun k => packed_kd (argW m c) k ⟨j.val - 64, by omega⟩ _ (by dsimp only; omega)
    have h4 : (⟨j.val % 128 % 64, by omega⟩ : Fin 64) = ⟨j.val % 128 - 64, by omega⟩ := Fin.ext (by dsimp only; omega)
    rw [dif_neg h, h1, h2, if_neg h, h4, turn_pos]
end

variable (m : (ℓ : Loc nD τ sig) → Buf (Elt Ideal) ℓ) (c : Dev nD)

theorem index9 : ∀ t : Fin cfg0.N, win0_9.index t (0 : Fin 2) = t.val ∧ win0_9.index t (1 : Fin 2) = 0 := (by decide +kernel : ∀ t : Fin grid0.N, _)

def res9 : Buf (Elt Ideal) ((c.tc : Thread nD τ).loc main_v76_0) := ckvR (argX m c) (argW m c) (argG m c)

theorem block9_all (t : Fin cfg0.N) (y : S512x512.Idx) : out0_9 (iblk m c 0 t) (iblk m c 1 t) (iblk m c 2 t) (iblk m c 3 t) (iblk m c 4 t) (iblk m c 5 t) (iblk m c 6 t) (iblk m c 7 t) (iblk m c 8 t) y = ckvR (argX m c) (argW m c) (argG m c) (ix2 (rowAt t (y 0)) (y 1)) :=
  (congrArg _ (eq_ix2 y)).trans (block9 m c t (y 0) (y 1))

theorem flushed9 (t : Fin cfg0.N) (_ : (cfg0.win 9).flush t = true) :
    (dats m 0 c).flushed 9 t = ((cfg0.win 9).blk t).view.read (Elt Ideal) (res9 m c) := by
  show (cfg0.win 9).cut (grid0.coords t) ((dats m 0 c).after 9 t) = _
  obtain ⟨e0, e1⟩ := index9 t
  rw [after0_9]
  funext y
  have hb0 : (((cfg0.win 9).blk t).view.emb y 0).val = win0_9.index t (0 : Fin 2) * 512 + 1 * (y 0).val := rfl
  have hb1 : (((cfg0.win 9).blk t).view.emb y 1).val = win0_9.index t (1 : Fin 2) * 512 + 1 * (y 1).val := rfl
  refine (block9_all m c t ((cfg0.win 9).xinj (grid0.coords t) y)).trans ?_
  have hread (f : Buf (Elt Ideal) ((c.tc : Thread nD τ).loc main_v76_0)) :
      ((cfg0.win 9).blk t).view.read (Elt Ideal) f y = f (((cfg0.win 9).blk t).view.emb y) := rfl
  rw [hread]
  refine congrArg (res9 m c) ?_
  funext d
  apply Fin.ext
  match d with
  | ⟨0, _⟩ => refine Eq.trans ?_ hb0.symm; rw [e0]; show 512 * t.val + (y 0).val = _; omega
  | ⟨1, _⟩ => refine Eq.trans ?_ hb1.symm; rw [e1]; show (y 1).val = _; omega

omit c m in
theorem mem9 (t : Fin cfg0.N) (i : S16384x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v76_0).slice (win0_9.rect t)).set ↔ _
  rw [View.set_slice_whole, Rect.mem_set_unit]
  exact Iff.rfl

omit c m in
theorem covered9 (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  refine ⟨⟨(i 0).val / 512, lt_of_lt_of_eq (by omega) (N_0 : grid0.N = 32).symm⟩, flush0_9 _, ?_⟩
  obtain ⟨e0, e1⟩ := index9 ⟨(i 0).val / 512, lt_of_lt_of_eq (by omega) (N_0 : grid0.N = 32).symm⟩
  dsimp only at e0 e1
  rw [mem9]
  intro a
  match a with
  | ⟨0, _⟩ => show win0_9.index _ (0 : Fin 2) * 512 ≤ (i 0).val ∧ (i 0).val < win0_9.index _ (0 : Fin 2) * 512 + 512; omega
  | ⟨1, _⟩ => show win0_9.index _ (1 : Fin 2) * 512 ≤ (i 1).val ∧ (i 1).val < win0_9.index _ (1 : Fin 2) * 512 + 512; omega

theorem final9 : (dats m 0 c).arrAt 9 cfg0.N = res9 m c :=
  (dats m 0 c).arrAt_eq_of_cover 9 _ (fun t hf => flushed9 m c t hf) covered9

theorem index10 : ∀ t : Fin cfg0.N, win0_10.index t (0 : Fin 2) = t.val ∧ win0_10.index t (1 : Fin 2) = 0 := (by decide +kernel : ∀ t : Fin grid0.N, _)

def res10 : Buf (Elt Ideal) ((c.tc : Thread nD τ).loc main_v76_1) := kpeR (argX m c) (argW m c)

theorem block10_all (t : Fin cfg0.N) (y : S512x64.Idx) : out0_10 (iblk m c 0 t) (iblk m c 1 t) (iblk m c 2 t) (iblk m c 3 t) (iblk m c 4 t) (iblk m c 5 t) (iblk m c 6 t) (iblk m c 7 t) (iblk m c 8 t) y = kpeR (argX m c) (argW m c) (ix2 (rowAt t (y 0)) (y 1)) :=
  (congrArg _ (eq_ix2 y)).trans (block10 m c t (y 0) (y 1))

theorem flushed10 (t : Fin cfg0.N) (_ : (cfg0.win 10).flush t = true) :
    (dats m 0 c).flushed 10 t = ((cfg0.win 10).blk t).view.read (Elt Ideal) (res10 m c) := by
  show (cfg0.win 10).cut (grid0.coords t) ((dats m 0 c).after 10 t) = _
  obtain ⟨e0, e1⟩ := index10 t
  rw [after0_10]
  funext y
  have hb0 : (((cfg0.win 10).blk t).view.emb y 0).val = win0_10.index t (0 : Fin 2) * 512 + 1 * (y 0).val := rfl
  have hb1 : (((cfg0.win 10).blk t).view.emb y 1).val = win0_10.index t (1 : Fin 2) * 64 + 1 * (y 1).val := rfl
  refine (block10_all m c t ((cfg0.win 10).xinj (grid0.coords t) y)).trans ?_
  have hread (f : Buf (Elt Ideal) ((c.tc : Thread nD τ).loc main_v76_1)) :
      ((cfg0.win 10).blk t).view.read (Elt Ideal) f y = f (((cfg0.win 10).blk t).view.emb y) := rfl
  rw [hread]
  refine congrArg (res10 m c) ?_
  funext d
  apply Fin.ext
  match d with
  | ⟨0, _⟩ => refine Eq.trans ?_ hb0.symm; rw [e0]; show 512 * t.val + (y 0).val = _; omega
  | ⟨1, _⟩ => refine Eq.trans ?_ hb1.symm; rw [e1]; show (y 1).val = _; omega

omit c m in
theorem mem10 (t : Fin cfg0.N) (i : S16384x64.Idx) :
    i ∈ ((cfg0.win 10).blk t).view.set ↔ ∀ a : Fin 2, win0_10.index t a * S512x64.size a ≤ (i a).val ∧ (i a).val < win0_10.index t a * S512x64.size a + S512x64.size a := by
  show i ∈ ((View.whole main_v76_1).slice (win0_10.rect t)).set ↔ _
  rw [View.set_slice_whole, Rect.mem_set_unit]
  exact Iff.rfl

omit c m in
theorem covered10 (i : S16384x64.Idx) : ∃ t : Fin cfg0.N, (cfg0.win 10).flush t = true ∧ i ∈ ((cfg0.win 10).blk t).view.set := by
  have hi0 : (i 0).val < 16384 := (i 0).isLt
  have hi1 : (i 1).val < 64 := (i 1).isLt
  refine ⟨⟨(i 0).val / 512, lt_of_lt_of_eq (by omega) (N_0 : grid0.N = 32).symm⟩, flush0_10 _, ?_⟩
  obtain ⟨e0, e1⟩ := index10 ⟨(i 0).val / 512, lt_of_lt_of_eq (by omega) (N_0 : grid0.N = 32).symm⟩
  dsimp only at e0 e1
  rw [mem10]
  intro a
  match a with
  | ⟨0, _⟩ => show win0_10.index _ (0 : Fin 2) * 512 ≤ (i 0).val ∧ (i 0).val < win0_10.index _ (0 : Fin 2) * 512 + 512; omega
  | ⟨1, _⟩ => show win0_10.index _ (1 : Fin 2) * 64 ≤ (i 1).val ∧ (i 1).val < win0_10.index _ (1 : Fin 2) * 64 + 64; omega

theorem final10 : (dats m 0 c).arrAt 10 cfg0.N = res10 m c :=
  (dats m 0 c).arrAt_eq_of_cover 10 _ (fun t hf => flushed10 m c t hf) covered10

theorem index11 : ∀ t : Fin cfg0.N, win0_11.index t (0 : Fin 2) = t.val ∧ win0_11.index t (1 : Fin 2) = 0 := (by decide +kernel : ∀ t : Fin grid0.N, _)

def res11 : Buf (Elt Ideal) ((c.tc : Thread nD τ).loc main_v76_2) := kdR (argX m c) (argW m c)

theorem block11_all (t : Fin cfg0.N) (y : S512x256.Idx) : out0_11 (iblk m c 0 t) (iblk m c 1 t) (iblk m c 2 t) (iblk m c 3 t) (iblk m c 4 t) (iblk m c 5 t) (iblk m c 6 t) (iblk m c 7 t) (iblk m c 8 t) y = kdR (argX m c) (argW m c) (ix2 (rowAt t (y 0)) (y 1)) :=
  (congrArg _ (eq_ix2 y)).trans (block11 m c t (y 0) (y 1))

theorem flushed11 (t : Fin cfg0.N) (_ : (cfg0.win 11).flush t = true) :
    (dats m 0 c).flushed 11 t = ((cfg0.win 11).blk t).view.read (Elt Ideal) (res11 m c) := by
  show (cfg0.win 11).cut (grid0.coords t) ((dats m 0 c).after 11 t) = _
  obtain ⟨e0, e1⟩ := index11 t
  rw [after0_11]
  funext y
  have hb0 : (((cfg0.win 11).blk t).view.emb y 0).val = win0_11.index t (0 : Fin 2) * 512 + 1 * (y 0).val := rfl
  have hb1 : (((cfg0.win 11).blk t).view.emb y 1).val = win0_11.index t (1 : Fin 2) * 256 + 1 * (y 1).val := rfl
  refine (block11_all m c t ((cfg0.win 11).xinj (grid0.coords t) y)).trans ?_
  have hread (f : Buf (Elt Ideal) ((c.tc : Thread nD τ).loc main_v76_2)) :
      ((cfg0.win 11).blk t).view.read (Elt Ideal) f y = f (((cfg0.win 11).blk t).view.emb y) := rfl
  rw [hread]
  refine congrArg (res11 m c) ?_
  funext d
  apply Fin.ext
  match d with
  | ⟨0, _⟩ => refine Eq.trans ?_ hb0.symm; rw [e0]; show 512 * t.val + (y 0).val = _; omega
  | ⟨1, _⟩ => refine Eq.trans ?_ hb1.symm; rw [e1]; show (y 1).val = _; omega

omit c m in
theorem mem11 (t : Fin cfg0.N) (i : S16384x256.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v76_2).slice (win0_11.rect t)).set ↔ _
  rw [View.set_slice_whole, Rect.mem_set_unit]
  exact Iff.rfl

omit c m in
theorem covered11 (i : S16384x256.Idx) : ∃ t : Fin cfg0.N, (cfg0.win 11).flush t = true ∧ i ∈ ((cfg0.win 11).blk t).view.set := by
  have hi0 : (i 0).val < 16384 := (i 0).isLt
  have hi1 : (i 1).val < 256 := (i 1).isLt
  refine ⟨⟨(i 0).val / 512, lt_of_lt_of_eq (by omega) (N_0 : grid0.N = 32).symm⟩, flush0_11 _, ?_⟩
  obtain ⟨e0, e1⟩ := index11 ⟨(i 0).val / 512, lt_of_lt_of_eq (by omega) (N_0 : grid0.N = 32).symm⟩
  dsimp only at e0 e1
  rw [mem11]
  intro a
  match a with
  | ⟨0, _⟩ => show win0_11.index _ (0 : Fin 2) * 512 ≤ (i 0).val ∧ (i 0).val < win0_11.index _ (0 : Fin 2) * 512 + 512; omega
  | ⟨1, _⟩ => show win0_11.index _ (1 : Fin 2) * 256 ≤ (i 1).val ∧ (i 1).val < win0_11.index _ (1 : Fin 2) * 256 + 256; omega

theorem final11 : (dats m 0 c).arrAt 11 cfg0.N = res11 m c :=
  (dats m 0 c).arrAt_eq_of_cover 11 _ (fun t hf => flushed11 m c t hf) covered11

theorem index12 : ∀ t : Fin cfg0.N, win0_12.index t (0 : Fin 2) = t.val ∧ win0_12.index t (1 : Fin 2) = 0 := (by decide +kernel : ∀ t : Fin grid0.N, _)

def res12 : Buf (Elt Ideal) ((c.tc : Thread nD τ).loc main_v76_3) := vdR (argX m c) (argW m c)

theorem block12_all (t : Fin cfg0.N) (y : S512x256.Idx) : out0_12 (iblk m c 0 t) (iblk m c 1 t) (iblk m c 2 t) (iblk m c 3 t) (iblk m c 4 t) (iblk m c 5 t) (iblk m c 6 t) (iblk m c 7 t) (iblk m c 8 t) y = vdR (argX m c) (argW m c) (ix2 (rowAt t (y 0)) (y 1)) :=
  (congrArg _ (eq_ix2 y)).trans (block12 m c t (y 0) (y 1))

theorem flushed12 (t : Fin cfg0.N) (_ : (cfg0.win 12).flush t = true) :
    (dats m 0 c).flushed 12 t = ((cfg0.win 12).blk t).view.read (Elt Ideal) (res12 m c) := by
  show (cfg0.win 12).cut (grid0.coords t) ((dats m 0 c).after 12 t) = _
  obtain ⟨e0, e1⟩ := index12 t
  rw [after0_12]
  funext y
  have hb0 : (((cfg0.win 12).blk t).view.emb y 0).val = win0_12.index t (0 : Fin 2) * 512 + 1 * (y 0).val := rfl
  have hb1 : (((cfg0.win 12).blk t).view.emb y 1).val = win0_12.index t (1 : Fin 2) * 256 + 1 * (y 1).val := rfl
  refine (block12_all m c t ((cfg0.win 12).xinj (grid0.coords t) y)).trans ?_
  have hread (f : Buf (Elt Ideal) ((c.tc : Thread nD τ).loc main_v76_3)) :
      ((cfg0.win 12).blk t).view.read (Elt Ideal) f y = f (((cfg0.win 12).blk t).view.emb y) := rfl
  rw [hread]
  refine congrArg (res12 m c) ?_
  funext d
  apply Fin.ext
  match d with
  | ⟨0, _⟩ => refine Eq.trans ?_ hb0.symm; rw [e0]; show 512 * t.val + (y 0).val = _; omega
  | ⟨1, _⟩ => refine Eq.trans ?_ hb1.symm; rw [e1]; show (y 1).val = _; omega

omit c m in
theorem mem12 (t : Fin cfg0.N) (i : S16384x256.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v76_3).slice (win0_12.rect t)).set ↔ _
  rw [View.set_slice_whole, Rect.mem_set_unit]
  exact Iff.rfl

omit c m in
theorem covered12 (i : S16384x256.Idx) : ∃ t : Fin cfg0.N, (cfg0.win 12).flush t = true ∧ i ∈ ((cfg0.win 12).blk t).view.set := by
  have hi0 : (i 0).val < 16384 := (i 0).isLt
  have hi1 : (i 1).val < 256 := (i 1).isLt
  refine ⟨⟨(i 0).val / 512, lt_of_lt_of_eq (by omega) (N_0 : grid0.N = 32).symm⟩, flush0_12 _, ?_⟩
  obtain ⟨e0, e1⟩ := index12 ⟨(i 0).val / 512, lt_of_lt_of_eq (by omega) (N_0 : grid0.N = 32).symm⟩
  dsimp only at e0 e1
  rw [mem12]
  intro a
  match a with
  | ⟨0, _⟩ => show win0_12.index _ (0 : Fin 2) * 512 ≤ (i 0).val ∧ (i 0).val < win0_12.index _ (0 : Fin 2) * 512 + 512; omega
  | ⟨1, _⟩ => show win0_12.index _ (1 : Fin 2) * 256 ≤ (i 1).val ∧ (i 1).val < win0_12.index _ (1 : Fin 2) * 256 + 256; omega

theorem final12 : (dats m 0 c).arrAt 12 cfg0.N = res12 m c :=
  (dats m 0 c).arrAt_eq_of_cover 12 _ (fun t hf => flushed12 m c t hf) covered12

theorem index13 : ∀ t : Fin cfg0.N, win0_13.index t (0 : Fin 2) = t.val ∧ win0_13.index t (1 : Fin 2) = 0 := (by decide +kernel : ∀ t : Fin grid0.N, _)

def res13 : Buf (Elt Ideal) ((c.tc : Thread nD τ).loc main_v76_4) := kiR (argX m c) (argW m c)

theorem block13_all (t : Fin cfg0.N) (y : S512x64.Idx) : out0_13 (iblk m c 0 t) (iblk m c 1 t) (iblk m c 2 t) (iblk m c 3 t) (iblk m c 4 t) (iblk m c 5 t) (iblk m c 6 t) (iblk m c 7 t) (iblk m c 8 t) y = kiR (argX m c) (argW m c) (ix2 (rowAt t (y 0)) (y 1)) :=
  (congrArg _ (eq_ix2 y)).trans (block13 m c t (y 0) (y 1))

theorem flushed13 (t : Fin cfg0.N) (_ : (cfg0.win 13).flush t = true) :
    (dats m 0 c).flushed 13 t = ((cfg0.win 13).blk t).view.read (Elt Ideal) (res13 m c) := by
  show (cfg0.win 13).cut (grid0.coords t) ((dats m 0 c).after 13 t) = _
  obtain ⟨e0, e1⟩ := index13 t
  rw [after0_13]
  funext y
  have hb0 : (((cfg0.win 13).blk t).view.emb y 0).val = win0_13.index t (0 : Fin 2) * 512 + 1 * (y 0).val := rfl
  have hb1 : (((cfg0.win 13).blk t).view.emb y 1).val = win0_13.index t (1 : Fin 2) * 64 + 1 * (y 1).val := rfl
  refine (block13_all m c t ((cfg0.win 13).xinj (grid0.coords t) y)).trans ?_
  have hread (f : Buf (Elt Ideal) ((c.tc : Thread nD τ).loc main_v76_4)) :
      ((cfg0.win 13).blk t).view.read (Elt Ideal) f y = f (((cfg0.win 13).blk t).view.emb y) := rfl
  rw [hread]
  refine congrArg (res13 m c) ?_
  funext d
  apply Fin.ext
  match d with
  | ⟨0, _⟩ => refine Eq.trans ?_ hb0.symm; rw [e0]; show 512 * t.val + (y 0).val = _; omega
  | ⟨1, _⟩ => refine Eq.trans ?_ hb1.symm; rw [e1]; show (y 1).val = _; omega

omit c m in
theorem mem13 (t : Fin cfg0.N) (i : S16384x64.Idx) :
    i ∈ ((cfg0.win 13).blk t).view.set ↔ ∀ a : Fin 2, win0_13.index t a * S512x64.size a ≤ (i a).val ∧ (i a).val < win0_13.index t a * S512x64.size a + S512x64.size a := by
  show i ∈ ((View.whole main_v76_4).slice (win0_13.rect t)).set ↔ _
  rw [View.set_slice_whole, Rect.mem_set_unit]
  exact Iff.rfl

omit c m in
theorem covered13 (i : S16384x64.Idx) : ∃ t : Fin cfg0.N, (cfg0.win 13).flush t = true ∧ i ∈ ((cfg0.win 13).blk t).view.set := by
  have hi0 : (i 0).val < 16384 := (i 0).isLt
  have hi1 : (i 1).val < 64 := (i 1).isLt
  refine ⟨⟨(i 0).val / 512, lt_of_lt_of_eq (by omega) (N_0 : grid0.N = 32).symm⟩, flush0_13 _, ?_⟩
  obtain ⟨e0, e1⟩ := index13 ⟨(i 0).val / 512, lt_of_lt_of_eq (by omega) (N_0 : grid0.N = 32).symm⟩
  dsimp only at e0 e1
  rw [mem13]
  intro a
  match a with
  | ⟨0, _⟩ => show win0_13.index _ (0 : Fin 2) * 512 ≤ (i 0).val ∧ (i 0).val < win0_13.index _ (0 : Fin 2) * 512 + 512; omega
  | ⟨1, _⟩ => show win0_13.index _ (1 : Fin 2) * 64 ≤ (i 1).val ∧ (i 1).val < win0_13.index _ (1 : Fin 2) * 64 + 64; omega

theorem final13 : (dats m 0 c).arrAt 13 cfg0.N = res13 m c :=
  (dats m 0 c).arrAt_eq_of_cover 13 _ (fun t hf => flushed13 m c t hf) covered13

set_option maxHeartbeats 16000000 in
theorem algebraic : Cert.algebraic_Kernel3Ideal_Reference3Ideal := by
  intro m g m' g' _ hm
  refine ⟨fun c => res9 m c, fun c => res10 m c, fun c => res11 m c, fun c => res12 m c, fun c => res13 m c, ?_, ?_⟩
  · refine (θ_run defs _ _).mono (fun r h c => ?_) (θ_run_and (run_main m g) (unchanged m g))
    exact ⟨((h.1 c).1 9).trans (final9 m c), ((h.1 c).1 10).trans (final10 m c), ((h.1 c).1 11).trans (final11 m c),
      ((h.1 c).1 12).trans (final12 m c), ((h.1 c).1 13).trans (final13 m c), h.2 c⟩
  · refine (θ_run Cert.Reference3Ideal.defs _ _).mono (fun r h c => ?_) (Cert.Reference3Ideal.Value.run m' g')
    obtain ⟨e0, e1, e2, e3, e4⟩ := hm c
    obtain ⟨h0, h1, h2, h3, h4, h5⟩ := h c
    have a0 : ProjRef.argX m' c = argX m c := e0
    have a1 : ProjRef.argW m' c = argW m c := e1
    have a4 : ProjRef.argG m' c = argG m c := e4
    refine ⟨h0.trans ?_, h1.trans ?_, h2.trans ?_, h3.trans ?_, h4.trans ?_, h5⟩
    · show ckvR (ProjRef.argX m' c) (ProjRef.argW m' c) (ProjRef.argG m' c) = ckvR (argX m c) (argW m c) (argG m c)
      rw [a0, a1, a4]
    · refine (ProjRef.kpe_eq m' c).trans ?_
      show kpeR (ProjRef.argX m' c) (ProjRef.argW m' c) = kpeR (argX m c) (argW m c)
      rw [a0, a1]
    · refine (ProjRef.kd_eq m' c).trans ?_
      show kdR (ProjRef.argX m' c) (ProjRef.argW m' c) = kdR (argX m c) (argW m c)
      rw [a0, a1]
    · show vdR (ProjRef.argX m' c) (ProjRef.argW m' c) = vdR (argX m c) (argW m c)
      rw [a0, a1]
    · refine (ProjRef.ki_eq m' c).trans ?_
      show kiR (ProjRef.argX m' c) (ProjRef.argW m' c) = kiR (argX m c) (argW m c)
      rw [a0, a1]

end Cert.Proof.Proj
-- ==== Proof.SampLaunch.lean ====
/- The sample's projection's launch: what a point's body leaves in each output block, the proof data, the run. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Proof.Samp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1380000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev r0_0 : Rect S256x2048 := Rect.unit (s := S256x2048) ![0, 0] S256x2048.size inb_S256x2048_S256x2048_0_0
abbrev r0_1 : Rect S256x128 := Rect.unit (s := S256x128) ![0, 0] S256x128.size inb_S256x128_S256x128_0_0
abbrev r0_2 : Rect S2048x4096 := Rect.unit (s := S2048x4096) ![0, 0] S2048x512.size inb_S2048x4096_S2048x512_0_0
abbrev r0_3 : Rect S1x512 := Rect.unit (s := S1x512) ![0, 0] S1x512.size inb_S1x512_S1x512_0_0
abbrev r0_4 : Rect S512x2048 := Rect.unit (s := S512x2048) ![0, 0] S512x256.size inb_S512x2048_S512x256_0_0
abbrev r0_5 : Rect S8x256x256 := Rect.unit (s := S8x256x256) ![0, 0, 0] S1x256x128.size inb_S8x256x256_S1x256x128_0_0_0
abbrev r0_6 : Rect S8x256x256 := Rect.unit (s := S8x256x256) ![0, 0, 128] S1x256x128.size inb_S8x256x256_S1x256x128_0_0_128
abbrev r0_7 : Rect S512x2048 := Rect.unit (s := S512x2048) ![0, 256] S512x256.size inb_S512x2048_S512x256_0_256
abbrev r0_8 : Rect S8x256x256 := Rect.unit (s := S8x256x256) ![1, 0, 0] S1x256x128.size inb_S8x256x256_S1x256x128_1_0_0
abbrev r0_9 : Rect S8x256x256 := Rect.unit (s := S8x256x256) ![1, 0, 128] S1x256x128.size inb_S8x256x256_S1x256x128_1_0_128
abbrev r0_10 : Rect S512x2048 := Rect.unit (s := S512x2048) ![0, 512] S512x256.size inb_S512x2048_S512x256_0_512
abbrev r0_11 : Rect S8x256x256 := Rect.unit (s := S8x256x256) ![2, 0, 0] S1x256x128.size inb_S8x256x256_S1x256x128_2_0_0
abbrev r0_12 : Rect S8x256x256 := Rect.unit (s := S8x256x256) ![2, 0, 128] S1x256x128.size inb_S8x256x256_S1x256x128_2_0_128
abbrev r0_13 : Rect S512x2048 := Rect.unit (s := S512x2048) ![0, 768] S512x256.size inb_S512x2048_S512x256_0_768
abbrev r0_14 : Rect S8x256x256 := Rect.unit (s := S8x256x256) ![3, 0, 0] S1x256x128.size inb_S8x256x256_S1x256x128_3_0_0
abbrev r0_15 : Rect S8x256x256 := Rect.unit (s := S8x256x256) ![3, 0, 128] S1x256x128.size inb_S8x256x256_S1x256x128_3_0_128
abbrev r0_16 : Rect S512x2048 := Rect.unit (s := S512x2048) ![0, 1024] S512x256.size inb_S512x2048_S512x256_0_1024
abbrev r0_17 : Rect S8x256x256 := Rect.unit (s := S8x256x256) ![4, 0, 0] S1x256x128.size inb_S8x256x256_S1x256x128_4_0_0
abbrev r0_18 : Rect S8x256x256 := Rect.unit (s := S8x256x256) ![4, 0, 128] S1x256x128.size inb_S8x256x256_S1x256x128_4_0_128
abbrev r0_19 : Rect S512x2048 := Rect.unit (s := S512x2048) ![0, 1280] S512x256.size inb_S512x2048_S512x256_0_1280
abbrev r0_20 : Rect S8x256x256 := Rect.unit (s := S8x256x256) ![5, 0, 0] S1x256x128.size inb_S8x256x256_S1x256x128_5_0_0
abbrev r0_21 : Rect S8x256x256 := Rect.unit (s := S8x256x256) ![5, 0, 128] S1x256x128.size inb_S8x256x256_S1x256x128_5_0_128
abbrev r0_22 : Rect S512x2048 := Rect.unit (s := S512x2048) ![0, 1536] S512x256.size inb_S512x2048_S512x256_0_1536
abbrev r0_23 : Rect S8x256x256 := Rect.unit (s := S8x256x256) ![6, 0, 0] S1x256x128.size inb_S8x256x256_S1x256x128_6_0_0
abbrev r0_24 : Rect S8x256x256 := Rect.unit (s := S8x256x256) ![6, 0, 128] S1x256x128.size inb_S8x256x256_S1x256x128_6_0_128
abbrev r0_25 : Rect S512x2048 := Rect.unit (s := S512x2048) ![0, 1792] S512x256.size inb_S512x2048_S512x256_0_1792
abbrev r0_26 : Rect S8x256x256 := Rect.unit (s := S8x256x256) ![7, 0, 0] S1x256x128.size inb_S8x256x256_S1x256x128_7_0_0
abbrev r0_27 : Rect S8x256x256 := Rect.unit (s := S8x256x256) ![7, 0, 128] S1x256x128.size inb_S8x256x256_S1x256x128_7_0_128
abbrev r0_28 : Rect S2048x4096 := Rect.unit (s := S2048x4096) ![0, 512] S2048x512.size inb_S2048x4096_S2048x512_0_512
abbrev r0_29 : Rect S256x512 := Rect.unit (s := S256x512) ![0, 0] S256x512.size inb_S256x512_S256x512_0_0
abbrev r0_30 : Rect S2048x4096 := Rect.unit (s := S2048x4096) ![0, 1024] S2048x256.size inb_S2048x4096_S2048x256_0_1024
abbrev r0_31 : Rect S8x256x128 := Rect.unit (s := S8x256x128) ![0, 0, 0] S1x256x128.size inb_S8x256x128_S1x256x128_0_0_0
abbrev r0_32 : Rect S8x256x128 := Rect.unit (s := S8x256x128) ![1, 0, 0] S1x256x128.size inb_S8x256x128_S1x256x128_1_0_0
abbrev r0_33 : Rect S2048x4096 := Rect.unit (s := S2048x4096) ![0, 1280] S2048x256.size inb_S2048x4096_S2048x256_0_1280
abbrev r0_34 : Rect S8x256x128 := Rect.unit (s := S8x256x128) ![2, 0, 0] S1x256x128.size inb_S8x256x128_S1x256x128_2_0_0
abbrev r0_35 : Rect S8x256x128 := Rect.unit (s := S8x256x128) ![3, 0, 0] S1x256x128.size inb_S8x256x128_S1x256x128_3_0_0
abbrev r0_36 : Rect S2048x4096 := Rect.unit (s := S2048x4096) ![0, 1536] S2048x256.size inb_S2048x4096_S2048x256_0_1536
abbrev r0_37 : Rect S8x256x128 := Rect.unit (s := S8x256x128) ![4, 0, 0] S1x256x128.size inb_S8x256x128_S1x256x128_4_0_0
abbrev r0_38 : Rect S8x256x128 := Rect.unit (s := S8x256x128) ![5, 0, 0] S1x256x128.size inb_S8x256x128_S1x256x128_5_0_0
abbrev r0_39 : Rect S2048x4096 := Rect.unit (s := S2048x4096) ![0, 1792] S2048x256.size inb_S2048x4096_S2048x256_0_1792
abbrev r0_40 : Rect S8x256x128 := Rect.unit (s := S8x256x128) ![6, 0, 0] S1x256x128.size inb_S8x256x128_S1x256x128_6_0_0
abbrev r0_41 : Rect S8x256x128 := Rect.unit (s := S8x256x128) ![7, 0, 0] S1x256x128.size inb_S8x256x128_S1x256x128_7_0_0
abbrev r0_42 : Rect S2048x4096 := Rect.unit (s := S2048x4096) ![0, 2048] S2048x256.size inb_S2048x4096_S2048x256_0_2048
abbrev r0_43 : Rect S256x256 := Rect.unit (s := S256x256) ![0, 0] S256x128.size inb_S256x256_S256x128_0_0
abbrev r0_44 : Rect S256x256 := Rect.unit (s := S256x256) ![0, 128] S256x128.size inb_S256x256_S256x128_0_128
abbrev r0_45 : Rect S2048x4096 := Rect.unit (s := S2048x4096) ![0, 2304] S2048x256.size inb_S2048x4096_S2048x256_0_2304
abbrev r0_46 : Rect S256x256 := Rect.unit (s := S256x256) ![0, 0] S256x256.size inb_S256x256_S256x256_0_0
abbrev r0_47 : Rect S2048x4096 := Rect.unit (s := S2048x4096) ![0, 2560] S2048x256.size inb_S2048x4096_S2048x256_0_2560
abbrev r0_48 : Rect S2048x4096 := Rect.unit (s := S2048x4096) ![0, 2816] S2048x256.size inb_S2048x4096_S2048x256_0_2816
abbrev r0_49 : Rect S2048x4096 := Rect.unit (s := S2048x4096) ![0, 3072] S2048x256.size inb_S2048x4096_S2048x256_0_3072
abbrev r0_50 : Rect S2048x4096 := Rect.unit (s := S2048x4096) ![0, 3328] S2048x256.size inb_S2048x4096_S2048x256_0_3328
abbrev r0_51 : Rect S2048x4096 := Rect.unit (s := S2048x4096) ![0, 3584] S2048x256.size inb_S2048x4096_S2048x256_0_3584
abbrev r0_52 : Rect S256x64 := Rect.unit (s := S256x64) ![0, 0] S256x64.size inb_S256x64_S256x64_0_0
abbrev r0_53 : Rect S2048x4096 := Rect.unit (s := S2048x4096) ![0, 3840] S2048x256.size inb_S2048x4096_S2048x256_0_3840

def k0_pay91 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x2048 .bf16 :=
  k0_pay2 (View.ld x0 r0_0)
def k0_pay92 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x128 .f32 :=
  k0_pay3 (View.ld x5 r0_1)
def k0_pay93 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x128 .f32 :=
  k0_pay4 (View.ld x6 r0_1)
def k0_pay94 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x128 .f32 :=
  k0_pay5 (View.ld x7 r0_1)
def k0_pay95 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x128 .f32 :=
  k0_pay6 (View.ld x8 r0_1)
def k0_pay96 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : IVec S256x128 1 :=
  k0_pay7
def k0_pay97 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x512 .f32 :=
  k0_pay8 (View.ld x0 r0_0) (View.ld x1 r0_2)
def k0_pay98 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S1x512 .f32 :=
  k0_pay9 (View.ld x3 r0_3)
def k0_pay99 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x512 .f32 :=
  k0_pay10 (View.ld x0 r0_0) (View.ld x1 r0_2)
def k0_pay100 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x512 .bf16 :=
  k0_pay11 (k0_pay97 x0 x1 x2 x3 x4 x5 x6 x7 x8) (k0_pay98 x0 x1 x2 x3 x4 x5 x6 x7 x8) (k0_pay99 x0 x1 x2 x3 x4 x5 x6 x7 x8)
def k0_pay101 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x256 .f32 :=
  k0_pay28 (k0_pay100 x0 x1 x2 x3 x4 x5 x6 x7 x8) (View.ld x2 r0_19)
def k0_pay102 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x256 .f32 :=
  k0_pay58 (k0_pay91 x0 x1 x2 x3 x4 x5 x6 x7 x8) (View.ld x1 r0_45)
def k0_pay103 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x128 .f32 :=
  k0_pay79 (k0_pay91 x0 x1 x2 x3 x4 x5 x6 x7 x8) (View.ld x1 r0_51)
def k0_pay104 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x128 .f32 :=
  k0_pay80 (k0_pay91 x0 x1 x2 x3 x4 x5 x6 x7 x8) (k0_pay96 x0 x1 x2 x3 x4 x5 x6 x7 x8) (View.ld x1 r0_51)
def k0_pay105 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : FVec F S256x128 .f32 :=
  k0_pay81 (k0_pay91 x0 x1 x2 x3 x4 x5 x6 x7 x8) (k0_pay94 x0 x1 x2 x3 x4 x5 x6 x7 x8) (View.ld x1 r0_51)

def out0_9 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x512 .f32 :=
  View.canon [⟨r0_29, k0_pay37 (k0_pay91 x0 x1 x2 x3 x4 x5 x6 x7 x8) (View.ld x1 r0_28) (View.ld x4 r0_3)⟩]

theorem cover0_9 (p0 : Vec F S256x512 .f32) (y : S256x512.Idx) :
    ∃ pc ∈ ([⟨r0_29, p0⟩] : List (View.Piece (Elt F) S256x512 .f32)), y ∈ pc.1.set :=
  View.cover_of_tiled [⟨r0_29, p0⟩] S256x512.size (by rfl) y

def out0_10 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x64 .f32 :=
  View.canon [⟨r0_52, k0_pay83 (k0_pay95 x0 x1 x2 x3 x4 x5 x6 x7 x8) (k0_pay104 x0 x1 x2 x3 x4 x5 x6 x7 x8) (k0_pay105 x0 x1 x2 x3 x4 x5 x6 x7 x8)⟩]

theorem cover0_10 (p0 : Vec F S256x64 .f32) (y : S256x64.Idx) :
    ∃ pc ∈ ([⟨r0_52, p0⟩] : List (View.Piece (Elt F) S256x64 .f32)), y ∈ pc.1.set :=
  View.cover_of_tiled [⟨r0_52, p0⟩] S256x64.size (by rfl) y

def out0_11 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x256 .f32 :=
  View.canon [⟨r0_44, k0_pay56 (k0_pay91 x0 x1 x2 x3 x4 x5 x6 x7 x8) (k0_pay92 x0 x1 x2 x3 x4 x5 x6 x7 x8) (k0_pay93 x0 x1 x2 x3 x4 x5 x6 x7 x8) (View.ld x1 r0_42)⟩,
    ⟨r0_43, k0_pay54 (k0_pay91 x0 x1 x2 x3 x4 x5 x6 x7 x8) (k0_pay92 x0 x1 x2 x3 x4 x5 x6 x7 x8) (k0_pay93 x0 x1 x2 x3 x4 x5 x6 x7 x8) (View.ld x1 r0_42)⟩]

theorem cover0_11 (p0 : Vec F S256x128 .f32) (p1 : Vec F S256x128 .f32) (y : S256x256.Idx) :
    ∃ pc ∈ ([⟨r0_44, p0⟩, ⟨r0_43, p1⟩] : List (View.Piece (Elt F) S256x256 .f32)), y ∈ pc.1.set :=
  View.cover_of_tiled [⟨r0_44, p0⟩, ⟨r0_43, p1⟩] S256x128.size (by rfl) y

def out0_12 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x256 .f32 :=
  View.canon [⟨r0_46, k0_pay102 x0 x1 x2 x3 x4 x5 x6 x7 x8⟩]

theorem cover0_12 (p0 : Vec F S256x256 .f32) (y : S256x256.Idx) :
    ∃ pc ∈ ([⟨r0_46, p0⟩] : List (View.Piece (Elt F) S256x256 .f32)), y ∈ pc.1.set :=
  View.cover_of_tiled [⟨r0_46, p0⟩] S256x256.size (by rfl) y

def out0_13 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x64 .f32 :=
  View.canon [⟨r0_52, k0_pay86 (k0_pay94 x0 x1 x2 x3 x4 x5 x6 x7 x8) (k0_pay95 x0 x1 x2 x3 x4 x5 x6 x7 x8) (k0_pay96 x0 x1 x2 x3 x4 x5 x6 x7 x8) (k0_pay103 x0 x1 x2 x3 x4 x5 x6 x7 x8)⟩]

theorem cover0_13 (p0 : Vec F S256x64 .f32) (y : S256x64.Idx) :
    ∃ pc ∈ ([⟨r0_52, p0⟩] : List (View.Piece (Elt F) S256x64 .f32)), y ∈ pc.1.set :=
  View.cover_of_tiled [⟨r0_52, p0⟩] S256x64.size (by rfl) y

def out0_14 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S8x256x256 .bf16 :=
  View.canon [⟨r0_27, k0_pay36 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_25)⟩,
    ⟨r0_26, k0_pay35 (k0_pay100 x0 x1 x2 x3 x4 x5 x6 x7 x8) (View.ld x2 r0_25)⟩,
    ⟨r0_24, k0_pay33 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_22)⟩,
    ⟨r0_23, k0_pay32 (k0_pay100 x0 x1 x2 x3 x4 x5 x6 x7 x8) (View.ld x2 r0_22)⟩,
    ⟨r0_21, k0_pay30 (k0_pay94 x0 x1 x2 x3 x4 x5 x6 x7 x8) (k0_pay95 x0 x1 x2 x3 x4 x5 x6 x7 x8) (k0_pay96 x0 x1 x2 x3 x4 x5 x6 x7 x8) (k0_pay101 x0 x1 x2 x3 x4 x5 x6 x7 x8)⟩,
    ⟨r0_20, k0_pay29 (k0_pay101 x0 x1 x2 x3 x4 x5 x6 x7 x8)⟩,
    ⟨r0_18, k0_pay27 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_16)⟩,
    ⟨r0_17, k0_pay26 (k0_pay100 x0 x1 x2 x3 x4 x5 x6 x7 x8) (View.ld x2 r0_16)⟩,
    ⟨r0_15, k0_pay24 (k0_pay94 x0 x1 x2 x3 x4 x5 x6 x7 x8) (k0_pay95 x0 x1 x2 x3 x4 x5 x6 x7 x8) (k0_pay96 x0 x1 x2 x3 x4 x5 x6 x7 x8) (k0_pay21 (k0_pay100 x0 x1 x2 x3 x4 x5 x6 x7 x8) (View.ld x2 r0_13))⟩,
    ⟨r0_14, k0_pay23 (k0_pay22 (k0_pay100 x0 x1 x2 x3 x4 x5 x6 x7 x8) (View.ld x2 r0_13))⟩,
    ⟨r0_12, k0_pay20 (k0_pay94 x0 x1 x2 x3 x4 x5 x6 x7 x8) (k0_pay95 x0 x1 x2 x3 x4 x5 x6 x7 x8) (k0_pay96 x0 x1 x2 x3 x4 x5 x6 x7 x8) (k0_pay100 x0 x1 x2 x3 x4 x5 x6 x7 x8) (View.ld x2 r0_10)⟩,
    ⟨r0_11, k0_pay19 (k0_pay100 x0 x1 x2 x3 x4 x5 x6 x7 x8) (View.ld x2 r0_10)⟩,
    ⟨r0_9, k0_pay17 (k0_pay94 x0 x1 x2 x3 x4 x5 x6 x7 x8) (k0_pay95 x0 x1 x2 x3 x4 x5 x6 x7 x8) (k0_pay96 x0 x1 x2 x3 x4 x5 x6 x7 x8) (k0_pay15 (k0_pay97 x0 x1 x2 x3 x4 x5 x6 x7 x8) (k0_pay98 x0 x1 x2 x3 x4 x5 x6 x7 x8) (k0_pay99 x0 x1 x2 x3 x4 x5 x6 x7 x8) (View.ld x2 r0_7))⟩,
    ⟨r0_8, k0_pay16 (k0_pay97 x0 x1 x2 x3 x4 x5 x6 x7 x8) (k0_pay98 x0 x1 x2 x3 x4 x5 x6 x7 x8) (k0_pay99 x0 x1 x2 x3 x4 x5 x6 x7 x8) (View.ld x2 r0_7)⟩,
    ⟨r0_6, k0_pay14 (k0_pay94 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (k0_pay98 x0 x1 x2 x3 x4 x5 x6 x7 x8) (k0_pay99 x0 x1 x2 x3 x4 x5 x6 x7 x8) (View.ld x2 r0_4)⟩,
    ⟨r0_5, k0_pay13 (k0_pay97 x0 x1 x2 x3 x4 x5 x6 x7 x8) (k0_pay98 x0 x1 x2 x3 x4 x5 x6 x7 x8) (k0_pay99 x0 x1 x2 x3 x4 x5 x6 x7 x8) (View.ld x2 r0_4)⟩]

theorem cover0_14 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (p8 : Vec F S1x256x128 .bf16) (p9 : Vec F S1x256x128 .bf16) (p10 : Vec F S1x256x128 .bf16) (p11 : Vec F S1x256x128 .bf16) (p12 : Vec F S1x256x128 .bf16) (p13 : Vec F S1x256x128 .bf16) (p14 : Vec F S1x256x128 .bf16) (p15 : Vec F S1x256x128 .bf16) (y : S8x256x256.Idx) :
    ∃ pc ∈ ([⟨r0_27, p0⟩, ⟨r0_26, p1⟩, ⟨r0_24, p2⟩, ⟨r0_23, p3⟩, ⟨r0_21, p4⟩, ⟨r0_20, p5⟩, ⟨r0_18, p6⟩, ⟨r0_17, p7⟩, ⟨r0_15, p8⟩, ⟨r0_14, p9⟩, ⟨r0_12, p10⟩, ⟨r0_11, p11⟩, ⟨r0_9, p12⟩, ⟨r0_8, p13⟩, ⟨r0_6, p14⟩, ⟨r0_5, p15⟩] : List (View.Piece (Elt F) S8x256x256 .bf16)), y ∈ pc.1.set :=
  View.cover_of_tiled [⟨r0_27, p0⟩, ⟨r0_26, p1⟩, ⟨r0_24, p2⟩, ⟨r0_23, p3⟩, ⟨r0_21, p4⟩, ⟨r0_20, p5⟩, ⟨r0_18, p6⟩, ⟨r0_17, p7⟩, ⟨r0_15, p8⟩, ⟨r0_14, p9⟩, ⟨r0_12, p10⟩, ⟨r0_11, p11⟩, ⟨r0_9, p12⟩, ⟨r0_8, p13⟩, ⟨r0_6, p14⟩, ⟨r0_5, p15⟩] S1x256x128.size (by rfl) y

def out0_15 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S8x256x128 .bf16 :=
  View.canon [⟨r0_41, k0_pay52 (k0_pay92 x0 x1 x2 x3 x4 x5 x6 x7 x8) (k0_pay93 x0 x1 x2 x3 x4 x5 x6 x7 x8) (k0_pay49 (k0_pay91 x0 x1 x2 x3 x4 x5 x6 x7 x8) (View.ld x1 r0_39))⟩,
    ⟨r0_40, k0_pay51 (k0_pay50 (k0_pay91 x0 x1 x2 x3 x4 x5 x6 x7 x8) (k0_pay92 x0 x1 x2 x3 x4 x5 x6 x7 x8) (k0_pay93 x0 x1 x2 x3 x4 x5 x6 x7 x8) (View.ld x1 r0_39))⟩,
    ⟨r0_38, k0_pay47 (k0_pay91 x0 x1 x2 x3 x4 x5 x6 x7 x8) (k0_pay92 x0 x1 x2 x3 x4 x5 x6 x7 x8) (k0_pay93 x0 x1 x2 x3 x4 x5 x6 x7 x8) (View.ld x1 r0_36)⟩,
    ⟨r0_37, k0_pay46 (k0_pay91 x0 x1 x2 x3 x4 x5 x6 x7 x8) (k0_pay92 x0 x1 x2 x3 x4 x5 x6 x7 x8) (k0_pay93 x0 x1 x2 x3 x4 x5 x6 x7 x8) (View.ld x1 r0_36)⟩,
    ⟨r0_35, k0_pay44 (k0_pay43 (k0_pay91 x0 x1 x2 x3 x4 x5 x6 x7 x8) (k0_pay92 x0 x1 x2 x3 x4 x5 x6 x7 x8) (k0_pay93 x0 x1 x2 x3 x4 x5 x6 x7 x8) (View.ld x1 r0_33))⟩,
    ⟨r0_34, k0_pay42 (k0_pay91 x0 x1 x2 x3 x4 x5 x6 x7 x8) (k0_pay92 x0 x1 x2 x3 x4 x5 x6 x7 x8) (k0_pay93 x0 x1 x2 x3 x4 x5 x6 x7 x8) (View.ld x1 r0_33)⟩,
    ⟨r0_32, k0_pay40 (k0_pay91 x0 x1 x2 x3 x4 x5 x6 x7 x8) (k0_pay92 x0 x1 x2 x3 x4 x5 x6 x7 x8) (k0_pay93 x0 x1 x2 x3 x4 x5 x6 x7 x8) (View.ld x1 r0_30)⟩,
    ⟨r0_31, k0_pay39 (k0_pay91 x0 x1 x2 x3 x4 x5 x6 x7 x8) (k0_pay92 x0 x1 x2 x3 x4 x5 x6 x7 x8) (k0_pay93 x0 x1 x2 x3 x4 x5 x6 x7 x8) (View.ld x1 r0_30)⟩]

theorem cover0_15 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S8x256x128.Idx) :
    ∃ pc ∈ ([⟨r0_41, p0⟩, ⟨r0_40, p1⟩, ⟨r0_38, p2⟩, ⟨r0_37, p3⟩, ⟨r0_35, p4⟩, ⟨r0_34, p5⟩, ⟨r0_32, p6⟩, ⟨r0_31, p7⟩] : List (View.Piece (Elt F) S8x256x128 .bf16)), y ∈ pc.1.set :=
  View.cover_of_tiled [⟨r0_41, p0⟩, ⟨r0_40, p1⟩, ⟨r0_38, p2⟩, ⟨r0_37, p3⟩, ⟨r0_35, p4⟩, ⟨r0_34, p5⟩, ⟨r0_32, p6⟩, ⟨r0_31, p7⟩] S1x256x128.size (by rfl) y

def out0_16 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S8x256x128 .bf16 :=
  View.canon [⟨r0_41, k0_pay76 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_50)⟩,
    ⟨r0_40, k0_pay75 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_50)⟩,
    ⟨r0_38, k0_pay73 (k0_pay72 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_49))⟩,
    ⟨r0_37, k0_pay71 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_49)⟩,
    ⟨r0_35, k0_pay69 (k0_pay94 x0 x1 x2 x3 x4 x5 x6 x7 x8) (k0_pay95 x0 x1 x2 x3 x4 x5 x6 x7 x8) (k0_pay96 x0 x1 x2 x3 x4 x5 x6 x7 x8) (k0_pay65 (k0_pay91 x0 x1 x2 x3 x4 x5 x6 x7 x8) (View.ld x1 r0_48))⟩,
    ⟨r0_34, k0_pay68 (k0_pay95 x0 x1 x2 x3 x4 x5 x6 x7 x8) (k0_pay66 (k0_pay91 x0 x1 x2 x3 x4 x5 x6 x7 x8) (k0_pay96 x0 x1 x2 x3 x4 x5 x6 x7 x8) (View.ld x1 r0_48)) (k0_pay67 (k0_pay91 x0 x1 x2 x3 x4 x5 x6 x7 x8) (k0_pay94 x0 x1 x2 x3 x4 x5 x6 x7 x8) (View.ld x1 r0_48))⟩,
    ⟨r0_32, k0_pay62 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_47)⟩,
    ⟨r0_31, k0_pay61 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_47)⟩]

theorem cover0_16 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S8x256x128.Idx) :
    ∃ pc ∈ ([⟨r0_41, p0⟩, ⟨r0_40, p1⟩, ⟨r0_38, p2⟩, ⟨r0_37, p3⟩, ⟨r0_35, p4⟩, ⟨r0_34, p5⟩, ⟨r0_32, p6⟩, ⟨r0_31, p7⟩] : List (View.Piece (Elt F) S8x256x128 .bf16)), y ∈ pc.1.set :=
  View.cover_of_tiled [⟨r0_41, p0⟩, ⟨r0_40, p1⟩, ⟨r0_38, p2⟩, ⟨r0_37, p3⟩, ⟨r0_35, p4⟩, ⟨r0_34, p5⟩, ⟨r0_32, p6⟩, ⟨r0_31, p7⟩] S1x256x128.size (by rfl) y

def out0_17 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x128 .f32 :=
  View.canon [⟨r0_1, k0_pay1 (k0_pay89 (k0_pay91 x0 x1 x2 x3 x4 x5 x6 x7 x8) (View.ld x1 r0_53))⟩]

theorem cover0_17 (p0 : Vec F S256x128 .f32) (y : S256x128.Idx) :
    ∃ pc ∈ ([⟨r0_1, p0⟩] : List (View.Piece (Elt F) S256x128 .f32)), y ∈ pc.1.set :=
  View.cover_of_tiled [⟨r0_1, p0⟩] S256x128.size (by rfl) y

def out0_18 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x128 .bf16 :=
  View.canon [⟨r0_1, k0_pay84 (k0_pay95 x0 x1 x2 x3 x4 x5 x6 x7 x8) (k0_pay104 x0 x1 x2 x3 x4 x5 x6 x7 x8) (k0_pay105 x0 x1 x2 x3 x4 x5 x6 x7 x8)⟩]

theorem cover0_18 (p0 : Vec F S256x128 .bf16) (y : S256x128.Idx) :
    ∃ pc ∈ ([⟨r0_1, p0⟩] : List (View.Piece (Elt F) S256x128 .bf16)), y ∈ pc.1.set :=
  View.cover_of_tiled [⟨r0_1, p0⟩] S256x128.size (by rfl) y

def out0_19 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x256 .bf16 :=
  View.canon [⟨r0_44, k0_pay57 (k0_pay91 x0 x1 x2 x3 x4 x5 x6 x7 x8) (k0_pay92 x0 x1 x2 x3 x4 x5 x6 x7 x8) (k0_pay93 x0 x1 x2 x3 x4 x5 x6 x7 x8) (View.ld x1 r0_42)⟩,
    ⟨r0_43, k0_pay55 (k0_pay91 x0 x1 x2 x3 x4 x5 x6 x7 x8) (k0_pay92 x0 x1 x2 x3 x4 x5 x6 x7 x8) (k0_pay93 x0 x1 x2 x3 x4 x5 x6 x7 x8) (View.ld x1 r0_42)⟩]

theorem cover0_19 (p0 : Vec F S256x128 .bf16) (p1 : Vec F S256x128 .bf16) (y : S256x256.Idx) :
    ∃ pc ∈ ([⟨r0_44, p0⟩, ⟨r0_43, p1⟩] : List (View.Piece (Elt F) S256x256 .bf16)), y ∈ pc.1.set :=
  View.cover_of_tiled [⟨r0_44, p0⟩, ⟨r0_43, p1⟩] S256x128.size (by rfl) y

def out0_20 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x256 .bf16 :=
  View.canon [⟨r0_46, k0_pay59 (k0_pay102 x0 x1 x2 x3 x4 x5 x6 x7 x8)⟩]

theorem cover0_20 (p0 : Vec F S256x256 .bf16) (y : S256x256.Idx) :
    ∃ pc ∈ ([⟨r0_46, p0⟩] : List (View.Piece (Elt F) S256x256 .bf16)), y ∈ pc.1.set :=
  View.cover_of_tiled [⟨r0_46, p0⟩] S256x256.size (by rfl) y

def out0_21 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x128 .bf16 :=
  View.canon [⟨r0_1, k0_pay87 (k0_pay94 x0 x1 x2 x3 x4 x5 x6 x7 x8) (k0_pay95 x0 x1 x2 x3 x4 x5 x6 x7 x8) (k0_pay96 x0 x1 x2 x3 x4 x5 x6 x7 x8) (k0_pay103 x0 x1 x2 x3 x4 x5 x6 x7 x8)⟩]

theorem cover0_21 (p0 : Vec F S256x128 .bf16) (y : S256x128.Idx) :
    ∃ pc ∈ ([⟨r0_1, p0⟩] : List (View.Piece (Elt F) S256x128 .bf16)), y ∈ pc.1.set :=
  View.cover_of_tiled [⟨r0_1, p0⟩] S256x128.size (by rfl) y

def out0_22 (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) : Vec F S256x128 .bf16 :=
  View.canon [⟨r0_1, k0_pay90 (k0_pay91 x0 x1 x2 x3 x4 x5 x6 x7 x8) (k0_pay94 x0 x1 x2 x3 x4 x5 x6 x7 x8) (k0_pay95 x0 x1 x2 x3 x4 x5 x6 x7 x8) (k0_pay96 x0 x1 x2 x3 x4 x5 x6 x7 x8) (View.ld x1 r0_53)⟩]

theorem cover0_22 (p0 : Vec F S256x128 .bf16) (y : S256x128.Idx) :
    ∃ pc ∈ ([⟨r0_1, p0⟩] : List (View.Piece (Elt F) S256x128 .bf16)), y ∈ pc.1.set :=
  View.cover_of_tiled [⟨r0_1, p0⟩] S256x128.size (by rfl) y

set_option maxHeartbeats 1000000 in
theorem sound_kernel (c : Dev nD) (E : Set ℕ) (i : grid0.Coords) (arg1 : Memref sig .tc .vmem S256x2048 .f32) (harg1 : arg1.IsWhole) (arg2 : Memref sig .tc .vmem S2048x4096 .bf16) (harg2 : arg2.IsWhole) (arg3 : Memref sig .tc .vmem S512x2048 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x64 .f32) (harg14 : arg14.IsWhole) (arg15 : Memref sig .tc .vmem S8x256x256 .bf16) (harg15 : arg15.IsWhole) (arg16 : Memref sig .tc .vmem S8x256x128 .bf16) (harg16 : arg16.IsWhole) (arg17 : Memref sig .tc .vmem S8x256x128 .bf16) (harg17 : arg17.IsWhole) (arg18 : Memref sig .tc .vmem S256x128 .f32) (harg18 : arg18.IsWhole) (arg19 : Memref sig .tc .vmem S256x128 .bf16) (harg19 : arg19.IsWhole) (arg20 : Memref sig .tc .vmem S256x256 .bf16) (harg20 : arg20.IsWhole) (arg21 : Memref sig .tc .vmem S256x256 .bf16) (harg21 : arg21.IsWhole) (arg22 : Memref sig .tc .vmem S256x128 .bf16) (harg22 : arg22.IsWhole) (arg23 : Memref sig .tc .vmem S256x128 .bf16) (harg23 : arg23.IsWhole)
    (x0 : Vec F S256x2048 .f32) (x1 : Vec F S2048x4096 .bf16) (x2 : Vec F S512x2048 .bf16) (x3 : Vec F S1x512 .f32) (x4 : Vec F S1x512 .f32) (x5 : Vec F S256x128 .f32) (x6 : Vec F S256x128 .f32) (x7 : Vec F S256x128 .f32) (x8 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8) ∗ owns (c : Thread nD τ) arg19 fullShare (out0_18 x0 x1 x2 x3 x4 x5 x6 x7 x8) ∗ owns (c : Thread nD τ) arg20 fullShare (out0_19 x0 x1 x2 x3 x4 x5 x6 x7 x8) ∗ owns (c : Thread nD τ) arg21 fullShare (out0_20 x0 x1 x2 x3 x4 x5 x6 x7 x8) ∗ owns (c : Thread nD τ) arg22 fullShare (out0_21 x0 x1 x2 x3 x4 x5 x6 x7 x8) ∗ owns (c : Thread nD τ) arg23 fullShare (out0_22 x0 x1 x2 x3 x4 x5 x6 x7 x8)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_proj_eq_skeleton]; unfold cc0_proj_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _ _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _ _ _ _ _ _ _ _ _ _ _ _ _ _ _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _ _ _ _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t)
    | ⟨14, _⟩ => out0_14 (iblk m c 0 t) (iblk m c 1 t) (iblk m c 2 t) (iblk m c 3 t) (iblk m c 4 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t)
    | ⟨16, _⟩ => out0_16 (iblk m c 0 t) (iblk m c 1 t) (iblk m c 2 t) (iblk m c 3 t) (iblk m c 4 t) (iblk m c 5 t) (iblk m c 6 t) (iblk m c 7 t) (iblk m c 8 t)
    | ⟨17, _⟩ => out0_17 (iblk m c 0 t) (iblk m c 1 t) (iblk m c 2 t) (iblk m c 3 t) (iblk m c 4 t) (iblk m c 5 t) (iblk m c 6 t) (iblk m c 7 t) (iblk m c 8 t)
    | ⟨18, _⟩ => out0_18 (iblk m c 0 t) (iblk m c 1 t) (iblk m c 2 t) (iblk m c 3 t) (iblk m c 4 t) (iblk m c 5 t) (iblk m c 6 t) (iblk m c 7 t) (iblk m c 8 t)
    | ⟨19, _⟩ => out0_19 (iblk m c 0 t) (iblk m c 1 t) (iblk m c 2 t) (iblk m c 3 t) (iblk m c 4 t) (iblk m c 5 t) (iblk m c 6 t) (iblk m c 7 t) (iblk m c 8 t)
    | ⟨20, _⟩ => out0_20 (iblk m c 0 t) (iblk m c 1 t) (iblk m c 2 t) (iblk m c 3 t) (iblk m c 4 t) (iblk m c 5 t) (iblk m c 6 t) (iblk m c 7 t) (iblk m c 8 t)
    | ⟨21, _⟩ => out0_21 (iblk m c 0 t) (iblk m c 1 t) (iblk m c 2 t) (iblk m c 3 t) (iblk m c 4 t) (iblk m c 5 t) (iblk m c 6 t) (iblk m c 7 t) (iblk m c 8 t)
    | ⟨22, _⟩ => out0_22 (iblk m c 0 t) (iblk m c 1 t) (iblk m c 2 t) (iblk m c 3 t) (iblk m c 4 t) (iblk m c 5 t) (iblk m c 6 t) (iblk m c 7 t) (iblk m c 8 t)
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Samp

end
-- ==== Proof.SampFrames.lean ====
/- The frames of the projection's programs. -/
module

public import proofs.«01_k».proof.Defs
public import proofs.«01_k».proof.Proof.SampLaunch
public import proofs.«01_k».proof.Proof.Gen.Kernel4
public import proofs.«01_k».proof.Proof.Gen.Reference4Ideal
public import proofs.«01_k».proof.Proof.Gen.Reference4Ideal.Run

@[expose] public section
set_option maxRecDepth 100000
set_option maxHeartbeats 16000000
noncomputable section

namespace Cert.Proof.Samp

open Idealize.ShloMosaic Idealize.ShloMosaic.TcCoe Idealize.SL.Sem

/-- The two programs' bodies are one, -/
theorem cc0_same : Cert.Kernel4.cc0_proj (F := Bits) = Cert.Kernel4Ideal.cc0_proj (F := Bits) := rfl

/-- and so are their tables of bodies. -/
theorem defs₀_same : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc0_same _) _) _) _) _) _) _) _) _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))

theorem defs_same : Cert.Kernel4.defs (F := Bits) = Cert.Kernel4Ideal.defs (F := Bits) :=
  congrArg (Pipeline.defs (Cert.Kernel4Ideal.pcfgs (F := Bits))) defs₀_same

theorem preserves_kernel : Cert.preserves_Kernel4_Kernel4Ideal := trivial

theorem frame_kernel : Cert.quiescent_Kernel4 := fun m ρ _ => by
  rw [show Cert.Kernel4.defs (F := Bits) = Cert.Kernel4Ideal.defs (F := Bits) from defs_same]
  exact frame (F := Bits) m ρ

theorem frame_kernelIdeal : Cert.quiescent_Kernel4Ideal := fun m ρ _ => frame m ρ

theorem frame_referenceIdeal : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

end Cert.Proof.Samp
-- ==== Proof.SampPoints.lean ====
module

public import proofs.«01_k».proof.Proof.SampLaunch
public import Idealize.ShloMosaic.Lib.Pointwise

/-! The sample's projection's payloads, entry by entry. -/

@[expose] public section
noncomputable section

namespace Cert.Proof.Samp

open Cert.Kernel4Ideal Cert.Kernel4Ideal.Gen Idealize.ShloMosaic Idealize.ShloMosaic.TcCoe Idealize.SL.Sem

variable (x : Vec Ideal S256x2048 .f32) (w : Vec Ideal S2048x256 .bf16) (c s : FVec Ideal S256x128 .f32)

/-- A row of the inputs times a column of the weights. -/
abbrev dotAt (a : Fin 256) (j : Fin 256) : EReal := ∑ k : Fin 2048, x (ix2 a k) * w (ix2 k j)

theorem dotAt_congr (a : Fin 256) {j j' : Fin 256} (h : j.val = j'.val) : dotAt x w a j = dotAt x w a j' := by rw [Fin.ext h]

set_option maxRecDepth 16384 in
theorem plain_at (a : Fin 256) (j : Fin 256) : k0_pay58 (k0_pay2 x) w (ix2 a j) = dotAt x w a j := by
  pointwise [k0_pay58, k0_pay2]

set_option maxRecDepth 16384 in
theorem slab_at (a : Fin 256) (j : Fin 256) : k0_pay53 (k0_pay2 x) w (ix2 a j) = dotAt x w a j := by
  pointwise [k0_pay53, k0_pay2]

set_option maxRecDepth 16384 in
theorem slab'_at (a : Fin 256) (j : Fin 256) : k0_pay77 (k0_pay2 x) w (ix2 a j) = dotAt x w a j := by
  pointwise [k0_pay77, k0_pay2]

set_option maxRecDepth 16384 in
theorem kd0_at (a : Fin 256) (l : Fin 128) : k0_pay54 (k0_pay2 x) c s w (ix2 a l)
    = dotAt x w a ⟨l.val, by omega⟩ * c (ix2 a l) + dotAt x w a ⟨(l.val + 64) % 128, by omega⟩ * s (ix2 a l) := by
  pointwise [k0_pay54, k0_pay53, k0_pay2]
  exact congrArg₂ (fun u v => u * c (ix2 a l) + v * s (ix2 a l)) (dotAt_congr x w a (by rfl)) (dotAt_congr x w a (by dsimp only; omega))

set_option maxRecDepth 16384 in
theorem kd1_at (a : Fin 256) (l : Fin 128) : k0_pay56 (k0_pay2 x) c s w (ix2 a l)
    = dotAt x w a ⟨l.val + 128, by omega⟩ * c (ix2 a l) + dotAt x w a ⟨(l.val + 64) % 128 + 128, by omega⟩ * s (ix2 a l) := by
  pointwise [k0_pay56, k0_pay53, k0_pay2]
  exact congrArg₂ (fun u v => u * c (ix2 a l) + v * s (ix2 a l)) (dotAt_congr x w a (by dsimp only; omega)) (dotAt_congr x w a (by dsimp only; omega))

set_option maxRecDepth 16384 in
theorem first_at (a : Fin 256) (l : Fin 128) : k0_pay7 (ix2 a l) = if l.val % 64 < 32 then 1#1 else 0#1 := by
  pointwise [k0_pay7]
  revert l
  decide

set_option maxRecDepth 16384 in
theorem kpe_at (a : Fin 256) (l : Fin 64) : k0_pay83 s (k0_pay80 (k0_pay2 x) k0_pay7 w) (k0_pay81 (k0_pay2 x) c w) (ix2 a l)
    = dotAt x w a ⟨l.val, by omega⟩ * c (ix2 a ⟨l.val, by omega⟩) + dotAt x w a ⟨if l.val < 32 then l.val + 32 else l.val - 32, by split <;> omega⟩ * s (ix2 a ⟨l.val, by omega⟩) := by
  pointwise [k0_pay83, k0_pay82, k0_pay80, k0_pay81, k0_pay78, k0_pay77, k0_pay2]
  rw [first_at]
  by_cases h : l.val < 32
  · have h' : l.val % 64 < 32 := by omega
    rw [if_pos h']
    exact congrArg₂ (fun u v => u * c (ix2 a _) + v * s (ix2 a _)) (dotAt_congr x w a rfl) (dotAt_congr x w a (by dsimp only; split <;> omega))
  · have h' : ¬ l.val % 64 < 32 := by omega
    rw [if_neg h']
    exact congrArg₂ (fun u v => u * c (ix2 a _) + v * s (ix2 a _)) (dotAt_congr x w a rfl) (dotAt_congr x w a (by dsimp only; split <;> omega))

set_option maxRecDepth 16384 in
theorem ki_at (a : Fin 256) (l : Fin 64) : k0_pay86 c s k0_pay7 (k0_pay79 (k0_pay2 x) w) (ix2 a l)
    = dotAt x w a ⟨l.val + 128, by omega⟩ * c (ix2 a ⟨l.val, by omega⟩) + dotAt x w a ⟨(if l.val < 32 then l.val + 32 else l.val - 32) + 128, by split <;> omega⟩ * s (ix2 a ⟨l.val, by omega⟩) := by
  pointwise [k0_pay86, k0_pay85, k0_pay79, k0_pay77, k0_pay2]
  rw [first_at]
  by_cases h : l.val < 32
  · have h' : l.val % 64 < 32 := by omega
    rw [if_pos h']
    exact congrArg₂ (fun u v => u * c (ix2 a _) + v * s (ix2 a _)) (dotAt_congr x w a (by dsimp only; omega)) (dotAt_congr x w a (by dsimp only; split <;> omega))
  · have h' : ¬ l.val % 64 < 32 := by omega
    rw [if_neg h']
    exact congrArg₂ (fun u v => u * c (ix2 a _) + v * s (ix2 a _)) (dotAt_congr x w a (by dsimp only; omega)) (dotAt_congr x w a (by dsimp only; split <;> omega))

variable (w' : Vec Ideal S2048x512 .bf16) (g : Vec Ideal S1x512 .f32)

/-- A row's root-mean-square norm with scale `g`. -/
def rms (h : Fin 512 → EReal) (g : EReal) (b : Fin 512) : EReal :=
  h b * Ideal.rsqrt (Ideal.div (∑ y, h y * h y) (Ideal.ofBits FTy.f32 0x44000000#32) + Ideal.ofBits FTy.f32 0x358637BD#32) * g

set_option maxRecDepth 16384 in
theorem ckv_at (a : Fin 256) (b : Fin 512) : k0_pay37 (k0_pay2 x) w' g (ix2 a b)
    = rms (fun y => ∑ k : Fin 2048, x (ix2 a k) * w' (ix2 k y)) (g (ix2 0 b)) b := by
  pointwise [k0_pay37, k0_pay2]
  rfl

end Cert.Proof.Samp
-- ==== Proof.SampRef.lean ====
module

public import proofs.«01_k».proof.Proof.Gen.Reference4Ideal
public import proofs.«01_k».proof.Proof.Gen.Reference4Ideal.Run
public import Idealize.ShloMosaic.Lib.Pointwise

/-! The sample's projection's reference, entry by entry. -/

@[expose] public section
noncomputable section

namespace Cert.Proof.SampRef

open Cert.Reference4Ideal Cert.Reference4Ideal.Gen Idealize.ShloMosaic Idealize.ShloMosaic.TcCoe Idealize.SL.Sem

set_option maxRecDepth 16384

/-- A row's batch and its place in it. -/
abbrev bOf (p : Fin 512) : Fin 8 := ⟨p.val / 64, by omega⟩
abbrev tOf (p : Fin 512) : Fin 64 := ⟨p.val % 64, by omega⟩

/-- The inputs times the weights. -/
def prod (X : FVec Ideal S8x64x2048 .f32) (W : FVec Ideal S2048x3728 .f32) : FVec Ideal S8x64x3728 .f32 :=
  Host.dotGeneral dot_S8x64x2048_S2048x3728_S8x64x3728_2_0_01_1_n_n none X W

theorem prod_at (X : FVec Ideal S8x64x2048 .f32) (W : FVec Ideal S2048x3728 .f32) (p : Fin 512) (j : Fin 3728) :
    prod X W (ix3 (bOf p) (tOf p) j) = ∑ k : Fin 2048, X (ix3 (bOf p) (tOf p) k) * W (ix2 k j) := by
  pointwise [prod]

/-- A row of 64 turned in its two halves of 32, -/
def turn32 (Y : FVec Ideal S8x64x64 .f32) (Cs Sn : FVec Ideal S64x32 .f32) : FVec Ideal S512x64 .f32 :=
  shapeCast _ (shapeCast _ (concatenate S8x64x1x64 3
    [⟨S8x64x1x32, (subf
      (mulf (extractStridedSlice S8x64x1x32 ![0, 0, 0, 0] (broadcastInDim S8x64x1x64 ![0, 1, 3] bcast_S8x64x64_S8x64x1x64_0_1_3 Y) slices_S8x64x1x64_S8x64x1x32_0_0_0_0)
        (broadcastInDim S8x64x1x32 ![0, 1, 2, 3] bcast_S1x64x1x32_S8x64x1x32_0_1_2_3 (broadcastInDim S1x64x1x32 ![1, 3] bcast_S64x32_S1x64x1x32_1_3 Cs)))
      (mulf (extractStridedSlice S8x64x1x32 ![0, 0, 0, 32] (broadcastInDim S8x64x1x64 ![0, 1, 3] bcast_S8x64x64_S8x64x1x64_0_1_3 Y) slices_S8x64x1x64_S8x64x1x32_0_0_0_32)
        (broadcastInDim S8x64x1x32 ![0, 1, 2, 3] bcast_S1x64x1x32_S8x64x1x32_0_1_2_3 (broadcastInDim S1x64x1x32 ![1, 3] bcast_S64x32_S1x64x1x32_1_3 Sn))))⟩,
     ⟨S8x64x1x32, (addf
      (mulf (extractStridedSlice S8x64x1x32 ![0, 0, 0, 32] (broadcastInDim S8x64x1x64 ![0, 1, 3] bcast_S8x64x64_S8x64x1x64_0_1_3 Y) slices_S8x64x1x64_S8x64x1x32_0_0_0_32)
        (broadcastInDim S8x64x1x32 ![0, 1, 2, 3] bcast_S1x64x1x32_S8x64x1x32_0_1_2_3 (broadcastInDim S1x64x1x32 ![1, 3] bcast_S64x32_S1x64x1x32_1_3 Cs)))
      (mulf (extractStridedSlice S8x64x1x32 ![0, 0, 0, 0] (broadcastInDim S8x64x1x64 ![0, 1, 3] bcast_S8x64x64_S8x64x1x64_0_1_3 Y) slices_S8x64x1x64_S8x64x1x32_0_0_0_0)
        (broadcastInDim S8x64x1x32 ![0, 1, 2, 3] bcast_S1x64x1x32_S8x64x1x32_0_1_2_3 (broadcastInDim S1x64x1x32 ![1, 3] bcast_S64x32_S1x64x1x32_1_3 Sn))))⟩]
    concatenates_S8x64x1x32_S8x64x1x32_S8x64x1x64_d3) shapeCasts_S8x64x1x64_S8x64x64) shapeCasts_S8x64x64_S512x64

theorem turn32_at (Y : FVec Ideal S8x64x64 .f32) (Cs Sn : FVec Ideal S64x32 .f32) (p : Fin 512) (j : Fin 64) :
    turn32 Y Cs Sn (ix2 p j) = if h : j.val < 32 then
      Y (ix3 (bOf p) (tOf p) ⟨j.val, by omega⟩) * Cs (ix2 (tOf p) ⟨j.val, h⟩) - Y (ix3 (bOf p) (tOf p) ⟨32 + j.val, by omega⟩) * Sn (ix2 (tOf p) ⟨j.val, h⟩)
      else Y (ix3 (bOf p) (tOf p) ⟨j.val, by omega⟩) * Cs (ix2 (tOf p) ⟨j.val - 32, by omega⟩) + Y (ix3 (bOf p) (tOf p) ⟨j.val - 32, by omega⟩) * Sn (ix2 (tOf p) ⟨j.val - 32, by omega⟩) := by
  pointwise [turn32]
  split
  · rfl
  · exact congrArg (fun u : EReal => u * Cs _ + Y _ * Sn _) (congrArg (fun z => Y (ix3 (bOf p) (tOf p) z)) (Fin.ext (by dsimp only; omega)))

/-- and two rows of 128 in their halves of 64. -/
def turn64 (Y : FVec Ideal S8x64x256 .f32) (Cs Sn : FVec Ideal S64x64 .f32) : FVec Ideal S512x256 .f32 :=
  shapeCast _ (concatenate S8x64x2x128 3
    [⟨S8x64x2x64, (subf
      (mulf (extractStridedSlice S8x64x2x64 ![0, 0, 0, 0] (shapeCast _ Y shapeCasts_S8x64x256_S8x64x2x128) slices_S8x64x2x128_S8x64x2x64_0_0_0_0)
        (broadcastInDim S8x64x2x64 ![0, 1, 2, 3] bcast_S1x64x1x64_S8x64x2x64_0_1_2_3 (broadcastInDim S1x64x1x64 ![1, 3] bcast_S64x64_S1x64x1x64_1_3 Cs)))
      (mulf (extractStridedSlice S8x64x2x64 ![0, 0, 0, 64] (shapeCast _ Y shapeCasts_S8x64x256_S8x64x2x128) slices_S8x64x2x128_S8x64x2x64_0_0_0_64)
        (broadcastInDim S8x64x2x64 ![0, 1, 2, 3] bcast_S1x64x1x64_S8x64x2x64_0_1_2_3 (broadcastInDim S1x64x1x64 ![1, 3] bcast_S64x64_S1x64x1x64_1_3 Sn))))⟩,
     ⟨S8x64x2x64, (addf
      (mulf (extractStridedSlice S8x64x2x64 ![0, 0, 0, 64] (shapeCast _ Y shapeCasts_S8x64x256_S8x64x2x128) slices_S8x64x2x128_S8x64x2x64_0_0_0_64)
        (broadcastInDim S8x64x2x64 ![0, 1, 2, 3] bcast_S1x64x1x64_S8x64x2x64_0_1_2_3 (broadcastInDim S1x64x1x64 ![1, 3] bcast_S64x64_S1x64x1x64_1_3 Cs)))
      (mulf (extractStridedSlice S8x64x2x64 ![0, 0, 0, 0] (shapeCast _ Y shapeCasts_S8x64x256_S8x64x2x128) slices_S8x64x2x128_S8x64x2x64_0_0_0_0)
        (broadcastInDim S8x64x2x64 ![0, 1, 2, 3] bcast_S1x64x1x64_S8x64x2x64_0_1_2_3 (broadcastInDim S1x64x1x64 ![1, 3] bcast_S64x64_S1x64x1x64_1_3 Sn))))⟩]
    concatenates_S8x64x2x64_S8x64x2x64_S8x64x2x128_d3) shapeCasts_S8x64x2x128_S512x256

theorem turn64_at (Y : FVec Ideal S8x64x256 .f32) (Cs Sn : FVec Ideal S64x64 .f32) (p : Fin 512) (j : Fin 256) :
    turn64 Y Cs Sn (ix2 p j) = if h : j.val % 128 < 64 then
      Y (ix3 (bOf p) (tOf p) j) * Cs (ix2 (tOf p) ⟨j.val % 128, h⟩) - Y (ix3 (bOf p) (tOf p) ⟨j.val + 64, by omega⟩) * Sn (ix2 (tOf p) ⟨j.val % 128, h⟩)
      else Y (ix3 (bOf p) (tOf p) j) * Cs (ix2 (tOf p) ⟨j.val % 128 - 64, by omega⟩) + Y (ix3 (bOf p) (tOf p) ⟨j.val - 64, by omega⟩) * Sn (ix2 (tOf p) ⟨j.val % 128 - 64, by omega⟩) := by
  pointwise [turn64]
  split
  · exact congrArg (fun u : EReal => Y _ * Cs _ - u * Sn _) (congrArg (fun z => Y (ix3 (bOf p) (tOf p) z)) (Fin.ext (by dsimp only; omega)))
  · exact congrArg₂ (fun u v : EReal => u * Cs _ + v * Sn _) (congrArg (fun z => Y (ix3 (bOf p) (tOf p) z)) (Fin.ext (by dsimp only; omega)))
      (congrArg (fun z => Y (ix3 (bOf p) (tOf p) z)) (Fin.ext (by dsimp only; omega)))

/-- The rows' root-mean-square norm with scale `G`. -/
def rmsRow (Y : FVec Ideal S8x64x512 .f32) (G : FVec Ideal S512 .f32) : FVec Ideal S512x512 .f32 :=
  shapeCast _ (mulf (mulf Y (broadcastInDim S8x64x512 ![0, 1, 2] bcast_S8x64x1_S8x64x512_0_1_2 (Host.rsqrt (addf (Host.divf
    (broadcastInDim S8x64x1 ![0, 1] bcast_S8x64_S8x64x1_0_1 (Host.reduceAdd (mulf Y Y) (constant S_ .f32 0x00000000#32) reducesTo_S8x64x512_S8x64_d2 h_S_))
    (broadcastInDim S8x64x1 ![] bcast_S_S8x64x1 (constant S_ .f32 0x44000000#32))) (broadcastInDim S8x64x1 ![] bcast_S_S8x64x1 (constant S_ .f32 0x358637BD#32))))))
    (broadcastInDim S8x64x512 ![0, 1, 2] bcast_S1x1x512_S8x64x512_0_1_2 (broadcastInDim S1x1x512 ![2] bcast_S512_S1x1x512_2 G))) shapeCasts_S8x64x512_S512x512

theorem rmsRow_at (Y : FVec Ideal S8x64x512 .f32) (G : FVec Ideal S512 .f32) (p : Fin 512) (b : Fin 512) :
    rmsRow Y G (ix2 p b) = Y (ix3 (bOf p) (tOf p) b) * Ideal.rsqrt (Ideal.div (∑ y : Fin 512, Y (ix3 (bOf p) (tOf p) y) * Y (ix3 (bOf p) (tOf p) y)) (Ideal.ofBits FTy.f32 0x44000000#32) + Ideal.ofBits FTy.f32 0x358637BD#32) * G (ix1 b) := by
  pointwise [rmsRow]

theorem cut512_at (D : FVec Ideal S8x64x3728 .f32) (p : Fin 512) (j : Fin 512) :
    extractStridedSlice S8x64x512 ![0, 0, 512] D slices_S8x64x3728_S8x64x512_0_0_512 (ix3 (bOf p) (tOf p) j) = D (ix3 (bOf p) (tOf p) ⟨512 + j.val, by omega⟩) := by
  pointwise

theorem cut1024_at (D : FVec Ideal S8x64x3728 .f32) (p : Fin 512) (j : Fin 64) :
    extractStridedSlice S8x64x64 ![0, 0, 1024] D slices_S8x64x3728_S8x64x64_0_0_1024 (ix3 (bOf p) (tOf p) j) = D (ix3 (bOf p) (tOf p) ⟨1024 + j.val, by omega⟩) := by
  pointwise

theorem cut2112_at (D : FVec Ideal S8x64x3728 .f32) (p : Fin 512) (j : Fin 256) :
    extractStridedSlice S8x64x256 ![0, 0, 2112] D slices_S8x64x3728_S8x64x256_0_0_2112 (ix3 (bOf p) (tOf p) j) = D (ix3 (bOf p) (tOf p) ⟨2112 + j.val, by omega⟩) := by
  pointwise

theorem cut3648_at (D : FVec Ideal S8x64x3728 .f32) (p : Fin 512) (j : Fin 64) :
    extractStridedSlice S8x64x64 ![0, 0, 3648] D slices_S8x64x3728_S8x64x64_0_0_3648 (ix3 (bOf p) (tOf p) j) = D (ix3 (bOf p) (tOf p) ⟨3648 + j.val, by omega⟩) := by
  pointwise

/-- The rows of 256 as they are. -/
def plain (D : FVec Ideal S8x64x3728 .f32) : FVec Ideal S512x256 .f32 :=
  shapeCast _ (shapeCast _ (extractStridedSlice S8x64x256 ![0, 0, 2368] D slices_S8x64x3728_S8x64x256_0_0_2368) shapeCasts_S8x64x256_S8x64x2x128) shapeCasts_S8x64x2x128_S512x256

theorem plain_at (D : FVec Ideal S8x64x3728 .f32) (p : Fin 512) (j : Fin 256) : plain D (ix2 p j) = D (ix3 (bOf p) (tOf p) ⟨2368 + j.val, by omega⟩) := by
  pointwise [plain]

variable (m : (ℓ : Loc nD τ sig) → Buf (Elt Ideal) ℓ) (c : Dev nD)

abbrev argX : FVec Ideal S8x64x2048 .f32 := m ((c.tc : Thread nD τ).loc main_arg0)
abbrev argW : FVec Ideal S2048x3728 .f32 := m ((c.tc : Thread nD τ).loc main_arg1)
abbrev argG : FVec Ideal S512 .f32 := m ((c.tc : Thread nD τ).loc main_arg4)

/-- The positions of the sample, which follow those of the cache. -/
def positions : IVec S64 32 := addi (broadcastInDim S64 ![] bcast_S_S64 (constantI S_ 32 1024#32)) (iotaInDim S64 32 0)

/-- The angles of a rotation of halves of 64, -/
def ang64 : FVec Ideal S64x64 .f32 :=
  mulf (broadcastInDim S64x64 ![0, 1] bcast_S64x1_S64x64_0_1 (broadcastInDim S64x1 ![0] bcast_S64_S64x1_0 (sitofp .f32 positions)))
    (broadcastInDim S64x64 ![0, 1] bcast_S1x64_S64x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (iotaInDim S64 32 0)) (broadcastInDim S64 ![] bcast_S_S64 (constant S_ .f32 0x42800000#32)))))))

/-- and of halves of 32. -/
def ang32 : FVec Ideal S64x32 .f32 :=
  mulf (broadcastInDim S64x32 ![0, 1] bcast_S64x1_S64x32_0_1 (broadcastInDim S64x1 ![0] bcast_S64_S64x1_0 (sitofp .f32 positions)))
    (broadcastInDim S64x32 ![0, 1] bcast_S1x32_S64x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

theorem kpe_eq : Cert.Reference4Ideal.Value.res_main_v123 m c
    = turn32 (extractStridedSlice S8x64x64 ![0, 0, 1024] (prod (argX m c) (argW m c)) slices_S8x64x3728_S8x64x64_0_0_1024) (Host.cos ang32) (Host.sin ang32) := rfl
theorem kd_eq : Cert.Reference4Ideal.Value.res_main_v124 m c
    = turn64 (extractStridedSlice S8x64x256 ![0, 0, 2112] (prod (argX m c) (argW m c)) slices_S8x64x3728_S8x64x256_0_0_2112) (Host.cos ang64) (Host.sin ang64) := rfl
theorem ki_eq : Cert.Reference4Ideal.Value.res_main_v126 m c
    = turn32 (extractStridedSlice S8x64x64 ![0, 0, 3648] (prod (argX m c) (argW m c)) slices_S8x64x3728_S8x64x64_0_0_3648) (Host.cos ang32) (Host.sin ang32) := rfl

/-- An entry of the product. -/
abbrev dotRow (X : FVec Ideal S8x64x2048 .f32) (W : FVec Ideal S2048x3728 .f32) (p : Fin 512) (j : ℕ) (h : j < 3728) : EReal :=
  ∑ k : Fin 2048, X (ix3 (bOf p) (tOf p) k) * W (ix2 k ⟨j, h⟩)

/-- The reference's rows: the norm, -/
theorem ckv_row (X : FVec Ideal S8x64x2048 .f32) (W : FVec Ideal S2048x3728 .f32) (G : FVec Ideal S512 .f32) (p : Fin 512) (b : Fin 512) :
    rmsRow (extractStridedSlice S8x64x512 ![0, 0, 512] (prod X W) slices_S8x64x3728_S8x64x512_0_0_512) G (ix2 p b)
      = dotRow X W p (512 + b.val) (by omega) * Ideal.rsqrt (Ideal.div (∑ y : Fin 512, dotRow X W p (512 + y.val) (by omega) * dotRow X W p (512 + y.val) (by omega)) (Ideal.ofBits FTy.f32 0x44000000#32) + Ideal.ofBits FTy.f32 0x358637BD#32) * G (ix1 b) := by
  rw [rmsRow_at]
  simp only [cut512_at, prod_at]

/-- the rotary keys, -/
theorem kpe_row (X : FVec Ideal S8x64x2048 .f32) (W : FVec Ideal S2048x3728 .f32) (Cs Sn : FVec Ideal S64x32 .f32) (p : Fin 512) (j : Fin 64) :
    turn32 (extractStridedSlice S8x64x64 ![0, 0, 1024] (prod X W) slices_S8x64x3728_S8x64x64_0_0_1024) Cs Sn (ix2 p j)
      = if h : j.val < 32 then dotRow X W p (1024 + j.val) (by omega) * Cs (ix2 (tOf p) ⟨j.val, h⟩) - dotRow X W p (1024 + (32 + j.val)) (by omega) * Sn (ix2 (tOf p) ⟨j.val, h⟩)
        else dotRow X W p (1024 + j.val) (by omega) * Cs (ix2 (tOf p) ⟨j.val - 32, by omega⟩) + dotRow X W p (1024 + (j.val - 32)) (by omega) * Sn (ix2 (tOf p) ⟨j.val - 32, by omega⟩) := by
  rw [turn32_at]
  simp only [cut1024_at, prod_at]

/-- the indexer's keys, -/
theorem ki_row (X : FVec Ideal S8x64x2048 .f32) (W : FVec Ideal S2048x3728 .f32) (Cs Sn : FVec Ideal S64x32 .f32) (p : Fin 512) (j : Fin 64) :
    turn32 (extractStridedSlice S8x64x64 ![0, 0, 3648] (prod X W) slices_S8x64x3728_S8x64x64_0_0_3648) Cs Sn (ix2 p j)
      = if h : j.val < 32 then dotRow X W p (3648 + j.val) (by omega) * Cs (ix2 (tOf p) ⟨j.val, h⟩) - dotRow X W p (3648 + (32 + j.val)) (by omega) * Sn (ix2 (tOf p) ⟨j.val, h⟩)
        else dotRow X W p (3648 + j.val) (by omega) * Cs (ix2 (tOf p) ⟨j.val - 32, by omega⟩) + dotRow X W p (3648 + (j.val - 32)) (by omega) * Sn (ix2 (tOf p) ⟨j.val - 32, by omega⟩) := by
  rw [turn32_at]
  simp only [cut3648_at, prod_at]

/-- the sparse keys, -/
theorem kd_row (X : FVec Ideal S8x64x2048 .f32) (W : FVec Ideal S2048x3728 .f32) (Cs Sn : FVec Ideal S64x64 .f32) (p : Fin 512) (j : Fin 256) :
    turn64 (extractStridedSlice S8x64x256 ![0, 0, 2112] (prod X W) slices_S8x64x3728_S8x64x256_0_0_2112) Cs Sn (ix2 p j)
      = if h : j.val % 128 < 64 then dotRow X W p (2112 + j.val) (by omega) * Cs (ix2 (tOf p) ⟨j.val % 128, h⟩) - dotRow X W p (2112 + (j.val + 64)) (by omega) * Sn (ix2 (tOf p) ⟨j.val % 128, h⟩)
        else dotRow X W p (2112 + j.val) (by omega) * Cs (ix2 (tOf p) ⟨j.val % 128 - 64, by omega⟩) + dotRow X W p (2112 + (j.val - 64)) (by omega) * Sn (ix2 (tOf p) ⟨j.val % 128 - 64, by omega⟩) := by
  rw [turn64_at]
  simp only [cut2112_at, prod_at]

/-- and the sparse values. -/
theorem vd_row (X : FVec Ideal S8x64x2048 .f32) (W : FVec Ideal S2048x3728 .f32) (p : Fin 512) (j : Fin 256) :
    plain (prod X W) (ix2 p j) = dotRow X W p (2368 + j.val) (by omega) := by
  rw [plain_at, prod_at]

end Cert.Proof.SampRef
-- ==== Proof.SampHost.lean ====
module

public import proofs.«01_k».proof.Proof.SampLaunch
public import proofs.«01_k».proof.Proof.ProjHost
public import proofs.«01_k».proof.Proof.SampRef
public import Idealize.ShloMosaic.Lib.Pointwise
public import Idealize.ShloMosaic.Lib.Pipeline.Value

/-! The sample's projection's arrays before the launch: the packed weights are the prompt's, the tables those of its positions. -/

@[expose] public section
noncomputable section

namespace Cert.Proof.Samp

open Cert.Kernel4Ideal Cert.Kernel4Ideal.Gen Idealize.ShloMosaic Idealize.ShloMosaic.TcCoe Idealize.SL.Sem

variable (m : (ℓ : Loc nD τ sig) → Buf (Elt Ideal) ℓ) (c : Dev nD)

abbrev argX : FVec Ideal S8x64x2048 .f32 := m ((c : Thread nD τ).loc main_arg0)
abbrev argW : FVec Ideal S2048x3728 .f32 := m ((c : Thread nD τ).loc main_arg1)
abbrev argG : FVec Ideal S512 .f32 := m ((c : Thread nD τ).loc main_arg4)

theorem V_w : V m c main_v17 = truncf .bf16 (Proj.packed (argW m c)) bitsLt_bf16_f32 := rfl
theorem V_x : V m c main_v28 = shapeCast S512x2048 (argX m c) shapeCasts_S8x64x2048_S512x2048 := rfl
theorem V_g : V m c main_v21 = shapeCast S1x512 (argG m c) shapeCasts_S512_S1x512 := rfl

set_option maxRecDepth 16384

/-- The rows' positions: the sample's, batch after batch. -/
def positions : IVec S512 32 :=
  shapeCast S512 (broadcastInDim S8x64 ![0, 1] bcast_S1x64_S8x64_0_1 (shapeCast S1x64
    (addi (broadcastInDim S64 ![] bcast_S_S64 (constantI S_ 32 1024#32)) (iotaInDim S64 32 0)) shapeCasts_S64_S1x64)) shapeCasts_S8x64_S512

/-- The angles of a rotation of halves of 64, -/
def ang64 : FVec Ideal S512x64 .f32 :=
  mulf (broadcastInDim S512x64 ![0, 1] bcast_S512x1_S512x64_0_1 (broadcastInDim S512x1 ![0] bcast_S512_S512x1_0 (sitofp .f32 positions)))
    (broadcastInDim S512x64 ![0, 1] bcast_S1x64_S512x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (sitofp .f32 (iotaInDim S64 32 0)) (broadcastInDim S64 ![] bcast_S_S64 (constant S_ .f32 0x42800000#32)))))))

/-- and of halves of 32. -/
def ang32 : FVec Ideal S512x32 .f32 :=
  mulf (broadcastInDim S512x32 ![0, 1] bcast_S512x1_S512x32_0_1 (broadcastInDim S512x1 ![0] bcast_S512_S512x1_0 (sitofp .f32 positions)))
    (broadcastInDim S512x32 ![0, 1] bcast_S1x32_S512x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

/-- The columns a table repeats, -/
def cols (lit : Fin 128 → BitVec 32) (k : BitVec 32) : IVec S128x1 32 :=
  broadcastInDim S128x1 ![0] bcast_S128_S128x1_0 (select (constantI S128 1 0#1)
    (addi (fun i => lit (S128.rowMajor i)) (broadcastInDim S128 ![] bcast_S_S128 (constantI S_ 32 k))) (fun i => lit (S128.rowMajor i)))

/-- and the signs of its sines. -/
def signs (lit : Fin 128 → BitVec 32) : FVec Ideal S512x128 .f32 :=
  broadcastInDim S512x128 ![0, 1] bcast_S1x128_S512x128_0_1 (broadcastInDim S1x128 ![1] bcast_S128_S1x128_1
    (fun i => FloatOps.ofBits .f32 (lit (S128.rowMajor i))))

theorem V_c128 : V m c main_v48 = Host.gather gather_S512x64_S128x1_S512x128_0_1_n_n_1_1_5121 (Host.cos ang64) (cols lit0 64#32) := rfl
theorem V_s128 : V m c main_v55 = mulf (Host.gather gather_S512x64_S128x1_S512x128_0_1_n_n_1_1_5121 (Host.sin ang64) (cols lit0 64#32)) (signs lit1) := rfl
theorem V_c64 : V m c main_v73 = Host.gather gather_S512x32_S128x1_S512x128_0_1_n_n_1_1_5121 (Host.cos ang32) (cols lit2 32#32) := rfl
theorem V_s64 : V m c main_v80 = mulf (Host.gather gather_S512x32_S128x1_S512x128_0_1_n_n_1_1_5121 (Host.sin ang32) (cols lit2 32#32)) (signs lit3) := rfl

theorem cols_at (lit : Fin 128 → BitVec 32) (k : BitVec 32) (l : Fin 128) : cols lit k (ix2 l 0) = lit l := by
  pointwise [cols]
  rw [Proj.row128]

theorem signs_at (lit : Fin 128 → BitVec 32) (n : Fin 512) (l : Fin 128) : signs lit (ix2 n l) = Ideal.ofBits .f32 (lit l) := by
  pointwise [signs]
  rw [Proj.row128]

theorem lit0_at : ∀ l : Fin 128, min (lit0 l).toInt.toNat (64 - 1) = l.val % 64 := by decide
theorem lit2_at : ∀ l : Fin 128, min (lit2 l).toInt.toNat (32 - 1) = l.val % 32 := by decide
theorem lit1_at : ∀ l : Fin 128, lit1 l = if l.val < 64 then 0xBF800000#32 else 0x3F800000#32 := by decide
theorem lit3_at : ∀ l : Fin 128, lit3 l = if l.val % 64 < 32 then 0xBF800000#32 else 0x3F800000#32 := by decide

theorem positions_at (p : Fin 512) : positions (ix1 p) = SampRef.positions (ix1 (SampRef.tOf p)) := by
  pointwise [positions, SampRef.positions]

/-- The kernel's angles are the reference's. -/
theorem ang64_same (p : Fin 512) (j : Fin 64) : ang64 (ix2 p j) = SampRef.ang64 (ix2 (SampRef.tOf p) j) := by
  pointwise [ang64, SampRef.ang64]
  rw [positions_at]

theorem ang32_same (p : Fin 512) (j : Fin 32) : ang32 (ix2 p j) = SampRef.ang32 (ix2 (SampRef.tOf p) j) := by
  pointwise [ang32, SampRef.ang32]
  rw [positions_at]

theorem cos64_same (p : Fin 512) (j : Fin 64) : Host.cos ang64 (ix2 p j) = Host.cos SampRef.ang64 (ix2 (SampRef.tOf p) j) := congrArg Ideal.cos (ang64_same p j)
theorem sin64_same (p : Fin 512) (j : Fin 64) : Host.sin ang64 (ix2 p j) = Host.sin SampRef.ang64 (ix2 (SampRef.tOf p) j) := congrArg Ideal.sin (ang64_same p j)
theorem cos32_same (p : Fin 512) (j : Fin 32) : Host.cos ang32 (ix2 p j) = Host.cos SampRef.ang32 (ix2 (SampRef.tOf p) j) := congrArg Ideal.cos (ang32_same p j)
theorem sin32_same (p : Fin 512) (j : Fin 32) : Host.sin ang32 (ix2 p j) = Host.sin SampRef.ang32 (ix2 (SampRef.tOf p) j) := congrArg Ideal.sin (ang32_same p j)

theorem c128_at (n : Fin 512) (l : Fin 128) : (V m c main_v48 : FVec Ideal S512x128 .f32) (ix2 n l) = Host.cos ang64 (ix2 n ⟨l.val % 64, by omega⟩) := by
  rw [V_c128]
  refine (Proj.gather_cols (by decide) _ _ _ n l).trans (congrArg (fun j => Host.cos ang64 (ix2 n j)) (Fin.ext ?_))
  dsimp only
  rw [cols_at, lit0_at]

theorem c64_at (n : Fin 512) (l : Fin 128) : (V m c main_v73 : FVec Ideal S512x128 .f32) (ix2 n l) = Host.cos ang32 (ix2 n ⟨l.val % 32, by omega⟩) := by
  rw [V_c64]
  refine (Proj.gather_cols (by decide) _ _ _ n l).trans (congrArg (fun j => Host.cos ang32 (ix2 n j)) (Fin.ext ?_))
  dsimp only
  rw [cols_at, lit2_at]

theorem s128_at (n : Fin 512) (l : Fin 128) : (V m c main_v55 : FVec Ideal S512x128 .f32) (ix2 n l)
    = Host.sin ang64 (ix2 n ⟨l.val % 64, by omega⟩) * if l.val < 64 then -1 else 1 := by
  rw [V_s128]
  refine congrArg₂ (fun u v : EReal => u * v) ((Proj.gather_cols (by decide) _ _ _ n l).trans (congrArg (fun j => Host.sin ang64 (ix2 n j)) (Fin.ext ?_))) ?_
  · dsimp only
    rw [cols_at, lit0_at]
  · rw [signs_at, lit1_at]
    split
    · exact Proj.negOne
    · pointwise

theorem s64_at (n : Fin 512) (l : Fin 128) : (V m c main_v80 : FVec Ideal S512x128 .f32) (ix2 n l)
    = Host.sin ang32 (ix2 n ⟨l.val % 32, by omega⟩) * if l.val % 64 < 32 then -1 else 1 := by
  rw [V_s64]
  refine congrArg₂ (fun u v : EReal => u * v) ((Proj.gather_cols (by decide) _ _ _ n l).trans (congrArg (fun j => Host.sin ang32 (ix2 n j)) (Fin.ext ?_))) ?_
  · dsimp only
    rw [cols_at, lit2_at]
  · rw [signs_at, lit3_at]
    split
    · exact Proj.negOne
    · pointwise

end Cert.Proof.Samp
-- ==== Proof.SampBlocks.lean ====
module

public import proofs.«01_k».proof.Proof.SampPoints
public import proofs.«01_k».proof.Proof.SampHost

/-! What a point of the sample's projection leaves in its five blocks, read off the arguments. -/

@[expose] public section
noncomputable section

namespace Cert.Proof.Samp

open Cert.Kernel4Ideal Cert.Kernel4Ideal.Gen Idealize.ShloMosaic Idealize.ShloMosaic.TcCoe Idealize.SL.Sem

theorem off0 : (![0, 0] : Fin 2 → Nat) = fun _ => 0 := funext fun a => by fin_cases a <;> rfl

section Outs
variable (x0 : Vec Ideal S256x2048 .f32) (x1 : Vec Ideal S2048x4096 .bf16) (x2 : Vec Ideal S512x2048 .bf16) (x3 x4 : Vec Ideal S1x512 .f32) (x5 x6 x7 x8 : Vec Ideal S256x128 .f32)

/-- A row of the inputs times a column of the packed weights. -/
abbrev colDot (a : Fin 256) (j : ℕ) (h : j < 4096) : EReal := ∑ k : Fin 2048, x0 (ix2 a k) * x1 (ix2 k ⟨j, h⟩)

theorem colDot_congr (a : Fin 256) {j j' : ℕ} (h : j < 4096) (h' : j' < 4096) (e : j = j') : colDot x0 x1 a j h = colDot x0 x1 a j' h' := by subst e; rfl

theorem x_eq : k0_pay91 x0 x1 x2 x3 x4 x5 x6 x7 x8 = k0_pay2 x0 := by
  rw [k0_pay91, View.ld_unit_zero (S := S256x2048) off0]

theorem same3 (v : Vec Ideal S256x128 .f32) : k0_pay3 v = v := by
  funext y
  rw [eq_ix2 y]
  pointwise [k0_pay3]

theorem c128_eq : k0_pay92 x0 x1 x2 x3 x4 x5 x6 x7 x8 = x5 := by
  rw [k0_pay92, View.ld_unit_zero (S := S256x128) off0]
  exact same3 x5
theorem s128_eq : k0_pay93 x0 x1 x2 x3 x4 x5 x6 x7 x8 = x6 := by
  rw [k0_pay93, View.ld_unit_zero (S := S256x128) off0]
  exact same3 x6
theorem c64_eq : k0_pay94 x0 x1 x2 x3 x4 x5 x6 x7 x8 = x7 := by
  rw [k0_pay94, View.ld_unit_zero (S := S256x128) off0]
  exact same3 x7
theorem s64_eq : k0_pay95 x0 x1 x2 x3 x4 x5 x6 x7 x8 = x8 := by
  rw [k0_pay95, View.ld_unit_zero (S := S256x128) off0]
  exact same3 x8

set_option maxRecDepth 16384 in
theorem ld28 (k : Fin 2048) (j : Fin 512) : View.ld x1 r0_28 (ix2 k j) = x1 (ix2 k ⟨512 + j.val, by omega⟩) := by
  pointwise
set_option maxRecDepth 16384 in
theorem ld42 (k : Fin 2048) (j : Fin 256) : View.ld x1 r0_42 (ix2 k j) = x1 (ix2 k ⟨2048 + j.val, by omega⟩) := by
  pointwise
set_option maxRecDepth 16384 in
theorem ld45 (k : Fin 2048) (j : Fin 256) : View.ld x1 r0_45 (ix2 k j) = x1 (ix2 k ⟨2304 + j.val, by omega⟩) := by
  pointwise
set_option maxRecDepth 16384 in
theorem ld51 (k : Fin 2048) (j : Fin 256) : View.ld x1 r0_51 (ix2 k j) = x1 (ix2 k ⟨3584 + j.val, by omega⟩) := by
  pointwise

theorem dot42 (a : Fin 256) (j : Fin 256) : dotAt x0 (View.ld x1 r0_42) a j = colDot x0 x1 a (2048 + j.val) (by omega) := by
  exact Finset.sum_congr rfl fun k _ => congrArg (fun z : EReal => x0 (ix2 a k) * z) (ld42 x1 k j)
theorem dot45 (a : Fin 256) (j : Fin 256) : dotAt x0 (View.ld x1 r0_45) a j = colDot x0 x1 a (2304 + j.val) (by omega) := by
  exact Finset.sum_congr rfl fun k _ => congrArg (fun z : EReal => x0 (ix2 a k) * z) (ld45 x1 k j)
theorem dot51 (a : Fin 256) (j : Fin 256) : dotAt x0 (View.ld x1 r0_51) a j = colDot x0 x1 a (3584 + j.val) (by omega) := by
  exact Finset.sum_congr rfl fun k _ => congrArg (fun z : EReal => x0 (ix2 a k) * z) (ld51 x1 k j)

theorem out9_at (a : Fin 256) (b : Fin 512) : out0_9 x0 x1 x2 x3 x4 x5 x6 x7 x8 (ix2 a b)
    = rms (fun y => colDot x0 x1 a (512 + y.val) (by omega)) (x4 (ix2 0 b)) b := by
  rw [out0_9, View.canon_unit_zero (S := S256x512) off0, x_eq, View.ld_unit_zero (S := S1x512) off0, ckv_at]
  exact congrArg (fun f => rms f (x4 (ix2 0 b)) b) (funext fun y => Finset.sum_congr rfl fun k _ => congrArg (fun z : EReal => x0 (ix2 a k) * z) (ld28 x1 k y))

theorem out10_at (a : Fin 256) (l : Fin 64) : out0_10 x0 x1 x2 x3 x4 x5 x6 x7 x8 (ix2 a l)
    = colDot x0 x1 a (3584 + l.val) (by omega) * x7 (ix2 a ⟨l.val, by omega⟩)
      + colDot x0 x1 a (3584 + if l.val < 32 then l.val + 32 else l.val - 32) (by split <;> omega) * x8 (ix2 a ⟨l.val, by omega⟩) := by
  rw [out0_10, View.canon_unit_zero (S := S256x64) off0, k0_pay104, k0_pay105, x_eq, c64_eq, s64_eq, k0_pay96, kpe_at, dot51, dot51]

theorem out12_at (a : Fin 256) (j : Fin 256) : out0_12 x0 x1 x2 x3 x4 x5 x6 x7 x8 (ix2 a j) = colDot x0 x1 a (2304 + j.val) (by omega) := by
  rw [out0_12, View.canon_unit_zero (S := S256x256) off0, k0_pay102, x_eq, plain_at, dot45]

theorem out13_at (a : Fin 256) (l : Fin 64) : out0_13 x0 x1 x2 x3 x4 x5 x6 x7 x8 (ix2 a l)
    = colDot x0 x1 a (3584 + (l.val + 128)) (by omega) * x7 (ix2 a ⟨l.val, by omega⟩)
      + colDot x0 x1 a (3584 + ((if l.val < 32 then l.val + 32 else l.val - 32) + 128)) (by split <;> omega) * x8 (ix2 a ⟨l.val, by omega⟩) := by
  rw [out0_13, View.canon_unit_zero (S := S256x64) off0, k0_pay103, x_eq, c64_eq, s64_eq, k0_pay96, ki_at, dot51, dot51]

/-- The two turned rows of 128. -/
def kdG (a : Fin 256) (j : Fin 256) : EReal :=
  colDot x0 x1 a (2048 + j.val) (by omega) * x5 (ix2 a ⟨j.val % 128, by omega⟩)
    + colDot x0 x1 a (2048 + (j.val / 128 * 128 + (j.val % 128 + 64) % 128)) (by omega) * x6 (ix2 a ⟨j.val % 128, by omega⟩)

theorem kd_piece0 (a : Fin 256) (l : Fin 128) : k0_pay54 (k0_pay2 x0) x5 x6 (View.ld x1 r0_42) (ix2 a l) = kdG x0 x1 x5 x6 a ⟨l.val, by omega⟩ := by
  rw [kd0_at, dot42, dot42, kdG]
  simp only [show l.val % 128 = l.val by omega, show l.val / 128 = 0 by omega, Nat.zero_mul, Nat.zero_add]

theorem kd_piece1 (a : Fin 256) (l : Fin 128) : k0_pay56 (k0_pay2 x0) x5 x6 (View.ld x1 r0_42) (ix2 a l) = kdG x0 x1 x5 x6 a ⟨128 + l.val, by omega⟩ := by
  rw [kd1_at, dot42, dot42, kdG]
  exact congrArg₂ (fun u v : EReal => u + v)
    (congrArg₂ (fun u v : EReal => u * v) (colDot_congr x0 x1 a _ _ (by dsimp only; omega)) (congrArg (fun z => x5 (ix2 a z)) (Fin.ext (by dsimp only; omega))))
    (congrArg₂ (fun u v : EReal => u * v) (colDot_congr x0 x1 a _ _ (by dsimp only; omega)) (congrArg (fun z => x6 (ix2 a z)) (Fin.ext (by dsimp only; omega))))

theorem out11_at (a : Fin 256) (j : Fin 256) : out0_11 x0 x1 x2 x3 x4 x5 x6 x7 x8 (ix2 a j) = kdG x0 x1 x5 x6 a j := by
  rw [out0_11, x_eq, c128_eq, s128_eq]
  refine View.canon_apply_of_pieces (Val := Elt Ideal) (e := .f32) (fun y : S256x256.Idx => kdG x0 x1 x5 x6 (y 0) (y 1)) _ (fun p hp => ?_) (ix2 a j) (cover0_11 _ _ _)
  rcases List.mem_cons.mp hp with rfl | hp
  · intro (y : S256x128.Idx)
    rw [eq_ix2 y]
    refine (kd_piece1 x0 x1 x5 x6 (y 0) (y 1)).trans (congrArg₂ (kdG x0 x1 x5 x6) (Fin.ext ?_) (Fin.ext ?_))
    · show (y 0).val = 0 + 1 * (y 0).val
      omega
    · show 128 + (y 1).val = 128 + 1 * (y 1).val
      omega
  · obtain rfl := List.mem_singleton.mp hp
    intro (y : S256x128.Idx)
    rw [eq_ix2 y]
    refine (kd_piece0 x0 x1 x5 x6 (y 0) (y 1)).trans (congrArg₂ (kdG x0 x1 x5 x6) (Fin.ext ?_) (Fin.ext ?_))
    · show (y 0).val = 0 + 1 * (y 0).val
      omega
    · show (y 1).val = 0 + 1 * (y 1).val
      omega
end Outs

variable (m : (ℓ : Loc nD τ sig) → Buf (Elt Ideal) ℓ) (c : Dev nD)

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)
theorem index8 : ∀ t : Fin cfg0.N, win0_8.index t (0 : Fin 2) = t.val ∧ win0_8.index t (1 : Fin 2) = 0 := (by decide +kernel : ∀ t : Fin grid0.N, _)

theorem pt_lt (t : Fin cfg0.N) : t.val < 2 := lt_of_lt_of_eq t.isLt (N_0 : grid0.N = 2)
abbrev rowAt (t : Fin cfg0.N) (a : Fin 256) : Fin 512 := ⟨256 * t.val + a.val, by have := pt_lt t; omega⟩

theorem x_at (x : FVec Ideal S8x64x2048 .f32) (p : Fin 512) (k : Fin 2048) :
    shapeCast S512x2048 x shapeCasts_S8x64x2048_S512x2048 (ix2 p k) = x (ix3 (SampRef.bOf p) (SampRef.tOf p) k) := by
  pointwise

theorem g_at (g : FVec Ideal S512 .f32) (b : Fin 512) : shapeCast S1x512 g shapeCasts_S512_S1x512 (ix2 0 b) = g (ix1 b) := by
  pointwise

theorem blk0 (t : Fin cfg0.N) (a : Fin 256) (k : Fin 2048) : (iblk m c 0 t : Vec Ideal S256x2048 .f32) (ix2 a k) = argX m c (ix3 (SampRef.bOf (rowAt t a)) (SampRef.tOf (rowAt t a)) k) := by
  have hi := index0 t
  unfold iblk
  rw [View.read_apply]
  show V m c main_v28 _ = _
  rw [V_x]
  have e : ((cfg0.win 0).blk t).view.emb (ix2 a k) = (ix2 (rowAt t a) k : S512x2048.Idx) := by
    funext d
    apply Fin.ext
    match d with
    | ⟨0, _⟩ => show win0_0.index _ 0 * 256 + 1 * a.val = 256 * t.val + a.val; rw [hi.1]; omega
    | ⟨1, _⟩ => show win0_0.index _ 1 * 2048 + 1 * k.val = k.val; rw [hi.2]; omega
  rw [e]
  exact x_at _ _ _

theorem blk1 (t : Fin cfg0.N) (k : Fin 2048) (j : Fin 4096) : (iblk m c 1 t : Vec Ideal S2048x4096 .bf16) (ix2 k j) = Proj.packed (argW m c) (ix2 k j) := by
  have hi := index1 t
  unfold iblk
  rw [View.read_apply]
  show V m c main_v17 _ = _
  rw [V_w]
  have e : ((cfg0.win 1).blk t).view.emb (ix2 k j) = (ix2 k j : S2048x4096.Idx) := by
    funext d
    apply Fin.ext
    match d with
    | ⟨0, _⟩ => show win0_1.index _ 0 * 2048 + 1 * k.val = k.val; rw [hi.1]; omega
    | ⟨1, _⟩ => show win0_1.index _ 1 * 4096 + 1 * j.val = j.val; rw [hi.2]; omega
  rw [e]
  rfl

theorem blk4 (t : Fin cfg0.N) (b : Fin 512) : (iblk m c 4 t : Vec Ideal S1x512 .f32) (ix2 0 b) = argG m c (ix1 b) := by
  have hi := index4 t
  unfold iblk
  rw [View.read_apply]
  show V m c main_v21 _ = _
  rw [V_g]
  have e : ((cfg0.win 4).blk t).view.emb (ix2 0 b) = (ix2 0 b : S1x512.Idx) := by
    funext d
    apply Fin.ext
    match d with
    | ⟨0, _⟩ => show win0_4.index _ 0 * 1 + 1 * 0 = 0; rw [hi.1]
    | ⟨1, _⟩ => show win0_4.index _ 1 * 512 + 1 * b.val = b.val; rw [hi.2]; omega
  rw [e]
  exact g_at _ _

theorem blk5 (t : Fin cfg0.N) (a : Fin 256) (l : Fin 128) : (iblk m c 5 t : Vec Ideal S256x128 .f32) (ix2 a l) = Host.cos ang64 (ix2 (rowAt t a) ⟨l.val % 64, by omega⟩) := by
  have hi := index5 t
  unfold iblk
  rw [View.read_apply]
  have e : ((cfg0.win 5).blk t).view.emb (ix2 a l) = (ix2 (rowAt t a) l : S512x128.Idx) := by
    funext d
    apply Fin.ext
    match d with
    | ⟨0, _⟩ => show win0_5.index _ 0 * 256 + 1 * a.val = 256 * t.val + a.val; rw [hi.1]; omega
    | ⟨1, _⟩ => show win0_5.index _ 1 * 128 + 1 * l.val = l.val; rw [hi.2]; omega
  rw [e]
  exact c128_at m c (rowAt t a) l

theorem blk6 (t : Fin cfg0.N) (a : Fin 256) (l : Fin 128) : (iblk m c 6 t : Vec Ideal S256x128 .f32) (ix2 a l) = Host.sin ang64 (ix2 (rowAt t a) ⟨l.val % 64, by omega⟩) * if l.val < 64 then -1 else 1 := by
  have hi := index6 t
  unfold iblk
  rw [View.read_apply]
  have e : ((cfg0.win 6).blk t).view.emb (ix2 a l) = (ix2 (rowAt t a) l : S512x128.Idx) := by
    funext d
    apply Fin.ext
    match d with
    | ⟨0, _⟩ => show win0_6.index _ 0 * 256 + 1 * a.val = 256 * t.val + a.val; rw [hi.1]; omega
    | ⟨1, _⟩ => show win0_6.index _ 1 * 128 + 1 * l.val = l.val; rw [hi.2]; omega
  rw [e]
  exact s128_at m c (rowAt t a) l

theorem blk7 (t : Fin cfg0.N) (a : Fin 256) (l : Fin 128) : (iblk m c 7 t : Vec Ideal S256x128 .f32) (ix2 a l) = Host.cos ang32 (ix2 (rowAt t a) ⟨l.val % 32, by omega⟩) := by
  have hi := index7 t
  unfold iblk
  rw [View.read_apply]
  have e : ((cfg0.win 7).blk t).view.emb (ix2 a l) = (ix2 (rowAt t a) l : S512x128.Idx) := by
    funext d
    apply Fin.ext
    match d with
    | ⟨0, _⟩ => show win0_7.index _ 0 * 256 + 1 * a.val = 256 * t.val + a.val; rw [hi.1]; omega
    | ⟨1, _⟩ => show win0_7.index _ 1 * 128 + 1 * l.val = l.val; rw [hi.2]; omega
  rw [e]
  exact c64_at m c (rowAt t a) l

theorem blk8 (t : Fin cfg0.N) (a : Fin 256) (l : Fin 128) : (iblk m c 8 t : Vec Ideal S256x128 .f32) (ix2 a l) = Host.sin ang32 (ix2 (rowAt t a) ⟨l.val % 32, by omega⟩) * if l.val % 64 < 32 then -1 else 1 := by
  have hi := index8 t
  unfold iblk
  rw [View.read_apply]
  have e : ((cfg0.win 8).blk t).view.emb (ix2 a l) = (ix2 (rowAt t a) l : S512x128.Idx) := by
    funext d
    apply Fin.ext
    match d with
    | ⟨0, _⟩ => show win0_8.index _ 0 * 256 + 1 * a.val = 256 * t.val + a.val; rw [hi.1]; omega
    | ⟨1, _⟩ => show win0_8.index _ 1 * 128 + 1 * l.val = l.val; rw [hi.2]; omega
  rw [e]
  exact s64_at m c (rowAt t a) l

end Cert.Proof.Samp
-- ==== Proof.SampValue.lean ====
module

public import proofs.«01_k».proof.Defs
public import proofs.«01_k».proof.Proof.SampBlocks
public import proofs.«01_k».proof.Proof.ProjValue
public import proofs.«01_k».proof.Proof.SampRef

/-! The sample's projection's five arrays are the reference's. -/

@[expose] public section
noncomputable section

namespace Cert.Proof.Samp

open Cert.Kernel4Ideal Cert.Kernel4Ideal.Gen Idealize.ShloMosaic Idealize.ShloMosaic.TcCoe Idealize.SL.Sem

/-- The five arrays as the reference computes them. -/
def ckvR (X : FVec Ideal S8x64x2048 .f32) (W : FVec Ideal S2048x3728 .f32) (G : FVec Ideal S512 .f32) : FVec Ideal S512x512 .f32 :=
  SampRef.rmsRow (extractStridedSlice Cert.Reference4Ideal.S8x64x512 ![0, 0, 512] (SampRef.prod X W) Cert.Reference4Ideal.Facts₀.slices_S8x64x3728_S8x64x512_0_0_512) G
def kpeR (X : FVec Ideal S8x64x2048 .f32) (W : FVec Ideal S2048x3728 .f32) : FVec Ideal S512x64 .f32 :=
  SampRef.turn32 (extractStridedSlice Cert.Reference4Ideal.S8x64x64 ![0, 0, 1024] (SampRef.prod X W) Cert.Reference4Ideal.Facts₀.slices_S8x64x3728_S8x64x64_0_0_1024) (Host.cos SampRef.ang32) (Host.sin SampRef.ang32)
def kdR (X : FVec Ideal S8x64x2048 .f32) (W : FVec Ideal S2048x3728 .f32) : FVec Ideal S512x256 .f32 :=
  SampRef.turn64 (extractStridedSlice Cert.Reference4Ideal.S8x64x256 ![0, 0, 2112] (SampRef.prod X W) Cert.Reference4Ideal.Facts₀.slices_S8x64x3728_S8x64x256_0_0_2112) (Host.cos SampRef.ang64) (Host.sin SampRef.ang64)
def vdR (X : FVec Ideal S8x64x2048 .f32) (W : FVec Ideal S2048x3728 .f32) : FVec Ideal S512x256 .f32 := SampRef.plain (SampRef.prod X W)
def kiR (X : FVec Ideal S8x64x2048 .f32) (W : FVec Ideal S2048x3728 .f32) : FVec Ideal S512x64 .f32 :=
  SampRef.turn32 (extractStridedSlice Cert.Reference4Ideal.S8x64x64 ![0, 0, 3648] (SampRef.prod X W) Cert.Reference4Ideal.Facts₀.slices_S8x64x3728_S8x64x64_0_0_3648) (Host.cos SampRef.ang32) (Host.sin SampRef.ang32)

section
variable (m : (ℓ : Loc nD τ sig) → Buf (Elt Ideal) ℓ) (c : Dev nD) (t : Fin cfg0.N) (a : Fin 256)

theorem colDot_of (J : ℕ) (hJ : J < 4096) (j : ℕ) (hj : j < 3728) (hp : ∀ k : Fin 2048, Proj.packed (argW m c) (ix2 k ⟨J, hJ⟩) = argW m c (ix2 k ⟨j, hj⟩)) :
    colDot (iblk m c 0 t) (iblk m c 1 t) a J hJ = SampRef.dotRow (argX m c) (argW m c) (rowAt t a) j hj :=
  Finset.sum_congr rfl fun k _ => congrArg₂ (fun u v : EReal => u * v) (blk0 m c t a k) ((blk1 m c t k ⟨J, hJ⟩).trans (hp k))

theorem block9 (b : Fin 512) : out0_9 (iblk m c 0 t) (iblk m c 1 t) (iblk m c 2 t) (iblk m c 3 t) (iblk m c 4 t) (iblk m c 5 t) (iblk m c 6 t) (iblk m c 7 t) (iblk m c 8 t) (ix2 a b) = ckvR (argX m c) (argW m c) (argG m c) (ix2 (rowAt t a) b) := by
  have h : (fun y : Fin 512 => colDot (iblk m c 0 t) (iblk m c 1 t) a (512 + y.val) (by omega))
      = fun y => SampRef.dotRow (argX m c) (argW m c) (rowAt t a) (512 + y.val) (by omega) :=
    funext fun y => colDot_of m c t a _ _ _ _ fun k => Proj.packed_ckv (argW m c) k y _ rfl
  rw [out9_at, h, blk4, rms]
  exact (SampRef.ckv_row (argX m c) (argW m c) (argG m c) (rowAt t a) b).symm

theorem block12 (b : Fin 256) : out0_12 (iblk m c 0 t) (iblk m c 1 t) (iblk m c 2 t) (iblk m c 3 t) (iblk m c 4 t) (iblk m c 5 t) (iblk m c 6 t) (iblk m c 7 t) (iblk m c 8 t) (ix2 a b) = vdR (argX m c) (argW m c) (ix2 (rowAt t a) b) := by
  rw [out12_at]
  exact (colDot_of m c t a _ _ _ _ fun k => Proj.packed_vd (argW m c) k b _ rfl).trans (SampRef.vd_row (argX m c) (argW m c) (rowAt t a) b).symm

theorem block10 (l : Fin 64) : out0_10 (iblk m c 0 t) (iblk m c 1 t) (iblk m c 2 t) (iblk m c 3 t) (iblk m c 4 t) (iblk m c 5 t) (iblk m c 6 t) (iblk m c 7 t) (iblk m c 8 t) (ix2 a l) = kpeR (argX m c) (argW m c) (ix2 (rowAt t a) l) := by
  rw [out10_at, blk7, blk8, cos32_same, sin32_same]
  refine Eq.trans ?_ (SampRef.kpe_row (argX m c) (argW m c) (Host.cos SampRef.ang32) (Host.sin SampRef.ang32) (rowAt t a) l).symm
  have h1 : colDot (iblk m c 0 t) (iblk m c 1 t) a (3584 + l.val) (by omega) = SampRef.dotRow (argX m c) (argW m c) (rowAt t a) (1024 + l.val) (by omega) :=
    colDot_of m c t a _ _ _ _ fun k => Proj.packed_kpe (argW m c) k l _ (by dsimp only)
  by_cases h : l.val < 32
  · have h2 : colDot (iblk m c 0 t) (iblk m c 1 t) a (3584 + if l.val < 32 then l.val + 32 else l.val - 32) (by split <;> omega)
        = SampRef.dotRow (argX m c) (argW m c) (rowAt t a) (1024 + (32 + l.val)) (by omega) :=
      colDot_of m c t a _ _ _ _ fun k => Proj.packed_kpe (argW m c) k ⟨32 + l.val, by omega⟩ _ (by dsimp only; rw [if_pos h]; omega)
    have h3 : l.val % 64 < 32 := by omega
    have h4 : (⟨l.val % 32, by omega⟩ : Fin 32) = ⟨l.val, h⟩ := Fin.ext (by dsimp only; omega)
    rw [dif_pos h, h1, h2, if_pos h3, h4, Proj.turn_neg]
  · have h2 : colDot (iblk m c 0 t) (iblk m c 1 t) a (3584 + if l.val < 32 then l.val + 32 else l.val - 32) (by split <;> omega)
        = SampRef.dotRow (argX m c) (argW m c) (rowAt t a) (1024 + (l.val - 32)) (by omega) :=
      colDot_of m c t a _ _ _ _ fun k => Proj.packed_kpe (argW m c) k ⟨l.val - 32, by omega⟩ _ (by dsimp only; rw [if_neg h])
    have h3 : ¬ l.val % 64 < 32 := by omega
    have h4 : (⟨l.val % 32, by omega⟩ : Fin 32) = ⟨l.val - 32, by omega⟩ := Fin.ext (by dsimp only; omega)
    rw [dif_neg h, h1, h2, if_neg h3, h4, Proj.turn_pos]

theorem block13 (l : Fin 64) : out0_13 (iblk m c 0 t) (iblk m c 1 t) (iblk m c 2 t) (iblk m c 3 t) (iblk m c 4 t) (iblk m c 5 t) (iblk m c 6 t) (iblk m c 7 t) (iblk m c 8 t) (ix2 a l) = kiR (argX m c) (argW m c) (ix2 (rowAt t a) l) := by
  rw [out13_at, blk7, blk8, cos32_same, sin32_same]
  refine Eq.trans ?_ (SampRef.ki_row (argX m c) (argW m c) (Host.cos SampRef.ang32) (Host.sin SampRef.ang32) (rowAt t a) l).symm
  have h1 : colDot (iblk m c 0 t) (iblk m c 1 t) a (3584 + (l.val + 128)) (by omega) = SampRef.dotRow (argX m c) (argW m c) (rowAt t a) (3648 + l.val) (by omega) :=
    colDot_of m c t a _ _ _ _ fun k => Proj.packed_ki (argW m c) k l _ (by dsimp only; omega)
  by_cases h : l.val < 32
  · have h2 : colDot (iblk m c 0 t) (iblk m c 1 t) a (3584 + ((if l.val < 32 then l.val + 32 else l.val - 32) + 128)) (by split <;> omega)
        = SampRef.dotRow (argX m c) (argW m c) (rowAt t a) (3648 + (32 + l.val)) (by omega) :=
      colDot_of m c t a _ _ _ _ fun k => Proj.packed_ki (argW m c) k ⟨32 + l.val, by omega⟩ _ (by dsimp only; rw [if_pos h]; omega)
    have h3 : l.val % 64 < 32 := by omega
    have h4 : (⟨l.val % 32, by omega⟩ : Fin 32) = ⟨l.val, h⟩ := Fin.ext (by dsimp only; omega)
    rw [dif_pos h, h1, h2, if_pos h3, h4, Proj.turn_neg]
  · have h2 : colDot (iblk m c 0 t) (iblk m c 1 t) a (3584 + ((if l.val < 32 then l.val + 32 else l.val - 32) + 128)) (by split <;> omega)
        = SampRef.dotRow (argX m c) (argW m c) (rowAt t a) (3648 + (l.val - 32)) (by omega) :=
      colDot_of m c t a _ _ _ _ fun k => Proj.packed_ki (argW m c) k ⟨l.val - 32, by omega⟩ _ (by dsimp only; rw [if_neg h]; omega)
    have h3 : ¬ l.val % 64 < 32 := by omega
    have h4 : (⟨l.val % 32, by omega⟩ : Fin 32) = ⟨l.val - 32, by omega⟩ := Fin.ext (by dsimp only; omega)
    rw [dif_neg h, h1, h2, if_neg h3, h4, Proj.turn_pos]

theorem block11 (j : Fin 256) : out0_11 (iblk m c 0 t) (iblk m c 1 t) (iblk m c 2 t) (iblk m c 3 t) (iblk m c 4 t) (iblk m c 5 t) (iblk m c 6 t) (iblk m c 7 t) (iblk m c 8 t) (ix2 a j) = kdR (argX m c) (argW m c) (ix2 (rowAt t a) j) := by
  rw [out11_at, kdG, blk5, blk6, cos64_same, sin64_same]
  refine Eq.trans ?_ (SampRef.kd_row (argX m c) (argW m c) (Host.cos SampRef.ang64) (Host.sin SampRef.ang64) (rowAt t a) j).symm
  have h1 : colDot (iblk m c 0 t) (iblk m c 1 t) a (2048 + j.val) (by omega) = SampRef.dotRow (argX m c) (argW m c) (rowAt t a) (2112 + j.val) (by omega) :=
    colDot_of m c t a _ _ _ _ fun k => Proj.packed_kd (argW m c) k j _ rfl
  by_cases h : j.val % 128 < 64
  · have h2 : colDot (iblk m c 0 t) (iblk m c 1 t) a (2048 + (j.val / 128 * 128 + (j.val % 128 + 64) % 128)) (by omega)
        = SampRef.dotRow (argX m c) (argW m c) (rowAt t a) (2112 + (j.val + 64)) (by omega) :=
      colDot_of m c t a _ _ _ _ fun k => Proj.packed_kd (argW m c) k ⟨j.val + 64, by omega⟩ _ (by dsimp only; omega)
    have h4 : (⟨j.val % 128 % 64, by omega⟩ : Fin 64) = ⟨j.val % 128, h⟩ := Fin.ext (by dsimp only; omega)
    rw [dif_pos h, h1, h2, if_pos h, h4, Proj.turn_neg]
  · have h2 : colDot (iblk m c 0 t) (iblk m c 1 t) a (2048 + (j.val / 128 * 128 + (j.val % 128 + 64) % 128)) (by omega)
        = SampRef.dotRow (argX m c) (argW m c) (rowAt t a) (2112 + (j.val - 64)) (by omega) :=
      colDot_of m c t a _ _ _ _ fun k => Proj.packed_kd (argW m c) k ⟨j.val - 64, by omega⟩ _ (by dsimp only; omega)
    have h4 : (⟨j.val % 128 % 64, by omega⟩ : Fin 64) = ⟨j.val % 128 - 64, by omega⟩ := Fin.ext (by dsimp only; omega)
    rw [dif_neg h, h1, h2, if_neg h, h4, Proj.turn_pos]
end

variable (m : (ℓ : Loc nD τ sig) → Buf (Elt Ideal) ℓ) (c : Dev nD)

theorem index9 : ∀ t : Fin cfg0.N, win0_9.index t (0 : Fin 2) = t.val ∧ win0_9.index t (1 : Fin 2) = 0 := (by decide +kernel : ∀ t : Fin grid0.N, _)

def res9 : Buf (Elt Ideal) ((c.tc : Thread nD τ).loc main_v81_0) := ckvR (argX m c) (argW m c) (argG m c)

theorem block9_all (t : Fin cfg0.N) (y : S256x512.Idx) : out0_9 (iblk m c 0 t) (iblk m c 1 t) (iblk m c 2 t) (iblk m c 3 t) (iblk m c 4 t) (iblk m c 5 t) (iblk m c 6 t) (iblk m c 7 t) (iblk m c 8 t) y = ckvR (argX m c) (argW m c) (argG m c) (ix2 (rowAt t (y 0)) (y 1)) :=
  (congrArg _ (eq_ix2 y)).trans (block9 m c t (y 0) (y 1))

theorem flushed9 (t : Fin cfg0.N) (_ : (cfg0.win 9).flush t = true) :
    (dats m 0 c).flushed 9 t = ((cfg0.win 9).blk t).view.read (Elt Ideal) (res9 m c) := by
  show (cfg0.win 9).cut (grid0.coords t) ((dats m 0 c).after 9 t) = _
  obtain ⟨e0, e1⟩ := index9 t
  rw [after0_9]
  funext y
  have hb0 : (((cfg0.win 9).blk t).view.emb y 0).val = win0_9.index t (0 : Fin 2) * 256 + 1 * (y 0).val := rfl
  have hb1 : (((cfg0.win 9).blk t).view.emb y 1).val = win0_9.index t (1 : Fin 2) * 512 + 1 * (y 1).val := rfl
  refine (block9_all m c t ((cfg0.win 9).xinj (grid0.coords t) y)).trans ?_
  have hread (f : Buf (Elt Ideal) ((c.tc : Thread nD τ).loc main_v81_0)) :
      ((cfg0.win 9).blk t).view.read (Elt Ideal) f y = f (((cfg0.win 9).blk t).view.emb y) := rfl
  rw [hread]
  refine congrArg (res9 m c) ?_
  funext d
  apply Fin.ext
  match d with
  | ⟨0, _⟩ => refine Eq.trans ?_ hb0.symm; rw [e0]; show 256 * t.val + (y 0).val = _; omega
  | ⟨1, _⟩ => refine Eq.trans ?_ hb1.symm; rw [e1]; show (y 1).val = _; omega

omit c m in
theorem mem9 (t : Fin cfg0.N) (i : S512x512.Idx) :
    i ∈ ((cfg0.win 9).blk t).view.set ↔ ∀ a : Fin 2, win0_9.index t a * S256x512.size a ≤ (i a).val ∧ (i a).val < win0_9.index t a * S256x512.size a + S256x512.size a := by
  show i ∈ ((View.whole main_v81_0).slice (win0_9.rect t)).set ↔ _
  rw [View.set_slice_whole, Rect.mem_set_unit]
  exact Iff.rfl

omit c m in
theorem covered9 (i : S512x512.Idx) : ∃ t : Fin cfg0.N, (cfg0.win 9).flush t = true ∧ i ∈ ((cfg0.win 9).blk t).view.set := by
  have hi0 : (i 0).val < 512 := (i 0).isLt
  have hi1 : (i 1).val < 512 := (i 1).isLt
  refine ⟨⟨(i 0).val / 256, lt_of_lt_of_eq (by omega) (N_0 : grid0.N = 2).symm⟩, flush0_9 _, ?_⟩
  obtain ⟨e0, e1⟩ := index9 ⟨(i 0).val / 256, lt_of_lt_of_eq (by omega) (N_0 : grid0.N = 2).symm⟩
  dsimp only at e0 e1
  rw [mem9]
  intro a
  match a with
  | ⟨0, _⟩ => show win0_9.index _ (0 : Fin 2) * 256 ≤ (i 0).val ∧ (i 0).val < win0_9.index _ (0 : Fin 2) * 256 + 256; omega
  | ⟨1, _⟩ => show win0_9.index _ (1 : Fin 2) * 512 ≤ (i 1).val ∧ (i 1).val < win0_9.index _ (1 : Fin 2) * 512 + 512; omega

theorem final9 : (dats m 0 c).arrAt 9 cfg0.N = res9 m c :=
  (dats m 0 c).arrAt_eq_of_cover 9 _ (fun t hf => flushed9 m c t hf) covered9

theorem index10 : ∀ t : Fin cfg0.N, win0_10.index t (0 : Fin 2) = t.val ∧ win0_10.index t (1 : Fin 2) = 0 := (by decide +kernel : ∀ t : Fin grid0.N, _)

def res10 : Buf (Elt Ideal) ((c.tc : Thread nD τ).loc main_v81_1) := kpeR (argX m c) (argW m c)

theorem block10_all (t : Fin cfg0.N) (y : S256x64.Idx) : out0_10 (iblk m c 0 t) (iblk m c 1 t) (iblk m c 2 t) (iblk m c 3 t) (iblk m c 4 t) (iblk m c 5 t) (iblk m c 6 t) (iblk m c 7 t) (iblk m c 8 t) y = kpeR (argX m c) (argW m c) (ix2 (rowAt t (y 0)) (y 1)) :=
  (congrArg _ (eq_ix2 y)).trans (block10 m c t (y 0) (y 1))

theorem flushed10 (t : Fin cfg0.N) (_ : (cfg0.win 10).flush t = true) :
    (dats m 0 c).flushed 10 t = ((cfg0.win 10).blk t).view.read (Elt Ideal) (res10 m c) := by
  show (cfg0.win 10).cut (grid0.coords t) ((dats m 0 c).after 10 t) = _
  obtain ⟨e0, e1⟩ := index10 t
  rw [after0_10]
  funext y
  have hb0 : (((cfg0.win 10).blk t).view.emb y 0).val = win0_10.index t (0 : Fin 2) * 256 + 1 * (y 0).val := rfl
  have hb1 : (((cfg0.win 10).blk t).view.emb y 1).val = win0_10.index t (1 : Fin 2) * 64 + 1 * (y 1).val := rfl
  refine (block10_all m c t ((cfg0.win 10).xinj (grid0.coords t) y)).trans ?_
  have hread (f : Buf (Elt Ideal) ((c.tc : Thread nD τ).loc main_v81_1)) :
      ((cfg0.win 10).blk t).view.read (Elt Ideal) f y = f (((cfg0.win 10).blk t).view.emb y) := rfl
  rw [hread]
  refine congrArg (res10 m c) ?_
  funext d
  apply Fin.ext
  match d with
  | ⟨0, _⟩ => refine Eq.trans ?_ hb0.symm; rw [e0]; show 256 * t.val + (y 0).val = _; omega
  | ⟨1, _⟩ => refine Eq.trans ?_ hb1.symm; rw [e1]; show (y 1).val = _; omega

omit c m in
theorem mem10 (t : Fin cfg0.N) (i : S512x64.Idx) :
    i ∈ ((cfg0.win 10).blk t).view.set ↔ ∀ a : Fin 2, win0_10.index t a * S256x64.size a ≤ (i a).val ∧ (i a).val < win0_10.index t a * S256x64.size a + S256x64.size a := by
  show i ∈ ((View.whole main_v81_1).slice (win0_10.rect t)).set ↔ _
  rw [View.set_slice_whole, Rect.mem_set_unit]
  exact Iff.rfl

omit c m in
theorem covered10 (i : S512x64.Idx) : ∃ t : Fin cfg0.N, (cfg0.win 10).flush t = true ∧ i ∈ ((cfg0.win 10).blk t).view.set := by
  have hi0 : (i 0).val < 512 := (i 0).isLt
  have hi1 : (i 1).val < 64 := (i 1).isLt
  refine ⟨⟨(i 0).val / 256, lt_of_lt_of_eq (by omega) (N_0 : grid0.N = 2).symm⟩, flush0_10 _, ?_⟩
  obtain ⟨e0, e1⟩ := index10 ⟨(i 0).val / 256, lt_of_lt_of_eq (by omega) (N_0 : grid0.N = 2).symm⟩
  dsimp only at e0 e1
  rw [mem10]
  intro a
  match a with
  | ⟨0, _⟩ => show win0_10.index _ (0 : Fin 2) * 256 ≤ (i 0).val ∧ (i 0).val < win0_10.index _ (0 : Fin 2) * 256 + 256; omega
  | ⟨1, _⟩ => show win0_10.index _ (1 : Fin 2) * 64 ≤ (i 1).val ∧ (i 1).val < win0_10.index _ (1 : Fin 2) * 64 + 64; omega

theorem final10 : (dats m 0 c).arrAt 10 cfg0.N = res10 m c :=
  (dats m 0 c).arrAt_eq_of_cover 10 _ (fun t hf => flushed10 m c t hf) covered10

theorem index11 : ∀ t : Fin cfg0.N, win0_11.index t (0 : Fin 2) = t.val ∧ win0_11.index t (1 : Fin 2) = 0 := (by decide +kernel : ∀ t : Fin grid0.N, _)

def res11 : Buf (Elt Ideal) ((c.tc : Thread nD τ).loc main_v81_2) := kdR (argX m c) (argW m c)

theorem block11_all (t : Fin cfg0.N) (y : S256x256.Idx) : out0_11 (iblk m c 0 t) (iblk m c 1 t) (iblk m c 2 t) (iblk m c 3 t) (iblk m c 4 t) (iblk m c 5 t) (iblk m c 6 t) (iblk m c 7 t) (iblk m c 8 t) y = kdR (argX m c) (argW m c) (ix2 (rowAt t (y 0)) (y 1)) :=
  (congrArg _ (eq_ix2 y)).trans (block11 m c t (y 0) (y 1))

theorem flushed11 (t : Fin cfg0.N) (_ : (cfg0.win 11).flush t = true) :
    (dats m 0 c).flushed 11 t = ((cfg0.win 11).blk t).view.read (Elt Ideal) (res11 m c) := by
  show (cfg0.win 11).cut (grid0.coords t) ((dats m 0 c).after 11 t) = _
  obtain ⟨e0, e1⟩ := index11 t
  rw [after0_11]
  funext y
  have hb0 : (((cfg0.win 11).blk t).view.emb y 0).val = win0_11.index t (0 : Fin 2) * 256 + 1 * (y 0).val := rfl
  have hb1 : (((cfg0.win 11).blk t).view.emb y 1).val = win0_11.index t (1 : Fin 2) * 256 + 1 * (y 1).val := rfl
  refine (block11_all m c t ((cfg0.win 11).xinj (grid0.coords t) y)).trans ?_
  have hread (f : Buf (Elt Ideal) ((c.tc : Thread nD τ).loc main_v81_2)) :
      ((cfg0.win 11).blk t).view.read (Elt Ideal) f y = f (((cfg0.win 11).blk t).view.emb y) := rfl
  rw [hread]
  refine congrArg (res11 m c) ?_
  funext d
  apply Fin.ext
  match d with
  | ⟨0, _⟩ => refine Eq.trans ?_ hb0.symm; rw [e0]; show 256 * t.val + (y 0).val = _; omega
  | ⟨1, _⟩ => refine Eq.trans ?_ hb1.symm; rw [e1]; show (y 1).val = _; omega

omit c m in
theorem mem11 (t : Fin cfg0.N) (i : S512x256.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v81_2).slice (win0_11.rect t)).set ↔ _
  rw [View.set_slice_whole, Rect.mem_set_unit]
  exact Iff.rfl

omit c m in
theorem covered11 (i : S512x256.Idx) : ∃ t : Fin cfg0.N, (cfg0.win 11).flush t = true ∧ i ∈ ((cfg0.win 11).blk t).view.set := by
  have hi0 : (i 0).val < 512 := (i 0).isLt
  have hi1 : (i 1).val < 256 := (i 1).isLt
  refine ⟨⟨(i 0).val / 256, lt_of_lt_of_eq (by omega) (N_0 : grid0.N = 2).symm⟩, flush0_11 _, ?_⟩
  obtain ⟨e0, e1⟩ := index11 ⟨(i 0).val / 256, lt_of_lt_of_eq (by omega) (N_0 : grid0.N = 2).symm⟩
  dsimp only at e0 e1
  rw [mem11]
  intro a
  match a with
  | ⟨0, _⟩ => show win0_11.index _ (0 : Fin 2) * 256 ≤ (i 0).val ∧ (i 0).val < win0_11.index _ (0 : Fin 2) * 256 + 256; omega
  | ⟨1, _⟩ => show win0_11.index _ (1 : Fin 2) * 256 ≤ (i 1).val ∧ (i 1).val < win0_11.index _ (1 : Fin 2) * 256 + 256; omega

theorem final11 : (dats m 0 c).arrAt 11 cfg0.N = res11 m c :=
  (dats m 0 c).arrAt_eq_of_cover 11 _ (fun t hf => flushed11 m c t hf) covered11

theorem index12 : ∀ t : Fin cfg0.N, win0_12.index t (0 : Fin 2) = t.val ∧ win0_12.index t (1 : Fin 2) = 0 := (by decide +kernel : ∀ t : Fin grid0.N, _)

def res12 : Buf (Elt Ideal) ((c.tc : Thread nD τ).loc main_v81_3) := vdR (argX m c) (argW m c)

theorem block12_all (t : Fin cfg0.N) (y : S256x256.Idx) : out0_12 (iblk m c 0 t) (iblk m c 1 t) (iblk m c 2 t) (iblk m c 3 t) (iblk m c 4 t) (iblk m c 5 t) (iblk m c 6 t) (iblk m c 7 t) (iblk m c 8 t) y = vdR (argX m c) (argW m c) (ix2 (rowAt t (y 0)) (y 1)) :=
  (congrArg _ (eq_ix2 y)).trans (block12 m c t (y 0) (y 1))

theorem flushed12 (t : Fin cfg0.N) (_ : (cfg0.win 12).flush t = true) :
    (dats m 0 c).flushed 12 t = ((cfg0.win 12).blk t).view.read (Elt Ideal) (res12 m c) := by
  show (cfg0.win 12).cut (grid0.coords t) ((dats m 0 c).after 12 t) = _
  obtain ⟨e0, e1⟩ := index12 t
  rw [after0_12]
  funext y
  have hb0 : (((cfg0.win 12).blk t).view.emb y 0).val = win0_12.index t (0 : Fin 2) * 256 + 1 * (y 0).val := rfl
  have hb1 : (((cfg0.win 12).blk t).view.emb y 1).val = win0_12.index t (1 : Fin 2) * 256 + 1 * (y 1).val := rfl
  refine (block12_all m c t ((cfg0.win 12).xinj (grid0.coords t) y)).trans ?_
  have hread (f : Buf (Elt Ideal) ((c.tc : Thread nD τ).loc main_v81_3)) :
      ((cfg0.win 12).blk t).view.read (Elt Ideal) f y = f (((cfg0.win 12).blk t).view.emb y) := rfl
  rw [hread]
  refine congrArg (res12 m c) ?_
  funext d
  apply Fin.ext
  match d with
  | ⟨0, _⟩ => refine Eq.trans ?_ hb0.symm; rw [e0]; show 256 * t.val + (y 0).val = _; omega
  | ⟨1, _⟩ => refine Eq.trans ?_ hb1.symm; rw [e1]; show (y 1).val = _; omega

omit c m in
theorem mem12 (t : Fin cfg0.N) (i : S512x256.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v81_3).slice (win0_12.rect t)).set ↔ _
  rw [View.set_slice_whole, Rect.mem_set_unit]
  exact Iff.rfl

omit c m in
theorem covered12 (i : S512x256.Idx) : ∃ t : Fin cfg0.N, (cfg0.win 12).flush t = true ∧ i ∈ ((cfg0.win 12).blk t).view.set := by
  have hi0 : (i 0).val < 512 := (i 0).isLt
  have hi1 : (i 1).val < 256 := (i 1).isLt
  refine ⟨⟨(i 0).val / 256, lt_of_lt_of_eq (by omega) (N_0 : grid0.N = 2).symm⟩, flush0_12 _, ?_⟩
  obtain ⟨e0, e1⟩ := index12 ⟨(i 0).val / 256, lt_of_lt_of_eq (by omega) (N_0 : grid0.N = 2).symm⟩
  dsimp only at e0 e1
  rw [mem12]
  intro a
  match a with
  | ⟨0, _⟩ => show win0_12.index _ (0 : Fin 2) * 256 ≤ (i 0).val ∧ (i 0).val < win0_12.index _ (0 : Fin 2) * 256 + 256; omega
  | ⟨1, _⟩ => show win0_12.index _ (1 : Fin 2) * 256 ≤ (i 1).val ∧ (i 1).val < win0_12.index _ (1 : Fin 2) * 256 + 256; omega

theorem final12 : (dats m 0 c).arrAt 12 cfg0.N = res12 m c :=
  (dats m 0 c).arrAt_eq_of_cover 12 _ (fun t hf => flushed12 m c t hf) covered12

theorem index13 : ∀ t : Fin cfg0.N, win0_13.index t (0 : Fin 2) = t.val ∧ win0_13.index t (1 : Fin 2) = 0 := (by decide +kernel : ∀ t : Fin grid0.N, _)

def res13 : Buf (Elt Ideal) ((c.tc : Thread nD τ).loc main_v81_4) := kiR (argX m c) (argW m c)

theorem block13_all (t : Fin cfg0.N) (y : S256x64.Idx) : out0_13 (iblk m c 0 t) (iblk m c 1 t) (iblk m c 2 t) (iblk m c 3 t) (iblk m c 4 t) (iblk m c 5 t) (iblk m c 6 t) (iblk m c 7 t) (iblk m c 8 t) y = kiR (argX m c) (argW m c) (ix2 (rowAt t (y 0)) (y 1)) :=
  (congrArg _ (eq_ix2 y)).trans (block13 m c t (y 0) (y 1))

theorem flushed13 (t : Fin cfg0.N) (_ : (cfg0.win 13).flush t = true) :
    (dats m 0 c).flushed 13 t = ((cfg0.win 13).blk t).view.read (Elt Ideal) (res13 m c) := by
  show (cfg0.win 13).cut (grid0.coords t) ((dats m 0 c).after 13 t) = _
  obtain ⟨e0, e1⟩ := index13 t
  rw [after0_13]
  funext y
  have hb0 : (((cfg0.win 13).blk t).view.emb y 0).val = win0_13.index t (0 : Fin 2) * 256 + 1 * (y 0).val := rfl
  have hb1 : (((cfg0.win 13).blk t).view.emb y 1).val = win0_13.index t (1 : Fin 2) * 64 + 1 * (y 1).val := rfl
  refine (block13_all m c t ((cfg0.win 13).xinj (grid0.coords t) y)).trans ?_
  have hread (f : Buf (Elt Ideal) ((c.tc : Thread nD τ).loc main_v81_4)) :
      ((cfg0.win 13).blk t).view.read (Elt Ideal) f y = f (((cfg0.win 13).blk t).view.emb y) := rfl
  rw [hread]
  refine congrArg (res13 m c) ?_
  funext d
  apply Fin.ext
  match d with
  | ⟨0, _⟩ => refine Eq.trans ?_ hb0.symm; rw [e0]; show 256 * t.val + (y 0).val = _; omega
  | ⟨1, _⟩ => refine Eq.trans ?_ hb1.symm; rw [e1]; show (y 1).val = _; omega

omit c m in
theorem mem13 (t : Fin cfg0.N) (i : S512x64.Idx) :
    i ∈ ((cfg0.win 13).blk t).view.set ↔ ∀ a : Fin 2, win0_13.index t a * S256x64.size a ≤ (i a).val ∧ (i a).val < win0_13.index t a * S256x64.size a + S256x64.size a := by
  show i ∈ ((View.whole main_v81_4).slice (win0_13.rect t)).set ↔ _
  rw [View.set_slice_whole, Rect.mem_set_unit]
  exact Iff.rfl

omit c m in
theorem covered13 (i : S512x64.Idx) : ∃ t : Fin cfg0.N, (cfg0.win 13).flush t = true ∧ i ∈ ((cfg0.win 13).blk t).view.set := by
  have hi0 : (i 0).val < 512 := (i 0).isLt
  have hi1 : (i 1).val < 64 := (i 1).isLt
  refine ⟨⟨(i 0).val / 256, lt_of_lt_of_eq (by omega) (N_0 : grid0.N = 2).symm⟩, flush0_13 _, ?_⟩
  obtain ⟨e0, e1⟩ := index13 ⟨(i 0).val / 256, lt_of_lt_of_eq (by omega) (N_0 : grid0.N = 2).symm⟩
  dsimp only at e0 e1
  rw [mem13]
  intro a
  match a with
  | ⟨0, _⟩ => show win0_13.index _ (0 : Fin 2) * 256 ≤ (i 0).val ∧ (i 0).val < win0_13.index _ (0 : Fin 2) * 256 + 256; omega
  | ⟨1, _⟩ => show win0_13.index _ (1 : Fin 2) * 64 ≤ (i 1).val ∧ (i 1).val < win0_13.index _ (1 : Fin 2) * 64 + 64; omega

theorem final13 : (dats m 0 c).arrAt 13 cfg0.N = res13 m c :=
  (dats m 0 c).arrAt_eq_of_cover 13 _ (fun t hf => flushed13 m c t hf) covered13

set_option maxHeartbeats 16000000 in
theorem algebraic : Cert.algebraic_Kernel4Ideal_Reference4Ideal := by
  intro m g m' g' _ hm
  refine ⟨fun c => res9 m c, fun c => res10 m c, fun c => res11 m c, fun c => res12 m c, fun c => res13 m c, ?_, ?_⟩
  · refine (θ_run defs _ _).mono (fun r h c => ?_) (θ_run_and (run_main m g) (unchanged m g))
    exact ⟨((h.1 c).1 9).trans (final9 m c), ((h.1 c).1 10).trans (final10 m c), ((h.1 c).1 11).trans (final11 m c),
      ((h.1 c).1 12).trans (final12 m c), ((h.1 c).1 13).trans (final13 m c), h.2 c⟩
  · refine (θ_run Cert.Reference4Ideal.defs _ _).mono (fun r h c => ?_) (Cert.Reference4Ideal.Value.run m' g')
    obtain ⟨e0, e1, e2, e3, e4⟩ := hm c
    obtain ⟨h0, h1, h2, h3, h4, h5⟩ := h c
    have a0 : SampRef.argX m' c = argX m c := e0
    have a1 : SampRef.argW m' c = argW m c := e1
    have a4 : SampRef.argG m' c = argG m c := e4
    refine ⟨h0.trans ?_, h1.trans ?_, h2.trans ?_, h3.trans ?_, h4.trans ?_, h5⟩
    · show ckvR (SampRef.argX m' c) (SampRef.argW m' c) (SampRef.argG m' c) = ckvR (argX m c) (argW m c) (argG m c)
      rw [a0, a1, a4]
    · refine (SampRef.kpe_eq m' c).trans ?_
      show kpeR (SampRef.argX m' c) (SampRef.argW m' c) = kpeR (argX m c) (argW m c)
      rw [a0, a1]
    · refine (SampRef.kd_eq m' c).trans ?_
      show kdR (SampRef.argX m' c) (SampRef.argW m' c) = kdR (argX m c) (argW m c)
      rw [a0, a1]
    · show vdR (SampRef.argX m' c) (SampRef.argW m' c) = vdR (argX m c) (argW m c)
      rw [a0, a1]
    · refine (SampRef.ki_eq m' c).trans ?_
      show kiR (SampRef.argX m' c) (SampRef.argW m' c) = kiR (argX m c) (argW m c)
      rw [a0, a1]

end Cert.Proof.Samp
-- ==== Proof.SampFfnFrames.lean ====
/- The frames of the sample's feed-forward programs. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run

@[expose] public section
namespace Cert.Proof.SampFfn
open Idealize.ShloMosaic Idealize.ShloMosaic.TcCoe

theorem preserves_kernel : Cert.preserves_Kernel5_Kernel5Ideal := trivial
theorem frame_kernel : Cert.quiescent_Kernel5 := fun m ρ _ => Cert.Kernel5.Gen.frame m ρ
theorem frame_kernelIdeal : Cert.quiescent_Kernel5Ideal := fun m ρ _ => Cert.Kernel5Ideal.Gen.frame m ρ

theorem frame_referenceIdeal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Proof.SampFfn
-- ==== Proof.SampFfnState.lean ====
module

public import proofs.«01_k».proof.Proof.Gen.Kernel5Ideal.Value

/-! The sample's feed-forward kernel's points: what each leaves in the rounded rows, in the accumulator and in the output block. -/

@[expose] public section
noncomputable section

namespace Cert.Proof.SampFfn

open Cert.Kernel5Ideal Cert.Kernel5Ideal.Gen Idealize.ShloMosaic Idealize.ShloMosaic.TcCoe Idealize.SL.Sem

variable {F : FTy → Type} [FloatOps F]

theorem off0 : (![0, 0] : Fin 2 → Nat) = fun _ => 0 := funext fun a => by fin_cases a <;> rfl

section Cases
variable (c : Dev nD) (i : grid0.Coords) (a2 : Memref sig .tc .vmem S512x2048 .f32) (h2 : a2.IsWhole) (a3 : Memref sig .tc .vmem S2048x512 .bf16) (h3 : a3.IsWhole) (a4 : Memref sig .tc .vmem S2048x512 .bf16) (h4 : a4.IsWhole) (a5 : Memref sig .tc .vmem S512x2048 .bf16) (h5 : a5.IsWhole) (a6 : Memref sig .tc .vmem S1x2048 .f32) (h6 : a6.IsWhole) (a7 : Memref sig .tc .vmem S1x2048 .f32) (h7 : a7.IsWhole) (a8 : Memref sig .tc .vmem S512x2048 .f32) (h8 : a8.IsWhole) (a9 : Memref sig .tc .vmem S512x2048 .bf16) (h9 : a9.IsWhole) (a10 : Memref sig .tc .vmem S512x2048 .f32) (h10 : a10.IsWhole)
  (x0 : Vec F S512x2048 .f32) (x1 : Vec F S2048x512 .bf16) (x2 : Vec F S2048x512 .bf16) (x3 : Vec F S512x2048 .bf16) (x4 x5 : Vec F S1x2048 .f32)

/-- The first point of a row block rounds the rows, -/
theorem first_rows (hc0 : cond0_0 i) (hc1 : ¬cond0_1 i) : sout0_A_0 c i a2 h2 a3 h3 a4 h4 a5 h5 a6 h6 a7 h7 a8 h8 a9 h9 a10 h10 hc0 hc1 x0 x1 x2 x3 x4 x5 = k0_pay1 x0 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5)]
  unfold kernelRun0_A
  dsimp only
  sl_unfold_words
  simp only [View.canon_cons_unit_zero (S := S512x2048) off0, View.readAt_eq_ld, h2.read_unread, View.ld_unit_zero (S := S512x2048) off0]

/-- and starts the accumulator at the zeros. -/
theorem first_acc (hc0 : cond0_0 i) (hc1 : ¬cond0_1 i) : sout0_A_1 c i a2 h2 a3 h3 a4 h4 a5 h5 a6 h6 a7 h7 a8 h8 a9 h9 a10 h10 hc0 hc1 x0 x1 x2 x3 x4 x5 = k0_pay3 (k0_pay1 x0) x1 x2 k0_pay2 x3 := by
  unfold sout0_A_1
  rw [View.read_writes_eq_canon _ _ _ (scover0_A_1 c i a2 h2 a3 h3 a4 h4 a5 h5 a6 h6 a7 h7 a8 h8 a9 h9 a10 h10 hc0 hc1 x0 x1 x2 x3 x4 x5)]
  unfold kernelRun0_A
  dsimp only
  sl_unfold_words
  simp only [View.canon_cons_unit_zero (S := S512x2048) off0, View.readCov_unit_zero (S := S512x2048) _ off0, View.readAt_eq_ld, h2.read_unread, h3.read_unread, h4.read_unread, h5.read_unread,
    View.ld_unit_zero (S := S512x2048) off0, View.ld_unit_zero (S := S2048x512) off0]

variable (xs0 : Vec F S512x2048 .bf16) (xs1 : Vec F S512x2048 .f32)

/-- A middle point adds its columns. -/
theorem mid_acc (hc0 : ¬cond0_0 i) (hc1 : ¬cond0_1 i) : sout0_B_1 c i a2 h2 a3 h3 a4 h4 a5 h5 a6 h6 a7 h7 a8 h8 a9 h9 a10 h10 hc0 hc1 x0 x1 x2 x3 x4 x5 xs0 xs1 = k0_pay3 xs0 x1 x2 xs1 x3 := by
  unfold sout0_B_1
  rw [View.read_writes_eq_canon _ _ _ (scover0_B_1 c i a2 h2 a3 h3 a4 h4 a5 h5 a6 h6 a7 h7 a8 h8 a9 h9 a10 h10 hc0 hc1 x0 x1 x2 x3 x4 x5 xs0 xs1)]
  unfold kernelRun0_B
  dsimp only
  sl_unfold_words
  simp only [View.canon_cons_unit_zero (S := S512x2048) off0, View.readAt_eq_ld, h3.read_unread, h4.read_unread, h5.read_unread, h9.read_unread, h10.read_unread,
    View.ld_unit_zero (S := S512x2048) off0, View.ld_unit_zero (S := S2048x512) off0]

/-- The last point adds its columns and normalises the rows. -/
theorem last_out (hc0 : ¬cond0_0 i) (hc1 : cond0_1 i) : out0_C_6 c i a2 h2 a3 h3 a4 h4 a5 h5 a6 h6 a7 h7 a8 h8 a9 h9 a10 h10 hc0 hc1 x0 x1 x2 x3 x4 x5 xs0 xs1 = k0_pay4 x0 (k0_pay3 xs0 x1 x2 xs1 x3) x4 x5 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 x5 xs0 xs1)]
  unfold kernelRun0_C
  dsimp only
  sl_unfold_words
  simp only [View.canon_cons_unit_zero (S := S512x2048) off0, View.readCov_unit_zero (S := S512x2048) _ off0, View.readAt_eq_ld, h2.read_unread, h3.read_unread, h4.read_unread, h5.read_unread, h6.read_unread, h7.read_unread, h9.read_unread, h10.read_unread,
    View.ld_unit_zero (S := S512x2048) off0, View.ld_unit_zero (S := S2048x512) off0, View.ld_unit_zero (S := S1x2048) off0]
end Cases

variable (m : (ℓ : Loc nD τ sig) → Buf (Elt F) ℓ)

/-- The point `k` of the row block `r`. -/
theorem pt_lt (r : Fin 1) {k : ℕ} (h : k < 11) : 11 * r.val + k < cfg0.N := by
  have hN : cfg0.N = 11 := N_0
  have := r.isLt; omega

/-- The accumulator after the point `k` of the row block `r`: the zeros, and the columns `0 … k` added in turn. -/
def accAt (c : Dev nD) (r : Fin 1) : (k : ℕ) → k < 11 → FVec F S512x2048 .f32
  | 0, h => k0_pay3 (k0_pay1 (iblk m c 0 ⟨11 * r.val, pt_lt r h⟩)) (iblk m c 1 ⟨11 * r.val, pt_lt r h⟩) (iblk m c 2 ⟨11 * r.val, pt_lt r h⟩) k0_pay2 (iblk m c 3 ⟨11 * r.val, pt_lt r h⟩)
  | k + 1, h => k0_pay3 (k0_pay1 (iblk m c 0 ⟨11 * r.val, pt_lt r (by decide : 0 < 11)⟩)) (iblk m c 1 ⟨11 * r.val + (k + 1), pt_lt r h⟩) (iblk m c 2 ⟨11 * r.val + (k + 1), pt_lt r h⟩)
      (accAt c r k (Nat.lt_of_succ_lt h)) (iblk m c 3 ⟨11 * r.val + (k + 1), pt_lt r h⟩)

/-- What the points but the last leave in the scratch. -/
theorem state (c : Dev nD) (r : Fin 1) : ∀ (k : ℕ) (h : k < 10),
    (outsAt0 m c (11 * r.val + k) (pt_lt r (by omega))).2 = (k0_pay1 (iblk m c 0 ⟨11 * r.val, pt_lt r (by decide : 0 < 11)⟩), accAt m c r k (by omega))
  | 0, h => by
    have hA := outsAt0_A m c ⟨11 * r.val + 0, pt_lt r (by omega)⟩ (by dsimp only; omega) (by dsimp only; omega)
    dsimp only at hA
    rw [hA, first_rows, first_acc]
    rfl
  | k + 1, h => by
    have hB := outsAt0_B m c ⟨11 * r.val + (k + 1), pt_lt r (by omega)⟩ (by dsimp only; omega) (by dsimp only; omega)
    have ih := state c r k (by omega)
    dsimp only at hB
    have e : 11 * r.val + (k + 1) - 1 = 11 * r.val + k := by omega
    rw [hB, mid_acc]
    simp only [e, ih]
    rfl

/-- The block a row block's last point leaves. -/
def blockV (c : Dev nD) (r : Fin 1) : FVec F S512x2048 .f32 :=
  k0_pay4 (iblk m c 0 ⟨11 * r.val + 10, pt_lt r (by decide)⟩) (accAt m c r 10 (by decide)) (iblk m c 4 ⟨11 * r.val + 10, pt_lt r (by decide)⟩) (iblk m c 5 ⟨11 * r.val + 10, pt_lt r (by decide)⟩)

theorem block_eq (c : Dev nD) (r : Fin 1) : (outsAt0 m c (11 * r.val + 10) (pt_lt r (by decide))).1 = blockV m c r := by
  have hC := outsAt0_C m c ⟨11 * r.val + 10, pt_lt r (by decide)⟩ (by dsimp only; omega) (by dsimp only; omega)
  have ih := state m c r 9 (by decide)
  dsimp only at hC
  have e : 11 * r.val + 10 - 1 = 11 * r.val + 9 := by omega
  rw [hC, last_out]
  simp only [e, ih]
  rfl

end Cert.Proof.SampFfn
-- ==== Proof.SampFfnValue.lean ====
module

public import proofs.«01_k».proof.Proof.SampFfnState
public import proofs.«01_k».proof.Proof.Gen.Reference5Ideal.Run
public import proofs.«01_k».proof.Defs
public import Idealize.ShloMosaic.Lib.Pointwise
public import Idealize.ShloMosaic.Lib.Claim

/-! The sample's feed-forward kernel's blocks over the extended reals. -/

@[expose] public section
noncomputable section

namespace Cert.Proof.SampFfn

open Cert.Kernel5Ideal Cert.Kernel5Ideal.Gen Idealize.ShloMosaic Idealize.ShloMosaic.TcCoe Idealize.SL.Sem

variable (m : (ℓ : Loc nD τ sig) → Buf (Elt Ideal) ℓ) (c : Dev nD)

abbrev argX : FVec Ideal S8x64x2048 .f32 := m ((c : Thread nD τ).loc main_arg0)
abbrev argG : FVec Ideal S2048x5632 .f32 := m ((c : Thread nD τ).loc main_arg1)
abbrev argU : FVec Ideal S2048x5632 .f32 := m ((c : Thread nD τ).loc main_arg2)
abbrev argD : FVec Ideal S5632x2048 .f32 := m ((c : Thread nD τ).loc main_arg3)
abbrev argS : FVec Ideal S2048 .f32 := m ((c : Thread nD τ).loc main_arg4)
abbrev argB : FVec Ideal S2048 .f32 := m ((c : Thread nD τ).loc main_arg5)

theorem index0 : ∀ t : Fin cfg0.N, win0_0.index t (0 : Fin 2) = t.val / 11 ∧ win0_0.index t (1 : Fin 2) = 0 := (by decide +kernel : ∀ t : Fin grid0.N, _)
theorem index1 : ∀ t : Fin cfg0.N, win0_1.index t (0 : Fin 2) = 0 ∧ win0_1.index t (1 : Fin 2) = t.val % 11 := (by decide +kernel : ∀ t : Fin grid0.N, _)
theorem index2 : ∀ t : Fin cfg0.N, win0_2.index t (0 : Fin 2) = 0 ∧ win0_2.index t (1 : Fin 2) = t.val % 11 := (by decide +kernel : ∀ t : Fin grid0.N, _)
theorem index3 : ∀ t : Fin cfg0.N, win0_3.index t (0 : Fin 2) = t.val % 11 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)

abbrev rowAt (r : Fin 1) (a : Fin 512) : Fin 512 := ⟨512 * r.val + a.val, by omega⟩
/-- A row's batch and its place in it. -/
abbrev bOf (p : Fin 512) : Fin 8 := ⟨p.val / 64, by omega⟩
abbrev tOf (p : Fin 512) : Fin 64 := ⟨p.val % 64, by omega⟩
abbrev colAt (k : ℕ) (h : k < 11) (f : Fin 512) : Fin 5632 := ⟨512 * k + f.val, by omega⟩

theorem blk0 (r : Fin 1) (k : ℕ) (h : k < 11) (a : Fin 512) (b : Fin 2048) :
    (iblk m c 0 ⟨11 * r.val + k, pt_lt r h⟩ : Vec Ideal S512x2048 .f32) (ix2 a b) = argX m c (ix3 (bOf (rowAt r a)) (tOf (rowAt r a)) b) := by
  have hi := index0 ⟨11 * r.val + k, pt_lt r h⟩
  unfold iblk
  rw [View.read_apply]
  show V m c main_v5 _ = _
  entry_read
  have e : ((cfg0.win 0).blk ⟨11 * r.val + k, pt_lt r h⟩).view.emb (ix2 a b) = (ix2 (rowAt r a) b : S512x2048.Idx) := by
    funext d
    apply Fin.ext
    match d with
    | ⟨0, _⟩ => show win0_0.index _ 0 * 512 + 1 * a.val = 512 * r.val + a.val; rw [hi.1]; dsimp only; omega
    | ⟨1, _⟩ => show win0_0.index _ 1 * 2048 + 1 * b.val = b.val; rw [hi.2]; omega
  rw [e]
  pointwise
  exact congrArg (fun p => argX m c (ix3 (bOf p) (tOf p) b)) (Fin.ext (by show a.val = 512 * r.val + a.val; omega) : a = rowAt r a)

theorem blk1 (r : Fin 1) (k : ℕ) (h : k < 11) (a : Fin 2048) (f : Fin 512) :
    (iblk m c 1 ⟨11 * r.val + k, pt_lt r h⟩ : Vec Ideal S2048x512 .bf16) (ix2 a f) = argG m c (ix2 a (colAt k h f)) := by
  have hi := index1 ⟨11 * r.val + k, pt_lt r h⟩
  unfold iblk
  rw [View.read_apply]
  show V m c main_v0 _ = _
  entry_read
  have e : ((cfg0.win 1).blk ⟨11 * r.val + k, pt_lt r h⟩).view.emb (ix2 a f) = (ix2 a (colAt k h f) : S2048x5632.Idx) := by
    funext d
    apply Fin.ext
    match d with
    | ⟨0, _⟩ => show win0_1.index _ 0 * 2048 + 1 * a.val = a.val; rw [hi.1]; omega
    | ⟨1, _⟩ => show win0_1.index _ 1 * 512 + 1 * f.val = 512 * k + f.val; rw [hi.2]; dsimp only; omega
  rw [e]
  pointwise

theorem blk2 (r : Fin 1) (k : ℕ) (h : k < 11) (a : Fin 2048) (f : Fin 512) :
    (iblk m c 2 ⟨11 * r.val + k, pt_lt r h⟩ : Vec Ideal S2048x512 .bf16) (ix2 a f) = argU m c (ix2 a (colAt k h f)) := by
  have hi := index2 ⟨11 * r.val + k, pt_lt r h⟩
  unfold iblk
  rw [View.read_apply]
  show V m c main_v1 _ = _
  entry_read
  have e : ((cfg0.win 2).blk ⟨11 * r.val + k, pt_lt r h⟩).view.emb (ix2 a f) = (ix2 a (colAt k h f) : S2048x5632.Idx) := by
    funext d
    apply Fin.ext
    match d with
    | ⟨0, _⟩ => show win0_2.index _ 0 * 2048 + 1 * a.val = a.val; rw [hi.1]; omega
    | ⟨1, _⟩ => show win0_2.index _ 1 * 512 + 1 * f.val = 512 * k + f.val; rw [hi.2]; dsimp only; omega
  rw [e]
  pointwise

theorem blk3 (r : Fin 1) (k : ℕ) (h : k < 11) (f : Fin 512) (b : Fin 2048) :
    (iblk m c 3 ⟨11 * r.val + k, pt_lt r h⟩ : Vec Ideal S512x2048 .bf16) (ix2 f b) = argD m c (ix2 (colAt k h f) b) := by
  have hi := index3 ⟨11 * r.val + k, pt_lt r h⟩
  unfold iblk
  rw [View.read_apply]
  show V m c main_v2 _ = _
  entry_read
  have e : ((cfg0.win 3).blk ⟨11 * r.val + k, pt_lt r h⟩).view.emb (ix2 f b) = (ix2 (colAt k h f) b : S5632x2048.Idx) := by
    funext d
    apply Fin.ext
    match d with
    | ⟨0, _⟩ => show win0_3.index _ 0 * 512 + 1 * f.val = 512 * k + f.val; rw [hi.1]; dsimp only; omega
    | ⟨1, _⟩ => show win0_3.index _ 1 * 2048 + 1 * b.val = b.val; rw [hi.2]; omega
  rw [e]
  pointwise

theorem blk4 (t : Fin cfg0.N) (b : Fin 2048) : (iblk m c 4 t : Vec Ideal S1x2048 .f32) (ix2 0 b) = argS m c (ix1 b) := by
  have hi := index4 t
  unfold iblk
  rw [View.read_apply]
  show V m c main_v3 _ = _
  entry_read
  have e : ((cfg0.win 4).blk t).view.emb (ix2 0 b) = (ix2 0 b : S1x2048.Idx) := by
    funext d
    apply Fin.ext
    match d with
    | ⟨0, _⟩ => show win0_4.index _ 0 * 1 + 1 * 0 = 0; rw [hi.1]
    | ⟨1, _⟩ => show win0_4.index _ 1 * 2048 + 1 * b.val = b.val; rw [hi.2]; omega
  rw [e]
  pointwise

theorem blk5 (t : Fin cfg0.N) (b : Fin 2048) : (iblk m c 5 t : Vec Ideal S1x2048 .f32) (ix2 0 b) = argB m c (ix1 b) := by
  have hi := index5 t
  unfold iblk
  rw [View.read_apply]
  show V m c main_v4 _ = _
  entry_read
  have e : ((cfg0.win 5).blk t).view.emb (ix2 0 b) = (ix2 0 b : S1x2048.Idx) := by
    funext d
    apply Fin.ext
    match d with
    | ⟨0, _⟩ => show win0_5.index _ 0 * 1 + 1 * 0 = 0; rw [hi.1]
    | ⟨1, _⟩ => show win0_5.index _ 1 * 2048 + 1 * b.val = b.val; rw [hi.2]; omega
  rw [e]
  pointwise

/-- The gated product of the hidden column `f` at row `p`, times the down weight. -/
abbrev gateAt (p : Fin 512) (f : Fin 5632) : EReal := ∑ x : Fin 2048, argX m c (ix3 (bOf p) (tOf p) x) * argG m c (ix2 x f)
abbrev upAt (p : Fin 512) (f : Fin 5632) : EReal := ∑ x : Fin 2048, argX m c (ix3 (bOf p) (tOf p) x) * argU m c (ix2 x f)
def term (p : Fin 512) (b : Fin 2048) (f : Fin 5632) : EReal :=
  (gateAt m c p f * Ideal.div 1 (1 + Ideal.exp (-gateAt m c p f)) * upAt m c p f) * argD m c (ix2 f b)

/-- The layer norm of a row `h` with scale `g` and shift `s`, at column `b`. -/
def norm (h : Fin 2048 → EReal) (g s : EReal) (b : Fin 2048) : EReal :=
  (h b - Ideal.div (∑ x, h x) (Ideal.ofBits FTy.f32 1157627904#32)) *
      Ideal.rsqrt
        (Ideal.div
            (∑ x, (h x - Ideal.div (∑ x, h x) (Ideal.ofBits FTy.f32 1157627904#32)) *
                (h x - Ideal.div (∑ x, h x) (Ideal.ofBits FTy.f32 1157627904#32)))
            (Ideal.ofBits FTy.f32 1157627904#32) + Ideal.ofBits FTy.f32 925353388#32) * g + s

set_option maxRecDepth 16384 in
theorem step_at (xb : Vec Ideal S512x2048 .f32) (g u : Vec Ideal S2048x512 .bf16) (acc : Vec Ideal S512x2048 .f32)
    (d : Vec Ideal S512x2048 .bf16) (a : Fin 512) (b : Fin 2048) :
    k0_pay3 (k0_pay1 xb) g u acc d (ix2 a b) = acc (ix2 a b) + ∑ x : Fin 512,
      ((∑ y : Fin 2048, xb (ix2 a y) * g (ix2 y x)) * Ideal.div 1 (1 + Ideal.exp (0 - ∑ y : Fin 2048, xb (ix2 a y) * g (ix2 y x)))
        * ∑ y : Fin 2048, xb (ix2 a y) * u (ix2 y x)) * d (ix2 x b) := by
  pointwise [k0_pay3, k0_pay1]

/-- A step whose blocks' entries are known. -/
theorem step_of (xb : Vec Ideal S512x2048 .f32) (g u : Vec Ideal S2048x512 .bf16) (acc : Vec Ideal S512x2048 .f32)
    (d : Vec Ideal S512x2048 .bf16) (a : Fin 512) (b : Fin 2048) (X : Fin 2048 → EReal) (G U : Fin 2048 → Fin 512 → EReal) (D : Fin 512 → EReal)
    (hx : ∀ y, xb (ix2 a y) = X y) (hg : ∀ y f, g (ix2 y f) = G y f) (hu : ∀ y f, u (ix2 y f) = U y f) (hd : ∀ f, d (ix2 f b) = D f) :
    k0_pay3 (k0_pay1 xb) g u acc d (ix2 a b) = acc (ix2 a b) + ∑ f : Fin 512,
      ((∑ y : Fin 2048, X y * G y f) * Ideal.div 1 (1 + Ideal.exp (-∑ y : Fin 2048, X y * G y f)) * ∑ y : Fin 2048, X y * U y f) * D f := by
  rw [step_at]
  simp only [hx, hg, hu, hd, zero_sub]

/-- The row the norm is taken of. -/
def mixed (x acc : Vec Ideal S512x2048 .f32) (a : Fin 512) (y : Fin 2048) : EReal :=
  Ideal.ofBits FTy.f32 1066940400#32 * x (ix2 a y) + acc (ix2 a y)

set_option maxRecDepth 16384 in
theorem last_at (x acc : Vec Ideal S512x2048 .f32) (g u : Vec Ideal S1x2048 .f32) (a : Fin 512) (b : Fin 2048) :
    k0_pay4 x acc g u (ix2 a b) = norm (mixed x acc a) (g (ix2 0 b)) (u (ix2 0 b)) b := by
  pointwise [k0_pay4]
  rfl

theorem zero_at (a : Fin 512) (b : Fin 2048) : (k0_pay2 : FVec Ideal S512x2048 .f32) (ix2 a b) = 0 := by
  pointwise [k0_pay2]

/-- One step adds the terms of the point's 512 hidden columns. -/
theorem step_term (r : Fin 1) (k : ℕ) (h : k < 11) (acc : Vec Ideal S512x2048 .f32) (a : Fin 512) (b : Fin 2048) :
    k0_pay3 (k0_pay1 (iblk m c 0 ⟨11 * r.val, pt_lt r (by omega : 0 < 11)⟩)) (iblk m c 1 ⟨11 * r.val + k, pt_lt r h⟩)
        (iblk m c 2 ⟨11 * r.val + k, pt_lt r h⟩) acc (iblk m c 3 ⟨11 * r.val + k, pt_lt r h⟩) (ix2 a b)
      = acc (ix2 a b) + ∑ f : Fin 512, term m c (rowAt r a) b (colAt k h f) := by
  exact step_of _ _ _ acc _ a b _ _ _ _ (fun y => blk0 m c r 0 (by omega) a y) (fun y f => blk1 m c r k h y f)
    (fun y f => blk2 m c r k h y f) (fun f => blk3 m c r k h f b)

/-- The terms by plain numbers, zero beyond the columns. -/
def termN (p : Fin 512) (b : Fin 2048) (f : ℕ) : EReal := if h : f < 5632 then term m c p b ⟨f, h⟩ else 0

theorem block_sum (p : Fin 512) (b : Fin 2048) (k : ℕ) (h : k < 11) :
    ∑ f : Fin 512, term m c p b (colAt k h f) = ∑ f ∈ Finset.range 512, termN m c p b (512 * k + f) := by
  rw [← Fin.sum_univ_eq_sum_range (fun f => termN m c p b (512 * k + f)) 512]
  exact Finset.sum_congr rfl fun f _ => by rw [termN, dif_pos (by omega)]

theorem acc_at (r : Fin 1) (a : Fin 512) (b : Fin 2048) : ∀ (k : ℕ) (h : k < 11),
    accAt m c r k h (ix2 a b) = ∑ f ∈ Finset.range (512 * (k + 1)), termN m c (rowAt r a) b f
  | 0, h => by
    rw [accAt]
    refine (step_term m c r 0 h _ a b).trans ?_
    rw [zero_at, zero_add, block_sum]
    simp only [Nat.mul_zero, Nat.zero_add, Nat.mul_one]
  | k + 1, h => by
    rw [accAt]
    refine (step_term m c r (k + 1) h _ a b).trans ?_
    rw [acc_at r a b k (by omega), block_sum, show 512 * (k + 1 + 1) = 512 * (k + 1) + 512 by omega, Finset.sum_range_add]

theorem acc_full (r : Fin 1) (a : Fin 512) (b : Fin 2048) (h : 10 < 11) :
    accAt m c r 10 h (ix2 a b) = ∑ f : Fin 5632, term m c (rowAt r a) b f := by
  rw [acc_at, ← Fin.sum_univ_eq_sum_range (fun f => termN m c (rowAt r a) b f) 5632]
  exact Finset.sum_congr rfl fun f _ => by rw [termN, dif_pos f.isLt]

/-- The layer at row `p`, column `b`. -/
def layerAt (p : Fin 512) (b : Fin 2048) : EReal :=
  norm (fun y => Ideal.ofBits FTy.f32 1066940400#32 * argX m c (ix3 (bOf p) (tOf p) y) + ∑ f : Fin 5632, term m c p y f)
    (argS m c (ix1 b)) (argB m c (ix1 b)) b

theorem block_at (r : Fin 1) (a : Fin 512) (b : Fin 2048) : blockV m c r (ix2 a b) = layerAt m c (rowAt r a) b := by
  rw [blockV, last_at, layerAt, blk4, blk5]
  congr 1
  funext y
  exact congrArg₂ (fun u v => Ideal.ofBits FTy.f32 1066940400#32 * u + v) (blk0 m c r 10 (by omega) a y) (acc_full m c r a y (by omega))

/-- The output array: the layer at every entry. -/
def result : Buf (Elt Ideal) ((c : Thread nD τ).loc main_v6) := fun i : S512x2048.Idx => layerAt m c (i 0) (i 1)

theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  have hm : t.val % 11 = 10 := (flush0_6 t).mp hf
  have hN := lt_of_lt_of_eq t.isLt (show cfg0.N = 11 from N_0)
  obtain ⟨e0, e1, e2, e3, e4⟩ := Value.idx_facts6 t
  have hr : t.val / 11 < 1 := by omega
  have ht : t = ⟨11 * (⟨t.val / 11, hr⟩ : Fin 1).val + 10, pt_lt _ (by omega)⟩ := Fin.ext (by dsimp only; omega)
  rw [after0_6]
  have hb : (outsAt0 m c t.val t.isLt).1 = blockV m c ⟨t.val / 11, hr⟩ := by
    rw [← block_eq]
    congr 2
    exact Fin.val_eq_of_eq ht
  rw [hb]
  funext y
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  have hy0 : (y 0).val < 512 := (y 0).isLt
  have hy1 : (y 1).val < 2048 := (y 1).isLt
  show blockV m c ⟨t.val / 11, hr⟩ ((cfg0.win 6).xinj (grid0.coords t) y) = result m c (((cfg0.win 6).blk t).view.emb y)
  have hx : (cfg0.win 6).xinj (grid0.coords t) y = (ix2 ⟨(y 0).val, hy0⟩ ⟨(y 1).val, hy1⟩ : S512x2048.Idx) := by
    funext d
    apply Fin.ext
    match d with
    | ⟨0, _⟩ => rfl
    | ⟨1, _⟩ => rfl
  rw [hx, block_at]
  show layerAt m c _ _ = layerAt m c _ _
  congr 1
  · exact Fin.ext (by rw [hb0]; dsimp only; omega)
  · exact Fin.ext (by rw [hb1]; dsimp only; omega)

theorem final : (dats m 0 c).arrAt 6 cfg0.N = result m c :=
  (dats m 0 c).arrAt_eq_of_cover 6 _ (fun t hf => flushed_eq m c t hf) (fun i => (Value.covered_iff6 i).2 (by
    have h0 : (i 0).val < 512 := (i 0).isLt; have h1 : (i 1).val < 2048 := (i 1).isLt; omega))

set_option maxRecDepth 16384 in
/-- The reference at an entry is the layer there. -/
theorem reference_at (m' : (ℓ : Loc Cert.Reference5Ideal.nD Cert.Reference5Ideal.τ Cert.Reference5Ideal.sig) → Buf (Elt Ideal) ℓ)
    (e0 : m' ((c.tc : Thread Cert.Reference5Ideal.nD Cert.Reference5Ideal.τ).loc Cert.Reference5Ideal.main_arg0) = argX m c)
    (e1 : m' ((c.tc : Thread Cert.Reference5Ideal.nD Cert.Reference5Ideal.τ).loc Cert.Reference5Ideal.main_arg1) = argG m c)
    (e2 : m' ((c.tc : Thread Cert.Reference5Ideal.nD Cert.Reference5Ideal.τ).loc Cert.Reference5Ideal.main_arg2) = argU m c)
    (e3 : m' ((c.tc : Thread Cert.Reference5Ideal.nD Cert.Reference5Ideal.τ).loc Cert.Reference5Ideal.main_arg3) = argD m c)
    (e4 : m' ((c.tc : Thread Cert.Reference5Ideal.nD Cert.Reference5Ideal.τ).loc Cert.Reference5Ideal.main_arg4) = argS m c)
    (e5 : m' ((c.tc : Thread Cert.Reference5Ideal.nD Cert.Reference5Ideal.τ).loc Cert.Reference5Ideal.main_arg5) = argB m c)
    (a : Fin 512) (b : Fin 2048) : Cert.Reference5Ideal.Value.res_main_v32 m' c (ix2 a b) = layerAt m c a b := by
  unfold layerAt norm term
  pointwise [Cert.Reference5Ideal.Value.res_main_v32]
  simp only [e0, e1, e2, e3, e4, e5]

theorem algebraic : Cert.algebraic_Kernel5Ideal_Reference5Ideal := by
  intro m g m' g' _ hm
  refine ⟨fun c => result m c, ?_, ?_⟩
  · exact (θ_run defs _ _).mono (fun r h c => ⟨(Value.post6 m r h c).trans (final m c), Value.kept_main_arg0 m r h c,
      Value.kept_main_arg1 m r h c, Value.kept_main_arg2 m r h c, Value.kept_main_arg3 m r h c, Value.kept_main_arg4 m r h c,
      Value.kept_main_arg5 m r h c⟩) (run_main m g)
  · refine (θ_run Cert.Reference5Ideal.defs _ _).mono (fun r h c => ⟨(h c).1.trans ?_, (h c).2⟩) (Cert.Reference5Ideal.Value.run m' g')
    obtain ⟨e0, e1, e2, e3, e4, e5⟩ := hm c
    funext i
    rw [eq_ix2 i]
    exact reference_at m c m' e0 e1 e2 e3 e4 e5 (i 0) (i 1)

end Cert.Proof.SampFfn
-- ==== Proof.OutFrames.lean ====
/- The frames of the output projection's programs. -/
module

public import proofs.«01_k».proof.Defs
public import proofs.«01_k».proof.Proof.Gen.Kernel6.Frame
public import proofs.«01_k».proof.Proof.Gen.Kernel6Ideal.Frame
public import proofs.«01_k».proof.Proof.Gen.Reference6Ideal.Run

@[expose] public section
namespace Cert.Proof.Out
open Idealize.ShloMosaic Idealize.ShloMosaic.TcCoe

theorem preserves_kernel : Cert.preserves_Kernel6_Kernel6Ideal := trivial
theorem frame_kernel : Cert.quiescent_Kernel6 := fun m ρ _ => Cert.Kernel6.Gen.frame m ρ
theorem frame_kernelIdeal : Cert.quiescent_Kernel6Ideal := fun m ρ _ => Cert.Kernel6Ideal.Gen.frame m ρ

theorem frame_referenceIdeal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Proof.Out
-- ==== Proof.OutValue.lean ====
module

public import proofs.«01_k».proof.Proof.OutFrames
public import proofs.«01_k».proof.Proof.Gen.Kernel6Ideal.Value
public import Idealize.ShloMosaic.Lib.Pointwise
public import Idealize.ShloMosaic.Lib.Claim

/-! The output projection's blocks over the extended reals. -/

@[expose] public section
noncomputable section

namespace Cert.Proof.Out

open Cert.Kernel6Ideal Cert.Kernel6Ideal.Gen Idealize.ShloMosaic Idealize.ShloMosaic.TcCoe Idealize.SL.Sem

variable (m : (ℓ : Loc nD τ sig) → Buf (Elt Ideal) ℓ) (c : Dev nD)

abbrev argM : FVec Ideal S1x16384x8x128 .f32 := m ((c : Thread nD τ).loc main_arg0)
abbrev argD : FVec Ideal S1x16384x1024 .f32 := m ((c : Thread nD τ).loc main_arg1)
abbrev argX : FVec Ideal S1x16384x2048 .f32 := m ((c : Thread nD τ).loc main_arg2)
abbrev argW : FVec Ideal S2048x2048 .f32 := m ((c : Thread nD τ).loc main_arg3)
abbrev argS : FVec Ideal S2048 .f32 := m ((c : Thread nD τ).loc main_arg4)
abbrev argB : FVec Ideal S2048 .f32 := m ((c : Thread nD τ).loc main_arg5)

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)

abbrev rowAt (t : Fin cfg0.N) (a : Fin 512) : Fin 16384 := ⟨512 * t.val + a.val, by have := lt_of_lt_of_eq t.isLt (show cfg0.N = 32 from N_0); omega⟩
abbrev headOf (k : Fin 1024) : Fin 8 := ⟨k.val / 128, by omega⟩
abbrev laneOf (k : Fin 1024) : Fin 128 := ⟨k.val % 128, by omega⟩
/-- The weight's rows of the first mixer and of the second. -/
abbrev fstRow (k : Fin 1024) : Fin 2048 := ⟨k.val, by omega⟩
abbrev sndRow (k : Fin 1024) : Fin 2048 := ⟨1024 + k.val, by omega⟩

theorem blk0 (t : Fin cfg0.N) (a : Fin 512) (k : Fin 1024) :
    (iblk m c 0 t : Vec Ideal S512x1024 .bf16) (ix2 a k) = argM m c (ix4 0 (rowAt t a) (headOf k) (laneOf k)) := by
  have hi := index0 t
  unfold iblk
  rw [View.read_apply]
  show V m c main_v4 _ = _
  entry_read
  have e : ((cfg0.win 0).blk t).view.emb (ix2 a k) = (ix2 (rowAt t a) k : S16384x1024.Idx) := by
    funext d
    apply Fin.ext
    match d with
    | ⟨0, _⟩ => show win0_0.index _ 0 * 512 + 1 * a.val = 512 * t.val + a.val; rw [hi.1]; omega
    | ⟨1, _⟩ => show win0_0.index _ 1 * 1024 + 1 * k.val = k.val; rw [hi.2]; omega
  rw [e]
  pointwise

theorem blk1 (t : Fin cfg0.N) (a : Fin 512) (k : Fin 1024) :
    (iblk m c 1 t : Vec Ideal S512x1024 .bf16) (ix2 a k) = argD m c (ix3 0 (rowAt t a) k) := by
  have hi := index1 t
  unfold iblk
  rw [View.read_apply]
  show V m c main_v6 _ = _
  entry_read
  have e : ((cfg0.win 1).blk t).view.emb (ix2 a k) = (ix2 (rowAt t a) k : S16384x1024.Idx) := by
    funext d
    apply Fin.ext
    match d with
    | ⟨0, _⟩ => show win0_1.index _ 0 * 512 + 1 * a.val = 512 * t.val + a.val; rw [hi.1]; omega
    | ⟨1, _⟩ => show win0_1.index _ 1 * 1024 + 1 * k.val = k.val; rw [hi.2]; omega
  rw [e]
  pointwise

theorem blk2 (t : Fin cfg0.N) (a : Fin 512) (b : Fin 2048) :
    (iblk m c 2 t : Vec Ideal S512x2048 .f32) (ix2 a b) = argX m c (ix3 0 (rowAt t a) b) := by
  have hi := index2 t
  unfold iblk
  rw [View.read_apply]
  show V m c main_v7 _ = _
  entry_read
  have e : ((cfg0.win 2).blk t).view.emb (ix2 a b) = (ix2 (rowAt t a) b : S16384x2048.Idx) := by
    funext d
    apply Fin.ext
    match d with
    | ⟨0, _⟩ => show win0_2.index _ 0 * 512 + 1 * a.val = 512 * t.val + a.val; rw [hi.1]; omega
    | ⟨1, _⟩ => show win0_2.index _ 1 * 2048 + 1 * b.val = b.val; rw [hi.2]; omega
  rw [e]
  pointwise

theorem blk3 (t : Fin cfg0.N) (k b : Fin 2048) : (iblk m c 3 t : Vec Ideal S2048x2048 .bf16) (ix2 k b) = argW m c (ix2 k b) := by
  have hi := index3 t
  unfold iblk
  rw [View.read_apply]
  show V m c main_v0 _ = _
  entry_read
  have e : ((cfg0.win 3).blk t).view.emb (ix2 k b) = (ix2 k b : S2048x2048.Idx) := by
    funext d
    apply Fin.ext
    match d with
    | ⟨0, _⟩ => show win0_3.index _ 0 * 2048 + 1 * k.val = k.val; rw [hi.1]; omega
    | ⟨1, _⟩ => show win0_3.index _ 1 * 2048 + 1 * b.val = b.val; rw [hi.2]; omega
  rw [e]
  pointwise

theorem blk4 (t : Fin cfg0.N) (b : Fin 2048) : (iblk m c 4 t : Vec Ideal S1x2048 .f32) (ix2 0 b) = argS m c (ix1 b) := by
  have hi := index4 t
  unfold iblk
  rw [View.read_apply]
  show V m c main_v1 _ = _
  entry_read
  have e : ((cfg0.win 4).blk t).view.emb (ix2 0 b) = (ix2 0 b : S1x2048.Idx) := by
    funext d
    apply Fin.ext
    match d with
    | ⟨0, _⟩ => show win0_4.index _ 0 * 1 + 1 * 0 = 0; rw [hi.1]
    | ⟨1, _⟩ => show win0_4.index _ 1 * 2048 + 1 * b.val = b.val; rw [hi.2]; omega
  rw [e]
  pointwise

theorem blk5 (t : Fin cfg0.N) (b : Fin 2048) : (iblk m c 5 t : Vec Ideal S1x2048 .f32) (ix2 0 b) = argB m c (ix1 b) := by
  have hi := index5 t
  unfold iblk
  rw [View.read_apply]
  show V m c main_v2 _ = _
  entry_read
  have e : ((cfg0.win 5).blk t).view.emb (ix2 0 b) = (ix2 0 b : S1x2048.Idx) := by
    funext d
    apply Fin.ext
    match d with
    | ⟨0, _⟩ => show win0_5.index _ 0 * 1 + 1 * 0 = 0; rw [hi.1]
    | ⟨1, _⟩ => show win0_5.index _ 1 * 2048 + 1 * b.val = b.val; rw [hi.2]; omega
  rw [e]
  pointwise

/-- The layer norm of a row `h` with scale `g` and shift `s`, at column `b`. -/
def norm (h : Fin 2048 → EReal) (g s : EReal) (b : Fin 2048) : EReal :=
  (h b - Ideal.div (∑ x, h x) (Ideal.ofBits FTy.f32 1157627904#32)) *
      Ideal.rsqrt
        (Ideal.div
            (∑ x, (h x - Ideal.div (∑ x, h x) (Ideal.ofBits FTy.f32 1157627904#32)) *
                (h x - Ideal.div (∑ x, h x) (Ideal.ofBits FTy.f32 1157627904#32)))
            (Ideal.ofBits FTy.f32 1157627904#32) + Ideal.ofBits FTy.f32 925353388#32) * g + s

/-- The row the norm is taken of, over a block's entries. -/
def mixed (p q : Vec Ideal S512x1024 .bf16) (u v : Vec Ideal S1024x2048 .bf16) (x : Vec Ideal S512x2048 .f32) (a : Fin 512) (y : Fin 2048) : EReal :=
  Ideal.ofBits FTy.f32 1066940400#32 * x (ix2 a y)
    + ((∑ k : Fin 1024, p (ix2 a k) * u (ix2 k y)) + ∑ k : Fin 1024, q (ix2 a k) * v (ix2 k y))

set_option maxRecDepth 16384 in
theorem body_at (p q : Vec Ideal S512x1024 .bf16) (u v : Vec Ideal S1024x2048 .bf16) (x : Vec Ideal S512x2048 .f32) (g s : Vec Ideal S1x2048 .f32)
    (a : Fin 512) (b : Fin 2048) :
    k0_pay1 (k0_pay2 s) (k0_pay3 p u q v x) (k0_pay4 g) (ix2 a b) = norm (mixed p q u v x a) (g (ix2 0 b)) (s (ix2 0 b)) b := by
  pointwise [k0_pay1, k0_pay2, k0_pay3, k0_pay4]
  rfl

/-- Entry `y` of row `p` before the norm. -/
def rowSum (p : Fin 16384) (y : Fin 2048) : EReal :=
  Ideal.ofBits FTy.f32 1066940400#32 * argX m c (ix3 0 p y)
    + ((∑ k : Fin 1024, argM m c (ix4 0 p (headOf k) (laneOf k)) * argW m c (ix2 (fstRow k) y))
      + ∑ k : Fin 1024, argD m c (ix3 0 p k) * argW m c (ix2 (sndRow k) y))

/-- The layer at row `p`, column `b`. -/
def layerAt (p : Fin 16384) (b : Fin 2048) : EReal := norm (rowSum m c p) (argS m c (ix1 b)) (argB m c (ix1 b)) b

theorem fst_at (w : Vec Ideal S2048x2048 .bf16) (k : Fin 1024) (b : Fin 2048) :
    (View.ld w r0_1 : Vec Ideal S1024x2048 .bf16) (ix2 k b) = w (ix2 (fstRow k) b) := by
  show w _ = w _
  congr 1
  funext d
  apply Fin.ext
  match d with
  | ⟨0, _⟩ => show 0 + 1 * k.val = k.val; omega
  | ⟨1, _⟩ => show 0 + 1 * b.val = b.val; omega

theorem snd_at (w : Vec Ideal S2048x2048 .bf16) (k : Fin 1024) (b : Fin 2048) :
    (View.ld w r0_2 : Vec Ideal S1024x2048 .bf16) (ix2 k b) = w (ix2 (sndRow k) b) := by
  show w _ = w _
  congr 1
  funext d
  apply Fin.ext
  match d with
  | ⟨0, _⟩ => show 1024 + 1 * k.val = 1024 + k.val; omega
  | ⟨1, _⟩ => show 0 + 1 * b.val = b.val; omega

theorem off0 : (![0, 0] : Fin 2 → Nat) = fun _ => 0 := funext fun a => by fin_cases a <;> rfl

theorem mixed_at (t : Fin cfg0.N) (a : Fin 512) (y : Fin 2048) :
    mixed (iblk m c 0 t) (iblk m c 1 t) (View.ld (iblk m c 3 t) r0_1) (View.ld (iblk m c 3 t) r0_2) (iblk m c 2 t) a y = rowSum m c (rowAt t a) y := by
  unfold mixed rowSum
  rw [blk2]
  congr 2
  · exact Finset.sum_congr rfl fun k _ => by rw [blk0, fst_at, blk3]
  · exact Finset.sum_congr rfl fun k _ => by rw [blk1, snd_at, blk3]

theorem block_at (t : Fin cfg0.N) (a : Fin 512) (b : Fin 2048) :
    (out0_6 (iblk m c 0 t) (iblk m c 1 t) (iblk m c 2 t) (iblk m c 3 t) (iblk m c 4 t) (iblk m c 5 t) : FVec Ideal S512x2048 .f32) (ix2 a b)
      = layerAt m c (rowAt t a) b := by
  unfold out0_6 r0_0 r0_3 r0_4
  rw [View.canon_cons_unit_zero (S := S512x2048) off0, View.ld_unit_zero (S := S1x2048) off0, View.ld_unit_zero (S := S512x1024) off0,
    View.ld_unit_zero (S := S512x1024) off0, View.ld_unit_zero (S := S512x2048) off0, View.ld_unit_zero (S := S1x2048) off0]
  rw [body_at, blk4, blk5, layerAt]
  congr 1
  funext y
  exact mixed_at m c t a y

/-- The output array: the layer at every entry. -/
def result : Buf (Elt Ideal) ((c : Thread nD τ).loc main_v8) := fun i : S16384x2048.Idx => layerAt m c (i 0) (i 1)

theorem flushed_eq (t : Fin cfg0.N) : (dats m 0 c).flushed 6 t = ((cfg0.win 6).blk t).view.read (Elt Ideal) (result m c) := by
  rw [Value.flushed6]
  obtain ⟨e0, e1⟩ := index6 t
  funext y
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  have hy0 : (y 0).val < 512 := (y 0).isLt
  have hy1 : (y 1).val < 2048 := (y 1).isLt
  show out0_6 _ _ _ _ _ _ ((cfg0.win 6).xinj (grid0.coords t) y) = result m c (((cfg0.win 6).blk t).view.emb y)
  have hx : (cfg0.win 6).xinj (grid0.coords t) y = (ix2 ⟨(y 0).val, hy0⟩ ⟨(y 1).val, hy1⟩ : S512x2048.Idx) := by
    funext d
    apply Fin.ext
    match d with
    | ⟨0, _⟩ => rfl
    | ⟨1, _⟩ => rfl
  rw [hx, block_at]
  show layerAt m c _ _ = layerAt m c _ _
  congr 1
  · exact Fin.ext (by rw [hb0, e0]; dsimp only; omega)
  · exact Fin.ext (by rw [hb1, e1]; dsimp only; omega)

omit c m in
theorem mem_blk (t : Fin cfg0.N) (i : S16384x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v8).slice (win0_6.rect t)).set ↔ _
  rw [View.set_slice_whole, Rect.mem_set_unit]
  exact Iff.rfl

omit c m in
theorem covered (i : S16384x2048.Idx) : ∃ t : Fin cfg0.N, (cfg0.win 6).flush t = true ∧ i ∈ ((cfg0.win 6).blk t).view.set := by
  have hi0 : (i 0).val < 16384 := (i 0).isLt
  have hi1 : (i 1).val < 2048 := (i 1).isLt
  refine ⟨⟨(i 0).val / 512, lt_of_lt_of_eq (by omega) (N_0 : grid0.N = 32).symm⟩, flush0_6 _, ?_⟩
  obtain ⟨e0, e1⟩ := index6 ⟨(i 0).val / 512, lt_of_lt_of_eq (by omega) (N_0 : grid0.N = 32).symm⟩
  dsimp only at e0 e1
  rw [mem_blk]
  intro a
  match a with
  | ⟨0, _⟩ => show win0_6.index _ (0 : Fin 2) * 512 ≤ (i 0).val ∧ (i 0).val < win0_6.index _ (0 : Fin 2) * 512 + 512; omega
  | ⟨1, _⟩ => show win0_6.index _ (1 : Fin 2) * 2048 ≤ (i 1).val ∧ (i 1).val < win0_6.index _ (1 : Fin 2) * 2048 + 2048; omega

theorem final : (dats m 0 c).arrAt 6 cfg0.N = result m c :=
  (dats m 0 c).arrAt_eq_of_cover 6 _ (fun t _ => flushed_eq m c t) covered

set_option maxRecDepth 16384 in
/-- The reference at an entry is the layer there. -/
theorem reference_at (m' : (ℓ : Loc Cert.Reference6Ideal.nD Cert.Reference6Ideal.τ Cert.Reference6Ideal.sig) → Buf (Elt Ideal) ℓ)
    (e0 : m' ((c.tc : Thread Cert.Reference6Ideal.nD Cert.Reference6Ideal.τ).loc Cert.Reference6Ideal.main_arg0) = argM m c)
    (e1 : m' ((c.tc : Thread Cert.Reference6Ideal.nD Cert.Reference6Ideal.τ).loc Cert.Reference6Ideal.main_arg1) = argD m c)
    (e2 : m' ((c.tc : Thread Cert.Reference6Ideal.nD Cert.Reference6Ideal.τ).loc Cert.Reference6Ideal.main_arg2) = argX m c)
    (e3 : m' ((c.tc : Thread Cert.Reference6Ideal.nD Cert.Reference6Ideal.τ).loc Cert.Reference6Ideal.main_arg3) = argW m c)
    (e4 : m' ((c.tc : Thread Cert.Reference6Ideal.nD Cert.Reference6Ideal.τ).loc Cert.Reference6Ideal.main_arg4) = argS m c)
    (e5 : m' ((c.tc : Thread Cert.Reference6Ideal.nD Cert.Reference6Ideal.τ).loc Cert.Reference6Ideal.main_arg5) = argB m c)
    (a : Fin 16384) (b : Fin 2048) : Cert.Reference6Ideal.Value.res_main_v30 m' c (ix2 a b) = layerAt m c a b := by
  unfold layerAt norm rowSum
  pointwise [Cert.Reference6Ideal.Value.res_main_v30]
  rw [e0, e1, e2, e3, e4, e5]

theorem algebraic : Cert.algebraic_Kernel6Ideal_Reference6Ideal := by
  intro m g m' g' _ hm
  refine ⟨fun c => result m c, ?_, ?_⟩
  · exact (θ_run defs _ _).mono (fun r h c => ⟨(Value.post6 m r h c).trans (final m c), Value.kept_main_arg0 m r h c,
      Value.kept_main_arg1 m r h c, Value.kept_main_arg2 m r h c, Value.kept_main_arg3 m r h c, Value.kept_main_arg4 m r h c,
      Value.kept_main_arg5 m r h c⟩) (run_main m g)
  · refine (θ_run Cert.Reference6Ideal.defs _ _).mono (fun r h c => ⟨(h c).1.trans ?_, (h c).2⟩) (Cert.Reference6Ideal.Value.run m' g')
    obtain ⟨e0, e1, e2, e3, e4, e5⟩ := hm c
    funext i
    rw [eq_ix2 i]
    exact reference_at m c m' e0 e1 e2 e3 e4 e5 (i 0) (i 1)

end Cert.Proof.Out
-- ==== Proof.lean ====
module

public import proofs.«01_k».proof.Defs
public import proofs.«01_k».proof.Proof.Frames
public import proofs.«01_k».proof.Proof.MlaValue
public import proofs.«01_k».proof.Proof.FfnValue
public import proofs.«01_k».proof.Proof.ProjFrames
public import proofs.«01_k».proof.Proof.ProjValue
public import proofs.«01_k».proof.Proof.SampFrames
public import proofs.«01_k».proof.Proof.SampValue
public import proofs.«01_k».proof.Proof.SampFfnFrames
public import proofs.«01_k».proof.Proof.SampFfnValue
public import proofs.«01_k».proof.Proof.OutFrames
public import proofs.«01_k».proof.Proof.OutValue

/-! The claims, assembled. -/

@[expose] public section
noncomputable section

namespace Cert.Proof

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Mla.facts_finite, Mla.frame_kernel, Mla.frame_kernelIdeal,
  fun m ρ _ => Mla.frame_kernelIdeal m ρ trivial, Mla.frame_referenceIdeal, fun m ρ _ => Mla.frame_referenceIdeal m ρ trivial,
  Mla.frame_kernel2, Mla.frame_kernel2Ideal, Mla.frame_reference2Ideal, Proj.frame_kernel, Proj.frame_kernelIdeal,
  Proj.frame_referenceIdeal, Samp.frame_kernel, Samp.frame_kernelIdeal, Samp.frame_referenceIdeal,
  SampFfn.frame_kernel, SampFfn.frame_kernelIdeal, SampFfn.frame_referenceIdeal, Out.frame_kernel, Out.frame_kernelIdeal,
  Out.frame_referenceIdeal,
  Mla.preserves_kernel, Mla.algebraic, Mla.preserves_kernel2, Ffn.algebraic, Proj.preserves_kernel,
  Proj.algebraic, Samp.preserves_kernel, Samp.algebraic, SampFfn.preserves_kernel, SampFfn.algebraic,
  Out.preserves_kernel, Out.algebraic⟩

end Cert.Proof

end
